-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4096x256 : Shape := ⟨2, ![4096, 256]⟩
abbrev S256x8192 : Shape := ⟨2, ![256, 8192]⟩
abbrev S1 : Shape := ⟨1, ![1]⟩
abbrev S_ : Shape := ⟨0, ![]⟩

class Facts : Prop where
  bcast_S_S4096x256 : S_.BroadcastsInDim S4096x256 (![] : Fin 0 → Fin S4096x256.rank)
  bcast_S_S256x8192 : S_.BroadcastsInDim S256x8192 (![] : Fin 0 → Fin S256x8192.rank)
  bcast_S_S1 : S_.BroadcastsInDim S1 (![] : Fin 0 → Fin S1.rank)

variable [Facts]

def fn {F : FTy → Type} [FloatOps F] (main_arg0 : FVec F S4096x256 .f32) (main_arg1 : FVec F S256x8192 .f32) (main_arg2 : FVec F S1 .f32) (main_arg3 : FVec F S1 .f32) : IVec S4096x256 1 × IVec S256x8192 1 × IVec S1 1 × IVec S1 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S256x8192 .f32 := Host.absf main_arg1
  let main_cst_0 : FVec F S_ .f32 := constant S_ .f32 0x7F800000#32
  let main_v4 : FVec F S256x8192 .f32 := broadcastInDim S256x8192 ![] bcast_S_S256x8192 main_cst_0
  let main_v5 : IVec S256x8192 1 := cmpf .olt main_v3 main_v4
  let main_v6 : FVec F S1 .f32 := Host.absf main_arg2
  let main_cst_1 : FVec F S_ .f32 := constant S_ .f32 0x7F800000#32
  let main_v7 : FVec F S1 .f32 := broadcastInDim S1 ![] bcast_S_S1 main_cst_1
  let main_v8 : IVec S1 1 := cmpf .olt main_v6 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  (main_v2, main_v5, main_v8, main_v11)
-- ==== Pre_finite_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  bcast_S_S4096x8192 : S_.BroadcastsInDim S4096x8192 (![] : Fin 0 → Fin S4096x8192.rank)
  bcast_S_S1 : S_.BroadcastsInDim S1 (![] : Fin 0 → Fin S1.rank)

variable [Facts]

def fn {F : FTy → Type} [FloatOps F] (main_arg0 : FVec F S4096x4096 .f32) (main_arg1 : FVec F S4096x8192 .f32) (main_arg2 : FVec F S1 .f32) (main_arg3 : FVec F S1 .f32) : IVec S4096x4096 1 × IVec S4096x8192 1 × IVec S1 1 × IVec S1 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  let main_v6 : FVec F S1 .f32 := Host.absf main_arg2
  let main_cst_1 : FVec F S_ .f32 := constant S_ .f32 0x7F800000#32
  let main_v7 : FVec F S1 .f32 := broadcastInDim S1 ![] bcast_S_S1 main_cst_1
  let main_v8 : IVec S1 1 := cmpf .olt main_v6 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  (main_v2, main_v5, main_v8, main_v11)
-- ==== Kernel.lean ====
abbrev S4096x256 : Shape := ⟨2, ![4096, 256]⟩
abbrev S256x8192 : Shape := ⟨2, ![256, 8192]⟩
abbrev S1 : Shape := ⟨1, ![1]⟩
abbrev S_ : Shape := ⟨0, ![]⟩
abbrev S4096x8192 : Shape := ⟨2, ![4096, 8192]⟩
abbrev S2x128x8192 : Shape := ⟨3, ![2, 128, 8192]⟩
abbrev S2x4 : Shape := ⟨2, ![2, 4]⟩
abbrev S2 : Shape := ⟨1, ![2]⟩
abbrev S1x1 : Shape := ⟨2, ![1, 1]⟩
abbrev S1x128x8192 : Shape := ⟨3, ![1, 128, 8192]⟩
abbrev S128x8192 : Shape := ⟨2, ![128, 8192]⟩
abbrev S1x32x8192 : Shape := ⟨3, ![1, 32, 8192]⟩
abbrev S32x8192 : Shape := ⟨2, ![32, 8192]⟩

abbrev nBuf : Space → Nat
  | .hbm => 12
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .local _ .vmem, ⟨0, _⟩ => ⟨S2x128x8192, .bf16⟩
  | .local _ .vmem, ⟨1, _⟩ => ⟨S2x128x8192, .bf16⟩
  | .local _ .vmem, ⟨2, _⟩ => ⟨S2x128x8192, .bf16⟩
  | .local _ .vmem, ⟨3, _⟩ => ⟨S2x128x8192, .f32⟩
  | .local _ .vmem, ⟨4, _⟩ => ⟨S2x128x8192, .bf16⟩
  | .local _ .vmem, ⟨5, _⟩ => ⟨S2x128x8192, .bf16⟩
  | .local _ .vmem, ⟨6, _⟩ => ⟨S2x128x8192, .bf16⟩
  | .local _ .vmem, ⟨7, _⟩ => ⟨S2x128x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 3 52 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_19 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v30 : BitVec 32 := Scalar.muli v2 c128_i32
  let v31 : BitVec 32 := Scalar.addi c0_i32_19 v30
  let c0_i32_25 : BitVec 32 := 0#32
  ![v31.toNat, 0]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_51 : BitVec 32 := 1#32
  let v54 : BitVec 32 := Scalar.muli v24 c1_i32_51
  let v55 : BitVec 32 := Scalar.addi c0_i32_52 v54
  v55.toNat
def k0_off2 (d0 : Dev nD) (c0_i32_65 : BitVec 32) (c_m1_i32 : BitVec 32) (c0_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c_m1_i32
  let c16_i32_57 : BitVec 32 := 16#32
  let c0_i32_58 : BitVec 32 := 0#32
  let v65 : BitVec 1 := Scalar.cmpi .eq c16_i32_57 c0_i32_58
  let c1_i32_59 : BitVec 32 := 1#32
  let v66 : BitVec 32 := Scalar.select v65 c1_i32_59 c16_i32_57
  let v67 : BitVec 32 := Scalar.remsi v64 v66
  let c0_i32_61 : BitVec 32 := 0#32
  let v69 : BitVec 1 := Scalar.cmpi .slt v67 c0_i32_61
  let c0_i32_62 : BitVec 32 := 0#32
  let v70 : BitVec 1 := Scalar.cmpi .slt v66 c0_i32_62
  let v71 : BitVec 1 := Scalar.xori v69 v70
  let c0_i32_60 : BitVec 32 := 0#32
  let v68 : BitVec 1 := Scalar.cmpi .ne v67 c0_i32_60
  let v72 : BitVec 1 := Scalar.andi v71 v68
  let v73 : BitVec 32 := Scalar.addi v67 v66
  let v74 : BitVec 32 := Scalar.select v72 v73 v67
  let c128_i32_63 : BitVec 32 := 128#32
  let v75 : BitVec 32 := Scalar.muli v74 c128_i32_63
  let v76 : BitVec 32 := Scalar.addi v75 c0_i32_64
  let v77 : BitVec 32 := Scalar.addi c0_i32_65 v76
  let c0_i32_71 : BitVec 32 := 0#32
  ![v77.toNat, 0]
def k0_off2_at (r : Fin 120) : BitVec 32 × BitVec 32 × BitVec 32 :=
  if r.val < 60 then
    if r.val < 30 then
      if r.val < 15 then
        if r.val < 7 then
          if r.val < 3 then
            if r.val < 1 then
              (0#32, 4294967295#32, 0#32)
            else
              if r.val < 2 then
                (0#32, 4294967295#32, 32#32)
              else
                (0#32, 4294967295#32, 64#32)
          else
            if r.val < 5 then
              if r.val < 4 then
                (0#32, 4294967295#32, 96#32)
              else
                (2048#32, 1#32, 0#32)
            else
              if r.val < 6 then
                (2048#32, 1#32, 32#32)
              else
                (2048#32, 1#32, 64#32)
        else
          if r.val < 11 then
            if r.val < 9 then
              if r.val < 8 then
                (2048#32, 1#32, 96#32)
              else
                (0#32, 4294967294#32, 0#32)
            else
              if r.val < 10 then
                (0#32, 4294967294#32, 32#32)
              else
                (0#32, 4294967294#32, 64#32)
          else
            if r.val < 13 then
              if r.val < 12 then
                (0#32, 4294967294#32, 96#32)
              else
                (2048#32, 2#32, 0#32)
            else
              if r.val < 14 then
                (2048#32, 2#32, 32#32)
              else
                (2048#32, 2#32, 64#32)
      else
        if r.val < 22 then
          if r.val < 18 then
            if r.val < 16 then
              (2048#32, 2#32, 96#32)
            else
              if r.val < 17 then
                (0#32, 4294967293#32, 0#32)
              else
                (0#32, 4294967293#32, 32#32)
          else
            if r.val < 20 then
              if r.val < 19 then
                (0#32, 4294967293#32, 64#32)
              else
                (0#32, 4294967293#32, 96#32)
            else
              if r.val < 21 then
                (2048#32, 3#32, 0#32)
              else
                (2048#32, 3#32, 32#32)
        else
          if r.val < 26 then
            if r.val < 24 then
              if r.val < 23 then
                (2048#32, 3#32, 64#32)
              else
                (2048#32, 3#32, 96#32)
            else
              if r.val < 25 then
                (0#32, 4294967292#32, 0#32)
              else
                (0#32, 4294967292#32, 32#32)
          else
            if r.val < 28 then
              if r.val < 27 then
                (0#32, 4294967292#32, 64#32)
              else
                (0#32, 4294967292#32, 96#32)
            else
              if r.val < 29 then
                (2048#32, 4#32, 0#32)
              else
                (2048#32, 4#32, 32#32)
    else
      if r.val < 45 then
        if r.val < 37 then
          if r.val < 33 then
            if r.val < 31 then
              (2048#32, 4#32, 64#32)
            else
              if r.val < 32 then
                (2048#32, 4#32, 96#32)
              else
                (0#32, 4294967291#32, 0#32)
          else
            if r.val < 35 then
              if r.val < 34 then
                (0#32, 4294967291#32, 32#32)
              else
                (0#32, 4294967291#32, 64#32)
            else
              if r.val < 36 then
                (0#32, 4294967291#32, 96#32)
              else
                (2048#32, 5#32, 0#32)
        else
          if r.val < 41 then
            if r.val < 39 then
              if r.val < 38 then
                (2048#32, 5#32, 32#32)
              else
                (2048#32, 5#32, 64#32)
            else
              if r.val < 40 then
                (2048#32, 5#32, 96#32)
              else
                (0#32, 4294967290#32, 0#32)
          else
            if r.val < 43 then
              if r.val < 42 then
                (0#32, 4294967290#32, 32#32)
              else
                (0#32, 4294967290#32, 64#32)
            else
              if r.val < 44 then
                (0#32, 4294967290#32, 96#32)
              else
                (2048#32, 6#32, 0#32)
      else
        if r.val < 52 then
          if r.val < 48 then
            if r.val < 46 then
              (2048#32, 6#32, 32#32)
            else
              if r.val < 47 then
                (2048#32, 6#32, 64#32)
              else
                (2048#32, 6#32, 96#32)
          else
            if r.val < 50 then
              if r.val < 49 then
                (0#32, 4294967289#32, 0#32)
              else
                (0#32, 4294967289#32, 32#32)
            else
              if r.val < 51 then
                (0#32, 4294967289#32, 64#32)
              else
                (0#32, 4294967289#32, 96#32)
        else
          if r.val < 56 then
            if r.val < 54 then
              if r.val < 53 then
                (2048#32, 7#32, 0#32)
              else
                (2048#32, 7#32, 32#32)
            else
              if r.val < 55 then
                (2048#32, 7#32, 64#32)
              else
                (2048#32, 7#32, 96#32)
          else
            if r.val < 58 then
              if r.val < 57 then
                (0#32, 4294967288#32, 0#32)
              else
                (0#32, 4294967288#32, 32#32)
            else
              if r.val < 59 then
                (0#32, 4294967288#32, 64#32)
              else
                (0#32, 4294967288#32, 96#32)
  else
    if r.val < 90 then
      if r.val < 75 then
        if r.val < 67 then
          if r.val < 63 then
            if r.val < 61 then
              (2048#32, 8#32, 0#32)
            else
              if r.val < 62 then
                (2048#32, 8#32, 32#32)
              else
                (2048#32, 8#32, 64#32)
          else
            if r.val < 65 then
              if r.val < 64 then
                (2048#32, 8#32, 96#32)
              else
                (0#32, 4294967287#32, 0#32)
            else
              if r.val < 66 then
                (0#32, 4294967287#32, 32#32)
              else
                (0#32, 4294967287#32, 64#32)
        else
          if r.val < 71 then
            if r.val < 69 then
              if r.val < 68 then
                (0#32, 4294967287#32, 96#32)
              else
                (2048#32, 9#32, 0#32)
            else
              if r.val < 70 then
                (2048#32, 9#32, 32#32)
              else
                (2048#32, 9#32, 64#32)
          else
            if r.val < 73 then
              if r.val < 72 then
                (2048#32, 9#32, 96#32)
              else
                (0#32, 4294967286#32, 0#32)
            else
              if r.val < 74 then
                (0#32, 4294967286#32, 32#32)
              else
                (0#32, 4294967286#32, 64#32)
      else
        if r.val < 82 then
          if r.val < 78 then
            if r.val < 76 then
              (0#32, 4294967286#32, 96#32)
            else
              if r.val < 77 then
                (2048#32, 10#32, 0#32)
              else
                (2048#32, 10#32, 32#32)
          else
            if r.val < 80 then
              if r.val < 79 then
                (2048#32, 10#32, 64#32)
              else
                (2048#32, 10#32, 96#32)
            else
              if r.val < 81 then
                (0#32, 4294967285#32, 0#32)
              else
                (0#32, 4294967285#32, 32#32)
        else
          if r.val < 86 then
            if r.val < 84 then
              if r.val < 83 then
                (0#32, 4294967285#32, 64#32)
              else
                (0#32, 4294967285#32, 96#32)
            else
              if r.val < 85 then
                (2048#32, 11#32, 0#32)
              else
                (2048#32, 11#32, 32#32)
          else
            if r.val < 88 then
              if r.val < 87 then
                (2048#32, 11#32, 64#32)
              else
                (2048#32, 11#32, 96#32)
            else
              if r.val < 89 then
                (0#32, 4294967284#32, 0#32)
              else
                (0#32, 4294967284#32, 32#32)
    else
      if r.val < 105 then
        if r.val < 97 then
          if r.val < 93 then
            if r.val < 91 then
              (0#32, 4294967284#32, 64#32)
            else
              if r.val < 92 then
                (0#32, 4294967284#32, 96#32)
              else
                (2048#32, 12#32, 0#32)
          else
            if r.val < 95 then
              if r.val < 94 then
                (2048#32, 12#32, 32#32)
              else
                (2048#32, 12#32, 64#32)
            else
              if r.val < 96 then
                (2048#32, 12#32, 96#32)
              else
                (0#32, 4294967283#32, 0#32)
        else
          if r.val < 101 then
            if r.val < 99 then
              if r.val < 98 then
                (0#32, 4294967283#32, 32#32)
              else
                (0#32, 4294967283#32, 64#32)
            else
              if r.val < 100 then
                (0#32, 4294967283#32, 96#32)
              else
                (2048#32, 13#32, 0#32)
          else
            if r.val < 103 then
              if r.val < 102 then
                (2048#32, 13#32, 32#32)
              else
                (2048#32, 13#32, 64#32)
            else
              if r.val < 104 then
                (2048#32, 13#32, 96#32)
              else
                (0#32, 4294967282#32, 0#32)
      else
        if r.val < 112 then
          if r.val < 108 then
            if r.val < 106 then
              (0#32, 4294967282#32, 32#32)
            else
              if r.val < 107 then
                (0#32, 4294967282#32, 64#32)
              else
                (0#32, 4294967282#32, 96#32)
          else
            if r.val < 110 then
              if r.val < 109 then
                (2048#32, 14#32, 0#32)
              else
                (2048#32, 14#32, 32#32)
            else
              if r.val < 111 then
                (2048#32, 14#32, 64#32)
              else
                (2048#32, 14#32, 96#32)
        else
          if r.val < 116 then
            if r.val < 114 then
              if r.val < 113 then
                (0#32, 4294967281#32, 0#32)
              else
                (0#32, 4294967281#32, 32#32)
            else
              if r.val < 115 then
                (0#32, 4294967281#32, 64#32)
              else
                (0#32, 4294967281#32, 96#32)
          else
            if r.val < 118 then
              if r.val < 117 then
                (2048#32, 15#32, 0#32)
              else
                (2048#32, 15#32, 32#32)
            else
              if r.val < 119 then
                (2048#32, 15#32, 64#32)
              else
                (2048#32, 15#32, 96#32)
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_78 : BitVec 32 := 1#32
  let v83 : BitVec 32 := Scalar.muli v24 c1_i32_78
  let v84 : BitVec 32 := Scalar.addi c0_i32_79 v83
  v84.toNat
def k0_dev5 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_105 : BitVec 32 := 1#32
  let v112 : BitVec 32 := Scalar.muli v24 c1_i32_105
  let v113 : BitVec 32 := Scalar.addi c0_i32_106 v112
  v113.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_131 : BitVec 32 := 1#32
  let v141 : BitVec 32 := Scalar.muli v24 c1_i32_131
  let v142 : BitVec 32 := Scalar.addi c0_i32_132 v141
  v142.toNat
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_158 : BitVec 32 := 1#32
  let v170 : BitVec 32 := Scalar.muli v13 c1_i32_158
  let v171 : BitVec 32 := Scalar.addi c0_i32_159 v170
  v171.toNat
def k0_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_186 : BitVec 32 := 1#32
  let v199 : BitVec 32 := Scalar.muli v13 c1_i32_186
  let v200 : BitVec 32 := Scalar.addi c0_i32_187 v199
  v200.toNat
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_214 : BitVec 32 := 1#32
  let v228 : BitVec 32 := Scalar.muli v13 c1_i32_214
  let v229 : BitVec 32 := Scalar.addi c0_i32_215 v228
  v229.toNat
def k0_dev10 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_242 : BitVec 32 := 1#32
  let v257 : BitVec 32 := Scalar.muli v13 c1_i32_242
  let v258 : BitVec 32 := Scalar.addi c0_i32_243 v257
  v258.toNat
def k0_dev11 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_432 : BitVec 32 := 1#32
  let v473 : BitVec 32 := Scalar.muli v24 c1_i32_432
  let v474 : BitVec 32 := Scalar.addi c0_i32_433 v473
  v474.toNat
def k0_dev12 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_439 : BitVec 32 := 1#32
  let v483 : BitVec 32 := Scalar.muli v13 c1_i32_439
  let v484 : BitVec 32 := Scalar.addi c0_i32_440 v483
  v484.toNat
def k0_dev13 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_484 : BitVec 32 := 1#32
  let v520 : BitVec 32 := Scalar.muli v13 c1_i32_484
  let v521 : BitVec 32 := Scalar.addi c0_i32_485 v520
  v521.toNat
def k0_dev14 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_491 : BitVec 32 := 1#32
  let v530 : BitVec 32 := Scalar.muli v24 c1_i32_491
  let v531 : BitVec 32 := Scalar.addi c0_i32_492 v530
  v531.toNat
def k0_dev15 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_535 : BitVec 32 := 1#32
  let v567 : BitVec 32 := Scalar.muli v24 c1_i32_535
  let v568 : BitVec 32 := Scalar.addi c0_i32_536 v567
  v568.toNat
def k0_dev16 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_542 : BitVec 32 := 1#32
  let v577 : BitVec 32 := Scalar.muli v13 c1_i32_542
  let v578 : BitVec 32 := Scalar.addi c0_i32_543 v577
  v578.toNat
def k0_dev17 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_587 : BitVec 32 := 1#32
  let v614 : BitVec 32 := Scalar.muli v13 c1_i32_587
  let v615 : BitVec 32 := Scalar.addi c0_i32_588 v614
  v615.toNat
def k0_dev18 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_594 : BitVec 32 := 1#32
  let v624 : BitVec 32 := Scalar.muli v24 c1_i32_594
  let v625 : BitVec 32 := Scalar.addi c0_i32_595 v624
  v625.toNat
def k0_dev19 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_638 : BitVec 32 := 1#32
  let v661 : BitVec 32 := Scalar.muli v24 c1_i32_638
  let v662 : BitVec 32 := Scalar.addi c0_i32_639 v661
  v662.toNat
def k0_dev20 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_645 : BitVec 32 := 1#32
  let v671 : BitVec 32 := Scalar.muli v13 c1_i32_645
  let v672 : BitVec 32 := Scalar.addi c0_i32_646 v671
  v672.toNat
def k0_dev21 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_690 : BitVec 32 := 1#32
  let v708 : BitVec 32 := Scalar.muli v13 c1_i32_690
  let v709 : BitVec 32 := Scalar.addi c0_i32_691 v708
  v709.toNat
def k0_dev22 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_697 : BitVec 32 := 1#32
  let v718 : BitVec 32 := Scalar.muli v24 c1_i32_697
  let v719 : BitVec 32 := Scalar.addi c0_i32_698 v718
  v719.toNat
def k0_dev23 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_741 : BitVec 32 := 1#32
  let v755 : BitVec 32 := Scalar.muli v24 c1_i32_741
  let v756 : BitVec 32 := Scalar.addi c0_i32_742 v755
  v756.toNat
def k0_dev24 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_748 : BitVec 32 := 1#32
  let v765 : BitVec 32 := Scalar.muli v13 c1_i32_748
  let v766 : BitVec 32 := Scalar.addi c0_i32_749 v765
  v766.toNat
def k0_dev25 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_793 : BitVec 32 := 1#32
  let v802 : BitVec 32 := Scalar.muli v13 c1_i32_793
  let v803 : BitVec 32 := Scalar.addi c0_i32_794 v802
  v803.toNat
def k0_dev26 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_800 : BitVec 32 := 1#32
  let v812 : BitVec 32 := Scalar.muli v24 c1_i32_800
  let v813 : BitVec 32 := Scalar.addi c0_i32_801 v812
  v813.toNat
def k0_dev27 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_985 : BitVec 32 := 1#32
  let v1007 : BitVec 32 := Scalar.muli v24 c1_i32_985
  let v1008 : BitVec 32 := Scalar.addi c0_i32_986 v1007
  v1008.toNat
def k0_dev28 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_992 : BitVec 32 := 1#32
  let v1017 : BitVec 32 := Scalar.muli v13 c1_i32_992
  let v1018 : BitVec 32 := Scalar.addi c0_i32_993 v1017
  v1018.toNat
def k0_dev29 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1050 : BitVec 32 := 1#32
  let v1060 : BitVec 32 := Scalar.muli v13 c1_i32_1050
  let v1061 : BitVec 32 := Scalar.addi c0_i32_1051 v1060
  v1061.toNat
def k0_dev30 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1057 : BitVec 32 := 1#32
  let v1070 : BitVec 32 := Scalar.muli v24 c1_i32_1057
  let v1071 : BitVec 32 := Scalar.addi c0_i32_1058 v1070
  v1071.toNat
def k0_dev31 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1115 : BitVec 32 := 1#32
  let v1113 : BitVec 32 := Scalar.muli v24 c1_i32_1115
  let v1114 : BitVec 32 := Scalar.addi c0_i32_1116 v1113
  v1114.toNat
def k0_dev32 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1122 : BitVec 32 := 1#32
  let v1123 : BitVec 32 := Scalar.muli v13 c1_i32_1122
  let v1124 : BitVec 32 := Scalar.addi c0_i32_1123 v1123
  v1124.toNat
def k0_dev33 (d0 : Dev nD) : Nat :=
  let c0_i32_1181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1180 : BitVec 32 := 1#32
  let v1166 : BitVec 32 := Scalar.muli v13 c1_i32_1180
  let v1167 : BitVec 32 := Scalar.addi c0_i32_1181 v1166
  v1167.toNat
def k0_dev34 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1187 : BitVec 32 := 1#32
  let v1176 : BitVec 32 := Scalar.muli v24 c1_i32_1187
  let v1177 : BitVec 32 := Scalar.addi c0_i32_1188 v1176
  v1177.toNat
def k0_dev35 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1245 : BitVec 32 := 1#32
  let v1219 : BitVec 32 := Scalar.muli v24 c1_i32_1245
  let v1220 : BitVec 32 := Scalar.addi c0_i32_1246 v1219
  v1220.toNat
def k0_dev36 (d0 : Dev nD) : Nat :=
  let c0_i32_1253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1252 : BitVec 32 := 1#32
  let v1229 : BitVec 32 := Scalar.muli v13 c1_i32_1252
  let v1230 : BitVec 32 := Scalar.addi c0_i32_1253 v1229
  v1230.toNat
def k0_dev37 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1310 : BitVec 32 := 1#32
  let v1272 : BitVec 32 := Scalar.muli v13 c1_i32_1310
  let v1273 : BitVec 32 := Scalar.addi c0_i32_1311 v1272
  v1273.toNat
def k0_dev38 (d0 : Dev nD) : Nat :=
  let c0_i32_1318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1317 : BitVec 32 := 1#32
  let v1282 : BitVec 32 := Scalar.muli v24 c1_i32_1317
  let v1283 : BitVec 32 := Scalar.addi c0_i32_1318 v1282
  v1283.toNat
def k0_dev39 (d0 : Dev nD) : Nat :=
  let c0_i32_1376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1375 : BitVec 32 := 1#32
  let v1325 : BitVec 32 := Scalar.muli v24 c1_i32_1375
  let v1326 : BitVec 32 := Scalar.addi c0_i32_1376 v1325
  v1326.toNat
def k0_dev40 (d0 : Dev nD) : Nat :=
  let c0_i32_1383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1382 : BitVec 32 := 1#32
  let v1335 : BitVec 32 := Scalar.muli v13 c1_i32_1382
  let v1336 : BitVec 32 := Scalar.addi c0_i32_1383 v1335
  v1336.toNat
def k0_dev41 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1440 : BitVec 32 := 1#32
  let v1378 : BitVec 32 := Scalar.muli v13 c1_i32_1440
  let v1379 : BitVec 32 := Scalar.addi c0_i32_1441 v1378
  v1379.toNat
def k0_dev42 (d0 : Dev nD) : Nat :=
  let c0_i32_1448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1447 : BitVec 32 := 1#32
  let v1388 : BitVec 32 := Scalar.muli v24 c1_i32_1447
  let v1389 : BitVec 32 := Scalar.addi c0_i32_1448 v1388
  v1389.toNat
def k0_dev43 (d0 : Dev nD) : Nat :=
  let c0_i32_1632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1631 : BitVec 32 := 1#32
  let v1583 : BitVec 32 := Scalar.muli v24 c1_i32_1631
  let v1584 : BitVec 32 := Scalar.addi c0_i32_1632 v1583
  v1584.toNat
def k0_dev44 (d0 : Dev nD) : Nat :=
  let c0_i32_1639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1638 : BitVec 32 := 1#32
  let v1593 : BitVec 32 := Scalar.muli v13 c1_i32_1638
  let v1594 : BitVec 32 := Scalar.addi c0_i32_1639 v1593
  v1594.toNat
def k0_dev45 (d0 : Dev nD) : Nat :=
  let c0_i32_1697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1696 : BitVec 32 := 1#32
  let v1636 : BitVec 32 := Scalar.muli v13 c1_i32_1696
  let v1637 : BitVec 32 := Scalar.addi c0_i32_1697 v1636
  v1637.toNat
def k0_dev46 (d0 : Dev nD) : Nat :=
  let c0_i32_1704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1703 : BitVec 32 := 1#32
  let v1646 : BitVec 32 := Scalar.muli v24 c1_i32_1703
  let v1647 : BitVec 32 := Scalar.addi c0_i32_1704 v1646
  v1647.toNat
def k0_dev47 (d0 : Dev nD) : Nat :=
  let c0_i32_1762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1761 : BitVec 32 := 1#32
  let v1689 : BitVec 32 := Scalar.muli v24 c1_i32_1761
  let v1690 : BitVec 32 := Scalar.addi c0_i32_1762 v1689
  v1690.toNat
def k0_dev48 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1768 : BitVec 32 := 1#32
  let v1699 : BitVec 32 := Scalar.muli v13 c1_i32_1768
  let v1700 : BitVec 32 := Scalar.addi c0_i32_1769 v1699
  v1700.toNat
def k0_dev49 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1826 : BitVec 32 := 1#32
  let v1742 : BitVec 32 := Scalar.muli v13 c1_i32_1826
  let v1743 : BitVec 32 := Scalar.addi c0_i32_1827 v1742
  v1743.toNat
def k0_dev50 (d0 : Dev nD) : Nat :=
  let c0_i32_1834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1833 : BitVec 32 := 1#32
  let v1752 : BitVec 32 := Scalar.muli v24 c1_i32_1833
  let v1753 : BitVec 32 := Scalar.addi c0_i32_1834 v1752
  v1753.toNat
def k0_dev51 (d0 : Dev nD) : Nat :=
  let c0_i32_1892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1891 : BitVec 32 := 1#32
  let v1795 : BitVec 32 := Scalar.muli v24 c1_i32_1891
  let v1796 : BitVec 32 := Scalar.addi c0_i32_1892 v1795
  v1796.toNat
def k0_dev52 (d0 : Dev nD) : Nat :=
  let c0_i32_1899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1898 : BitVec 32 := 1#32
  let v1805 : BitVec 32 := Scalar.muli v13 c1_i32_1898
  let v1806 : BitVec 32 := Scalar.addi c0_i32_1899 v1805
  v1806.toNat
def k0_dev53 (d0 : Dev nD) : Nat :=
  let c0_i32_1957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1956 : BitVec 32 := 1#32
  let v1848 : BitVec 32 := Scalar.muli v13 c1_i32_1956
  let v1849 : BitVec 32 := Scalar.addi c0_i32_1957 v1848
  v1849.toNat
def k0_dev54 (d0 : Dev nD) : Nat :=
  let c0_i32_1964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1963 : BitVec 32 := 1#32
  let v1858 : BitVec 32 := Scalar.muli v24 c1_i32_1963
  let v1859 : BitVec 32 := Scalar.addi c0_i32_1964 v1858
  v1859.toNat
def k0_dev55 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2021 : BitVec 32 := 1#32
  let v1901 : BitVec 32 := Scalar.muli v24 c1_i32_2021
  let v1902 : BitVec 32 := Scalar.addi c0_i32_2022 v1901
  v1902.toNat
def k0_dev56 (d0 : Dev nD) : Nat :=
  let c0_i32_2029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2028 : BitVec 32 := 1#32
  let v1911 : BitVec 32 := Scalar.muli v13 c1_i32_2028
  let v1912 : BitVec 32 := Scalar.addi c0_i32_2029 v1911
  v1912.toNat
def k0_dev57 (d0 : Dev nD) : Nat :=
  let c0_i32_2087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2086 : BitVec 32 := 1#32
  let v1954 : BitVec 32 := Scalar.muli v13 c1_i32_2086
  let v1955 : BitVec 32 := Scalar.addi c0_i32_2087 v1954
  v1955.toNat
def k0_dev58 (d0 : Dev nD) : Nat :=
  let c0_i32_2094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2093 : BitVec 32 := 1#32
  let v1964 : BitVec 32 := Scalar.muli v24 c1_i32_2093
  let v1965 : BitVec 32 := Scalar.addi c0_i32_2094 v1964
  v1965.toNat
def k0_dev59 (d0 : Dev nD) : Nat :=
  let c0_i32_2278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2277 : BitVec 32 := 1#32
  let v2159 : BitVec 32 := Scalar.muli v24 c1_i32_2277
  let v2160 : BitVec 32 := Scalar.addi c0_i32_2278 v2159
  v2160.toNat
def k0_dev60 (d0 : Dev nD) : Nat :=
  let c0_i32_2285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2284 : BitVec 32 := 1#32
  let v2169 : BitVec 32 := Scalar.muli v13 c1_i32_2284
  let v2170 : BitVec 32 := Scalar.addi c0_i32_2285 v2169
  v2170.toNat
def k0_dev61 (d0 : Dev nD) : Nat :=
  let c0_i32_2343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2342 : BitVec 32 := 1#32
  let v2212 : BitVec 32 := Scalar.muli v13 c1_i32_2342
  let v2213 : BitVec 32 := Scalar.addi c0_i32_2343 v2212
  v2213.toNat
def k0_dev62 (d0 : Dev nD) : Nat :=
  let c0_i32_2350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2349 : BitVec 32 := 1#32
  let v2222 : BitVec 32 := Scalar.muli v24 c1_i32_2349
  let v2223 : BitVec 32 := Scalar.addi c0_i32_2350 v2222
  v2223.toNat
def k0_dev63 (d0 : Dev nD) : Nat :=
  let c0_i32_2408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2407 : BitVec 32 := 1#32
  let v2265 : BitVec 32 := Scalar.muli v24 c1_i32_2407
  let v2266 : BitVec 32 := Scalar.addi c0_i32_2408 v2265
  v2266.toNat
def k0_dev64 (d0 : Dev nD) : Nat :=
  let c0_i32_2415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2414 : BitVec 32 := 1#32
  let v2275 : BitVec 32 := Scalar.muli v13 c1_i32_2414
  let v2276 : BitVec 32 := Scalar.addi c0_i32_2415 v2275
  v2276.toNat
def k0_dev65 (d0 : Dev nD) : Nat :=
  let c0_i32_2473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2472 : BitVec 32 := 1#32
  let v2318 : BitVec 32 := Scalar.muli v13 c1_i32_2472
  let v2319 : BitVec 32 := Scalar.addi c0_i32_2473 v2318
  v2319.toNat
def k0_dev66 (d0 : Dev nD) : Nat :=
  let c0_i32_2480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2479 : BitVec 32 := 1#32
  let v2328 : BitVec 32 := Scalar.muli v24 c1_i32_2479
  let v2329 : BitVec 32 := Scalar.addi c0_i32_2480 v2328
  v2329.toNat
def k0_dev67 (d0 : Dev nD) : Nat :=
  let c0_i32_2538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2537 : BitVec 32 := 1#32
  let v2371 : BitVec 32 := Scalar.muli v24 c1_i32_2537
  let v2372 : BitVec 32 := Scalar.addi c0_i32_2538 v2371
  v2372.toNat
def k0_dev68 (d0 : Dev nD) : Nat :=
  let c0_i32_2545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2544 : BitVec 32 := 1#32
  let v2381 : BitVec 32 := Scalar.muli v13 c1_i32_2544
  let v2382 : BitVec 32 := Scalar.addi c0_i32_2545 v2381
  v2382.toNat
def k0_dev69 (d0 : Dev nD) : Nat :=
  let c0_i32_2603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2602 : BitVec 32 := 1#32
  let v2424 : BitVec 32 := Scalar.muli v13 c1_i32_2602
  let v2425 : BitVec 32 := Scalar.addi c0_i32_2603 v2424
  v2425.toNat
def k0_dev70 (d0 : Dev nD) : Nat :=
  let c0_i32_2610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2609 : BitVec 32 := 1#32
  let v2434 : BitVec 32 := Scalar.muli v24 c1_i32_2609
  let v2435 : BitVec 32 := Scalar.addi c0_i32_2610 v2434
  v2435.toNat
def k0_dev71 (d0 : Dev nD) : Nat :=
  let c0_i32_2668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2667 : BitVec 32 := 1#32
  let v2477 : BitVec 32 := Scalar.muli v24 c1_i32_2667
  let v2478 : BitVec 32 := Scalar.addi c0_i32_2668 v2477
  v2478.toNat
def k0_dev72 (d0 : Dev nD) : Nat :=
  let c0_i32_2675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2674 : BitVec 32 := 1#32
  let v2487 : BitVec 32 := Scalar.muli v13 c1_i32_2674
  let v2488 : BitVec 32 := Scalar.addi c0_i32_2675 v2487
  v2488.toNat
def k0_dev73 (d0 : Dev nD) : Nat :=
  let c0_i32_2733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2732 : BitVec 32 := 1#32
  let v2530 : BitVec 32 := Scalar.muli v13 c1_i32_2732
  let v2531 : BitVec 32 := Scalar.addi c0_i32_2733 v2530
  v2531.toNat
def k0_dev74 (d0 : Dev nD) : Nat :=
  let c0_i32_2740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2739 : BitVec 32 := 1#32
  let v2540 : BitVec 32 := Scalar.muli v24 c1_i32_2739
  let v2541 : BitVec 32 := Scalar.addi c0_i32_2740 v2540
  v2541.toNat
def k0_dev75 (d0 : Dev nD) : Nat :=
  let c0_i32_2924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2923 : BitVec 32 := 1#32
  let v2735 : BitVec 32 := Scalar.muli v24 c1_i32_2923
  let v2736 : BitVec 32 := Scalar.addi c0_i32_2924 v2735
  v2736.toNat
def k0_dev76 (d0 : Dev nD) : Nat :=
  let c0_i32_2931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2930 : BitVec 32 := 1#32
  let v2745 : BitVec 32 := Scalar.muli v13 c1_i32_2930
  let v2746 : BitVec 32 := Scalar.addi c0_i32_2931 v2745
  v2746.toNat
def k0_dev77 (d0 : Dev nD) : Nat :=
  let c0_i32_2989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2988 : BitVec 32 := 1#32
  let v2788 : BitVec 32 := Scalar.muli v13 c1_i32_2988
  let v2789 : BitVec 32 := Scalar.addi c0_i32_2989 v2788
  v2789.toNat
def k0_dev78 (d0 : Dev nD) : Nat :=
  let c0_i32_2996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2995 : BitVec 32 := 1#32
  let v2798 : BitVec 32 := Scalar.muli v24 c1_i32_2995
  let v2799 : BitVec 32 := Scalar.addi c0_i32_2996 v2798
  v2799.toNat
def k0_dev79 (d0 : Dev nD) : Nat :=
  let c0_i32_3054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3053 : BitVec 32 := 1#32
  let v2841 : BitVec 32 := Scalar.muli v24 c1_i32_3053
  let v2842 : BitVec 32 := Scalar.addi c0_i32_3054 v2841
  v2842.toNat
def k0_dev80 (d0 : Dev nD) : Nat :=
  let c0_i32_3061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3060 : BitVec 32 := 1#32
  let v2851 : BitVec 32 := Scalar.muli v13 c1_i32_3060
  let v2852 : BitVec 32 := Scalar.addi c0_i32_3061 v2851
  v2852.toNat
def k0_dev81 (d0 : Dev nD) : Nat :=
  let c0_i32_3119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3118 : BitVec 32 := 1#32
  let v2894 : BitVec 32 := Scalar.muli v13 c1_i32_3118
  let v2895 : BitVec 32 := Scalar.addi c0_i32_3119 v2894
  v2895.toNat
def k0_dev82 (d0 : Dev nD) : Nat :=
  let c0_i32_3126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3125 : BitVec 32 := 1#32
  let v2904 : BitVec 32 := Scalar.muli v24 c1_i32_3125
  let v2905 : BitVec 32 := Scalar.addi c0_i32_3126 v2904
  v2905.toNat
def k0_dev83 (d0 : Dev nD) : Nat :=
  let c0_i32_3184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3183 : BitVec 32 := 1#32
  let v2947 : BitVec 32 := Scalar.muli v24 c1_i32_3183
  let v2948 : BitVec 32 := Scalar.addi c0_i32_3184 v2947
  v2948.toNat
def k0_dev84 (d0 : Dev nD) : Nat :=
  let c0_i32_3191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3190 : BitVec 32 := 1#32
  let v2957 : BitVec 32 := Scalar.muli v13 c1_i32_3190
  let v2958 : BitVec 32 := Scalar.addi c0_i32_3191 v2957
  v2958.toNat
def k0_dev85 (d0 : Dev nD) : Nat :=
  let c0_i32_3249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3248 : BitVec 32 := 1#32
  let v3000 : BitVec 32 := Scalar.muli v13 c1_i32_3248
  let v3001 : BitVec 32 := Scalar.addi c0_i32_3249 v3000
  v3001.toNat
def k0_dev86 (d0 : Dev nD) : Nat :=
  let c0_i32_3256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3255 : BitVec 32 := 1#32
  let v3010 : BitVec 32 := Scalar.muli v24 c1_i32_3255
  let v3011 : BitVec 32 := Scalar.addi c0_i32_3256 v3010
  v3011.toNat
def k0_dev87 (d0 : Dev nD) : Nat :=
  let c0_i32_3314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3313 : BitVec 32 := 1#32
  let v3053 : BitVec 32 := Scalar.muli v24 c1_i32_3313
  let v3054 : BitVec 32 := Scalar.addi c0_i32_3314 v3053
  v3054.toNat
def k0_dev88 (d0 : Dev nD) : Nat :=
  let c0_i32_3321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3320 : BitVec 32 := 1#32
  let v3063 : BitVec 32 := Scalar.muli v13 c1_i32_3320
  let v3064 : BitVec 32 := Scalar.addi c0_i32_3321 v3063
  v3064.toNat
def k0_dev89 (d0 : Dev nD) : Nat :=
  let c0_i32_3379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3378 : BitVec 32 := 1#32
  let v3106 : BitVec 32 := Scalar.muli v13 c1_i32_3378
  let v3107 : BitVec 32 := Scalar.addi c0_i32_3379 v3106
  v3107.toNat
def k0_dev90 (d0 : Dev nD) : Nat :=
  let c0_i32_3386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3385 : BitVec 32 := 1#32
  let v3116 : BitVec 32 := Scalar.muli v24 c1_i32_3385
  let v3117 : BitVec 32 := Scalar.addi c0_i32_3386 v3116
  v3117.toNat
def k0_dev91 (d0 : Dev nD) : Nat :=
  let c0_i32_3570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3569 : BitVec 32 := 1#32
  let v3311 : BitVec 32 := Scalar.muli v24 c1_i32_3569
  let v3312 : BitVec 32 := Scalar.addi c0_i32_3570 v3311
  v3312.toNat
def k0_dev92 (d0 : Dev nD) : Nat :=
  let c0_i32_3577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3576 : BitVec 32 := 1#32
  let v3321 : BitVec 32 := Scalar.muli v13 c1_i32_3576
  let v3322 : BitVec 32 := Scalar.addi c0_i32_3577 v3321
  v3322.toNat
def k0_dev93 (d0 : Dev nD) : Nat :=
  let c0_i32_3635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3634 : BitVec 32 := 1#32
  let v3364 : BitVec 32 := Scalar.muli v13 c1_i32_3634
  let v3365 : BitVec 32 := Scalar.addi c0_i32_3635 v3364
  v3365.toNat
def k0_dev94 (d0 : Dev nD) : Nat :=
  let c0_i32_3642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3641 : BitVec 32 := 1#32
  let v3374 : BitVec 32 := Scalar.muli v24 c1_i32_3641
  let v3375 : BitVec 32 := Scalar.addi c0_i32_3642 v3374
  v3375.toNat
def k0_dev95 (d0 : Dev nD) : Nat :=
  let c0_i32_3700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3699 : BitVec 32 := 1#32
  let v3417 : BitVec 32 := Scalar.muli v24 c1_i32_3699
  let v3418 : BitVec 32 := Scalar.addi c0_i32_3700 v3417
  v3418.toNat
def k0_dev96 (d0 : Dev nD) : Nat :=
  let c0_i32_3707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3706 : BitVec 32 := 1#32
  let v3427 : BitVec 32 := Scalar.muli v13 c1_i32_3706
  let v3428 : BitVec 32 := Scalar.addi c0_i32_3707 v3427
  v3428.toNat
def k0_dev97 (d0 : Dev nD) : Nat :=
  let c0_i32_3765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3764 : BitVec 32 := 1#32
  let v3470 : BitVec 32 := Scalar.muli v13 c1_i32_3764
  let v3471 : BitVec 32 := Scalar.addi c0_i32_3765 v3470
  v3471.toNat
def k0_dev98 (d0 : Dev nD) : Nat :=
  let c0_i32_3772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3771 : BitVec 32 := 1#32
  let v3480 : BitVec 32 := Scalar.muli v24 c1_i32_3771
  let v3481 : BitVec 32 := Scalar.addi c0_i32_3772 v3480
  v3481.toNat
def k0_dev99 (d0 : Dev nD) : Nat :=
  let c0_i32_3830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3829 : BitVec 32 := 1#32
  let v3523 : BitVec 32 := Scalar.muli v24 c1_i32_3829
  let v3524 : BitVec 32 := Scalar.addi c0_i32_3830 v3523
  v3524.toNat
def k0_dev100 (d0 : Dev nD) : Nat :=
  let c0_i32_3837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3836 : BitVec 32 := 1#32
  let v3533 : BitVec 32 := Scalar.muli v13 c1_i32_3836
  let v3534 : BitVec 32 := Scalar.addi c0_i32_3837 v3533
  v3534.toNat
def k0_dev101 (d0 : Dev nD) : Nat :=
  let c0_i32_3895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3894 : BitVec 32 := 1#32
  let v3576 : BitVec 32 := Scalar.muli v13 c1_i32_3894
  let v3577 : BitVec 32 := Scalar.addi c0_i32_3895 v3576
  v3577.toNat
def k0_dev102 (d0 : Dev nD) : Nat :=
  let c0_i32_3902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3901 : BitVec 32 := 1#32
  let v3586 : BitVec 32 := Scalar.muli v24 c1_i32_3901
  let v3587 : BitVec 32 := Scalar.addi c0_i32_3902 v3586
  v3587.toNat
def k0_dev103 (d0 : Dev nD) : Nat :=
  let c0_i32_3960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3959 : BitVec 32 := 1#32
  let v3629 : BitVec 32 := Scalar.muli v24 c1_i32_3959
  let v3630 : BitVec 32 := Scalar.addi c0_i32_3960 v3629
  v3630.toNat
def k0_dev104 (d0 : Dev nD) : Nat :=
  let c0_i32_3967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3966 : BitVec 32 := 1#32
  let v3639 : BitVec 32 := Scalar.muli v13 c1_i32_3966
  let v3640 : BitVec 32 := Scalar.addi c0_i32_3967 v3639
  v3640.toNat
def k0_dev105 (d0 : Dev nD) : Nat :=
  let c0_i32_4025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4024 : BitVec 32 := 1#32
  let v3682 : BitVec 32 := Scalar.muli v13 c1_i32_4024
  let v3683 : BitVec 32 := Scalar.addi c0_i32_4025 v3682
  v3683.toNat
def k0_dev106 (d0 : Dev nD) : Nat :=
  let c0_i32_4032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4031 : BitVec 32 := 1#32
  let v3692 : BitVec 32 := Scalar.muli v24 c1_i32_4031
  let v3693 : BitVec 32 := Scalar.addi c0_i32_4032 v3692
  v3693.toNat
def k0_dev107 (d0 : Dev nD) : Nat :=
  let c0_i32_4216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4215 : BitVec 32 := 1#32
  let v3887 : BitVec 32 := Scalar.muli v24 c1_i32_4215
  let v3888 : BitVec 32 := Scalar.addi c0_i32_4216 v3887
  v3888.toNat
def k0_dev108 (d0 : Dev nD) : Nat :=
  let c0_i32_4223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4222 : BitVec 32 := 1#32
  let v3897 : BitVec 32 := Scalar.muli v13 c1_i32_4222
  let v3898 : BitVec 32 := Scalar.addi c0_i32_4223 v3897
  v3898.toNat
def k0_dev109 (d0 : Dev nD) : Nat :=
  let c0_i32_4281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4280 : BitVec 32 := 1#32
  let v3940 : BitVec 32 := Scalar.muli v13 c1_i32_4280
  let v3941 : BitVec 32 := Scalar.addi c0_i32_4281 v3940
  v3941.toNat
def k0_dev110 (d0 : Dev nD) : Nat :=
  let c0_i32_4288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4287 : BitVec 32 := 1#32
  let v3950 : BitVec 32 := Scalar.muli v24 c1_i32_4287
  let v3951 : BitVec 32 := Scalar.addi c0_i32_4288 v3950
  v3951.toNat
def k0_dev111 (d0 : Dev nD) : Nat :=
  let c0_i32_4346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4345 : BitVec 32 := 1#32
  let v3993 : BitVec 32 := Scalar.muli v24 c1_i32_4345
  let v3994 : BitVec 32 := Scalar.addi c0_i32_4346 v3993
  v3994.toNat
def k0_dev112 (d0 : Dev nD) : Nat :=
  let c0_i32_4353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4352 : BitVec 32 := 1#32
  let v4003 : BitVec 32 := Scalar.muli v13 c1_i32_4352
  let v4004 : BitVec 32 := Scalar.addi c0_i32_4353 v4003
  v4004.toNat
def k0_dev113 (d0 : Dev nD) : Nat :=
  let c0_i32_4411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4410 : BitVec 32 := 1#32
  let v4046 : BitVec 32 := Scalar.muli v13 c1_i32_4410
  let v4047 : BitVec 32 := Scalar.addi c0_i32_4411 v4046
  v4047.toNat
def k0_dev114 (d0 : Dev nD) : Nat :=
  let c0_i32_4418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4417 : BitVec 32 := 1#32
  let v4056 : BitVec 32 := Scalar.muli v24 c1_i32_4417
  let v4057 : BitVec 32 := Scalar.addi c0_i32_4418 v4056
  v4057.toNat
def k0_dev115 (d0 : Dev nD) : Nat :=
  let c0_i32_4476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4475 : BitVec 32 := 1#32
  let v4099 : BitVec 32 := Scalar.muli v24 c1_i32_4475
  let v4100 : BitVec 32 := Scalar.addi c0_i32_4476 v4099
  v4100.toNat
def k0_dev116 (d0 : Dev nD) : Nat :=
  let c0_i32_4483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4482 : BitVec 32 := 1#32
  let v4109 : BitVec 32 := Scalar.muli v13 c1_i32_4482
  let v4110 : BitVec 32 := Scalar.addi c0_i32_4483 v4109
  v4110.toNat
def k0_dev117 (d0 : Dev nD) : Nat :=
  let c0_i32_4541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4540 : BitVec 32 := 1#32
  let v4152 : BitVec 32 := Scalar.muli v13 c1_i32_4540
  let v4153 : BitVec 32 := Scalar.addi c0_i32_4541 v4152
  v4153.toNat
def k0_dev118 (d0 : Dev nD) : Nat :=
  let c0_i32_4548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4547 : BitVec 32 := 1#32
  let v4162 : BitVec 32 := Scalar.muli v24 c1_i32_4547
  let v4163 : BitVec 32 := Scalar.addi c0_i32_4548 v4162
  v4163.toNat
def k0_dev119 (d0 : Dev nD) : Nat :=
  let c0_i32_4606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4605 : BitVec 32 := 1#32
  let v4205 : BitVec 32 := Scalar.muli v24 c1_i32_4605
  let v4206 : BitVec 32 := Scalar.addi c0_i32_4606 v4205
  v4206.toNat
def k0_dev120 (d0 : Dev nD) : Nat :=
  let c0_i32_4613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4612 : BitVec 32 := 1#32
  let v4215 : BitVec 32 := Scalar.muli v13 c1_i32_4612
  let v4216 : BitVec 32 := Scalar.addi c0_i32_4613 v4215
  v4216.toNat
def k0_dev121 (d0 : Dev nD) : Nat :=
  let c0_i32_4671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4670 : BitVec 32 := 1#32
  let v4258 : BitVec 32 := Scalar.muli v13 c1_i32_4670
  let v4259 : BitVec 32 := Scalar.addi c0_i32_4671 v4258
  v4259.toNat
def k0_dev122 (d0 : Dev nD) : Nat :=
  let c0_i32_4678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4677 : BitVec 32 := 1#32
  let v4268 : BitVec 32 := Scalar.muli v24 c1_i32_4677
  let v4269 : BitVec 32 := Scalar.addi c0_i32_4678 v4268
  v4269.toNat
def k0_dev123 (d0 : Dev nD) : Nat :=
  let c0_i32_4862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4861 : BitVec 32 := 1#32
  let v4463 : BitVec 32 := Scalar.muli v24 c1_i32_4861
  let v4464 : BitVec 32 := Scalar.addi c0_i32_4862 v4463
  v4464.toNat
def k0_dev124 (d0 : Dev nD) : Nat :=
  let c0_i32_4869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4868 : BitVec 32 := 1#32
  let v4473 : BitVec 32 := Scalar.muli v13 c1_i32_4868
  let v4474 : BitVec 32 := Scalar.addi c0_i32_4869 v4473
  v4474.toNat
def k0_dev125 (d0 : Dev nD) : Nat :=
  let c0_i32_4927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4926 : BitVec 32 := 1#32
  let v4516 : BitVec 32 := Scalar.muli v13 c1_i32_4926
  let v4517 : BitVec 32 := Scalar.addi c0_i32_4927 v4516
  v4517.toNat
def k0_dev126 (d0 : Dev nD) : Nat :=
  let c0_i32_4934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4933 : BitVec 32 := 1#32
  let v4526 : BitVec 32 := Scalar.muli v24 c1_i32_4933
  let v4527 : BitVec 32 := Scalar.addi c0_i32_4934 v4526
  v4527.toNat
def k0_dev127 (d0 : Dev nD) : Nat :=
  let c0_i32_4992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4991 : BitVec 32 := 1#32
  let v4569 : BitVec 32 := Scalar.muli v24 c1_i32_4991
  let v4570 : BitVec 32 := Scalar.addi c0_i32_4992 v4569
  v4570.toNat
def k0_dev128 (d0 : Dev nD) : Nat :=
  let c0_i32_4999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4998 : BitVec 32 := 1#32
  let v4579 : BitVec 32 := Scalar.muli v13 c1_i32_4998
  let v4580 : BitVec 32 := Scalar.addi c0_i32_4999 v4579
  v4580.toNat
def k0_dev129 (d0 : Dev nD) : Nat :=
  let c0_i32_5057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5056 : BitVec 32 := 1#32
  let v4622 : BitVec 32 := Scalar.muli v13 c1_i32_5056
  let v4623 : BitVec 32 := Scalar.addi c0_i32_5057 v4622
  v4623.toNat
def k0_dev130 (d0 : Dev nD) : Nat :=
  let c0_i32_5064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5063 : BitVec 32 := 1#32
  let v4632 : BitVec 32 := Scalar.muli v24 c1_i32_5063
  let v4633 : BitVec 32 := Scalar.addi c0_i32_5064 v4632
  v4633.toNat
def k0_dev131 (d0 : Dev nD) : Nat :=
  let c0_i32_5122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5121 : BitVec 32 := 1#32
  let v4675 : BitVec 32 := Scalar.muli v24 c1_i32_5121
  let v4676 : BitVec 32 := Scalar.addi c0_i32_5122 v4675
  v4676.toNat
def k0_dev132 (d0 : Dev nD) : Nat :=
  let c0_i32_5129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5128 : BitVec 32 := 1#32
  let v4685 : BitVec 32 := Scalar.muli v13 c1_i32_5128
  let v4686 : BitVec 32 := Scalar.addi c0_i32_5129 v4685
  v4686.toNat
def k0_dev133 (d0 : Dev nD) : Nat :=
  let c0_i32_5187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5186 : BitVec 32 := 1#32
  let v4728 : BitVec 32 := Scalar.muli v13 c1_i32_5186
  let v4729 : BitVec 32 := Scalar.addi c0_i32_5187 v4728
  v4729.toNat
def k0_dev134 (d0 : Dev nD) : Nat :=
  let c0_i32_5194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5193 : BitVec 32 := 1#32
  let v4738 : BitVec 32 := Scalar.muli v24 c1_i32_5193
  let v4739 : BitVec 32 := Scalar.addi c0_i32_5194 v4738
  v4739.toNat
def k0_dev135 (d0 : Dev nD) : Nat :=
  let c0_i32_5252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5251 : BitVec 32 := 1#32
  let v4781 : BitVec 32 := Scalar.muli v24 c1_i32_5251
  let v4782 : BitVec 32 := Scalar.addi c0_i32_5252 v4781
  v4782.toNat
def k0_dev136 (d0 : Dev nD) : Nat :=
  let c0_i32_5259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5258 : BitVec 32 := 1#32
  let v4791 : BitVec 32 := Scalar.muli v13 c1_i32_5258
  let v4792 : BitVec 32 := Scalar.addi c0_i32_5259 v4791
  v4792.toNat
def k0_dev137 (d0 : Dev nD) : Nat :=
  let c0_i32_5317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5316 : BitVec 32 := 1#32
  let v4834 : BitVec 32 := Scalar.muli v13 c1_i32_5316
  let v4835 : BitVec 32 := Scalar.addi c0_i32_5317 v4834
  v4835.toNat
def k0_dev138 (d0 : Dev nD) : Nat :=
  let c0_i32_5324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5323 : BitVec 32 := 1#32
  let v4844 : BitVec 32 := Scalar.muli v24 c1_i32_5323
  let v4845 : BitVec 32 := Scalar.addi c0_i32_5324 v4844
  v4845.toNat
def k0_dev139 (d0 : Dev nD) : Nat :=
  let c0_i32_5508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5507 : BitVec 32 := 1#32
  let v5039 : BitVec 32 := Scalar.muli v24 c1_i32_5507
  let v5040 : BitVec 32 := Scalar.addi c0_i32_5508 v5039
  v5040.toNat
def k0_dev140 (d0 : Dev nD) : Nat :=
  let c0_i32_5515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5514 : BitVec 32 := 1#32
  let v5049 : BitVec 32 := Scalar.muli v13 c1_i32_5514
  let v5050 : BitVec 32 := Scalar.addi c0_i32_5515 v5049
  v5050.toNat
def k0_dev141 (d0 : Dev nD) : Nat :=
  let c0_i32_5573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5572 : BitVec 32 := 1#32
  let v5092 : BitVec 32 := Scalar.muli v13 c1_i32_5572
  let v5093 : BitVec 32 := Scalar.addi c0_i32_5573 v5092
  v5093.toNat
def k0_dev142 (d0 : Dev nD) : Nat :=
  let c0_i32_5580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5579 : BitVec 32 := 1#32
  let v5102 : BitVec 32 := Scalar.muli v24 c1_i32_5579
  let v5103 : BitVec 32 := Scalar.addi c0_i32_5580 v5102
  v5103.toNat
def k0_dev143 (d0 : Dev nD) : Nat :=
  let c0_i32_5638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5637 : BitVec 32 := 1#32
  let v5145 : BitVec 32 := Scalar.muli v24 c1_i32_5637
  let v5146 : BitVec 32 := Scalar.addi c0_i32_5638 v5145
  v5146.toNat
def k0_dev144 (d0 : Dev nD) : Nat :=
  let c0_i32_5645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5644 : BitVec 32 := 1#32
  let v5155 : BitVec 32 := Scalar.muli v13 c1_i32_5644
  let v5156 : BitVec 32 := Scalar.addi c0_i32_5645 v5155
  v5156.toNat
def k0_dev145 (d0 : Dev nD) : Nat :=
  let c0_i32_5703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5702 : BitVec 32 := 1#32
  let v5198 : BitVec 32 := Scalar.muli v13 c1_i32_5702
  let v5199 : BitVec 32 := Scalar.addi c0_i32_5703 v5198
  v5199.toNat
def k0_dev146 (d0 : Dev nD) : Nat :=
  let c0_i32_5710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5709 : BitVec 32 := 1#32
  let v5208 : BitVec 32 := Scalar.muli v24 c1_i32_5709
  let v5209 : BitVec 32 := Scalar.addi c0_i32_5710 v5208
  v5209.toNat
def k0_dev147 (d0 : Dev nD) : Nat :=
  let c0_i32_5768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5767 : BitVec 32 := 1#32
  let v5251 : BitVec 32 := Scalar.muli v24 c1_i32_5767
  let v5252 : BitVec 32 := Scalar.addi c0_i32_5768 v5251
  v5252.toNat
def k0_dev148 (d0 : Dev nD) : Nat :=
  let c0_i32_5775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5774 : BitVec 32 := 1#32
  let v5261 : BitVec 32 := Scalar.muli v13 c1_i32_5774
  let v5262 : BitVec 32 := Scalar.addi c0_i32_5775 v5261
  v5262.toNat
def k0_dev149 (d0 : Dev nD) : Nat :=
  let c0_i32_5833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5832 : BitVec 32 := 1#32
  let v5304 : BitVec 32 := Scalar.muli v13 c1_i32_5832
  let v5305 : BitVec 32 := Scalar.addi c0_i32_5833 v5304
  v5305.toNat
def k0_dev150 (d0 : Dev nD) : Nat :=
  let c0_i32_5840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5839 : BitVec 32 := 1#32
  let v5314 : BitVec 32 := Scalar.muli v24 c1_i32_5839
  let v5315 : BitVec 32 := Scalar.addi c0_i32_5840 v5314
  v5315.toNat
def k0_dev151 (d0 : Dev nD) : Nat :=
  let c0_i32_5898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5897 : BitVec 32 := 1#32
  let v5357 : BitVec 32 := Scalar.muli v24 c1_i32_5897
  let v5358 : BitVec 32 := Scalar.addi c0_i32_5898 v5357
  v5358.toNat
def k0_dev152 (d0 : Dev nD) : Nat :=
  let c0_i32_5905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5904 : BitVec 32 := 1#32
  let v5367 : BitVec 32 := Scalar.muli v13 c1_i32_5904
  let v5368 : BitVec 32 := Scalar.addi c0_i32_5905 v5367
  v5368.toNat
def k0_dev153 (d0 : Dev nD) : Nat :=
  let c0_i32_5963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5962 : BitVec 32 := 1#32
  let v5410 : BitVec 32 := Scalar.muli v13 c1_i32_5962
  let v5411 : BitVec 32 := Scalar.addi c0_i32_5963 v5410
  v5411.toNat
def k0_dev154 (d0 : Dev nD) : Nat :=
  let c0_i32_5970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5969 : BitVec 32 := 1#32
  let v5420 : BitVec 32 := Scalar.muli v24 c1_i32_5969
  let v5421 : BitVec 32 := Scalar.addi c0_i32_5970 v5420
  v5421.toNat
def k0_dev155 (d0 : Dev nD) : Nat :=
  let c0_i32_6154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6153 : BitVec 32 := 1#32
  let v5615 : BitVec 32 := Scalar.muli v24 c1_i32_6153
  let v5616 : BitVec 32 := Scalar.addi c0_i32_6154 v5615
  v5616.toNat
def k0_dev156 (d0 : Dev nD) : Nat :=
  let c0_i32_6161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6160 : BitVec 32 := 1#32
  let v5625 : BitVec 32 := Scalar.muli v13 c1_i32_6160
  let v5626 : BitVec 32 := Scalar.addi c0_i32_6161 v5625
  v5626.toNat
def k0_dev157 (d0 : Dev nD) : Nat :=
  let c0_i32_6219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6218 : BitVec 32 := 1#32
  let v5668 : BitVec 32 := Scalar.muli v13 c1_i32_6218
  let v5669 : BitVec 32 := Scalar.addi c0_i32_6219 v5668
  v5669.toNat
def k0_dev158 (d0 : Dev nD) : Nat :=
  let c0_i32_6226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6225 : BitVec 32 := 1#32
  let v5678 : BitVec 32 := Scalar.muli v24 c1_i32_6225
  let v5679 : BitVec 32 := Scalar.addi c0_i32_6226 v5678
  v5679.toNat
def k0_dev159 (d0 : Dev nD) : Nat :=
  let c0_i32_6284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6283 : BitVec 32 := 1#32
  let v5721 : BitVec 32 := Scalar.muli v24 c1_i32_6283
  let v5722 : BitVec 32 := Scalar.addi c0_i32_6284 v5721
  v5722.toNat
def k0_dev160 (d0 : Dev nD) : Nat :=
  let c0_i32_6291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6290 : BitVec 32 := 1#32
  let v5731 : BitVec 32 := Scalar.muli v13 c1_i32_6290
  let v5732 : BitVec 32 := Scalar.addi c0_i32_6291 v5731
  v5732.toNat
def k0_dev161 (d0 : Dev nD) : Nat :=
  let c0_i32_6349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6348 : BitVec 32 := 1#32
  let v5774 : BitVec 32 := Scalar.muli v13 c1_i32_6348
  let v5775 : BitVec 32 := Scalar.addi c0_i32_6349 v5774
  v5775.toNat
def k0_dev162 (d0 : Dev nD) : Nat :=
  let c0_i32_6356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6355 : BitVec 32 := 1#32
  let v5784 : BitVec 32 := Scalar.muli v24 c1_i32_6355
  let v5785 : BitVec 32 := Scalar.addi c0_i32_6356 v5784
  v5785.toNat
def k0_dev163 (d0 : Dev nD) : Nat :=
  let c0_i32_6414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6413 : BitVec 32 := 1#32
  let v5827 : BitVec 32 := Scalar.muli v24 c1_i32_6413
  let v5828 : BitVec 32 := Scalar.addi c0_i32_6414 v5827
  v5828.toNat
def k0_dev164 (d0 : Dev nD) : Nat :=
  let c0_i32_6421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6420 : BitVec 32 := 1#32
  let v5837 : BitVec 32 := Scalar.muli v13 c1_i32_6420
  let v5838 : BitVec 32 := Scalar.addi c0_i32_6421 v5837
  v5838.toNat
def k0_dev165 (d0 : Dev nD) : Nat :=
  let c0_i32_6479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6478 : BitVec 32 := 1#32
  let v5880 : BitVec 32 := Scalar.muli v13 c1_i32_6478
  let v5881 : BitVec 32 := Scalar.addi c0_i32_6479 v5880
  v5881.toNat
def k0_dev166 (d0 : Dev nD) : Nat :=
  let c0_i32_6486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6485 : BitVec 32 := 1#32
  let v5890 : BitVec 32 := Scalar.muli v24 c1_i32_6485
  let v5891 : BitVec 32 := Scalar.addi c0_i32_6486 v5890
  v5891.toNat
def k0_dev167 (d0 : Dev nD) : Nat :=
  let c0_i32_6544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6543 : BitVec 32 := 1#32
  let v5933 : BitVec 32 := Scalar.muli v24 c1_i32_6543
  let v5934 : BitVec 32 := Scalar.addi c0_i32_6544 v5933
  v5934.toNat
def k0_dev168 (d0 : Dev nD) : Nat :=
  let c0_i32_6551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6550 : BitVec 32 := 1#32
  let v5943 : BitVec 32 := Scalar.muli v13 c1_i32_6550
  let v5944 : BitVec 32 := Scalar.addi c0_i32_6551 v5943
  v5944.toNat
def k0_dev169 (d0 : Dev nD) : Nat :=
  let c0_i32_6609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6608 : BitVec 32 := 1#32
  let v5986 : BitVec 32 := Scalar.muli v13 c1_i32_6608
  let v5987 : BitVec 32 := Scalar.addi c0_i32_6609 v5986
  v5987.toNat
def k0_dev170 (d0 : Dev nD) : Nat :=
  let c0_i32_6616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6615 : BitVec 32 := 1#32
  let v5996 : BitVec 32 := Scalar.muli v24 c1_i32_6615
  let v5997 : BitVec 32 := Scalar.addi c0_i32_6616 v5996
  v5997.toNat
def k0_dev171 (d0 : Dev nD) : Nat :=
  let c0_i32_6800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6799 : BitVec 32 := 1#32
  let v6191 : BitVec 32 := Scalar.muli v24 c1_i32_6799
  let v6192 : BitVec 32 := Scalar.addi c0_i32_6800 v6191
  v6192.toNat
def k0_dev172 (d0 : Dev nD) : Nat :=
  let c0_i32_6807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6806 : BitVec 32 := 1#32
  let v6201 : BitVec 32 := Scalar.muli v13 c1_i32_6806
  let v6202 : BitVec 32 := Scalar.addi c0_i32_6807 v6201
  v6202.toNat
def k0_dev173 (d0 : Dev nD) : Nat :=
  let c0_i32_6865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6864 : BitVec 32 := 1#32
  let v6244 : BitVec 32 := Scalar.muli v13 c1_i32_6864
  let v6245 : BitVec 32 := Scalar.addi c0_i32_6865 v6244
  v6245.toNat
def k0_dev174 (d0 : Dev nD) : Nat :=
  let c0_i32_6872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6871 : BitVec 32 := 1#32
  let v6254 : BitVec 32 := Scalar.muli v24 c1_i32_6871
  let v6255 : BitVec 32 := Scalar.addi c0_i32_6872 v6254
  v6255.toNat
def k0_dev175 (d0 : Dev nD) : Nat :=
  let c0_i32_6930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6929 : BitVec 32 := 1#32
  let v6297 : BitVec 32 := Scalar.muli v24 c1_i32_6929
  let v6298 : BitVec 32 := Scalar.addi c0_i32_6930 v6297
  v6298.toNat
def k0_dev176 (d0 : Dev nD) : Nat :=
  let c0_i32_6937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6936 : BitVec 32 := 1#32
  let v6307 : BitVec 32 := Scalar.muli v13 c1_i32_6936
  let v6308 : BitVec 32 := Scalar.addi c0_i32_6937 v6307
  v6308.toNat
def k0_dev177 (d0 : Dev nD) : Nat :=
  let c0_i32_6995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6994 : BitVec 32 := 1#32
  let v6350 : BitVec 32 := Scalar.muli v13 c1_i32_6994
  let v6351 : BitVec 32 := Scalar.addi c0_i32_6995 v6350
  v6351.toNat
def k0_dev178 (d0 : Dev nD) : Nat :=
  let c0_i32_7002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7001 : BitVec 32 := 1#32
  let v6360 : BitVec 32 := Scalar.muli v24 c1_i32_7001
  let v6361 : BitVec 32 := Scalar.addi c0_i32_7002 v6360
  v6361.toNat
def k0_dev179 (d0 : Dev nD) : Nat :=
  let c0_i32_7060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7059 : BitVec 32 := 1#32
  let v6403 : BitVec 32 := Scalar.muli v24 c1_i32_7059
  let v6404 : BitVec 32 := Scalar.addi c0_i32_7060 v6403
  v6404.toNat
def k0_dev180 (d0 : Dev nD) : Nat :=
  let c0_i32_7067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7066 : BitVec 32 := 1#32
  let v6413 : BitVec 32 := Scalar.muli v13 c1_i32_7066
  let v6414 : BitVec 32 := Scalar.addi c0_i32_7067 v6413
  v6414.toNat
def k0_dev181 (d0 : Dev nD) : Nat :=
  let c0_i32_7125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7124 : BitVec 32 := 1#32
  let v6456 : BitVec 32 := Scalar.muli v13 c1_i32_7124
  let v6457 : BitVec 32 := Scalar.addi c0_i32_7125 v6456
  v6457.toNat
def k0_dev182 (d0 : Dev nD) : Nat :=
  let c0_i32_7132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7131 : BitVec 32 := 1#32
  let v6466 : BitVec 32 := Scalar.muli v24 c1_i32_7131
  let v6467 : BitVec 32 := Scalar.addi c0_i32_7132 v6466
  v6467.toNat
def k0_dev183 (d0 : Dev nD) : Nat :=
  let c0_i32_7190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7189 : BitVec 32 := 1#32
  let v6509 : BitVec 32 := Scalar.muli v24 c1_i32_7189
  let v6510 : BitVec 32 := Scalar.addi c0_i32_7190 v6509
  v6510.toNat
def k0_dev184 (d0 : Dev nD) : Nat :=
  let c0_i32_7197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7196 : BitVec 32 := 1#32
  let v6519 : BitVec 32 := Scalar.muli v13 c1_i32_7196
  let v6520 : BitVec 32 := Scalar.addi c0_i32_7197 v6519
  v6520.toNat
def k0_dev185 (d0 : Dev nD) : Nat :=
  let c0_i32_7255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7254 : BitVec 32 := 1#32
  let v6562 : BitVec 32 := Scalar.muli v13 c1_i32_7254
  let v6563 : BitVec 32 := Scalar.addi c0_i32_7255 v6562
  v6563.toNat
def k0_dev186 (d0 : Dev nD) : Nat :=
  let c0_i32_7262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7261 : BitVec 32 := 1#32
  let v6572 : BitVec 32 := Scalar.muli v24 c1_i32_7261
  let v6573 : BitVec 32 := Scalar.addi c0_i32_7262 v6572
  v6573.toNat
def k0_dev187 (d0 : Dev nD) : Nat :=
  let c0_i32_7446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7445 : BitVec 32 := 1#32
  let v6767 : BitVec 32 := Scalar.muli v24 c1_i32_7445
  let v6768 : BitVec 32 := Scalar.addi c0_i32_7446 v6767
  v6768.toNat
def k0_dev188 (d0 : Dev nD) : Nat :=
  let c0_i32_7453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7452 : BitVec 32 := 1#32
  let v6777 : BitVec 32 := Scalar.muli v13 c1_i32_7452
  let v6778 : BitVec 32 := Scalar.addi c0_i32_7453 v6777
  v6778.toNat
def k0_dev189 (d0 : Dev nD) : Nat :=
  let c0_i32_7511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7510 : BitVec 32 := 1#32
  let v6820 : BitVec 32 := Scalar.muli v13 c1_i32_7510
  let v6821 : BitVec 32 := Scalar.addi c0_i32_7511 v6820
  v6821.toNat
def k0_dev190 (d0 : Dev nD) : Nat :=
  let c0_i32_7518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7517 : BitVec 32 := 1#32
  let v6830 : BitVec 32 := Scalar.muli v24 c1_i32_7517
  let v6831 : BitVec 32 := Scalar.addi c0_i32_7518 v6830
  v6831.toNat
def k0_dev191 (d0 : Dev nD) : Nat :=
  let c0_i32_7576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7575 : BitVec 32 := 1#32
  let v6873 : BitVec 32 := Scalar.muli v24 c1_i32_7575
  let v6874 : BitVec 32 := Scalar.addi c0_i32_7576 v6873
  v6874.toNat
def k0_dev192 (d0 : Dev nD) : Nat :=
  let c0_i32_7583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7582 : BitVec 32 := 1#32
  let v6883 : BitVec 32 := Scalar.muli v13 c1_i32_7582
  let v6884 : BitVec 32 := Scalar.addi c0_i32_7583 v6883
  v6884.toNat
def k0_dev193 (d0 : Dev nD) : Nat :=
  let c0_i32_7641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7640 : BitVec 32 := 1#32
  let v6926 : BitVec 32 := Scalar.muli v13 c1_i32_7640
  let v6927 : BitVec 32 := Scalar.addi c0_i32_7641 v6926
  v6927.toNat
def k0_dev194 (d0 : Dev nD) : Nat :=
  let c0_i32_7648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7647 : BitVec 32 := 1#32
  let v6936 : BitVec 32 := Scalar.muli v24 c1_i32_7647
  let v6937 : BitVec 32 := Scalar.addi c0_i32_7648 v6936
  v6937.toNat
def k0_dev195 (d0 : Dev nD) : Nat :=
  let c0_i32_7706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7705 : BitVec 32 := 1#32
  let v6979 : BitVec 32 := Scalar.muli v24 c1_i32_7705
  let v6980 : BitVec 32 := Scalar.addi c0_i32_7706 v6979
  v6980.toNat
def k0_dev196 (d0 : Dev nD) : Nat :=
  let c0_i32_7713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7712 : BitVec 32 := 1#32
  let v6989 : BitVec 32 := Scalar.muli v13 c1_i32_7712
  let v6990 : BitVec 32 := Scalar.addi c0_i32_7713 v6989
  v6990.toNat
def k0_dev197 (d0 : Dev nD) : Nat :=
  let c0_i32_7771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7770 : BitVec 32 := 1#32
  let v7032 : BitVec 32 := Scalar.muli v13 c1_i32_7770
  let v7033 : BitVec 32 := Scalar.addi c0_i32_7771 v7032
  v7033.toNat
def k0_dev198 (d0 : Dev nD) : Nat :=
  let c0_i32_7778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7777 : BitVec 32 := 1#32
  let v7042 : BitVec 32 := Scalar.muli v24 c1_i32_7777
  let v7043 : BitVec 32 := Scalar.addi c0_i32_7778 v7042
  v7043.toNat
def k0_dev199 (d0 : Dev nD) : Nat :=
  let c0_i32_7836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7835 : BitVec 32 := 1#32
  let v7085 : BitVec 32 := Scalar.muli v24 c1_i32_7835
  let v7086 : BitVec 32 := Scalar.addi c0_i32_7836 v7085
  v7086.toNat
def k0_dev200 (d0 : Dev nD) : Nat :=
  let c0_i32_7843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7842 : BitVec 32 := 1#32
  let v7095 : BitVec 32 := Scalar.muli v13 c1_i32_7842
  let v7096 : BitVec 32 := Scalar.addi c0_i32_7843 v7095
  v7096.toNat
def k0_dev201 (d0 : Dev nD) : Nat :=
  let c0_i32_7901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7900 : BitVec 32 := 1#32
  let v7138 : BitVec 32 := Scalar.muli v13 c1_i32_7900
  let v7139 : BitVec 32 := Scalar.addi c0_i32_7901 v7138
  v7139.toNat
def k0_dev202 (d0 : Dev nD) : Nat :=
  let c0_i32_7908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7907 : BitVec 32 := 1#32
  let v7148 : BitVec 32 := Scalar.muli v24 c1_i32_7907
  let v7149 : BitVec 32 := Scalar.addi c0_i32_7908 v7148
  v7149.toNat
def k0_dev203 (d0 : Dev nD) : Nat :=
  let c0_i32_8092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8091 : BitVec 32 := 1#32
  let v7343 : BitVec 32 := Scalar.muli v24 c1_i32_8091
  let v7344 : BitVec 32 := Scalar.addi c0_i32_8092 v7343
  v7344.toNat
def k0_dev204 (d0 : Dev nD) : Nat :=
  let c0_i32_8099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8098 : BitVec 32 := 1#32
  let v7353 : BitVec 32 := Scalar.muli v13 c1_i32_8098
  let v7354 : BitVec 32 := Scalar.addi c0_i32_8099 v7353
  v7354.toNat
def k0_dev205 (d0 : Dev nD) : Nat :=
  let c0_i32_8157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8156 : BitVec 32 := 1#32
  let v7396 : BitVec 32 := Scalar.muli v13 c1_i32_8156
  let v7397 : BitVec 32 := Scalar.addi c0_i32_8157 v7396
  v7397.toNat
def k0_dev206 (d0 : Dev nD) : Nat :=
  let c0_i32_8164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8163 : BitVec 32 := 1#32
  let v7406 : BitVec 32 := Scalar.muli v24 c1_i32_8163
  let v7407 : BitVec 32 := Scalar.addi c0_i32_8164 v7406
  v7407.toNat
def k0_dev207 (d0 : Dev nD) : Nat :=
  let c0_i32_8222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8221 : BitVec 32 := 1#32
  let v7449 : BitVec 32 := Scalar.muli v24 c1_i32_8221
  let v7450 : BitVec 32 := Scalar.addi c0_i32_8222 v7449
  v7450.toNat
def k0_dev208 (d0 : Dev nD) : Nat :=
  let c0_i32_8229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8228 : BitVec 32 := 1#32
  let v7459 : BitVec 32 := Scalar.muli v13 c1_i32_8228
  let v7460 : BitVec 32 := Scalar.addi c0_i32_8229 v7459
  v7460.toNat
def k0_dev209 (d0 : Dev nD) : Nat :=
  let c0_i32_8287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8286 : BitVec 32 := 1#32
  let v7502 : BitVec 32 := Scalar.muli v13 c1_i32_8286
  let v7503 : BitVec 32 := Scalar.addi c0_i32_8287 v7502
  v7503.toNat
def k0_dev210 (d0 : Dev nD) : Nat :=
  let c0_i32_8294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8293 : BitVec 32 := 1#32
  let v7512 : BitVec 32 := Scalar.muli v24 c1_i32_8293
  let v7513 : BitVec 32 := Scalar.addi c0_i32_8294 v7512
  v7513.toNat
def k0_dev211 (d0 : Dev nD) : Nat :=
  let c0_i32_8352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8351 : BitVec 32 := 1#32
  let v7555 : BitVec 32 := Scalar.muli v24 c1_i32_8351
  let v7556 : BitVec 32 := Scalar.addi c0_i32_8352 v7555
  v7556.toNat
def k0_dev212 (d0 : Dev nD) : Nat :=
  let c0_i32_8359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8358 : BitVec 32 := 1#32
  let v7565 : BitVec 32 := Scalar.muli v13 c1_i32_8358
  let v7566 : BitVec 32 := Scalar.addi c0_i32_8359 v7565
  v7566.toNat
def k0_dev213 (d0 : Dev nD) : Nat :=
  let c0_i32_8417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8416 : BitVec 32 := 1#32
  let v7608 : BitVec 32 := Scalar.muli v13 c1_i32_8416
  let v7609 : BitVec 32 := Scalar.addi c0_i32_8417 v7608
  v7609.toNat
def k0_dev214 (d0 : Dev nD) : Nat :=
  let c0_i32_8424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8423 : BitVec 32 := 1#32
  let v7618 : BitVec 32 := Scalar.muli v24 c1_i32_8423
  let v7619 : BitVec 32 := Scalar.addi c0_i32_8424 v7618
  v7619.toNat
def k0_dev215 (d0 : Dev nD) : Nat :=
  let c0_i32_8482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8481 : BitVec 32 := 1#32
  let v7661 : BitVec 32 := Scalar.muli v24 c1_i32_8481
  let v7662 : BitVec 32 := Scalar.addi c0_i32_8482 v7661
  v7662.toNat
def k0_dev216 (d0 : Dev nD) : Nat :=
  let c0_i32_8489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8488 : BitVec 32 := 1#32
  let v7671 : BitVec 32 := Scalar.muli v13 c1_i32_8488
  let v7672 : BitVec 32 := Scalar.addi c0_i32_8489 v7671
  v7672.toNat
def k0_dev217 (d0 : Dev nD) : Nat :=
  let c0_i32_8547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8546 : BitVec 32 := 1#32
  let v7714 : BitVec 32 := Scalar.muli v13 c1_i32_8546
  let v7715 : BitVec 32 := Scalar.addi c0_i32_8547 v7714
  v7715.toNat
def k0_dev218 (d0 : Dev nD) : Nat :=
  let c0_i32_8554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8553 : BitVec 32 := 1#32
  let v7724 : BitVec 32 := Scalar.muli v24 c1_i32_8553
  let v7725 : BitVec 32 := Scalar.addi c0_i32_8554 v7724
  v7725.toNat
def k0_dev219 (d0 : Dev nD) : Nat :=
  let c0_i32_8738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8737 : BitVec 32 := 1#32
  let v7919 : BitVec 32 := Scalar.muli v24 c1_i32_8737
  let v7920 : BitVec 32 := Scalar.addi c0_i32_8738 v7919
  v7920.toNat
def k0_dev220 (d0 : Dev nD) : Nat :=
  let c0_i32_8745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8744 : BitVec 32 := 1#32
  let v7929 : BitVec 32 := Scalar.muli v13 c1_i32_8744
  let v7930 : BitVec 32 := Scalar.addi c0_i32_8745 v7929
  v7930.toNat
def k0_dev221 (d0 : Dev nD) : Nat :=
  let c0_i32_8803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8802 : BitVec 32 := 1#32
  let v7972 : BitVec 32 := Scalar.muli v13 c1_i32_8802
  let v7973 : BitVec 32 := Scalar.addi c0_i32_8803 v7972
  v7973.toNat
def k0_dev222 (d0 : Dev nD) : Nat :=
  let c0_i32_8810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8809 : BitVec 32 := 1#32
  let v7982 : BitVec 32 := Scalar.muli v24 c1_i32_8809
  let v7983 : BitVec 32 := Scalar.addi c0_i32_8810 v7982
  v7983.toNat
def k0_dev223 (d0 : Dev nD) : Nat :=
  let c0_i32_8868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8867 : BitVec 32 := 1#32
  let v8025 : BitVec 32 := Scalar.muli v24 c1_i32_8867
  let v8026 : BitVec 32 := Scalar.addi c0_i32_8868 v8025
  v8026.toNat
def k0_dev224 (d0 : Dev nD) : Nat :=
  let c0_i32_8875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8874 : BitVec 32 := 1#32
  let v8035 : BitVec 32 := Scalar.muli v13 c1_i32_8874
  let v8036 : BitVec 32 := Scalar.addi c0_i32_8875 v8035
  v8036.toNat
def k0_dev225 (d0 : Dev nD) : Nat :=
  let c0_i32_8933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8932 : BitVec 32 := 1#32
  let v8078 : BitVec 32 := Scalar.muli v13 c1_i32_8932
  let v8079 : BitVec 32 := Scalar.addi c0_i32_8933 v8078
  v8079.toNat
def k0_dev226 (d0 : Dev nD) : Nat :=
  let c0_i32_8940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8939 : BitVec 32 := 1#32
  let v8088 : BitVec 32 := Scalar.muli v24 c1_i32_8939
  let v8089 : BitVec 32 := Scalar.addi c0_i32_8940 v8088
  v8089.toNat
def k0_dev227 (d0 : Dev nD) : Nat :=
  let c0_i32_8998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8997 : BitVec 32 := 1#32
  let v8131 : BitVec 32 := Scalar.muli v24 c1_i32_8997
  let v8132 : BitVec 32 := Scalar.addi c0_i32_8998 v8131
  v8132.toNat
def k0_dev228 (d0 : Dev nD) : Nat :=
  let c0_i32_9005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9004 : BitVec 32 := 1#32
  let v8141 : BitVec 32 := Scalar.muli v13 c1_i32_9004
  let v8142 : BitVec 32 := Scalar.addi c0_i32_9005 v8141
  v8142.toNat
def k0_dev229 (d0 : Dev nD) : Nat :=
  let c0_i32_9063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9062 : BitVec 32 := 1#32
  let v8184 : BitVec 32 := Scalar.muli v13 c1_i32_9062
  let v8185 : BitVec 32 := Scalar.addi c0_i32_9063 v8184
  v8185.toNat
def k0_dev230 (d0 : Dev nD) : Nat :=
  let c0_i32_9070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9069 : BitVec 32 := 1#32
  let v8194 : BitVec 32 := Scalar.muli v24 c1_i32_9069
  let v8195 : BitVec 32 := Scalar.addi c0_i32_9070 v8194
  v8195.toNat
def k0_dev231 (d0 : Dev nD) : Nat :=
  let c0_i32_9128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9127 : BitVec 32 := 1#32
  let v8237 : BitVec 32 := Scalar.muli v24 c1_i32_9127
  let v8238 : BitVec 32 := Scalar.addi c0_i32_9128 v8237
  v8238.toNat
def k0_dev232 (d0 : Dev nD) : Nat :=
  let c0_i32_9135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9134 : BitVec 32 := 1#32
  let v8247 : BitVec 32 := Scalar.muli v13 c1_i32_9134
  let v8248 : BitVec 32 := Scalar.addi c0_i32_9135 v8247
  v8248.toNat
def k0_dev233 (d0 : Dev nD) : Nat :=
  let c0_i32_9193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9192 : BitVec 32 := 1#32
  let v8290 : BitVec 32 := Scalar.muli v13 c1_i32_9192
  let v8291 : BitVec 32 := Scalar.addi c0_i32_9193 v8290
  v8291.toNat
def k0_dev234 (d0 : Dev nD) : Nat :=
  let c0_i32_9200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9199 : BitVec 32 := 1#32
  let v8300 : BitVec 32 := Scalar.muli v24 c1_i32_9199
  let v8301 : BitVec 32 := Scalar.addi c0_i32_9200 v8300
  v8301.toNat
def k0_dev235 (d0 : Dev nD) : Nat :=
  let c0_i32_9258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9257 : BitVec 32 := 1#32
  let v8343 : BitVec 32 := Scalar.muli v24 c1_i32_9257
  let v8344 : BitVec 32 := Scalar.addi c0_i32_9258 v8343
  v8344.toNat
def k0_dev236 (d0 : Dev nD) : Nat :=
  let c0_i32_9271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9270 : BitVec 32 := 1#32
  let v8359 : BitVec 32 := Scalar.muli v13 c1_i32_9270
  let v8360 : BitVec 32 := Scalar.addi c0_i32_9271 v8359
  v8360.toNat
def k0_dev237 (d0 : Dev nD) : Nat :=
  let c0_i32_9329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9328 : BitVec 32 := 1#32
  let v8402 : BitVec 32 := Scalar.muli v13 c1_i32_9328
  let v8403 : BitVec 32 := Scalar.addi c0_i32_9329 v8402
  v8403.toNat
def k0_dev238 (d0 : Dev nD) : Nat :=
  let c0_i32_9342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9341 : BitVec 32 := 1#32
  let v8418 : BitVec 32 := Scalar.muli v24 c1_i32_9341
  let v8419 : BitVec 32 := Scalar.addi c0_i32_9342 v8418
  v8419.toNat
def k0_dev239 (d0 : Dev nD) : Nat :=
  let c0_i32_9400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9399 : BitVec 32 := 1#32
  let v8461 : BitVec 32 := Scalar.muli v24 c1_i32_9399
  let v8462 : BitVec 32 := Scalar.addi c0_i32_9400 v8461
  v8462.toNat
def k0_dev240 (d0 : Dev nD) : Nat :=
  let c0_i32_9413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9412 : BitVec 32 := 1#32
  let v8477 : BitVec 32 := Scalar.muli v13 c1_i32_9412
  let v8478 : BitVec 32 := Scalar.addi c0_i32_9413 v8477
  v8478.toNat
def k0_dev241 (d0 : Dev nD) : Nat :=
  let c0_i32_9471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9470 : BitVec 32 := 1#32
  let v8520 : BitVec 32 := Scalar.muli v13 c1_i32_9470
  let v8521 : BitVec 32 := Scalar.addi c0_i32_9471 v8520
  v8521.toNat
def k0_dev242 (d0 : Dev nD) : Nat :=
  let c0_i32_9484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9483 : BitVec 32 := 1#32
  let v8536 : BitVec 32 := Scalar.muli v24 c1_i32_9483
  let v8537 : BitVec 32 := Scalar.addi c0_i32_9484 v8536
  v8537.toNat
def k0_dev243 (d0 : Dev nD) : Nat :=
  let c0_i32_9542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9541 : BitVec 32 := 1#32
  let v8579 : BitVec 32 := Scalar.muli v24 c1_i32_9541
  let v8580 : BitVec 32 := Scalar.addi c0_i32_9542 v8579
  v8580.toNat
def k0_dev244 (d0 : Dev nD) : Nat :=
  let c0_i32_9555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9554 : BitVec 32 := 1#32
  let v8595 : BitVec 32 := Scalar.muli v13 c1_i32_9554
  let v8596 : BitVec 32 := Scalar.addi c0_i32_9555 v8595
  v8596.toNat
def k0_dev245 (d0 : Dev nD) : Nat :=
  let c0_i32_9613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9612 : BitVec 32 := 1#32
  let v8638 : BitVec 32 := Scalar.muli v13 c1_i32_9612
  let v8639 : BitVec 32 := Scalar.addi c0_i32_9613 v8638
  v8639.toNat
def k0_dev246 (d0 : Dev nD) : Nat :=
  let c0_i32_9626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9625 : BitVec 32 := 1#32
  let v8654 : BitVec 32 := Scalar.muli v24 c1_i32_9625
  let v8655 : BitVec 32 := Scalar.addi c0_i32_9626 v8654
  v8655.toNat
def k0_dev247 (d0 : Dev nD) : Nat :=
  let c0_i32_9684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9683 : BitVec 32 := 1#32
  let v8697 : BitVec 32 := Scalar.muli v24 c1_i32_9683
  let v8698 : BitVec 32 := Scalar.addi c0_i32_9684 v8697
  v8698.toNat
def k0_dev248 (d0 : Dev nD) : Nat :=
  let c0_i32_9697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9696 : BitVec 32 := 1#32
  let v8713 : BitVec 32 := Scalar.muli v13 c1_i32_9696
  let v8714 : BitVec 32 := Scalar.addi c0_i32_9697 v8713
  v8714.toNat
def k0_dev249 (d0 : Dev nD) : Nat :=
  let c0_i32_9755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9754 : BitVec 32 := 1#32
  let v8756 : BitVec 32 := Scalar.muli v13 c1_i32_9754
  let v8757 : BitVec 32 := Scalar.addi c0_i32_9755 v8756
  v8757.toNat
def k0_dev250 (d0 : Dev nD) : Nat :=
  let c0_i32_9768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9767 : BitVec 32 := 1#32
  let v8772 : BitVec 32 := Scalar.muli v24 c1_i32_9767
  let v8773 : BitVec 32 := Scalar.addi c0_i32_9768 v8772
  v8773.toNat
def k0_off3 (d0 : Dev nD) (c0_i32_9777 : BitVec 32) (c_m1_i32_9769 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v8774 : BitVec 32 := Scalar.subi v2 c_m1_i32_9769
  let c16_i32_9770 : BitVec 32 := 16#32
  let c0_i32_9771 : BitVec 32 := 0#32
  let v8775 : BitVec 1 := Scalar.cmpi .eq c16_i32_9770 c0_i32_9771
  let c1_i32_9772 : BitVec 32 := 1#32
  let v8776 : BitVec 32 := Scalar.select v8775 c1_i32_9772 c16_i32_9770
  let v8777 : BitVec 32 := Scalar.remsi v8774 v8776
  let c0_i32_9774 : BitVec 32 := 0#32
  let v8779 : BitVec 1 := Scalar.cmpi .slt v8777 c0_i32_9774
  let c0_i32_9775 : BitVec 32 := 0#32
  let v8780 : BitVec 1 := Scalar.cmpi .slt v8776 c0_i32_9775
  let v8781 : BitVec 1 := Scalar.xori v8779 v8780
  let c0_i32_9773 : BitVec 32 := 0#32
  let v8778 : BitVec 1 := Scalar.cmpi .ne v8777 c0_i32_9773
  let v8782 : BitVec 1 := Scalar.andi v8781 v8778
  let v8783 : BitVec 32 := Scalar.addi v8777 v8776
  let v8784 : BitVec 32 := Scalar.select v8782 v8783 v8777
  let c128_i32_9776 : BitVec 32 := 128#32
  let v8785 : BitVec 32 := Scalar.muli v8784 c128_i32_9776
  let v8786 : BitVec 32 := Scalar.addi c0_i32_9777 v8785
  let c0_i32_9780 : BitVec 32 := 0#32
  ![v8786.toNat, 0]
def k0_off3_at (r : Fin 2) : BitVec 32 × BitVec 32 :=
  if r.val < 1 then
    (0#32, 4294967295#32)
  else
    (2048#32, 1#32)
def k0_dev251 (d0 : Dev nD) : Nat :=
  let c0_i32_9835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9834 : BitVec 32 := 1#32
  let v8829 : BitVec 32 := Scalar.muli v24 c1_i32_9834
  let v8830 : BitVec 32 := Scalar.addi c0_i32_9835 v8829
  v8830.toNat
def k0_dev252 (d0 : Dev nD) : Nat :=
  let c0_i32_9848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9847 : BitVec 32 := 1#32
  let v8845 : BitVec 32 := Scalar.muli v13 c1_i32_9847
  let v8846 : BitVec 32 := Scalar.addi c0_i32_9848 v8845
  v8846.toNat
def k0_dev253 (d0 : Dev nD) : Nat :=
  let c0_i32_9887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9886 : BitVec 32 := 1#32
  let v8866 : BitVec 32 := Scalar.muli v13 c1_i32_9886
  let v8867 : BitVec 32 := Scalar.addi c0_i32_9887 v8866
  v8867.toNat
def k0_dev254 (d0 : Dev nD) : Nat :=
  let c0_i32_9900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9899 : BitVec 32 := 1#32
  let v8882 : BitVec 32 := Scalar.muli v24 c1_i32_9899
  let v8883 : BitVec 32 := Scalar.addi c0_i32_9900 v8882
  v8883.toNat
def k0_dev255 (d0 : Dev nD) : Nat :=
  let c0_i32_9939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9938 : BitVec 32 := 1#32
  let v8903 : BitVec 32 := Scalar.muli v24 c1_i32_9938
  let v8904 : BitVec 32 := Scalar.addi c0_i32_9939 v8903
  v8904.toNat
def k0_dev256 (d0 : Dev nD) : Nat :=
  let c0_i32_9952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9951 : BitVec 32 := 1#32
  let v8919 : BitVec 32 := Scalar.muli v13 c1_i32_9951
  let v8920 : BitVec 32 := Scalar.addi c0_i32_9952 v8919
  v8920.toNat
def k0_dev257 (d0 : Dev nD) : Nat :=
  let c0_i32_9991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9990 : BitVec 32 := 1#32
  let v8940 : BitVec 32 := Scalar.muli v13 c1_i32_9990
  let v8941 : BitVec 32 := Scalar.addi c0_i32_9991 v8940
  v8941.toNat
def k0_dev258 (d0 : Dev nD) : Nat :=
  let c0_i32_10004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10003 : BitVec 32 := 1#32
  let v8956 : BitVec 32 := Scalar.muli v24 c1_i32_10003
  let v8957 : BitVec 32 := Scalar.addi c0_i32_10004 v8956
  v8957.toNat
def k0_dev259 (d0 : Dev nD) : Nat :=
  let c0_i32_10043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10042 : BitVec 32 := 1#32
  let v8977 : BitVec 32 := Scalar.muli v24 c1_i32_10042
  let v8978 : BitVec 32 := Scalar.addi c0_i32_10043 v8977
  v8978.toNat
def k0_dev260 (d0 : Dev nD) : Nat :=
  let c0_i32_10056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10055 : BitVec 32 := 1#32
  let v8993 : BitVec 32 := Scalar.muli v13 c1_i32_10055
  let v8994 : BitVec 32 := Scalar.addi c0_i32_10056 v8993
  v8994.toNat
def k0_dev261 (d0 : Dev nD) : Nat :=
  let c0_i32_10095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10094 : BitVec 32 := 1#32
  let v9014 : BitVec 32 := Scalar.muli v13 c1_i32_10094
  let v9015 : BitVec 32 := Scalar.addi c0_i32_10095 v9014
  v9015.toNat
def k0_dev262 (d0 : Dev nD) : Nat :=
  let c0_i32_10108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10107 : BitVec 32 := 1#32
  let v9030 : BitVec 32 := Scalar.muli v24 c1_i32_10107
  let v9031 : BitVec 32 := Scalar.addi c0_i32_10108 v9030
  v9031.toNat
def k0_dev263 (d0 : Dev nD) : Nat :=
  let c0_i32_10147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10146 : BitVec 32 := 1#32
  let v9051 : BitVec 32 := Scalar.muli v24 c1_i32_10146
  let v9052 : BitVec 32 := Scalar.addi c0_i32_10147 v9051
  v9052.toNat
def k0_dev264 (d0 : Dev nD) : Nat :=
  let c0_i32_10160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10159 : BitVec 32 := 1#32
  let v9067 : BitVec 32 := Scalar.muli v13 c1_i32_10159
  let v9068 : BitVec 32 := Scalar.addi c0_i32_10160 v9067
  v9068.toNat
def k0_dev265 (d0 : Dev nD) : Nat :=
  let c0_i32_10199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10198 : BitVec 32 := 1#32
  let v9088 : BitVec 32 := Scalar.muli v13 c1_i32_10198
  let v9089 : BitVec 32 := Scalar.addi c0_i32_10199 v9088
  v9089.toNat
def k0_dev266 (d0 : Dev nD) : Nat :=
  let c0_i32_10212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10211 : BitVec 32 := 1#32
  let v9104 : BitVec 32 := Scalar.muli v24 c1_i32_10211
  let v9105 : BitVec 32 := Scalar.addi c0_i32_10212 v9104
  v9105.toNat
def k0_off4 (d0 : Dev nD) (c0_i32_10221 : BitVec 32) (c0_i32_10213 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v9106 : BitVec 32 := Scalar.addi v2 c0_i32_10213
  let c16_i32_10214 : BitVec 32 := 16#32
  let c0_i32_10215 : BitVec 32 := 0#32
  let v9107 : BitVec 1 := Scalar.cmpi .eq c16_i32_10214 c0_i32_10215
  let c1_i32_10216 : BitVec 32 := 1#32
  let v9108 : BitVec 32 := Scalar.select v9107 c1_i32_10216 c16_i32_10214
  let v9109 : BitVec 32 := Scalar.remsi v9106 v9108
  let c0_i32_10218 : BitVec 32 := 0#32
  let v9111 : BitVec 1 := Scalar.cmpi .slt v9109 c0_i32_10218
  let c0_i32_10219 : BitVec 32 := 0#32
  let v9112 : BitVec 1 := Scalar.cmpi .slt v9108 c0_i32_10219
  let v9113 : BitVec 1 := Scalar.xori v9111 v9112
  let c0_i32_10217 : BitVec 32 := 0#32
  let v9110 : BitVec 1 := Scalar.cmpi .ne v9109 c0_i32_10217
  let v9114 : BitVec 1 := Scalar.andi v9113 v9110
  let v9115 : BitVec 32 := Scalar.addi v9109 v9108
  let v9116 : BitVec 32 := Scalar.select v9114 v9115 v9109
  let c128_i32_10220 : BitVec 32 := 128#32
  let v9117 : BitVec 32 := Scalar.muli v9116 c128_i32_10220
  let v9118 : BitVec 32 := Scalar.addi c0_i32_10221 v9117
  let c0_i32_10224 : BitVec 32 := 0#32
  ![v9118.toNat, 0]
def k0_off4_at (r : Fin 30) : BitVec 32 × BitVec 32 :=
  if r.val < 15 then
    if r.val < 7 then
      if r.val < 3 then
        if r.val < 1 then
          (0#32, 0#32)
        else
          if r.val < 2 then
            (2048#32, 0#32)
          else
            (0#32, 4294967295#32)
      else
        if r.val < 5 then
          if r.val < 4 then
            (2048#32, 1#32)
          else
            (0#32, 4294967294#32)
        else
          if r.val < 6 then
            (2048#32, 2#32)
          else
            (0#32, 4294967293#32)
    else
      if r.val < 11 then
        if r.val < 9 then
          if r.val < 8 then
            (2048#32, 3#32)
          else
            (0#32, 4294967292#32)
        else
          if r.val < 10 then
            (2048#32, 4#32)
          else
            (0#32, 4294967291#32)
      else
        if r.val < 13 then
          if r.val < 12 then
            (2048#32, 5#32)
          else
            (0#32, 4294967290#32)
        else
          if r.val < 14 then
            (2048#32, 6#32)
          else
            (0#32, 4294967289#32)
  else
    if r.val < 22 then
      if r.val < 18 then
        if r.val < 16 then
          (2048#32, 7#32)
        else
          if r.val < 17 then
            (0#32, 4294967288#32)
          else
            (2048#32, 8#32)
      else
        if r.val < 20 then
          if r.val < 19 then
            (0#32, 4294967287#32)
          else
            (2048#32, 9#32)
        else
          if r.val < 21 then
            (0#32, 4294967286#32)
          else
            (2048#32, 10#32)
    else
      if r.val < 26 then
        if r.val < 24 then
          if r.val < 23 then
            (0#32, 4294967285#32)
          else
            (2048#32, 11#32)
        else
          if r.val < 25 then
            (0#32, 4294967284#32)
          else
            (2048#32, 12#32)
      else
        if r.val < 28 then
          if r.val < 27 then
            (0#32, 4294967283#32)
          else
            (2048#32, 13#32)
        else
          if r.val < 29 then
            (0#32, 4294967282#32)
          else
            (2048#32, 14#32)
def k0_dev267 (d0 : Dev nD) : Nat :=
  let c0_i32_10289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10288 : BitVec 32 := 1#32
  let v9171 : BitVec 32 := Scalar.muli v24 c1_i32_10288
  let v9172 : BitVec 32 := Scalar.addi c0_i32_10289 v9171
  v9172.toNat
def k0_dev268 (d0 : Dev nD) : Nat :=
  let c0_i32_10302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10301 : BitVec 32 := 1#32
  let v9187 : BitVec 32 := Scalar.muli v13 c1_i32_10301
  let v9188 : BitVec 32 := Scalar.addi c0_i32_10302 v9187
  v9188.toNat
def k0_dev269 (d0 : Dev nD) : Nat :=
  let c0_i32_10341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10340 : BitVec 32 := 1#32
  let v9208 : BitVec 32 := Scalar.muli v13 c1_i32_10340
  let v9209 : BitVec 32 := Scalar.addi c0_i32_10341 v9208
  v9209.toNat
def k0_dev270 (d0 : Dev nD) : Nat :=
  let c0_i32_10354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10353 : BitVec 32 := 1#32
  let v9224 : BitVec 32 := Scalar.muli v24 c1_i32_10353
  let v9225 : BitVec 32 := Scalar.addi c0_i32_10354 v9224
  v9225.toNat
def k0_dev271 (d0 : Dev nD) : Nat :=
  let c0_i32_10393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10392 : BitVec 32 := 1#32
  let v9245 : BitVec 32 := Scalar.muli v24 c1_i32_10392
  let v9246 : BitVec 32 := Scalar.addi c0_i32_10393 v9245
  v9246.toNat
def k0_dev272 (d0 : Dev nD) : Nat :=
  let c0_i32_10406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10405 : BitVec 32 := 1#32
  let v9261 : BitVec 32 := Scalar.muli v13 c1_i32_10405
  let v9262 : BitVec 32 := Scalar.addi c0_i32_10406 v9261
  v9262.toNat
def k0_dev273 (d0 : Dev nD) : Nat :=
  let c0_i32_10445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10444 : BitVec 32 := 1#32
  let v9282 : BitVec 32 := Scalar.muli v13 c1_i32_10444
  let v9283 : BitVec 32 := Scalar.addi c0_i32_10445 v9282
  v9283.toNat
def k0_dev274 (d0 : Dev nD) : Nat :=
  let c0_i32_10458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10457 : BitVec 32 := 1#32
  let v9298 : BitVec 32 := Scalar.muli v24 c1_i32_10457
  let v9299 : BitVec 32 := Scalar.addi c0_i32_10458 v9298
  v9299.toNat
def k0_dev275 (d0 : Dev nD) : Nat :=
  let c0_i32_10497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10496 : BitVec 32 := 1#32
  let v9319 : BitVec 32 := Scalar.muli v24 c1_i32_10496
  let v9320 : BitVec 32 := Scalar.addi c0_i32_10497 v9319
  v9320.toNat
def k0_dev276 (d0 : Dev nD) : Nat :=
  let c0_i32_10510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10509 : BitVec 32 := 1#32
  let v9335 : BitVec 32 := Scalar.muli v13 c1_i32_10509
  let v9336 : BitVec 32 := Scalar.addi c0_i32_10510 v9335
  v9336.toNat
def k0_dev277 (d0 : Dev nD) : Nat :=
  let c0_i32_10549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10548 : BitVec 32 := 1#32
  let v9356 : BitVec 32 := Scalar.muli v13 c1_i32_10548
  let v9357 : BitVec 32 := Scalar.addi c0_i32_10549 v9356
  v9357.toNat
def k0_dev278 (d0 : Dev nD) : Nat :=
  let c0_i32_10562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10561 : BitVec 32 := 1#32
  let v9372 : BitVec 32 := Scalar.muli v24 c1_i32_10561
  let v9373 : BitVec 32 := Scalar.addi c0_i32_10562 v9372
  v9373.toNat
def k0_dev279 (d0 : Dev nD) : Nat :=
  let c0_i32_10601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10600 : BitVec 32 := 1#32
  let v9393 : BitVec 32 := Scalar.muli v24 c1_i32_10600
  let v9394 : BitVec 32 := Scalar.addi c0_i32_10601 v9393
  v9394.toNat
def k0_dev280 (d0 : Dev nD) : Nat :=
  let c0_i32_10614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10613 : BitVec 32 := 1#32
  let v9409 : BitVec 32 := Scalar.muli v13 c1_i32_10613
  let v9410 : BitVec 32 := Scalar.addi c0_i32_10614 v9409
  v9410.toNat
def k0_dev281 (d0 : Dev nD) : Nat :=
  let c0_i32_10653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10652 : BitVec 32 := 1#32
  let v9430 : BitVec 32 := Scalar.muli v13 c1_i32_10652
  let v9431 : BitVec 32 := Scalar.addi c0_i32_10653 v9430
  v9431.toNat
def k0_dev282 (d0 : Dev nD) : Nat :=
  let c0_i32_10666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10665 : BitVec 32 := 1#32
  let v9446 : BitVec 32 := Scalar.muli v24 c1_i32_10665
  let v9447 : BitVec 32 := Scalar.addi c0_i32_10666 v9446
  v9447.toNat
def k0_dev283 (d0 : Dev nD) : Nat :=
  let c0_i32_10743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10742 : BitVec 32 := 1#32
  let v9513 : BitVec 32 := Scalar.muli v24 c1_i32_10742
  let v9514 : BitVec 32 := Scalar.addi c0_i32_10743 v9513
  v9514.toNat
def k0_dev284 (d0 : Dev nD) : Nat :=
  let c0_i32_10756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10755 : BitVec 32 := 1#32
  let v9529 : BitVec 32 := Scalar.muli v13 c1_i32_10755
  let v9530 : BitVec 32 := Scalar.addi c0_i32_10756 v9529
  v9530.toNat
def k0_dev285 (d0 : Dev nD) : Nat :=
  let c0_i32_10795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10794 : BitVec 32 := 1#32
  let v9550 : BitVec 32 := Scalar.muli v13 c1_i32_10794
  let v9551 : BitVec 32 := Scalar.addi c0_i32_10795 v9550
  v9551.toNat
def k0_dev286 (d0 : Dev nD) : Nat :=
  let c0_i32_10808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10807 : BitVec 32 := 1#32
  let v9566 : BitVec 32 := Scalar.muli v24 c1_i32_10807
  let v9567 : BitVec 32 := Scalar.addi c0_i32_10808 v9566
  v9567.toNat
def k0_dev287 (d0 : Dev nD) : Nat :=
  let c0_i32_10847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10846 : BitVec 32 := 1#32
  let v9587 : BitVec 32 := Scalar.muli v24 c1_i32_10846
  let v9588 : BitVec 32 := Scalar.addi c0_i32_10847 v9587
  v9588.toNat
def k0_dev288 (d0 : Dev nD) : Nat :=
  let c0_i32_10860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10859 : BitVec 32 := 1#32
  let v9603 : BitVec 32 := Scalar.muli v13 c1_i32_10859
  let v9604 : BitVec 32 := Scalar.addi c0_i32_10860 v9603
  v9604.toNat
def k0_dev289 (d0 : Dev nD) : Nat :=
  let c0_i32_10899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10898 : BitVec 32 := 1#32
  let v9624 : BitVec 32 := Scalar.muli v13 c1_i32_10898
  let v9625 : BitVec 32 := Scalar.addi c0_i32_10899 v9624
  v9625.toNat
def k0_dev290 (d0 : Dev nD) : Nat :=
  let c0_i32_10912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10911 : BitVec 32 := 1#32
  let v9640 : BitVec 32 := Scalar.muli v24 c1_i32_10911
  let v9641 : BitVec 32 := Scalar.addi c0_i32_10912 v9640
  v9641.toNat
def k0_dev291 (d0 : Dev nD) : Nat :=
  let c0_i32_10951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10950 : BitVec 32 := 1#32
  let v9661 : BitVec 32 := Scalar.muli v24 c1_i32_10950
  let v9662 : BitVec 32 := Scalar.addi c0_i32_10951 v9661
  v9662.toNat
def k0_dev292 (d0 : Dev nD) : Nat :=
  let c0_i32_10964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10963 : BitVec 32 := 1#32
  let v9677 : BitVec 32 := Scalar.muli v13 c1_i32_10963
  let v9678 : BitVec 32 := Scalar.addi c0_i32_10964 v9677
  v9678.toNat
def k0_dev293 (d0 : Dev nD) : Nat :=
  let c0_i32_11003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11002 : BitVec 32 := 1#32
  let v9698 : BitVec 32 := Scalar.muli v13 c1_i32_11002
  let v9699 : BitVec 32 := Scalar.addi c0_i32_11003 v9698
  v9699.toNat
def k0_dev294 (d0 : Dev nD) : Nat :=
  let c0_i32_11016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11015 : BitVec 32 := 1#32
  let v9714 : BitVec 32 := Scalar.muli v24 c1_i32_11015
  let v9715 : BitVec 32 := Scalar.addi c0_i32_11016 v9714
  v9715.toNat
def k0_dev295 (d0 : Dev nD) : Nat :=
  let c0_i32_11055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11054 : BitVec 32 := 1#32
  let v9735 : BitVec 32 := Scalar.muli v24 c1_i32_11054
  let v9736 : BitVec 32 := Scalar.addi c0_i32_11055 v9735
  v9736.toNat
def k0_dev296 (d0 : Dev nD) : Nat :=
  let c0_i32_11068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11067 : BitVec 32 := 1#32
  let v9751 : BitVec 32 := Scalar.muli v13 c1_i32_11067
  let v9752 : BitVec 32 := Scalar.addi c0_i32_11068 v9751
  v9752.toNat
def k0_dev297 (d0 : Dev nD) : Nat :=
  let c0_i32_11107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11106 : BitVec 32 := 1#32
  let v9772 : BitVec 32 := Scalar.muli v13 c1_i32_11106
  let v9773 : BitVec 32 := Scalar.addi c0_i32_11107 v9772
  v9773.toNat
def k0_dev298 (d0 : Dev nD) : Nat :=
  let c0_i32_11120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11119 : BitVec 32 := 1#32
  let v9788 : BitVec 32 := Scalar.muli v24 c1_i32_11119
  let v9789 : BitVec 32 := Scalar.addi c0_i32_11120 v9788
  v9789.toNat
def k0_dev299 (d0 : Dev nD) : Nat :=
  let c0_i32_11197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11196 : BitVec 32 := 1#32
  let v9855 : BitVec 32 := Scalar.muli v24 c1_i32_11196
  let v9856 : BitVec 32 := Scalar.addi c0_i32_11197 v9855
  v9856.toNat
def k0_dev300 (d0 : Dev nD) : Nat :=
  let c0_i32_11210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11209 : BitVec 32 := 1#32
  let v9871 : BitVec 32 := Scalar.muli v13 c1_i32_11209
  let v9872 : BitVec 32 := Scalar.addi c0_i32_11210 v9871
  v9872.toNat
def k0_dev301 (d0 : Dev nD) : Nat :=
  let c0_i32_11249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11248 : BitVec 32 := 1#32
  let v9892 : BitVec 32 := Scalar.muli v13 c1_i32_11248
  let v9893 : BitVec 32 := Scalar.addi c0_i32_11249 v9892
  v9893.toNat
def k0_dev302 (d0 : Dev nD) : Nat :=
  let c0_i32_11262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11261 : BitVec 32 := 1#32
  let v9908 : BitVec 32 := Scalar.muli v24 c1_i32_11261
  let v9909 : BitVec 32 := Scalar.addi c0_i32_11262 v9908
  v9909.toNat
def k0_dev303 (d0 : Dev nD) : Nat :=
  let c0_i32_11301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11300 : BitVec 32 := 1#32
  let v9929 : BitVec 32 := Scalar.muli v24 c1_i32_11300
  let v9930 : BitVec 32 := Scalar.addi c0_i32_11301 v9929
  v9930.toNat
def k0_dev304 (d0 : Dev nD) : Nat :=
  let c0_i32_11314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11313 : BitVec 32 := 1#32
  let v9945 : BitVec 32 := Scalar.muli v13 c1_i32_11313
  let v9946 : BitVec 32 := Scalar.addi c0_i32_11314 v9945
  v9946.toNat
def k0_dev305 (d0 : Dev nD) : Nat :=
  let c0_i32_11353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11352 : BitVec 32 := 1#32
  let v9966 : BitVec 32 := Scalar.muli v13 c1_i32_11352
  let v9967 : BitVec 32 := Scalar.addi c0_i32_11353 v9966
  v9967.toNat
def k0_dev306 (d0 : Dev nD) : Nat :=
  let c0_i32_11366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11365 : BitVec 32 := 1#32
  let v9982 : BitVec 32 := Scalar.muli v24 c1_i32_11365
  let v9983 : BitVec 32 := Scalar.addi c0_i32_11366 v9982
  v9983.toNat
def k0_dev307 (d0 : Dev nD) : Nat :=
  let c0_i32_11405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11404 : BitVec 32 := 1#32
  let v10003 : BitVec 32 := Scalar.muli v24 c1_i32_11404
  let v10004 : BitVec 32 := Scalar.addi c0_i32_11405 v10003
  v10004.toNat
def k0_dev308 (d0 : Dev nD) : Nat :=
  let c0_i32_11418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11417 : BitVec 32 := 1#32
  let v10019 : BitVec 32 := Scalar.muli v13 c1_i32_11417
  let v10020 : BitVec 32 := Scalar.addi c0_i32_11418 v10019
  v10020.toNat
def k0_dev309 (d0 : Dev nD) : Nat :=
  let c0_i32_11457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11456 : BitVec 32 := 1#32
  let v10040 : BitVec 32 := Scalar.muli v13 c1_i32_11456
  let v10041 : BitVec 32 := Scalar.addi c0_i32_11457 v10040
  v10041.toNat
def k0_dev310 (d0 : Dev nD) : Nat :=
  let c0_i32_11470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11469 : BitVec 32 := 1#32
  let v10056 : BitVec 32 := Scalar.muli v24 c1_i32_11469
  let v10057 : BitVec 32 := Scalar.addi c0_i32_11470 v10056
  v10057.toNat
def k0_dev311 (d0 : Dev nD) : Nat :=
  let c0_i32_11509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11508 : BitVec 32 := 1#32
  let v10077 : BitVec 32 := Scalar.muli v24 c1_i32_11508
  let v10078 : BitVec 32 := Scalar.addi c0_i32_11509 v10077
  v10078.toNat
def k0_dev312 (d0 : Dev nD) : Nat :=
  let c0_i32_11522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11521 : BitVec 32 := 1#32
  let v10093 : BitVec 32 := Scalar.muli v13 c1_i32_11521
  let v10094 : BitVec 32 := Scalar.addi c0_i32_11522 v10093
  v10094.toNat
def k0_dev313 (d0 : Dev nD) : Nat :=
  let c0_i32_11561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11560 : BitVec 32 := 1#32
  let v10114 : BitVec 32 := Scalar.muli v13 c1_i32_11560
  let v10115 : BitVec 32 := Scalar.addi c0_i32_11561 v10114
  v10115.toNat
def k0_dev314 (d0 : Dev nD) : Nat :=
  let c0_i32_11574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11573 : BitVec 32 := 1#32
  let v10130 : BitVec 32 := Scalar.muli v24 c1_i32_11573
  let v10131 : BitVec 32 := Scalar.addi c0_i32_11574 v10130
  v10131.toNat
def k0_dev315 (d0 : Dev nD) : Nat :=
  let c0_i32_11651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11650 : BitVec 32 := 1#32
  let v10197 : BitVec 32 := Scalar.muli v24 c1_i32_11650
  let v10198 : BitVec 32 := Scalar.addi c0_i32_11651 v10197
  v10198.toNat
def k0_dev316 (d0 : Dev nD) : Nat :=
  let c0_i32_11664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11663 : BitVec 32 := 1#32
  let v10213 : BitVec 32 := Scalar.muli v13 c1_i32_11663
  let v10214 : BitVec 32 := Scalar.addi c0_i32_11664 v10213
  v10214.toNat
def k0_dev317 (d0 : Dev nD) : Nat :=
  let c0_i32_11703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11702 : BitVec 32 := 1#32
  let v10234 : BitVec 32 := Scalar.muli v13 c1_i32_11702
  let v10235 : BitVec 32 := Scalar.addi c0_i32_11703 v10234
  v10235.toNat
def k0_dev318 (d0 : Dev nD) : Nat :=
  let c0_i32_11716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11715 : BitVec 32 := 1#32
  let v10250 : BitVec 32 := Scalar.muli v24 c1_i32_11715
  let v10251 : BitVec 32 := Scalar.addi c0_i32_11716 v10250
  v10251.toNat
def k0_dev319 (d0 : Dev nD) : Nat :=
  let c0_i32_11755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11754 : BitVec 32 := 1#32
  let v10271 : BitVec 32 := Scalar.muli v24 c1_i32_11754
  let v10272 : BitVec 32 := Scalar.addi c0_i32_11755 v10271
  v10272.toNat
def k0_dev320 (d0 : Dev nD) : Nat :=
  let c0_i32_11768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11767 : BitVec 32 := 1#32
  let v10287 : BitVec 32 := Scalar.muli v13 c1_i32_11767
  let v10288 : BitVec 32 := Scalar.addi c0_i32_11768 v10287
  v10288.toNat
def k0_dev321 (d0 : Dev nD) : Nat :=
  let c0_i32_11807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11806 : BitVec 32 := 1#32
  let v10308 : BitVec 32 := Scalar.muli v13 c1_i32_11806
  let v10309 : BitVec 32 := Scalar.addi c0_i32_11807 v10308
  v10309.toNat
def k0_dev322 (d0 : Dev nD) : Nat :=
  let c0_i32_11820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11819 : BitVec 32 := 1#32
  let v10324 : BitVec 32 := Scalar.muli v24 c1_i32_11819
  let v10325 : BitVec 32 := Scalar.addi c0_i32_11820 v10324
  v10325.toNat
def k0_dev323 (d0 : Dev nD) : Nat :=
  let c0_i32_11859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11858 : BitVec 32 := 1#32
  let v10345 : BitVec 32 := Scalar.muli v24 c1_i32_11858
  let v10346 : BitVec 32 := Scalar.addi c0_i32_11859 v10345
  v10346.toNat
def k0_dev324 (d0 : Dev nD) : Nat :=
  let c0_i32_11872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11871 : BitVec 32 := 1#32
  let v10361 : BitVec 32 := Scalar.muli v13 c1_i32_11871
  let v10362 : BitVec 32 := Scalar.addi c0_i32_11872 v10361
  v10362.toNat
def k0_dev325 (d0 : Dev nD) : Nat :=
  let c0_i32_11911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11910 : BitVec 32 := 1#32
  let v10382 : BitVec 32 := Scalar.muli v13 c1_i32_11910
  let v10383 : BitVec 32 := Scalar.addi c0_i32_11911 v10382
  v10383.toNat
def k0_dev326 (d0 : Dev nD) : Nat :=
  let c0_i32_11924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11923 : BitVec 32 := 1#32
  let v10398 : BitVec 32 := Scalar.muli v24 c1_i32_11923
  let v10399 : BitVec 32 := Scalar.addi c0_i32_11924 v10398
  v10399.toNat
def k0_dev327 (d0 : Dev nD) : Nat :=
  let c0_i32_11963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11962 : BitVec 32 := 1#32
  let v10419 : BitVec 32 := Scalar.muli v24 c1_i32_11962
  let v10420 : BitVec 32 := Scalar.addi c0_i32_11963 v10419
  v10420.toNat
def k0_dev328 (d0 : Dev nD) : Nat :=
  let c0_i32_11976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11975 : BitVec 32 := 1#32
  let v10435 : BitVec 32 := Scalar.muli v13 c1_i32_11975
  let v10436 : BitVec 32 := Scalar.addi c0_i32_11976 v10435
  v10436.toNat
def k0_dev329 (d0 : Dev nD) : Nat :=
  let c0_i32_12015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12014 : BitVec 32 := 1#32
  let v10456 : BitVec 32 := Scalar.muli v13 c1_i32_12014
  let v10457 : BitVec 32 := Scalar.addi c0_i32_12015 v10456
  v10457.toNat
def k0_dev330 (d0 : Dev nD) : Nat :=
  let c0_i32_12028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12027 : BitVec 32 := 1#32
  let v10472 : BitVec 32 := Scalar.muli v24 c1_i32_12027
  let v10473 : BitVec 32 := Scalar.addi c0_i32_12028 v10472
  v10473.toNat
def k0_dev331 (d0 : Dev nD) : Nat :=
  let c0_i32_12105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12104 : BitVec 32 := 1#32
  let v10539 : BitVec 32 := Scalar.muli v24 c1_i32_12104
  let v10540 : BitVec 32 := Scalar.addi c0_i32_12105 v10539
  v10540.toNat
def k0_dev332 (d0 : Dev nD) : Nat :=
  let c0_i32_12118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12117 : BitVec 32 := 1#32
  let v10555 : BitVec 32 := Scalar.muli v13 c1_i32_12117
  let v10556 : BitVec 32 := Scalar.addi c0_i32_12118 v10555
  v10556.toNat
def k0_dev333 (d0 : Dev nD) : Nat :=
  let c0_i32_12157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12156 : BitVec 32 := 1#32
  let v10576 : BitVec 32 := Scalar.muli v13 c1_i32_12156
  let v10577 : BitVec 32 := Scalar.addi c0_i32_12157 v10576
  v10577.toNat
def k0_dev334 (d0 : Dev nD) : Nat :=
  let c0_i32_12170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12169 : BitVec 32 := 1#32
  let v10592 : BitVec 32 := Scalar.muli v24 c1_i32_12169
  let v10593 : BitVec 32 := Scalar.addi c0_i32_12170 v10592
  v10593.toNat
def k0_dev335 (d0 : Dev nD) : Nat :=
  let c0_i32_12209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12208 : BitVec 32 := 1#32
  let v10613 : BitVec 32 := Scalar.muli v24 c1_i32_12208
  let v10614 : BitVec 32 := Scalar.addi c0_i32_12209 v10613
  v10614.toNat
def k0_dev336 (d0 : Dev nD) : Nat :=
  let c0_i32_12222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12221 : BitVec 32 := 1#32
  let v10629 : BitVec 32 := Scalar.muli v13 c1_i32_12221
  let v10630 : BitVec 32 := Scalar.addi c0_i32_12222 v10629
  v10630.toNat
def k0_dev337 (d0 : Dev nD) : Nat :=
  let c0_i32_12261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12260 : BitVec 32 := 1#32
  let v10650 : BitVec 32 := Scalar.muli v13 c1_i32_12260
  let v10651 : BitVec 32 := Scalar.addi c0_i32_12261 v10650
  v10651.toNat
def k0_dev338 (d0 : Dev nD) : Nat :=
  let c0_i32_12274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12273 : BitVec 32 := 1#32
  let v10666 : BitVec 32 := Scalar.muli v24 c1_i32_12273
  let v10667 : BitVec 32 := Scalar.addi c0_i32_12274 v10666
  v10667.toNat
def k0_dev339 (d0 : Dev nD) : Nat :=
  let c0_i32_12313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12312 : BitVec 32 := 1#32
  let v10687 : BitVec 32 := Scalar.muli v24 c1_i32_12312
  let v10688 : BitVec 32 := Scalar.addi c0_i32_12313 v10687
  v10688.toNat
def k0_dev340 (d0 : Dev nD) : Nat :=
  let c0_i32_12326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12325 : BitVec 32 := 1#32
  let v10703 : BitVec 32 := Scalar.muli v13 c1_i32_12325
  let v10704 : BitVec 32 := Scalar.addi c0_i32_12326 v10703
  v10704.toNat
def k0_dev341 (d0 : Dev nD) : Nat :=
  let c0_i32_12365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12364 : BitVec 32 := 1#32
  let v10724 : BitVec 32 := Scalar.muli v13 c1_i32_12364
  let v10725 : BitVec 32 := Scalar.addi c0_i32_12365 v10724
  v10725.toNat
def k0_dev342 (d0 : Dev nD) : Nat :=
  let c0_i32_12378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12377 : BitVec 32 := 1#32
  let v10740 : BitVec 32 := Scalar.muli v24 c1_i32_12377
  let v10741 : BitVec 32 := Scalar.addi c0_i32_12378 v10740
  v10741.toNat
def k0_dev343 (d0 : Dev nD) : Nat :=
  let c0_i32_12417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12416 : BitVec 32 := 1#32
  let v10761 : BitVec 32 := Scalar.muli v24 c1_i32_12416
  let v10762 : BitVec 32 := Scalar.addi c0_i32_12417 v10761
  v10762.toNat
def k0_dev344 (d0 : Dev nD) : Nat :=
  let c0_i32_12430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12429 : BitVec 32 := 1#32
  let v10777 : BitVec 32 := Scalar.muli v13 c1_i32_12429
  let v10778 : BitVec 32 := Scalar.addi c0_i32_12430 v10777
  v10778.toNat
def k0_dev345 (d0 : Dev nD) : Nat :=
  let c0_i32_12469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12468 : BitVec 32 := 1#32
  let v10798 : BitVec 32 := Scalar.muli v13 c1_i32_12468
  let v10799 : BitVec 32 := Scalar.addi c0_i32_12469 v10798
  v10799.toNat
def k0_dev346 (d0 : Dev nD) : Nat :=
  let c0_i32_12482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12481 : BitVec 32 := 1#32
  let v10814 : BitVec 32 := Scalar.muli v24 c1_i32_12481
  let v10815 : BitVec 32 := Scalar.addi c0_i32_12482 v10814
  v10815.toNat
def k0_dev347 (d0 : Dev nD) : Nat :=
  let c0_i32_12559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12558 : BitVec 32 := 1#32
  let v10881 : BitVec 32 := Scalar.muli v24 c1_i32_12558
  let v10882 : BitVec 32 := Scalar.addi c0_i32_12559 v10881
  v10882.toNat
def k0_dev348 (d0 : Dev nD) : Nat :=
  let c0_i32_12572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12571 : BitVec 32 := 1#32
  let v10897 : BitVec 32 := Scalar.muli v13 c1_i32_12571
  let v10898 : BitVec 32 := Scalar.addi c0_i32_12572 v10897
  v10898.toNat
def k0_dev349 (d0 : Dev nD) : Nat :=
  let c0_i32_12611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12610 : BitVec 32 := 1#32
  let v10918 : BitVec 32 := Scalar.muli v13 c1_i32_12610
  let v10919 : BitVec 32 := Scalar.addi c0_i32_12611 v10918
  v10919.toNat
def k0_dev350 (d0 : Dev nD) : Nat :=
  let c0_i32_12624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12623 : BitVec 32 := 1#32
  let v10934 : BitVec 32 := Scalar.muli v24 c1_i32_12623
  let v10935 : BitVec 32 := Scalar.addi c0_i32_12624 v10934
  v10935.toNat
def k0_dev351 (d0 : Dev nD) : Nat :=
  let c0_i32_12663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12662 : BitVec 32 := 1#32
  let v10955 : BitVec 32 := Scalar.muli v24 c1_i32_12662
  let v10956 : BitVec 32 := Scalar.addi c0_i32_12663 v10955
  v10956.toNat
def k0_dev352 (d0 : Dev nD) : Nat :=
  let c0_i32_12676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12675 : BitVec 32 := 1#32
  let v10971 : BitVec 32 := Scalar.muli v13 c1_i32_12675
  let v10972 : BitVec 32 := Scalar.addi c0_i32_12676 v10971
  v10972.toNat
def k0_dev353 (d0 : Dev nD) : Nat :=
  let c0_i32_12715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12714 : BitVec 32 := 1#32
  let v10992 : BitVec 32 := Scalar.muli v13 c1_i32_12714
  let v10993 : BitVec 32 := Scalar.addi c0_i32_12715 v10992
  v10993.toNat
def k0_dev354 (d0 : Dev nD) : Nat :=
  let c0_i32_12728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12727 : BitVec 32 := 1#32
  let v11008 : BitVec 32 := Scalar.muli v24 c1_i32_12727
  let v11009 : BitVec 32 := Scalar.addi c0_i32_12728 v11008
  v11009.toNat
def k0_dev355 (d0 : Dev nD) : Nat :=
  let c0_i32_12767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12766 : BitVec 32 := 1#32
  let v11029 : BitVec 32 := Scalar.muli v24 c1_i32_12766
  let v11030 : BitVec 32 := Scalar.addi c0_i32_12767 v11029
  v11030.toNat
def k0_dev356 (d0 : Dev nD) : Nat :=
  let c0_i32_12780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12779 : BitVec 32 := 1#32
  let v11045 : BitVec 32 := Scalar.muli v13 c1_i32_12779
  let v11046 : BitVec 32 := Scalar.addi c0_i32_12780 v11045
  v11046.toNat
def k0_dev357 (d0 : Dev nD) : Nat :=
  let c0_i32_12819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12818 : BitVec 32 := 1#32
  let v11066 : BitVec 32 := Scalar.muli v13 c1_i32_12818
  let v11067 : BitVec 32 := Scalar.addi c0_i32_12819 v11066
  v11067.toNat
def k0_dev358 (d0 : Dev nD) : Nat :=
  let c0_i32_12832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12831 : BitVec 32 := 1#32
  let v11082 : BitVec 32 := Scalar.muli v24 c1_i32_12831
  let v11083 : BitVec 32 := Scalar.addi c0_i32_12832 v11082
  v11083.toNat
def k0_dev359 (d0 : Dev nD) : Nat :=
  let c0_i32_12871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12870 : BitVec 32 := 1#32
  let v11103 : BitVec 32 := Scalar.muli v24 c1_i32_12870
  let v11104 : BitVec 32 := Scalar.addi c0_i32_12871 v11103
  v11104.toNat
def k0_dev360 (d0 : Dev nD) : Nat :=
  let c0_i32_12884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12883 : BitVec 32 := 1#32
  let v11119 : BitVec 32 := Scalar.muli v13 c1_i32_12883
  let v11120 : BitVec 32 := Scalar.addi c0_i32_12884 v11119
  v11120.toNat
def k0_dev361 (d0 : Dev nD) : Nat :=
  let c0_i32_12923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12922 : BitVec 32 := 1#32
  let v11140 : BitVec 32 := Scalar.muli v13 c1_i32_12922
  let v11141 : BitVec 32 := Scalar.addi c0_i32_12923 v11140
  v11141.toNat
def k0_dev362 (d0 : Dev nD) : Nat :=
  let c0_i32_12936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12935 : BitVec 32 := 1#32
  let v11156 : BitVec 32 := Scalar.muli v24 c1_i32_12935
  let v11157 : BitVec 32 := Scalar.addi c0_i32_12936 v11156
  v11157.toNat
def k0_dev363 (d0 : Dev nD) : Nat :=
  let c0_i32_13013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13012 : BitVec 32 := 1#32
  let v11223 : BitVec 32 := Scalar.muli v24 c1_i32_13012
  let v11224 : BitVec 32 := Scalar.addi c0_i32_13013 v11223
  v11224.toNat
def k0_dev364 (d0 : Dev nD) : Nat :=
  let c0_i32_13026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13025 : BitVec 32 := 1#32
  let v11239 : BitVec 32 := Scalar.muli v13 c1_i32_13025
  let v11240 : BitVec 32 := Scalar.addi c0_i32_13026 v11239
  v11240.toNat
def k0_dev365 (d0 : Dev nD) : Nat :=
  let c0_i32_13065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13064 : BitVec 32 := 1#32
  let v11260 : BitVec 32 := Scalar.muli v13 c1_i32_13064
  let v11261 : BitVec 32 := Scalar.addi c0_i32_13065 v11260
  v11261.toNat
def k0_dev366 (d0 : Dev nD) : Nat :=
  let c0_i32_13078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13077 : BitVec 32 := 1#32
  let v11276 : BitVec 32 := Scalar.muli v24 c1_i32_13077
  let v11277 : BitVec 32 := Scalar.addi c0_i32_13078 v11276
  v11277.toNat
def k0_dev367 (d0 : Dev nD) : Nat :=
  let c0_i32_13117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13116 : BitVec 32 := 1#32
  let v11297 : BitVec 32 := Scalar.muli v24 c1_i32_13116
  let v11298 : BitVec 32 := Scalar.addi c0_i32_13117 v11297
  v11298.toNat
def k0_dev368 (d0 : Dev nD) : Nat :=
  let c0_i32_13130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13129 : BitVec 32 := 1#32
  let v11313 : BitVec 32 := Scalar.muli v13 c1_i32_13129
  let v11314 : BitVec 32 := Scalar.addi c0_i32_13130 v11313
  v11314.toNat
def k0_dev369 (d0 : Dev nD) : Nat :=
  let c0_i32_13169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13168 : BitVec 32 := 1#32
  let v11334 : BitVec 32 := Scalar.muli v13 c1_i32_13168
  let v11335 : BitVec 32 := Scalar.addi c0_i32_13169 v11334
  v11335.toNat
def k0_dev370 (d0 : Dev nD) : Nat :=
  let c0_i32_13182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13181 : BitVec 32 := 1#32
  let v11350 : BitVec 32 := Scalar.muli v24 c1_i32_13181
  let v11351 : BitVec 32 := Scalar.addi c0_i32_13182 v11350
  v11351.toNat
def k0_dev371 (d0 : Dev nD) : Nat :=
  let c0_i32_13221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13220 : BitVec 32 := 1#32
  let v11371 : BitVec 32 := Scalar.muli v24 c1_i32_13220
  let v11372 : BitVec 32 := Scalar.addi c0_i32_13221 v11371
  v11372.toNat
def k0_dev372 (d0 : Dev nD) : Nat :=
  let c0_i32_13234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13233 : BitVec 32 := 1#32
  let v11387 : BitVec 32 := Scalar.muli v13 c1_i32_13233
  let v11388 : BitVec 32 := Scalar.addi c0_i32_13234 v11387
  v11388.toNat
def k0_dev373 (d0 : Dev nD) : Nat :=
  let c0_i32_13273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13272 : BitVec 32 := 1#32
  let v11408 : BitVec 32 := Scalar.muli v13 c1_i32_13272
  let v11409 : BitVec 32 := Scalar.addi c0_i32_13273 v11408
  v11409.toNat
def k0_dev374 (d0 : Dev nD) : Nat :=
  let c0_i32_13286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13285 : BitVec 32 := 1#32
  let v11424 : BitVec 32 := Scalar.muli v24 c1_i32_13285
  let v11425 : BitVec 32 := Scalar.addi c0_i32_13286 v11424
  v11425.toNat
def k0_dev375 (d0 : Dev nD) : Nat :=
  let c0_i32_13325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13324 : BitVec 32 := 1#32
  let v11445 : BitVec 32 := Scalar.muli v24 c1_i32_13324
  let v11446 : BitVec 32 := Scalar.addi c0_i32_13325 v11445
  v11446.toNat
def k0_dev376 (d0 : Dev nD) : Nat :=
  let c0_i32_13338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13337 : BitVec 32 := 1#32
  let v11461 : BitVec 32 := Scalar.muli v13 c1_i32_13337
  let v11462 : BitVec 32 := Scalar.addi c0_i32_13338 v11461
  v11462.toNat
def k0_dev377 (d0 : Dev nD) : Nat :=
  let c0_i32_13377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13376 : BitVec 32 := 1#32
  let v11482 : BitVec 32 := Scalar.muli v13 c1_i32_13376
  let v11483 : BitVec 32 := Scalar.addi c0_i32_13377 v11482
  v11483.toNat
def k0_dev378 (d0 : Dev nD) : Nat :=
  let c0_i32_13390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13389 : BitVec 32 := 1#32
  let v11498 : BitVec 32 := Scalar.muli v24 c1_i32_13389
  let v11499 : BitVec 32 := Scalar.addi c0_i32_13390 v11498
  v11499.toNat
def k0_dev379 (d0 : Dev nD) : Nat :=
  let c0_i32_13467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13466 : BitVec 32 := 1#32
  let v11565 : BitVec 32 := Scalar.muli v24 c1_i32_13466
  let v11566 : BitVec 32 := Scalar.addi c0_i32_13467 v11565
  v11566.toNat
def k0_dev380 (d0 : Dev nD) : Nat :=
  let c0_i32_13480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13479 : BitVec 32 := 1#32
  let v11581 : BitVec 32 := Scalar.muli v13 c1_i32_13479
  let v11582 : BitVec 32 := Scalar.addi c0_i32_13480 v11581
  v11582.toNat
def k0_dev381 (d0 : Dev nD) : Nat :=
  let c0_i32_13519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13518 : BitVec 32 := 1#32
  let v11602 : BitVec 32 := Scalar.muli v13 c1_i32_13518
  let v11603 : BitVec 32 := Scalar.addi c0_i32_13519 v11602
  v11603.toNat
def k0_dev382 (d0 : Dev nD) : Nat :=
  let c0_i32_13532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13531 : BitVec 32 := 1#32
  let v11618 : BitVec 32 := Scalar.muli v24 c1_i32_13531
  let v11619 : BitVec 32 := Scalar.addi c0_i32_13532 v11618
  v11619.toNat
def k0_dev383 (d0 : Dev nD) : Nat :=
  let c0_i32_13571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13570 : BitVec 32 := 1#32
  let v11639 : BitVec 32 := Scalar.muli v24 c1_i32_13570
  let v11640 : BitVec 32 := Scalar.addi c0_i32_13571 v11639
  v11640.toNat
def k0_dev384 (d0 : Dev nD) : Nat :=
  let c0_i32_13584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13583 : BitVec 32 := 1#32
  let v11655 : BitVec 32 := Scalar.muli v13 c1_i32_13583
  let v11656 : BitVec 32 := Scalar.addi c0_i32_13584 v11655
  v11656.toNat
def k0_dev385 (d0 : Dev nD) : Nat :=
  let c0_i32_13623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13622 : BitVec 32 := 1#32
  let v11676 : BitVec 32 := Scalar.muli v13 c1_i32_13622
  let v11677 : BitVec 32 := Scalar.addi c0_i32_13623 v11676
  v11677.toNat
def k0_dev386 (d0 : Dev nD) : Nat :=
  let c0_i32_13636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13635 : BitVec 32 := 1#32
  let v11692 : BitVec 32 := Scalar.muli v24 c1_i32_13635
  let v11693 : BitVec 32 := Scalar.addi c0_i32_13636 v11692
  v11693.toNat
def k0_dev387 (d0 : Dev nD) : Nat :=
  let c0_i32_13675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13674 : BitVec 32 := 1#32
  let v11713 : BitVec 32 := Scalar.muli v24 c1_i32_13674
  let v11714 : BitVec 32 := Scalar.addi c0_i32_13675 v11713
  v11714.toNat
def k0_dev388 (d0 : Dev nD) : Nat :=
  let c0_i32_13688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13687 : BitVec 32 := 1#32
  let v11729 : BitVec 32 := Scalar.muli v13 c1_i32_13687
  let v11730 : BitVec 32 := Scalar.addi c0_i32_13688 v11729
  v11730.toNat
def k0_dev389 (d0 : Dev nD) : Nat :=
  let c0_i32_13727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13726 : BitVec 32 := 1#32
  let v11750 : BitVec 32 := Scalar.muli v13 c1_i32_13726
  let v11751 : BitVec 32 := Scalar.addi c0_i32_13727 v11750
  v11751.toNat
def k0_dev390 (d0 : Dev nD) : Nat :=
  let c0_i32_13740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13739 : BitVec 32 := 1#32
  let v11766 : BitVec 32 := Scalar.muli v24 c1_i32_13739
  let v11767 : BitVec 32 := Scalar.addi c0_i32_13740 v11766
  v11767.toNat
def k0_dev391 (d0 : Dev nD) : Nat :=
  let c0_i32_13779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13778 : BitVec 32 := 1#32
  let v11787 : BitVec 32 := Scalar.muli v24 c1_i32_13778
  let v11788 : BitVec 32 := Scalar.addi c0_i32_13779 v11787
  v11788.toNat
def k0_dev392 (d0 : Dev nD) : Nat :=
  let c0_i32_13792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13791 : BitVec 32 := 1#32
  let v11803 : BitVec 32 := Scalar.muli v13 c1_i32_13791
  let v11804 : BitVec 32 := Scalar.addi c0_i32_13792 v11803
  v11804.toNat
def k0_dev393 (d0 : Dev nD) : Nat :=
  let c0_i32_13831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13830 : BitVec 32 := 1#32
  let v11824 : BitVec 32 := Scalar.muli v13 c1_i32_13830
  let v11825 : BitVec 32 := Scalar.addi c0_i32_13831 v11824
  v11825.toNat
def k0_dev394 (d0 : Dev nD) : Nat :=
  let c0_i32_13844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13843 : BitVec 32 := 1#32
  let v11840 : BitVec 32 := Scalar.muli v24 c1_i32_13843
  let v11841 : BitVec 32 := Scalar.addi c0_i32_13844 v11840
  v11841.toNat
def k0_dev395 (d0 : Dev nD) : Nat :=
  let c0_i32_13921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13920 : BitVec 32 := 1#32
  let v11907 : BitVec 32 := Scalar.muli v24 c1_i32_13920
  let v11908 : BitVec 32 := Scalar.addi c0_i32_13921 v11907
  v11908.toNat
def k0_dev396 (d0 : Dev nD) : Nat :=
  let c0_i32_13934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13933 : BitVec 32 := 1#32
  let v11923 : BitVec 32 := Scalar.muli v13 c1_i32_13933
  let v11924 : BitVec 32 := Scalar.addi c0_i32_13934 v11923
  v11924.toNat
def k0_dev397 (d0 : Dev nD) : Nat :=
  let c0_i32_13973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13972 : BitVec 32 := 1#32
  let v11944 : BitVec 32 := Scalar.muli v13 c1_i32_13972
  let v11945 : BitVec 32 := Scalar.addi c0_i32_13973 v11944
  v11945.toNat
def k0_dev398 (d0 : Dev nD) : Nat :=
  let c0_i32_13986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13985 : BitVec 32 := 1#32
  let v11960 : BitVec 32 := Scalar.muli v24 c1_i32_13985
  let v11961 : BitVec 32 := Scalar.addi c0_i32_13986 v11960
  v11961.toNat
def k0_dev399 (d0 : Dev nD) : Nat :=
  let c0_i32_14025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14024 : BitVec 32 := 1#32
  let v11981 : BitVec 32 := Scalar.muli v24 c1_i32_14024
  let v11982 : BitVec 32 := Scalar.addi c0_i32_14025 v11981
  v11982.toNat
def k0_dev400 (d0 : Dev nD) : Nat :=
  let c0_i32_14038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14037 : BitVec 32 := 1#32
  let v11997 : BitVec 32 := Scalar.muli v13 c1_i32_14037
  let v11998 : BitVec 32 := Scalar.addi c0_i32_14038 v11997
  v11998.toNat
def k0_dev401 (d0 : Dev nD) : Nat :=
  let c0_i32_14077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14076 : BitVec 32 := 1#32
  let v12018 : BitVec 32 := Scalar.muli v13 c1_i32_14076
  let v12019 : BitVec 32 := Scalar.addi c0_i32_14077 v12018
  v12019.toNat
def k0_dev402 (d0 : Dev nD) : Nat :=
  let c0_i32_14090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14089 : BitVec 32 := 1#32
  let v12034 : BitVec 32 := Scalar.muli v24 c1_i32_14089
  let v12035 : BitVec 32 := Scalar.addi c0_i32_14090 v12034
  v12035.toNat
def k0_dev403 (d0 : Dev nD) : Nat :=
  let c0_i32_14129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14128 : BitVec 32 := 1#32
  let v12055 : BitVec 32 := Scalar.muli v24 c1_i32_14128
  let v12056 : BitVec 32 := Scalar.addi c0_i32_14129 v12055
  v12056.toNat
def k0_dev404 (d0 : Dev nD) : Nat :=
  let c0_i32_14142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14141 : BitVec 32 := 1#32
  let v12071 : BitVec 32 := Scalar.muli v13 c1_i32_14141
  let v12072 : BitVec 32 := Scalar.addi c0_i32_14142 v12071
  v12072.toNat
def k0_dev405 (d0 : Dev nD) : Nat :=
  let c0_i32_14181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14180 : BitVec 32 := 1#32
  let v12092 : BitVec 32 := Scalar.muli v13 c1_i32_14180
  let v12093 : BitVec 32 := Scalar.addi c0_i32_14181 v12092
  v12093.toNat
def k0_dev406 (d0 : Dev nD) : Nat :=
  let c0_i32_14194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14193 : BitVec 32 := 1#32
  let v12108 : BitVec 32 := Scalar.muli v24 c1_i32_14193
  let v12109 : BitVec 32 := Scalar.addi c0_i32_14194 v12108
  v12109.toNat
def k0_dev407 (d0 : Dev nD) : Nat :=
  let c0_i32_14233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14232 : BitVec 32 := 1#32
  let v12129 : BitVec 32 := Scalar.muli v24 c1_i32_14232
  let v12130 : BitVec 32 := Scalar.addi c0_i32_14233 v12129
  v12130.toNat
def k0_dev408 (d0 : Dev nD) : Nat :=
  let c0_i32_14246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14245 : BitVec 32 := 1#32
  let v12145 : BitVec 32 := Scalar.muli v13 c1_i32_14245
  let v12146 : BitVec 32 := Scalar.addi c0_i32_14246 v12145
  v12146.toNat
def k0_dev409 (d0 : Dev nD) : Nat :=
  let c0_i32_14285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14284 : BitVec 32 := 1#32
  let v12166 : BitVec 32 := Scalar.muli v13 c1_i32_14284
  let v12167 : BitVec 32 := Scalar.addi c0_i32_14285 v12166
  v12167.toNat
def k0_dev410 (d0 : Dev nD) : Nat :=
  let c0_i32_14298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14297 : BitVec 32 := 1#32
  let v12182 : BitVec 32 := Scalar.muli v24 c1_i32_14297
  let v12183 : BitVec 32 := Scalar.addi c0_i32_14298 v12182
  v12183.toNat
def k0_dev411 (d0 : Dev nD) : Nat :=
  let c0_i32_14375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14374 : BitVec 32 := 1#32
  let v12249 : BitVec 32 := Scalar.muli v24 c1_i32_14374
  let v12250 : BitVec 32 := Scalar.addi c0_i32_14375 v12249
  v12250.toNat
def k0_dev412 (d0 : Dev nD) : Nat :=
  let c0_i32_14388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14387 : BitVec 32 := 1#32
  let v12265 : BitVec 32 := Scalar.muli v13 c1_i32_14387
  let v12266 : BitVec 32 := Scalar.addi c0_i32_14388 v12265
  v12266.toNat
def k0_dev413 (d0 : Dev nD) : Nat :=
  let c0_i32_14427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14426 : BitVec 32 := 1#32
  let v12286 : BitVec 32 := Scalar.muli v13 c1_i32_14426
  let v12287 : BitVec 32 := Scalar.addi c0_i32_14427 v12286
  v12287.toNat
def k0_dev414 (d0 : Dev nD) : Nat :=
  let c0_i32_14440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14439 : BitVec 32 := 1#32
  let v12302 : BitVec 32 := Scalar.muli v24 c1_i32_14439
  let v12303 : BitVec 32 := Scalar.addi c0_i32_14440 v12302
  v12303.toNat
def k0_dev415 (d0 : Dev nD) : Nat :=
  let c0_i32_14479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14478 : BitVec 32 := 1#32
  let v12323 : BitVec 32 := Scalar.muli v24 c1_i32_14478
  let v12324 : BitVec 32 := Scalar.addi c0_i32_14479 v12323
  v12324.toNat
def k0_dev416 (d0 : Dev nD) : Nat :=
  let c0_i32_14492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14491 : BitVec 32 := 1#32
  let v12339 : BitVec 32 := Scalar.muli v13 c1_i32_14491
  let v12340 : BitVec 32 := Scalar.addi c0_i32_14492 v12339
  v12340.toNat
def k0_dev417 (d0 : Dev nD) : Nat :=
  let c0_i32_14531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14530 : BitVec 32 := 1#32
  let v12360 : BitVec 32 := Scalar.muli v13 c1_i32_14530
  let v12361 : BitVec 32 := Scalar.addi c0_i32_14531 v12360
  v12361.toNat
def k0_dev418 (d0 : Dev nD) : Nat :=
  let c0_i32_14544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14543 : BitVec 32 := 1#32
  let v12376 : BitVec 32 := Scalar.muli v24 c1_i32_14543
  let v12377 : BitVec 32 := Scalar.addi c0_i32_14544 v12376
  v12377.toNat
def k0_dev419 (d0 : Dev nD) : Nat :=
  let c0_i32_14583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14582 : BitVec 32 := 1#32
  let v12397 : BitVec 32 := Scalar.muli v24 c1_i32_14582
  let v12398 : BitVec 32 := Scalar.addi c0_i32_14583 v12397
  v12398.toNat
def k0_dev420 (d0 : Dev nD) : Nat :=
  let c0_i32_14596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14595 : BitVec 32 := 1#32
  let v12413 : BitVec 32 := Scalar.muli v13 c1_i32_14595
  let v12414 : BitVec 32 := Scalar.addi c0_i32_14596 v12413
  v12414.toNat
def k0_dev421 (d0 : Dev nD) : Nat :=
  let c0_i32_14635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14634 : BitVec 32 := 1#32
  let v12434 : BitVec 32 := Scalar.muli v13 c1_i32_14634
  let v12435 : BitVec 32 := Scalar.addi c0_i32_14635 v12434
  v12435.toNat
def k0_dev422 (d0 : Dev nD) : Nat :=
  let c0_i32_14648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14647 : BitVec 32 := 1#32
  let v12450 : BitVec 32 := Scalar.muli v24 c1_i32_14647
  let v12451 : BitVec 32 := Scalar.addi c0_i32_14648 v12450
  v12451.toNat
def k0_dev423 (d0 : Dev nD) : Nat :=
  let c0_i32_14687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14686 : BitVec 32 := 1#32
  let v12471 : BitVec 32 := Scalar.muli v24 c1_i32_14686
  let v12472 : BitVec 32 := Scalar.addi c0_i32_14687 v12471
  v12472.toNat
def k0_dev424 (d0 : Dev nD) : Nat :=
  let c0_i32_14700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14699 : BitVec 32 := 1#32
  let v12487 : BitVec 32 := Scalar.muli v13 c1_i32_14699
  let v12488 : BitVec 32 := Scalar.addi c0_i32_14700 v12487
  v12488.toNat
def k0_dev425 (d0 : Dev nD) : Nat :=
  let c0_i32_14739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14738 : BitVec 32 := 1#32
  let v12508 : BitVec 32 := Scalar.muli v13 c1_i32_14738
  let v12509 : BitVec 32 := Scalar.addi c0_i32_14739 v12508
  v12509.toNat
def k0_dev426 (d0 : Dev nD) : Nat :=
  let c0_i32_14752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14751 : BitVec 32 := 1#32
  let v12524 : BitVec 32 := Scalar.muli v24 c1_i32_14751
  let v12525 : BitVec 32 := Scalar.addi c0_i32_14752 v12524
  v12525.toNat
def k0_dev427 (d0 : Dev nD) : Nat :=
  let c0_i32_14829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14828 : BitVec 32 := 1#32
  let v12591 : BitVec 32 := Scalar.muli v24 c1_i32_14828
  let v12592 : BitVec 32 := Scalar.addi c0_i32_14829 v12591
  v12592.toNat
def k0_dev428 (d0 : Dev nD) : Nat :=
  let c0_i32_14842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14841 : BitVec 32 := 1#32
  let v12607 : BitVec 32 := Scalar.muli v13 c1_i32_14841
  let v12608 : BitVec 32 := Scalar.addi c0_i32_14842 v12607
  v12608.toNat
def k0_dev429 (d0 : Dev nD) : Nat :=
  let c0_i32_14881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14880 : BitVec 32 := 1#32
  let v12628 : BitVec 32 := Scalar.muli v13 c1_i32_14880
  let v12629 : BitVec 32 := Scalar.addi c0_i32_14881 v12628
  v12629.toNat
def k0_dev430 (d0 : Dev nD) : Nat :=
  let c0_i32_14894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14893 : BitVec 32 := 1#32
  let v12644 : BitVec 32 := Scalar.muli v24 c1_i32_14893
  let v12645 : BitVec 32 := Scalar.addi c0_i32_14894 v12644
  v12645.toNat
def k0_dev431 (d0 : Dev nD) : Nat :=
  let c0_i32_14933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14932 : BitVec 32 := 1#32
  let v12665 : BitVec 32 := Scalar.muli v24 c1_i32_14932
  let v12666 : BitVec 32 := Scalar.addi c0_i32_14933 v12665
  v12666.toNat
def k0_dev432 (d0 : Dev nD) : Nat :=
  let c0_i32_14946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14945 : BitVec 32 := 1#32
  let v12681 : BitVec 32 := Scalar.muli v13 c1_i32_14945
  let v12682 : BitVec 32 := Scalar.addi c0_i32_14946 v12681
  v12682.toNat
def k0_dev433 (d0 : Dev nD) : Nat :=
  let c0_i32_14985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14984 : BitVec 32 := 1#32
  let v12702 : BitVec 32 := Scalar.muli v13 c1_i32_14984
  let v12703 : BitVec 32 := Scalar.addi c0_i32_14985 v12702
  v12703.toNat
def k0_dev434 (d0 : Dev nD) : Nat :=
  let c0_i32_14998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14997 : BitVec 32 := 1#32
  let v12718 : BitVec 32 := Scalar.muli v24 c1_i32_14997
  let v12719 : BitVec 32 := Scalar.addi c0_i32_14998 v12718
  v12719.toNat
def k0_dev435 (d0 : Dev nD) : Nat :=
  let c0_i32_15037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15036 : BitVec 32 := 1#32
  let v12739 : BitVec 32 := Scalar.muli v24 c1_i32_15036
  let v12740 : BitVec 32 := Scalar.addi c0_i32_15037 v12739
  v12740.toNat
def k0_dev436 (d0 : Dev nD) : Nat :=
  let c0_i32_15050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15049 : BitVec 32 := 1#32
  let v12755 : BitVec 32 := Scalar.muli v13 c1_i32_15049
  let v12756 : BitVec 32 := Scalar.addi c0_i32_15050 v12755
  v12756.toNat
def k0_dev437 (d0 : Dev nD) : Nat :=
  let c0_i32_15089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15088 : BitVec 32 := 1#32
  let v12776 : BitVec 32 := Scalar.muli v13 c1_i32_15088
  let v12777 : BitVec 32 := Scalar.addi c0_i32_15089 v12776
  v12777.toNat
def k0_dev438 (d0 : Dev nD) : Nat :=
  let c0_i32_15102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15101 : BitVec 32 := 1#32
  let v12792 : BitVec 32 := Scalar.muli v24 c1_i32_15101
  let v12793 : BitVec 32 := Scalar.addi c0_i32_15102 v12792
  v12793.toNat
def k0_dev439 (d0 : Dev nD) : Nat :=
  let c0_i32_15141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15140 : BitVec 32 := 1#32
  let v12813 : BitVec 32 := Scalar.muli v24 c1_i32_15140
  let v12814 : BitVec 32 := Scalar.addi c0_i32_15141 v12813
  v12814.toNat
def k0_dev440 (d0 : Dev nD) : Nat :=
  let c0_i32_15154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15153 : BitVec 32 := 1#32
  let v12829 : BitVec 32 := Scalar.muli v13 c1_i32_15153
  let v12830 : BitVec 32 := Scalar.addi c0_i32_15154 v12829
  v12830.toNat
def k0_dev441 (d0 : Dev nD) : Nat :=
  let c0_i32_15193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15192 : BitVec 32 := 1#32
  let v12850 : BitVec 32 := Scalar.muli v13 c1_i32_15192
  let v12851 : BitVec 32 := Scalar.addi c0_i32_15193 v12850
  v12851.toNat
def k0_dev442 (d0 : Dev nD) : Nat :=
  let c0_i32_15206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15205 : BitVec 32 := 1#32
  let v12866 : BitVec 32 := Scalar.muli v24 c1_i32_15205
  let v12867 : BitVec 32 := Scalar.addi c0_i32_15206 v12866
  v12867.toNat
def k0_dev443 (d0 : Dev nD) : Nat :=
  let c0_i32_15283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15282 : BitVec 32 := 1#32
  let v12933 : BitVec 32 := Scalar.muli v24 c1_i32_15282
  let v12934 : BitVec 32 := Scalar.addi c0_i32_15283 v12933
  v12934.toNat
def k0_dev444 (d0 : Dev nD) : Nat :=
  let c0_i32_15296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15295 : BitVec 32 := 1#32
  let v12949 : BitVec 32 := Scalar.muli v13 c1_i32_15295
  let v12950 : BitVec 32 := Scalar.addi c0_i32_15296 v12949
  v12950.toNat
def k0_dev445 (d0 : Dev nD) : Nat :=
  let c0_i32_15335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15334 : BitVec 32 := 1#32
  let v12970 : BitVec 32 := Scalar.muli v13 c1_i32_15334
  let v12971 : BitVec 32 := Scalar.addi c0_i32_15335 v12970
  v12971.toNat
def k0_dev446 (d0 : Dev nD) : Nat :=
  let c0_i32_15348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15347 : BitVec 32 := 1#32
  let v12986 : BitVec 32 := Scalar.muli v24 c1_i32_15347
  let v12987 : BitVec 32 := Scalar.addi c0_i32_15348 v12986
  v12987.toNat
def k0_dev447 (d0 : Dev nD) : Nat :=
  let c0_i32_15387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15386 : BitVec 32 := 1#32
  let v13007 : BitVec 32 := Scalar.muli v24 c1_i32_15386
  let v13008 : BitVec 32 := Scalar.addi c0_i32_15387 v13007
  v13008.toNat
def k0_dev448 (d0 : Dev nD) : Nat :=
  let c0_i32_15400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15399 : BitVec 32 := 1#32
  let v13023 : BitVec 32 := Scalar.muli v13 c1_i32_15399
  let v13024 : BitVec 32 := Scalar.addi c0_i32_15400 v13023
  v13024.toNat
def k0_dev449 (d0 : Dev nD) : Nat :=
  let c0_i32_15439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15438 : BitVec 32 := 1#32
  let v13044 : BitVec 32 := Scalar.muli v13 c1_i32_15438
  let v13045 : BitVec 32 := Scalar.addi c0_i32_15439 v13044
  v13045.toNat
def k0_dev450 (d0 : Dev nD) : Nat :=
  let c0_i32_15452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15451 : BitVec 32 := 1#32
  let v13060 : BitVec 32 := Scalar.muli v24 c1_i32_15451
  let v13061 : BitVec 32 := Scalar.addi c0_i32_15452 v13060
  v13061.toNat
def k0_dev451 (d0 : Dev nD) : Nat :=
  let c0_i32_15491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15490 : BitVec 32 := 1#32
  let v13081 : BitVec 32 := Scalar.muli v24 c1_i32_15490
  let v13082 : BitVec 32 := Scalar.addi c0_i32_15491 v13081
  v13082.toNat
def k0_dev452 (d0 : Dev nD) : Nat :=
  let c0_i32_15504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15503 : BitVec 32 := 1#32
  let v13097 : BitVec 32 := Scalar.muli v13 c1_i32_15503
  let v13098 : BitVec 32 := Scalar.addi c0_i32_15504 v13097
  v13098.toNat
def k0_dev453 (d0 : Dev nD) : Nat :=
  let c0_i32_15543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15542 : BitVec 32 := 1#32
  let v13118 : BitVec 32 := Scalar.muli v13 c1_i32_15542
  let v13119 : BitVec 32 := Scalar.addi c0_i32_15543 v13118
  v13119.toNat
def k0_dev454 (d0 : Dev nD) : Nat :=
  let c0_i32_15556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15555 : BitVec 32 := 1#32
  let v13134 : BitVec 32 := Scalar.muli v24 c1_i32_15555
  let v13135 : BitVec 32 := Scalar.addi c0_i32_15556 v13134
  v13135.toNat
def k0_dev455 (d0 : Dev nD) : Nat :=
  let c0_i32_15595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15594 : BitVec 32 := 1#32
  let v13155 : BitVec 32 := Scalar.muli v24 c1_i32_15594
  let v13156 : BitVec 32 := Scalar.addi c0_i32_15595 v13155
  v13156.toNat
def k0_dev456 (d0 : Dev nD) : Nat :=
  let c0_i32_15608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15607 : BitVec 32 := 1#32
  let v13171 : BitVec 32 := Scalar.muli v13 c1_i32_15607
  let v13172 : BitVec 32 := Scalar.addi c0_i32_15608 v13171
  v13172.toNat
def k0_dev457 (d0 : Dev nD) : Nat :=
  let c0_i32_15647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15646 : BitVec 32 := 1#32
  let v13192 : BitVec 32 := Scalar.muli v13 c1_i32_15646
  let v13193 : BitVec 32 := Scalar.addi c0_i32_15647 v13192
  v13193.toNat
def k0_dev458 (d0 : Dev nD) : Nat :=
  let c0_i32_15660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15659 : BitVec 32 := 1#32
  let v13208 : BitVec 32 := Scalar.muli v24 c1_i32_15659
  let v13209 : BitVec 32 := Scalar.addi c0_i32_15660 v13208
  v13209.toNat
def k0_dev459 (d0 : Dev nD) : Nat :=
  let c0_i32_15737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15736 : BitVec 32 := 1#32
  let v13275 : BitVec 32 := Scalar.muli v24 c1_i32_15736
  let v13276 : BitVec 32 := Scalar.addi c0_i32_15737 v13275
  v13276.toNat
def k0_dev460 (d0 : Dev nD) : Nat :=
  let c0_i32_15786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15785 : BitVec 32 := 1#32
  let v13310 : BitVec 32 := Scalar.muli v13 c1_i32_15785
  let v13311 : BitVec 32 := Scalar.addi c0_i32_15786 v13310
  v13311.toNat
def k0_dev461 (d0 : Dev nD) : Nat :=
  let c0_i32_15835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15834 : BitVec 32 := 1#32
  let v13345 : BitVec 32 := Scalar.muli v24 c1_i32_15834
  let v13346 : BitVec 32 := Scalar.addi c0_i32_15835 v13345
  v13346.toNat
def k0_dev462 (d0 : Dev nD) : Nat :=
  let c0_i32_15884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15883 : BitVec 32 := 1#32
  let v13380 : BitVec 32 := Scalar.muli v13 c1_i32_15883
  let v13381 : BitVec 32 := Scalar.addi c0_i32_15884 v13380
  v13381.toNat
def k0_dev463 (d0 : Dev nD) : Nat :=
  let c0_i32_15933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15932 : BitVec 32 := 1#32
  let v13415 : BitVec 32 := Scalar.muli v24 c1_i32_15932
  let v13416 : BitVec 32 := Scalar.addi c0_i32_15933 v13415
  v13416.toNat
def k0_dev464 (d0 : Dev nD) : Nat :=
  let c0_i32_15982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15981 : BitVec 32 := 1#32
  let v13450 : BitVec 32 := Scalar.muli v13 c1_i32_15981
  let v13451 : BitVec 32 := Scalar.addi c0_i32_15982 v13450
  v13451.toNat
def k0_dev465 (d0 : Dev nD) : Nat :=
  let c0_i32_16031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16030 : BitVec 32 := 1#32
  let v13485 : BitVec 32 := Scalar.muli v24 c1_i32_16030
  let v13486 : BitVec 32 := Scalar.addi c0_i32_16031 v13485
  v13486.toNat
def k0_dev466 (d0 : Dev nD) : Nat :=
  let c0_i32_16080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16079 : BitVec 32 := 1#32
  let v13520 : BitVec 32 := Scalar.muli v13 c1_i32_16079
  let v13521 : BitVec 32 := Scalar.addi c0_i32_16080 v13520
  v13521.toNat
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Units.lean ====
/-
The kernel's body as a list of its statements.  Everything the two directions share is written once
over `d : Fin 2` (0 sends to the right, 1 to the left), a slot `p : Fin 2` and a sub-block `j : Fin 4`.
-/
module

public import proofs.«01_k».proof.Proof.Gen.KernelIdeal
public import Idealize.ShloMosaic.Lib.Pipeline.Regions

@[expose] public section

noncomputable section

namespace Cert.KernelIdeal.Talk

open Idealize.ShloMosaic Idealize.SL.Sem
open Cert.KernelIdeal.Facts₀ Cert.KernelIdeal.Facts

/-! ## Buffers and semaphores by direction -/

abbrev sendB : Fin 2 → Ref sig .tc | 0 => cc0_scratch0 | 1 => cc0_scratch4
abbrev recvB : Fin 2 → Ref sig .tc | 0 => cc0_scratch1 | 1 => cc0_scratch5
abbrev locB : Fin 2 → Ref sig .tc | 0 => cc0_scratch2 | 1 => cc0_scratch6
abbrev fstB : Fin 2 → Ref sig .tc | 0 => cc0_scratch3 | 1 => cc0_scratch7

def sendM : Fin 2 → Memref sig .tc .vmem S2x128x8192 .bf16
  | 0 => Memref.whole cc0_scratch0 | 1 => Memref.whole cc0_scratch4
def recvM : Fin 2 → Memref sig .tc .vmem S2x128x8192 .bf16
  | 0 => Memref.whole cc0_scratch1 | 1 => Memref.whole cc0_scratch5
def locM : Fin 2 → Memref sig .tc .vmem S2x128x8192 .bf16
  | 0 => Memref.whole cc0_scratch2 | 1 => Memref.whole cc0_scratch6
def fstM : Fin 2 → Memref sig .tc .vmem S2x128x8192 .f32
  | 0 => Memref.whole cc0_scratch3 | 1 => Memref.whole cc0_scratch7
abbrev pM : Memref sig .tc .hbm S4096x8192 .bf16 := Memref.whole main_v7
abbrev outM : Memref sig .tc .hbm S4096x8192 .f32 := Memref.whole main_v8

theorem whole_send : ∀ d, (sendM d).IsWhole
  | 0 => Memref.isWhole_whole _ | 1 => Memref.isWhole_whole _
theorem whole_recv : ∀ d, (recvM d).IsWhole
  | 0 => Memref.isWhole_whole _ | 1 => Memref.isWhole_whole _
theorem whole_loc : ∀ d, (locM d).IsWhole
  | 0 => Memref.isWhole_whole _ | 1 => Memref.isWhole_whole _
theorem whole_fst : ∀ d, (fstM d).IsWhole
  | 0 => Memref.isWhole_whole _ | 1 => Memref.isWhole_whole _

def sendA : Fin 2 → DmaSems sig S2x4 | 0 => cc0_scratch8 | 1 => cc0_scratch12
def recvA : Fin 2 → DmaSems sig S2x4 | 0 => cc0_scratch9 | 1 => cc0_scratch13
def copyA : Fin 2 → DmaSems sig S2x4 | 0 => cc0_scratch10 | 1 => cc0_scratch14
def storeA : Fin 2 → DmaSems sig S2 | 0 => cc0_scratch11 | 1 => cc0_scratch15
def creditA : Fin 2 → Sems sig S_ | 0 => cc0_scratch16 | 1 => cc0_scratch17

theorem inb4 : ∀ (p : Fin 2) (j : Fin 4), ∀ a, (![p.val, j.val] : Fin 2 → Nat) a + S1x1.size a ≤ S2x4.size a := by decide
theorem inb2 : ∀ (q : Fin 2), ∀ a, (![q.val] : Fin 1 → Nat) a + S1.size a ≤ S2.size a := by decide
theorem inbS : ∀ (p : Fin 2) (j : Fin 4), ∀ a, (![p.val, 32 * j.val, 0] : Fin 3 → Nat) a + S1x32x8192.size a ≤ S2x128x8192.size a := by decide
theorem inbW : ∀ (p : Fin 2), ∀ a, (![p.val, 0, 0] : Fin 3 → Nat) a + S1x128x8192.size a ≤ S2x128x8192.size a := by decide

/-- One semaphore of a 2x4 array. -/
def cell4 (s : DmaSems sig S2x4) (p : Fin 2) (j : Fin 4) : DmaSem sig :=
  ((s.slice (Rect.unit (s := S2x4) ![p.val, j.val] S1x1.size (inb4 p j))).squeeze S_ squeezes_S1x1_S_).sem
/-- One semaphore of a pair. -/
def cell2 (s : DmaSems sig S2) (q : Fin 2) : DmaSem sig :=
  ((s.slice (Rect.unit (s := S2) ![q.val] S1.size (inb2 q))).squeeze S_ squeezes_S1_S_).sem

/-- The rows of sub-block `j` of slot `p`. -/
abbrev subR (p : Fin 2) (j : Fin 4) : Rect S2x128x8192 := Rect.unit (s := S2x128x8192) ![p.val, 32 * j.val, 0] S1x32x8192.size (inbS p j)
/-- The rows of slot `p`. -/
abbrev slotR (p : Fin 2) : Rect S2x128x8192 := Rect.unit (s := S2x128x8192) ![p.val, 0, 0] S1x128x8192.size (inbW p)

/-- Sub-block `j` of slot `p` as a matrix of rows. -/
abbrev sub {e : EltTy} (m : Memref sig .tc .vmem S2x128x8192 e) (p : Fin 2) (j : Fin 4) : Memref sig .tc .vmem S32x8192 e :=
  (m.slice (subR p j) (fun _ => rfl)).squeeze S32x8192 squeezes_S1x32x8192_S32x8192
/-- Slot `p` as a matrix of rows. -/
abbrev slot {e : EltTy} (m : Memref sig .tc .vmem S2x128x8192 e) (p : Fin 2) : Memref sig .tc .vmem S128x8192 e :=
  (m.slice (slotR p) (fun _ => rfl)).squeeze S128x8192 squeezes_S1x128x8192_S128x8192

theorem words_sub : ∀ (p : Fin 2) (j : Fin 4), (subR p j).WholeWords (EltTy.packing .bf16) := by decide
theorem words_slot : ∀ (p : Fin 2), (slotR p).WholeWords (EltTy.packing .bf16) := by decide
theorem packed_sub (p : Fin 2) (j : Fin 4) : (subR p j).PackedRows (EltTy.packing .bf16) :=
  match p, j with
  | 0, 0 => packedbf16_S2x128x8192_S1x32x8192_0_0_0
  | 0, 1 => packedbf16_S2x128x8192_S1x32x8192_0_32_0
  | 0, 2 => packedbf16_S2x128x8192_S1x32x8192_0_64_0
  | 0, 3 => packedbf16_S2x128x8192_S1x32x8192_0_96_0
  | 1, 0 => packedbf16_S2x128x8192_S1x32x8192_1_0_0
  | 1, 1 => packedbf16_S2x128x8192_S1x32x8192_1_32_0
  | 1, 2 => packedbf16_S2x128x8192_S1x32x8192_1_64_0
  | 1, 3 => packedbf16_S2x128x8192_S1x32x8192_1_96_0

/-! ## Rows of the two arrays -/

/-- The chunk `n` places along direction `d` from device `c`. -/
def cidx (d : Fin 2) (c : Dev nD) (n : Nat) : Fin 16 := ⟨if d = 0 then (c.val + (16 - n % 16)) % 16 else (c.val + n) % 16, by
  split <;> exact Nat.mod_lt _ (by decide)⟩

/-- The word that moves `n` places along direction `d`. -/
def wrd (d : Fin 2) (n : Nat) : BitVec 32 := BitVec.ofNat 32 (if d = 0 then 4294967296 - n else n)

/-- Where the load of step `t`, sub-block `j`, starts. -/
def inOff (d : Fin 2) (c : Dev nD) (t : Fin 15) (j : Fin 4) : Fin 2 → Nat :=
  k0_off2 c (BitVec.ofNat 32 (2048 * d.val)) (wrd d (t.val + 1)) (BitVec.ofNat 32 (32 * j.val))
/-- Where the store of step `14 + s` starts. -/
def outOff (d : Fin 2) (c : Dev nD) (s : Fin 16) : Fin 2 → Nat :=
  if s.val = 0 then k0_off3 c (BitVec.ofNat 32 (2048 * d.val)) (wrd d 1) else k0_off4 c (BitVec.ofNat 32 (2048 * d.val)) (wrd d (s.val - 1))
/-- Where the first chunk starts. -/
def meOff (d : Fin 2) (c : Dev nD) : Fin 2 → Nat := k0_off1 c (BitVec.ofNat 32 (2048 * d.val))

theorem inOff_eq : ∀ (c : Dev nD) (d : Fin 2) (t : Fin 15) (j : Fin 4),
    inOff d c t j = ![2048 * d.val + 128 * (cidx d c (t.val + 1)).val + 32 * j.val, 0] := by decide +kernel
theorem outOff_eq : ∀ (c : Dev nD) (d : Fin 2) (s : Fin 16),
    outOff d c s = ![2048 * d.val + 128 * (cidx d c (s.val + 15)).val, 0] := by decide +kernel
theorem meOff_eq : ∀ (c : Dev nD) (d : Fin 2), meOff d c = ![2048 * d.val + 128 * (cidx d c 0).val, 0] := by decide +kernel

theorem inb_rows (b n k : Nat) (hb : b + n ≤ 4096) {sz : Fin 2 → Nat} (h0 : sz 0 = n) (h1 : sz 1 = 8192) :
    ∀ a, (![b, 0] : Fin 2 → Nat) a + sz a ≤ S4096x8192.size a := by
  intro a; match a with
  | 0 => rw [h0]; exact hb
  | 1 => rw [h1]; exact Nat.le_refl _

theorem inb_in (d : Fin 2) (c : Dev nD) (t : Fin 15) (j : Fin 4) : ∀ a, inOff d c t j a + S32x8192.size a ≤ S4096x8192.size a := by
  rw [inOff_eq]; have := (cidx d c (t.val + 1)).isLt; have := d.isLt; have := j.isLt
  exact inb_rows _ 32 0 (by omega) rfl rfl
theorem inb_out (d : Fin 2) (c : Dev nD) (s : Fin 16) : ∀ a, outOff d c s a + S128x8192.size a ≤ S4096x8192.size a := by
  rw [outOff_eq]; have := (cidx d c (s.val + 15)).isLt; have := d.isLt
  exact inb_rows _ 128 0 (by omega) rfl rfl
theorem inb_me (d : Fin 2) (c : Dev nD) : ∀ a, meOff d c a + S128x8192.size a ≤ S4096x8192.size a := by
  rw [meOff_eq]; have := (cidx d c 0).isLt; have := d.isLt
  exact inb_rows _ 128 0 (by omega) rfl rfl

abbrev inR (d : Fin 2) (c : Dev nD) (t : Fin 15) (j : Fin 4) : Rect S4096x8192 := Rect.unit (s := S4096x8192) (inOff d c t j) S32x8192.size (inb_in d c t j)
abbrev outR (d : Fin 2) (c : Dev nD) (s : Fin 16) : Rect S4096x8192 := Rect.unit (s := S4096x8192) (outOff d c s) S128x8192.size (inb_out d c s)
abbrev meR (d : Fin 2) (c : Dev nD) : Rect S4096x8192 := Rect.unit (s := S4096x8192) (meOff d c) S128x8192.size (inb_me d c)

abbrev inM (d : Fin 2) (c : Dev nD) (t : Fin 15) (j : Fin 4) : Memref sig .tc .hbm S32x8192 .bf16 := pM.slice (inR d c t j) (fun _ => rfl)
abbrev outW (d : Fin 2) (c : Dev nD) (s : Fin 16) : Memref sig .tc .hbm S128x8192 .f32 := outM.slice (outR d c s) (fun _ => rfl)
abbrev meM (d : Fin 2) (c : Dev nD) : Memref sig .tc .hbm S128x8192 .bf16 := pM.slice (meR d c) (fun _ => rfl)

theorem words_in (d : Fin 2) (c : Dev nD) (t : Fin 15) (j : Fin 4) : (inR d c t j).WholeWords (EltTy.packing .bf16) := by
  revert c d t j; decide +kernel
theorem words_me (d : Fin 2) (c : Dev nD) : (meR d c).WholeWords (EltTy.packing .bf16) := by
  revert c d; decide +kernel

/-! ## Neighbours -/

def peerN (d : Fin 2) (c : Dev nD) : Dev nD := match d with | 0 => ⟨k0_dev3 c, k0_dev3_lt c⟩ | 1 => ⟨k0_dev7 c, k0_dev7_lt c⟩
def ackN (d : Fin 2) (c : Dev nD) : Dev nD := match d with | 0 => ⟨k0_dev7 c, k0_dev7_lt c⟩ | 1 => ⟨k0_dev3 c, k0_dev3_lt c⟩

/-! ## The statements -/

variable {F : FTy → Type} [FloatOps F]

abbrev PG := Prog (TpuEff nD τ sig (Elt F) Λ₀ .tc) PUnit

variable (F) in
def barSig (d : Fin 2) (c : Dev nD) : PG (F := F) := semSignalWord (ackN d c) (SemArray.scalar (sig.barrier 0 rfl) : Sems sig S_).sem 1#32
variable (F) in
def barWait : PG (F := F) := semWaitWord (SemArray.scalar (sig.barrier 0 rfl) : Sems sig S_).sem 2#32

variable (F) in
def meStart (d : Fin 2) (c : Dev nD) : PG (F := F) :=
  Prog.lift (.enqueueDma (meM d c) (.here (slot (sendM d) 0)) (.dma (cell4 (copyA d) 0 0)) ((Memref.isWhole_whole main_v7).wordExact_slice rfl _ (words_me d c)) (((whole_send d).wordExact_slice rfl _ (words_slot 0)).reshape _ _) ⟨Or.inl rfl, trivial⟩)
variable (F) in
def meWait (d : Fin 2) (c : Dev nD) : PG (F := F) :=
  Prog.lift (.waitDma2 (cell4 (copyA d) 0 0) (meM d c) (slot (sendM d) 0) ((Memref.isWhole_whole main_v7).wordExact_slice rfl _ (words_me d c)) (((whole_send d).wordExact_slice rfl _ (words_slot 0)).reshape _ _))

variable (F) in
def rdma (d : Fin 2) (c : Dev nD) (p : Fin 2) (j : Fin 4) : PG (F := F) :=
  Prog.lift (.enqueueDma (sub (sendM d) p j) (.remote (Dev.tc (peerN d c)) (sub (recvM d) p j) (.dma (cell4 (sendA d) p j))) (.dma (cell4 (recvA d) p j))
    (((whole_send d).wordExact_slice rfl _ (words_sub p j)).reshape _ _) (((whole_recv d).wordExact_slice rfl _ (words_sub p j)).reshape _ _) ⟨⟨rfl, Or.inl rfl⟩, trivial⟩)
variable (F) in
def recvWait (d : Fin 2) (p : Fin 2) (j : Fin 4) : PG (F := F) :=
  Prog.lift (.waitDma2 (cell4 (recvA d) p j) (sub (sendM d) p j) (sub (recvM d) p j) (((whole_send d).wordExact_slice rfl _ (words_sub p j)).reshape _ _) (((whole_recv d).wordExact_slice rfl _ (words_sub p j)).reshape _ _))
variable (F) in
def sendWait (d : Fin 2) (p : Fin 2) (j : Fin 4) : PG (F := F) :=
  Prog.lift (.waitDma2 (cell4 (sendA d) p j) (sub (recvM d) p j) (sub (sendM d) p j) (((whole_recv d).wordExact_slice rfl _ (words_sub p j)).reshape _ _) (((whole_send d).wordExact_slice rfl _ (words_sub p j)).reshape _ _))

variable (F) in
def ldStart (d : Fin 2) (c : Dev nD) (t : Fin 15) (p : Fin 2) (j : Fin 4) : PG (F := F) :=
  Prog.lift (.enqueueDma (inM d c t j) (.here (sub (locM d) p j)) (.dma (cell4 (copyA d) p j)) ((Memref.isWhole_whole main_v7).wordExact_slice rfl _ (words_in d c t j)) (((whole_loc d).wordExact_slice rfl _ (words_sub p j)).reshape _ _) ⟨Or.inl rfl, trivial⟩)
variable (F) in
def ldWait (d : Fin 2) (c : Dev nD) (t : Fin 15) (p : Fin 2) (j : Fin 4) : PG (F := F) :=
  Prog.lift (.waitDma2 (cell4 (copyA d) p j) (inM d c t j) (sub (locM d) p j) ((Memref.isWhole_whole main_v7).wordExact_slice rfl _ (words_in d c t j)) (((whole_loc d).wordExact_slice rfl _ (words_sub p j)).reshape _ _))

/-- Sub-block `j` of slot `p`, read. -/
abbrev rd {e : EltTy} (m : Memref sig .tc .vmem S2x128x8192 e) (p : Fin 2) (j : Fin 4) : Prog (TpuEff nD τ sig (Elt F) Λ₀ .tc) (Vec F S1x32x8192 e) :=
  Prog.lift (.load m (subR p j).toLoadRect (View.loadsAt_vmem h_S1x32x8192))

variable (F) in
def wrSend (d : Fin 2) (p : Fin 2) (j : Fin 4) (v : FVec F S1x32x8192 .bf16) : PG (F := F) :=
  Prog.lift (.store (sendM d) (subR p j) v Finset.univ (View.stores_vmem h_S1x32x8192 ((whole_send d).storeExact_slice rfl _ (packed_sub p j)) (fun _ => rfl)) (.inl rfl))
variable (F) in
def wrFst (d : Fin 2) (p : Fin 2) (j : Fin 4) (v : FVec F S1x32x8192 .f32) : PG (F := F) :=
  Prog.lift (.store (fstM d) (subR p j) v Finset.univ (View.stores_vmem_bits_univ h_S1x32x8192 rfl) (.inl rfl))

abbrev drop {e : EltTy} (v : Vec F S1x32x8192 e) : Vec F S32x8192 e := shapeCast S32x8192 v shapeCasts_S1x32x8192_S32x8192
abbrev lift1 {e : EltTy} (v : Vec F S32x8192 e) : Vec F S1x32x8192 e := shapeCast S1x32x8192 v shapeCasts_S32x8192_S1x32x8192

variable (F) in
/-- `send[q] = recv[p] + local[p]`. -/
def addU (d : Fin 2) (p q : Fin 2) (j : Fin 4) : PG (F := F) := do
  let a ← rd (F := F) (recvM d) p j
  let b ← rd (F := F) (locM d) p j
  let _ ← rd (F := F) (sendM d) q j
  wrSend F d q j (lift1 (F := F) (e := .bf16) (addf (F := F) (drop a) (drop b)))
variable (F) in
/-- `send[q] = recv[p]`, from its second statement on. -/
def movU' (d : Fin 2) (q : Fin 2) (j : Fin 4) (a : Vec F S32x8192 .bf16) : PG (F := F) := do
  let _ ← rd (F := F) (sendM d) q j
  wrSend F d q j (lift1 a)
variable (F) in
/-- `send[q] = recv[p]`. -/
def movU (d : Fin 2) (p q : Fin 2) (j : Fin 4) : PG (F := F) := do
  let a ← rd (F := F) (recvM d) p j
  movU' F d q j (drop a)
variable (F) in
/-- `fst[q] = send[q]` widened. -/
def fstU (d : Fin 2) (q : Fin 2) (j : Fin 4) : PG (F := F) := do
  let a ← rd (F := F) (sendM d) q j
  let _ ← rd (F := F) (fstM d) q j
  wrFst F d q j (lift1 (F := F) (e := .f32) (extf (F := F) .f32 (drop a) bitsLt_bf16_f32))

variable (F) in
def credWait (d : Fin 2) : PG (F := F) := semWaitWord (creditA d).sem 1#32
variable (F) in
def credSig (d : Fin 2) (c : Dev nD) : PG (F := F) := semSignalWord (ackN d c) (creditA d).sem 1#32

variable (F) in
def stStart (d : Fin 2) (c : Dev nD) (s : Fin 16) (q : Fin 2) : PG (F := F) :=
  Prog.lift (.enqueueDma (slot (fstM d) q) (.here (outW d c s)) (.dma (cell2 (storeA d) q)) ((View.wordExact_bits rfl).reshape _ _) (View.wordExact_bits rfl) ⟨Or.inl rfl, trivial⟩)
variable (F) in
def stWait (d : Fin 2) (c : Dev nD) (s : Fin 16) (q : Fin 2) : PG (F := F) :=
  Prog.lift (.waitDma2 (cell2 (storeA d) q) (slot (fstM d) q) (outW d c s) ((View.wordExact_bits rfl).reshape _ _) (View.wordExact_bits rfl))

/-! ## The body -/

/-- `t` mod 2. -/
def par (t : Nat) : Fin 2 := ⟨t % 2, Nat.mod_lt _ (by decide)⟩
abbrev t15 (t : Nat) : Fin 15 := ⟨t % 15, Nat.mod_lt _ (by decide)⟩
abbrev s16 (s : Nat) : Fin 16 := ⟨s % 16, Nat.mod_lt _ (by decide)⟩
abbrev js : List (Fin 4) := [0, 1, 2, 3]
abbrev dirs : List (Fin 2) := [0, 1]

variable (F) in
def unit (c : Dev nD) (t : Nat) (j : Fin 4) (d : Fin 2) : List (PG (F := F)) :=
  [recvWait F d (par t) j]
  ++ (if 1 ≤ t then [sendWait F d (par (t + 1)) j] else [])
  ++ (if t < 15 then [ldWait F d c (t15 t) (par t) j, addU F d (par t) (par (t + 1)) j] else [movU F d (par t) (par (t + 1)) j])
  ++ (if t < 29 then (if 1 ≤ t then [credWait F d] else []) ++ [rdma F d c (par (t + 1)) j] else [])
  ++ (if 14 ≤ t then [fstU F d (par (t + 1)) j] else [])
  ++ (if t < 28 then [credSig F d c] else [])

variable (F) in
def step (c : Dev nD) (t : Nat) : List (PG (F := F)) :=
  (if t < 14 then dirs.flatMap fun d => js.map fun j => ldStart F d c (t15 (t + 1)) (par (t + 1)) j else [])
  ++ (if 16 ≤ t then dirs.map fun d => stWait F d c (s16 (t - 16)) (par (t + 1)) else [])
  ++ (js.flatMap fun j => dirs.flatMap fun d => unit F c t j d)
  ++ (if 14 ≤ t then dirs.map fun d => stStart F d c (s16 (t - 14)) (par (t + 1)) else [])

variable (F) in
def pre (c : Dev nD) : List (PG (F := F)) :=
  [barSig F 0 c, barSig F 1 c, barWait F]
  ++ (dirs.flatMap fun d => [meStart F d c, meWait F d c])
  ++ (dirs.flatMap fun d => js.flatMap fun j => [rdma F d c 0 j, ldStart F d c 0 0 j])

variable (F) in
def post (c : Dev nD) : List (PG (F := F)) :=
  (dirs.flatMap fun d => js.map fun j => sendWait F d (par 29) j)
  ++ (dirs.map fun d => stWait F d c 15 0) ++ (dirs.map fun d => stWait F d c 14 1)

variable (F) in
def all (c : Dev nD) : List (PG (F := F)) :=
  pre F c ++ (List.range 30).flatMap (step F c) ++ post F c

end Cert.KernelIdeal.Talk
-- ==== Proof.Sched.lean ====
/-
The protocol of the two rings: the semaphores, the rounds of each, what each unit of credit hands
over, the order in which credit is owed, and the values that travel.
-/
module

public import proofs.«01_k».proof.Proof.Units
public import Idealize.ShloMosaic.Lib.Pipeline.Regions
public import Idealize.ShloMosaic.Lib.Pipeline.Kit
public import Idealize.ShloMosaic.Lib.Rounds
public import Idealize.ShloMosaic.Lib.Release
public import Idealize.ShloMosaic.Lib.StableHlo
public import Idealize.ShloMosaic.Lib.Tactic
public import Idealize.ShloMosaic.Lib.Exec.Context
public import Idealize.ShloMosaic.PureOps
public import Idealize.ShloMosaic.Lib.Pipeline.RegionTalk
public import Idealize.ShloMosaic.Harness.Basic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

/-! ## Semaphores by what they are for -/

inductive Kind
  | bar
  | snd (d p : Fin 2) (j : Fin 4)
  | rcv (d p : Fin 2) (j : Fin 4)
  | cpy (d p : Fin 2) (j : Fin 4)
  | sto (d q : Fin 2)
  | crd (d : Fin 2)
  deriving DecidableEq

def semOf : Kind → SemLoc sig
  | .bar => .reg (SemArray.scalar (sig.barrier 0 rfl) : Sems sig S_).sem
  | .snd d p j => .dma (cell4 (sendA d) p j)
  | .rcv d p j => .dma (cell4 (recvA d) p j)
  | .cpy d p j => .dma (cell4 (copyA d) p j)
  | .sto d q => .dma (cell2 (storeA d) q)
  | .crd d => .reg (creditA d).sem

def pjs : List (Fin 2 × Fin 2 × Fin 4) := dirs.flatMap fun d => dirs.flatMap fun p => js.map fun j => (d, p, j)
/-- Every semaphore but the barrier's. -/
def kindsS : List Kind :=
  pjs.map (fun x => .snd x.1 x.2.1 x.2.2) ++ pjs.map (fun x => .rcv x.1 x.2.1 x.2.2) ++ pjs.map (fun x => .cpy x.1 x.2.1 x.2.2)
    ++ (dirs.flatMap fun d => dirs.map fun q => .sto d q) ++ dirs.map .crd
def kinds : List Kind := .bar :: kindsS

def kindOf (sm : SemLoc sig) : Option Kind := kinds.find? fun k => semOf k = sm

theorem kindOf_semOf : ∀ k, kindOf (semOf k) = some k
  | .bar => by decide +kernel
  | .snd d p j => by revert d p j; decide +kernel
  | .rcv d p j => by revert d p j; decide +kernel
  | .cpy d p j => by revert d p j; decide +kernel
  | .sto d q => by revert d q; decide +kernel
  | .crd d => by revert d; decide +kernel

theorem semOf_inj {k k' : Kind} (h : semOf k = semOf k') : k = k' :=
  Option.some.inj ((kindOf_semOf k).symm.trans ((congrArg kindOf h).trans (kindOf_semOf k')))

/-- Device `c`'s semaphore of kind `k`. -/
abbrev cell (c : Dev nD) (k : Kind) : GSem nD τ sig := ((c : Thread nD τ), semOf k)

theorem cell_inj {c c' : Dev nD} {k k' : Kind} (h : cell c k = cell c' k') : c = c' ∧ k = k' :=
  ⟨congrArg (fun g : GSem nD τ sig => g.1.1) h, semOf_inj (congrArg (fun g : GSem nD τ sig => g.2) h)⟩

/-! ## Credit amounts -/

def N32 : ℕ := (sub (recvM 0) 0 0).view.dmaCredit
def N128 : ℕ := (slot (sendM 0) 0).view.dmaCredit
def NF : ℕ := (outW 0 0 0).view.dmaCredit

theorem N32_pos : 0 < N32 := View.dmaCredit_pos _ (by decide)
theorem N128_pos : 0 < N128 := View.dmaCredit_pos _ (by decide)
theorem NF_pos : 0 < NF := View.dmaCredit_pos _ (by decide)

theorem amt_recv (d p : Fin 2) (j : Fin 4) : (sub (recvM d) p j).view.dmaCredit = N32 := by
  match d with | 0 => rfl | 1 => rfl
theorem amt_send (d p : Fin 2) (j : Fin 4) : (sub (sendM d) p j).view.dmaCredit = N32 := by
  match d with | 0 => rfl | 1 => rfl
theorem amt_loc (d p : Fin 2) (j : Fin 4) : (sub (locM d) p j).view.dmaCredit = N32 := by
  match d with | 0 => rfl | 1 => rfl
theorem amt_slot (d p : Fin 2) : (slot (sendM d) p).view.dmaCredit = N128 := by
  match d with | 0 => rfl | 1 => rfl
theorem amt_out (d : Fin 2) (c : Dev nD) (s : Fin 16) : (outW d c s).view.dmaCredit = NF := rfl

/-! ## Neighbours -/

theorem ackN_peerN : ∀ (d : Fin 2) (c : Dev nD), ackN d (peerN d c) = c := by decide +kernel
theorem peerN_ackN : ∀ (d : Fin 2) (c : Dev nD), peerN d (ackN d c) = c := by decide +kernel
theorem cidx_ackN : ∀ (d : Fin 2) (c : Dev nD) (n : Fin 16), cidx d (ackN d c) n.val = cidx d c (n.val + 1) := by decide +kernel

/-! ## Values -/

section Values

variable {F : FTy → Type} [FloatOps F]

/-- `32` rows of an array from row `b` on. -/
def rowsAt {e : EltTy} (b : ℕ) (hb : b + 32 ≤ 4096) (f : Vec F S4096x8192 e) : Vec F S32x8192 e :=
  fun x => f fun a => match a with
    | 0 => ⟨b + (x 0).val, lt_of_lt_of_le (Nat.add_lt_add_left (x 0).isLt b) hb⟩
    | 1 => x 1

theorem row_le (d : Fin 2) (i : Fin 16) (j : Fin 4) : 2048 * d.val + 128 * i.val + 32 * j.val + 32 ≤ 4096 := by omega

/-- Sub-block `j` of the chunk `n` places along direction `d` from device `c`, of device `c`'s array. -/
def chunkRow (P : Dev nD → Vec F S4096x8192 .bf16) (d : Fin 2) (c : Dev nD) (n : ℕ) (j : Fin 4) : Vec F S32x8192 .bf16 :=
  rowsAt (2048 * d.val + 128 * (cidx d c n).val + 32 * j.val) (row_le d _ j) (P c)

/-- What device `c` sends as transfer `t` of sub-block `j` in direction `d`. -/
def X (P : Dev nD → Vec F S4096x8192 .bf16) (d : Fin 2) (j : Fin 4) : ℕ → Dev nD → Vec F S32x8192 .bf16
  | 0, c => chunkRow P d c 0 j
  | t + 1, c => if t < 15 then addf (F := F) (φ := .bf16) (X P d j t (ackN d c)) (chunkRow P d c (t + 1) j) else X P d j t (ackN d c)

theorem X_add (P : Dev nD → Vec F S4096x8192 .bf16) (d : Fin 2) (j : Fin 4) (t : ℕ) (c : Dev nD) (h : t < 15) :
    X P d j (t + 1) c = addf (F := F) (φ := .bf16) (X P d j t (ackN d c)) (chunkRow P d c (t + 1) j) := if_pos h
theorem X_mov (P : Dev nD → Vec F S4096x8192 .bf16) (d : Fin 2) (j : Fin 4) (t : ℕ) (c : Dev nD) (h : ¬ t < 15) :
    X P d j (t + 1) c = X P d j t (ackN d c) := if_neg h

/-- The four sub-blocks of a chunk, as one block of rows. -/
def glue {e : EltTy} (f : Fin 4 → Vec F S32x8192 e) : Vec F S128x8192 e :=
  fun x => f ⟨(x 0).val / 32, Nat.div_lt_of_lt_mul (x 0).isLt⟩ fun a => match a with
    | 0 => ⟨(x 0).val % 32, Nat.mod_lt _ (by decide)⟩
    | 1 => x 1

/-- Widened. -/
abbrev widen (v : Vec F S32x8192 .bf16) : Vec F S32x8192 .f32 := extf (F := F) .f32 v bitsLt_bf16_f32

/-- What store `s` writes. -/
def stored (P : Dev nD → Vec F S4096x8192 .bf16) (d : Fin 2) (c : Dev nD) (s : ℕ) : Vec F S128x8192 .f32 :=
  glue fun j => widen (X P d j (s + 15) c)

end Values

/-! ## The resource algebra -/

/-- A device's receive sub-block. -/
abbrev Key : Type := Dev nD × Fin 2 × Fin 2 × Fin 4
abbrev UT : Type := URounds (GSem nD τ sig) ℕ × USlots Key
abbrev UU : Type := UR sig nD τ × UT

variable {F : FTy → Type} [FloatOps F]

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := (Emb.inl : Emb _ UT).trans embR
def ES : Emb (USlots Key) (MT nD τ sig ℕ (Elt F) ℕ UU ℕ) := (Emb.inr : Emb _ UT).trans embR

instance ER_lands : (ER (F := F)).LandsIn (upEmb : UEmb _ 𝕄) := by unfold ER; infer_instance
instance ES_lands : (ES (F := F)).LandsIn (upEmb : UEmb _ 𝕄) := by unfold ES; infer_instance

/-- Device `c`'s view `m`, held at `X`. -/
def pts (c : Dev nD) {sp : Space} {s : Shape} {e : EltTy} (m : Memref sig .tc sp s e) (q : PosShare TreeShare) (X : Vec F s e) : sProp 𝕄 :=
  m.view.loc (c : Thread nD τ) ↦[m.view.set]{q} m.view.rep (Val := Elt F) X
/-- Device `c`'s view `m`, at contents not named. -/
def anyP (c : Dev nD) {sp : Space} {s : Shape} {e : EltTy} (m : Memref sig .tc sp s e) : sProp 𝕄 :=
  iprop(∃ f : Buf (Elt F) (m.view.loc (c : Thread nD τ)), m.view.loc (c : Thread nD τ) ↦[m.view.set]{fullShare} f)

instance pts_storable (c : Dev nD) {sp : Space} {s : Shape} {e : EltTy} (m : Memref sig .tc sp s e) (q : PosShare TreeShare) (X : Vec F s e) :
    BI.Storable (upEmb : UEmb _ 𝕄) (pts (F := F) c m q X) := by unfold pts; infer_instance
instance anyP_storable (c : Dev nD) {sp : Space} {s : Shape} {e : EltTy} (m : Memref sig .tc sp s e) :
    BI.Storable (upEmb : UEmb _ 𝕄) (anyP (F := F) c m) := by unfold anyP; infer_instance

/-- Half of a share. -/
abbrev hl : PosShare TreeShare := PosShare.left fullShare
abbrev hr : PosShare TreeShare := PosShare.right fullShare

variable (P : Dev nD → Vec F S4096x8192 .bf16)

/-- The rows that load `t` of sub-block `j` reads. -/
def win (d : Fin 2) (c : Dev nD) (t : Fin 15) (j : Fin 4) : sProp 𝕄 :=
  (inM d c t j).view.loc (c : Thread nD τ) ↦[(inM d c t j).view.set]{fullShare} (P c : Buf (Elt F) ((inM d c t j).view.loc (c : Thread nD τ)))
/-- The rows of the first chunk. -/
def winMe (d : Fin 2) (c : Dev nD) : sProp 𝕄 :=
  (meM d c).view.loc (c : Thread nD τ) ↦[(meM d c).view.set]{fullShare} (P c : Buf (Elt F) ((meM d c).view.loc (c : Thread nD τ)))

instance win_storable (d : Fin 2) (c : Dev nD) (t : Fin 15) (j : Fin 4) : BI.Storable (upEmb : UEmb _ 𝕄) (win (F := F) P d c t j) := by
  unfold win; infer_instance
instance winMe_storable (d : Fin 2) (c : Dev nD) : BI.Storable (upEmb : UEmb _ 𝕄) (winMe (F := F) P d c) := by
  unfold winMe; infer_instance

/-! ## The schedule -/

/-- What the reader `a` of direction `d` tells its writer once it has read sub-block `i % 4` of transfer `i / 4`. -/
def credFact (a : Dev nD) (d : Fin 2) (i : ℕ) : sProp 𝕄 :=
  iprop(released (ES (F := F)) (a, d, par (i / 4), ⟨i % 4, Nat.mod_lt _ (by decide)⟩) (i / 4 / 2 + 2)
    ∗ reached (ER (F := F)) (cell a (.rcv d (par (i / 4)) ⟨i % 4, Nat.mod_lt _ (by decide)⟩)) (i / 4 / 2 + 1))
/-- ... and all it told before. -/
def credPay (a : Dev nD) (d : Fin 2) (i : ℕ) : sProp 𝕄 := bigSep (Finset.range i) fun i' => credFact (F := F) a d i'
/-- What device `a` tells at entry: both slots of direction `d` stand ready, and so does its own credit of the other direction. -/
def barPay (a : Dev nD) (d : Fin 2) : sProp 𝕄 :=
  iprop(reached (ER (F := F)) (cell a (.crd (1 - d))) 0
    ∗ bigSep (Finset.univ : Finset (Fin 2 × Fin 4)) fun x =>
      iprop(released (ES (F := F)) (a, d, x.1, x.2) 1 ∗ reached (ER (F := F)) (cell a (.rcv d x.1 x.2)) 0))

instance credFact_pers (a : Dev nD) (d : Fin 2) (i : ℕ) : BI.Persistent (credFact (F := F) a d i) := by unfold credFact; infer_instance
instance credPay_pers (a : Dev nD) (d : Fin 2) (i : ℕ) : BI.Persistent (credPay (F := F) a d i) := by unfold credPay; infer_instance
instance barPay_pers (a : Dev nD) (d : Fin 2) : BI.Persistent (barPay (F := F) a d) := by unfold barPay; infer_instance
instance credFact_storable (a : Dev nD) (d : Fin 2) (i : ℕ) : BI.Storable (upEmb : UEmb _ 𝕄) (credFact (F := F) a d i) := by
  unfold credFact; infer_instance
instance credPay_storable (a : Dev nD) (d : Fin 2) (i : ℕ) : BI.Storable (upEmb : UEmb _ 𝕄) (credPay (F := F) a d i) := by
  unfold credPay; infer_instance
instance barPay_storable (a : Dev nD) (d : Fin 2) : BI.Storable (upEmb : UEmb _ 𝕄) (barPay (F := F) a d) := by
  unfold barPay; infer_instance

/-- The first copy through this semaphore is the first chunk's. -/
abbrev first (p : Fin 2) (j : Fin 4) : Prop := p = 0 ∧ j = 0

def dutiesK : Kind → ℕ → Finset ℕ
  | .bar, r => if r = 0 then {0, 1} else ∅
  | .snd _ p _, r => if 2 * r + p.val < 30 then {0} else ∅
  | .rcv _ p _, r => if 2 * r + p.val < 30 then {0} else ∅
  | .cpy _ p j, r => if 2 * r + p.val < (if first p j then 17 else 15) then {0} else ∅
  | .sto _ _, r => if r < 8 then {0} else ∅
  | .crd _, r => if r = 0 then Finset.range 112 else ∅

def amountK : Kind → ℕ → ℕ
  | .bar, _ => 1
  | .snd _ _ _, _ => N32
  | .rcv _ _ _, _ => N32
  | .cpy _ p j, r => if first p j ∧ r = 0 then N128 else N32
  | .sto _ _, _ => NF
  | .crd _, _ => 1

theorem amountK_pos (k : Kind) (r : ℕ) : 0 < amountK k r := by
  cases k <;> simp only [amountK] <;> first | exact Nat.one_pos | exact N32_pos | exact NF_pos | skip
  split
  · exact N128_pos
  · exact N32_pos

/-- Load `t` of sub-block `j`, landed. -/
def cpyPay (d : Fin 2) (c : Dev nD) (t : Fin 15) (p : Fin 2) (j : Fin 4) : sProp 𝕄 :=
  iprop(pts c (sub (locM d) p j) fullShare (chunkRow P d c (t.val + 1) j) ∗ win P d c t j)
/-- The first chunk, landed. -/
def mePay (d : Fin 2) (c : Dev nD) : sProp 𝕄 :=
  iprop(pts c (slot (sendM d) 0) fullShare (glue fun j => chunkRow P d c 0 j) ∗ winMe P d c)
/-- Store `s`, landed. -/
def stoPay (d : Fin 2) (c : Dev nD) (s : Fin 16) (q : Fin 2) : sProp 𝕄 :=
  iprop(pts c (outW d c s) fullShare (stored P d c s.val) ∗ anyP c (slot (fstM d) q))

instance cpyPay_storable (d : Fin 2) (c : Dev nD) (t : Fin 15) (p : Fin 2) (j : Fin 4) :
    BI.Storable (upEmb : UEmb _ 𝕄) (cpyPay (F := F) P d c t p j) := by unfold cpyPay; infer_instance
instance mePay_storable (d : Fin 2) (c : Dev nD) : BI.Storable (upEmb : UEmb _ 𝕄) (mePay (F := F) P d c) := by unfold mePay; infer_instance
instance stoPay_storable (d : Fin 2) (c : Dev nD) (s : Fin 16) (q : Fin 2) :
    BI.Storable (upEmb : UEmb _ 𝕄) (stoPay (F := F) P d c s q) := by unfold stoPay; infer_instance

def payK (c : Dev nD) : Kind → ℕ → ℕ → sProp 𝕄
  | .bar, _, i => barPay (peerN (par i) c) (par i)
  | .snd d p j, r, _ => pts c (sub (sendM d) p j) hl (X P d j (2 * r + p.val) c)
  | .rcv d p j, r, _ => pts c (sub (recvM d) p j) fullShare (X P d j (2 * r + p.val) (ackN d c))
  | .cpy d p j, r, _ =>
      if first p j then (if r = 0 then mePay P d c else cpyPay P d c (t15 (2 * (r - 1) + p.val)) p j)
      else cpyPay P d c (t15 (2 * r + p.val)) p j
  | .sto d q, r, _ => stoPay P d c (s16 (2 * r + (1 - q.val))) q
  | .crd d, _, i => credPay (peerN d c) d (i + 1)

instance payK_storable (c : Dev nD) (k : Kind) (r i : ℕ) : BI.Storable (upEmb : UEmb _ 𝕄) (payK (F := F) P c k r i) := by
  cases k <;> simp only [payK]
  case cpy => (repeat' split) <;> infer_instance
  all_goals infer_instance

def Rd : Rounds.Schedule (GSem nD τ sig) ℕ 𝕄 where
  duties g r := if g.1.2 = .tc then (match kindOf g.2 with | some k => dutiesK k r | none => ∅) else ∅
  amount g r _ := match kindOf g.2 with | some k => amountK k r | none => 1
  payload g r i := match kindOf g.2 with | some k => payK P g.1.1 k r i | none => iprop(emp)
  amount_pos g r _ _ := by
    cases kindOf g.2 with
    | some k => exact amountK_pos k r
    | none => exact Nat.one_pos

instance Rd_storable (g : GSem nD τ sig) (r i : ℕ) : BI.Storable (upEmb : UEmb _ 𝕄) ((Rd (F := F) P).payload g r i) := by
  show BI.Storable upEmb (match kindOf g.2 with | some k => payK P g.1.1 k r i | none => iprop(emp))
  cases kindOf g.2 <;> infer_instance

theorem duties_eq (c : Dev nD) (k : Kind) (r : ℕ) : (Rd (F := F) P).duties (cell c k) r = dutiesK k r := by
  dsimp only [Rd]; rw [kindOf_semOf]; rfl
theorem amount_eq (c : Dev nD) (k : Kind) (r i : ℕ) : (Rd (F := F) P).amount (cell c k) r i = amountK k r := by
  dsimp only [Rd]; rw [kindOf_semOf]
theorem payload_eq (c : Dev nD) (k : Kind) (r i : ℕ) : (Rd (F := F) P).payload (cell c k) r i = payK P c k r i := by
  dsimp only [Rd]; rw [kindOf_semOf]

theorem expect_eq (c : Dev nD) (k : Kind) (r : ℕ) : (Rd (F := F) P).expect (cell c k) r = (dutiesK k r).card * amountK k r := by
  unfold Schedule.expect Schedule.amountOf
  rw [duties_eq, Finset.sum_congr rfl fun i _ => amount_eq P c k r i, Finset.sum_const, smul_eq_mul]

/-- A round of one duty: what it expects and hands over. -/
theorem expect_one (c : Dev nD) (k : Kind) (r : ℕ) (h : dutiesK k r = {0}) : (Rd (F := F) P).expect (cell c k) r = amountK k r := by
  rw [expect_eq, h, Finset.card_singleton, one_mul]
theorem rest_one (c : Dev nD) (k : Kind) (r : ℕ) (h : dutiesK k r = {0}) :
    bigSep ((Rd (F := F) P).duties (cell c k) r \ ∅) (fun i => (Rd (F := F) P).payload (cell c k) r i) = payK P c k r 0 := by
  rw [Finset.sdiff_empty, duties_eq, h, bigSep_singleton, payload_eq]

/-! ## What is owed, in order -/

/-- The transfer and the credit signal of unit `v = 8 t + 2 j + d`. -/
def payT (c : Dev nD) (t : ℕ) (j : Fin 4) (d : Fin 2) : CellTallies nD τ sig ℕ :=
  if t < 29 then tallyAt (cell (peerN d c) (.rcv d (par (t + 1)) j)) (t + 3) N32 else 0
def payC (c : Dev nD) (t : ℕ) (d : Fin 2) : CellTallies nD τ sig ℕ :=
  if t < 28 then tallyAt (cell (ackN d c) (.crd d)) (t + 3) 1 else 0
abbrev tOf (v : ℕ) : ℕ := v / 8
abbrev jOf (v : ℕ) : Fin 4 := ⟨v % 8 / 2, by omega⟩
abbrev dOf (v : ℕ) : Fin 2 := ⟨v % 2, Nat.mod_lt _ (by decide)⟩
def pay (c : Dev nD) (v : ℕ) : CellTallies nD τ sig ℕ := payT c (tOf v) (jOf v) (dOf v) + payC c (tOf v) (dOf v)
/-- All that is owed from unit `u` on. -/
def Owe (c : Dev nD) (u : ℕ) : CellTallies nD τ sig ℕ := ∑ v ∈ Finset.Ico u 240, pay c v

/-- The first transfers, `w = 4 d + j`. -/
def payI (c : Dev nD) (w : ℕ) : CellTallies nD τ sig ℕ :=
  tallyAt (cell (peerN (dirI w) c) (.rcv (dirI w) 0 (subI w))) 2 N32
where
  dirI (w : ℕ) : Fin 2 := ⟨w / 4 % 2, Nat.mod_lt _ (by decide)⟩
  subI (w : ℕ) : Fin 4 := ⟨w % 4, Nat.mod_lt _ (by decide)⟩
def OweI (c : Dev nD) (w : ℕ) : CellTallies nD τ sig ℕ := (∑ v ∈ Finset.Ico w 8, payI c v) + Owe c 0
def payB (c : Dev nD) (d : Fin 2) : CellTallies nD τ sig ℕ := tallyAt (cell (ackN d c) .bar) 1 1
/-- All that a device owes at launch. -/
def OweB (c : Dev nD) : CellTallies nD τ sig ℕ := (OweI c 0 + payB c 1) + payB c 0

def L (g : GSem nD τ sig) : Finset ℕ := if g.1.2 = .tc then Finset.range 64 else ∅
def lv (g : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 64 := if_pos rfl

/-- Only positive indices between `b` and `64`. -/
def Above (b : ℕ) (O : CellTallies nD τ sig ℕ) : Prop := ∀ g i, 0 < O g i → b < i ∧ i < 64 ∧ g.1.2 = .tc

theorem above_zero (b : ℕ) : Above b 0 := fun g i h => absurd h (Nat.lt_irrefl 0)
theorem above_add {b : ℕ} {O O' : CellTallies nD τ sig ℕ} (h : Above b O) (h' : Above b O') : Above b (O + O') := fun g i hp => by
  have hp : 0 < O g i + O' g i := hp
  rcases Nat.eq_zero_or_pos (O g i) with h0 | h0
  · exact h' g i (by omega)
  · exact h g i h0
theorem above_tally {b i n : ℕ} (c : Dev nD) (k : Kind) (h : b < i) (h' : i < 64) : Above b (tallyAt (cell c k) i n) := fun g ι hp => by
  obtain ⟨rfl, rfl⟩ := Pipeline.tallyAt_pos hp
  exact ⟨h, h', rfl⟩
theorem above_sum {b : ℕ} (s : Finset ℕ) (f : ℕ → CellTallies nD τ sig ℕ) (h : ∀ v ∈ s, Above b (f v)) : Above b (∑ v ∈ s, f v) := by
  classical
  induction s using Finset.induction_on with
  | empty => rw [Finset.sum_empty]; exact above_zero b
  | insert a s ha ih =>
    rw [Finset.sum_insert ha]
    exact above_add (h a (Finset.mem_insert_self _ _)) (ih fun v hv => h v (Finset.mem_insert_of_mem hv))

theorem above_Owe (c : Dev nD) (u b : ℕ) (hb : b < u / 8 + 3) : Above b (Owe c u) := above_sum _ _ fun v hv => by
  have hv := Finset.mem_Ico.mp hv
  have h1 : u / 8 ≤ v / 8 := Nat.div_le_div_right hv.1
  have h2 : v / 8 < 30 := by omega
  refine above_add ?_ ?_
  · unfold payT; split
    · exact above_tally _ _ (by show b < v / 8 + 3; omega) (by show v / 8 + 3 < 64; omega)
    · exact above_zero b
  · unfold payC; split
    · exact above_tally _ _ (by show b < v / 8 + 3; omega) (by show v / 8 + 3 < 64; omega)
    · exact above_zero b
theorem above_OweI (c : Dev nD) (w b : ℕ) (hb : b < 2) : Above b (OweI c w) :=
  above_add (above_sum _ _ fun v _ => above_tally _ _ hb (by omega)) (above_Owe c 0 b (by omega))

/-- A wait at index `b` while only higher indices are owed. -/
theorem mayWait (c : Dev nD) (sm : SemLoc sig) (b : ℕ) (hb : b < 64) (O : CellTallies nD τ sig ℕ) (h : Above b O) :
    (levAts L lv : sProp 𝕄) ⊢ MayWait (c : Thread nD τ) sm b O :=
  MayOwe.of_cut (L := L) (lev := lv) b
    (fun p hp => by rw [Finset.mem_singleton.mp hp, L_tc]; exact Finset.mem_range.mpr hb)
    (fun g i hg => by
      have hh := h g i hg
      show i ∈ L g
      rw [show L g = Finset.range 64 from if_pos hh.2.2]; exact Finset.mem_range.mpr hh.2.1)
    (fun p hp => by rw [Finset.mem_singleton.mp hp]; exact Nat.le_refl b)
    (fun g i hg => (h g i hg).1)

theorem sum_Ico_bot {M : Type} [AddCommMonoid M] (f : ℕ → M) {a b : ℕ} (h : a < b) :
    ∑ v ∈ Finset.Ico a b, f v = f a + ∑ v ∈ Finset.Ico (a + 1) b, f v := by
  rw [show Finset.Ico a b = insert a (Finset.Ico (a + 1) b) from by
    ext i; simp only [Finset.mem_insert, Finset.mem_Ico]; omega]
  exact Finset.sum_insert (by simp only [Finset.mem_Ico]; omega)

theorem Owe_succ (c : Dev nD) (u : ℕ) (h : u < 240) : Owe c u = (Owe c (u + 1) + payC c (tOf u) (dOf u)) + payT c (tOf u) (jOf u) (dOf u) := by
  unfold Owe
  rw [sum_Ico_bot _ h]
  unfold pay
  rw [add_comm, add_comm (payT _ _ _ _), add_assoc]
theorem Owe_end (c : Dev nD) : Owe c 240 = 0 := by unfold Owe; rw [Finset.Ico_self, Finset.sum_empty]
theorem OweI_succ (c : Dev nD) (w : ℕ) (h : w < 8) : OweI c w = OweI c (w + 1) + payI c w := by
  unfold OweI
  rw [sum_Ico_bot _ h, add_assoc, add_comm]
theorem OweI_end (c : Dev nD) : OweI c 8 = Owe c 0 := by unfold OweI; rw [Finset.Ico_self, Finset.sum_empty, zero_add]

end Cert.KernelIdeal.Talk
-- ==== Proof.Prims.lean ====
/-
One rule per statement of the body.
-/
module

public import proofs.«01_k».proof.Proof.Sched

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

abbrev 𝒱₀ : Variants := Variants.none

/-! ## Views -/

section Views

variable (c : Dev nD) {sp : Space} {s : Shape} {e : EltTy} (m : Memref sig .tc sp s e)

theorem pts_of (q : PosShare TreeShare) (g : Buf (Elt F) (m.view.loc (c : Thread nD τ))) :
    (m.view.loc (c : Thread nD τ) ↦[m.view.set]{q} g : sProp 𝕄) = pts c m q (m.view.read (Elt F) g) :=
  pointsTo_rep (Ix := ℕ) (Name := ℕ) (U := UU) (Lvl := ℕ) (c : Thread nD τ) m g q

theorem read_pts (X : Vec F s e) : m.view.read (Elt F) (m.view.rep (Val := Elt F) X) = X := View.read_rep m.view X

theorem anyP_intro (X : Vec F s e) : pts c m fullShare X ⊢ (anyP c m : sProp 𝕄) := by
  unfold pts anyP
  iintro H; iexists _; iexact H

theorem pts_split (X : Vec F s e) : (pts c m fullShare X : sProp 𝕄) ⊢ iprop(pts c m hl X ∗ pts c m hr X) := by
  unfold pts
  exact (pointsTo_share (PosShare.mem_left_op_right fullShare)).1
theorem pts_join (X : Vec F s e) : iprop(pts c m hl X ∗ pts c m hr X) ⊢ (pts c m fullShare X : sProp 𝕄) := by
  unfold pts
  exact (pointsTo_share (PosShare.mem_left_op_right fullShare)).2

/-- Overwritten whole. -/
theorem write_pts (fd : Buf (Elt F) (m.view.loc (c : Thread nD τ))) (X : Vec F s e) :
    (m.view.loc (c : Thread nD τ) ↦[m.view.set]{fullShare} (m.view.write (Elt F) fd X Finset.univ) : sProp 𝕄) = pts c m fullShare X := by
  rw [pts_of]
  congr 1
  funext x
  exact View.read_write_of_mem _ _ (Finset.mem_univ _)

end Views

theorem drop_lift1 {e : EltTy} (v : Vec F S32x8192 e) : drop (lift1 v) = v := by
  funext x
  show v (Shape.reshapeEquiv _ (Shape.reshapeEquiv _ x)) = v x
  rw [Shape.reshapeEquiv_reshapeEquiv, Shape.reshapeEquiv_self]
theorem lift1_drop {e : EltTy} (v : Vec F S1x32x8192 e) : lift1 (drop v) = v := by
  funext x
  show v (Shape.reshapeEquiv _ (Shape.reshapeEquiv _ x)) = v x
  rw [Shape.reshapeEquiv_reshapeEquiv, Shape.reshapeEquiv_self]

section Mem

variable (c : Dev nD) {e : EltTy} (m : Memref sig .tc .vmem S2x128x8192 e) (p : Fin 2) (j : Fin 4)

theorem sub_set : (sub m p j).view.set = (m.access (subR p j)).set := View.set_reshape ..

theorem wp_ld {hl : m.view.LoadsAt (subR p j).toLoadRect} (q : PosShare TreeShare) (x : Vec F S32x8192 e) {α : Type}
    {k : Vec F S1x32x8192 e → Prog (TpuEff nD τ sig (Elt F) Λ₀ .tc) α} {Q : α → sProp 𝕄} :
    pts c (sub m p j) q x ⊢ iprop((pts c (sub m p j) q x -∗ wp frame (wpE (defs₀ (F := F)) 𝒱₀ c none) Set.univ (k (lift1 x)) Q)
      -∗ wp frame (wpE (defs₀ (F := F)) 𝒱₀ c none) Set.univ (.op (.load m (subR p j).toLoadRect hl) k) Q) := by
  have hv : (m.access (subR p j)).read (Elt F) ((sub m p j).view.rep (Val := Elt F) x) = lift1 x := by
    have h : drop ((m.access (subR p j)).read (Elt F) ((sub m p j).view.rep (Val := Elt F) x)) = x := read_pts (F := F) (sub m p j) x
    rw [← lift1_drop ((m.access (subR p j)).read (Elt F) ((sub m p j).view.rep (Val := Elt F) x)), h]
  rw [← hv]
  unfold pts
  rw [sub_set]
  exact wp_load_rect (r := subR p j) 𝒱₀ (c : Thread nD τ) none Set.univ (Finset.Subset.refl _)

theorem wp_ld_any {hl : m.view.LoadsAt (subR p j).toLoadRect} {α : Type}
    {k : Vec F S1x32x8192 e → Prog (TpuEff nD τ sig (Elt F) Λ₀ .tc) α} {Q : α → sProp 𝕄} :
    anyP c (sub m p j) ⊢ iprop((∀ v, anyP c (sub m p j) -∗ wp frame (wpE (defs₀ (F := F)) 𝒱₀ c none) Set.univ (k v) Q)
      -∗ wp frame (wpE (defs₀ (F := F)) 𝒱₀ c none) Set.univ (.op (.load m (subR p j).toLoadRect hl) k) Q) := by
  unfold anyP
  rw [sub_set]
  iintro ⟨%f, H⟩ Hk
  iapply (wp_load_rect (r := subR p j) 𝒱₀ (c : Thread nD τ) none Set.univ (Finset.Subset.refl _)) $$ H
  iintro H
  iapply Hk
  iexists f; iexact H

theorem wp_st {hx : (m.access (subR p j)).Stores Finset.univ} {hm : (Finset.univ : Finset (subR p j).shape.Idx) = Finset.univ ∨ ∀ a, (subR p j).stride a = 1}
    (x : Vec F S32x8192 e) {α : Type} {k : PUnit → Prog (TpuEff nD τ sig (Elt F) Λ₀ .tc) α} {Q : α → sProp 𝕄} :
    anyP c (sub m p j) ⊢ iprop((pts c (sub m p j) fullShare x -∗ wp frame (wpE (defs₀ (F := F)) 𝒱₀ c none) Set.univ (k ⟨⟩) Q)
      -∗ wp frame (wpE (defs₀ (F := F)) 𝒱₀ c none) Set.univ (.op (.store m (subR p j) (lift1 x) Finset.univ hx hm) k) Q) := by
  have hv (f : Buf (Elt F) ((sub m p j).view.loc (c : Thread nD τ))) :
      (sub m p j).view.read (Elt F) ((m.access (subR p j)).write (Elt F) f (lift1 x) Finset.univ) = x := by
    have h1 : (m.access (subR p j)).read (Elt F) ((m.access (subR p j)).write (Elt F) f (lift1 x) Finset.univ) = lift1 x := by
      funext y; exact View.read_write_of_mem _ _ (Finset.mem_univ _)
    show drop ((m.access (subR p j)).read (Elt F) ((m.access (subR p j)).write (Elt F) f (lift1 x) Finset.univ)) = x
    rw [h1, drop_lift1]
  unfold anyP
  iintro ⟨%f, H⟩ Hk
  have hp := pts_of (F := F) c (sub m p j) fullShare ((m.access (subR p j)).write (Elt F) f (lift1 x) Finset.univ)
  have hp' := Entails.of_eq (hp.trans (congrArg (pts c (sub m p j) fullShare) (hv f)))
  iapply (wp_store (r := subR p j) 𝒱₀ (c : Thread nD τ) none Set.univ (S := (sub m p j).view.set) (by rw [sub_set]; exact Finset.Subset.refl _)) $$ H
  iintro H
  iapply Hk
  iapply hp' $$ H

end Mem

/-! ## Chains -/

/-- Running a list of statements ends in `Q`. -/
def run (c : Dev nD) (l : List (PG (F := F))) (Q : sProp 𝕄) : sProp 𝕄 :=
  wp frame (wpE (defs₀ (F := F)) 𝒱₀ c none) Set.univ (Pipeline.chain l) fun _ => Q
/-- Running one statement ends in `Q`. -/
def run1 (c : Dev nD) (s : PG (F := F)) (Q : sProp 𝕄) : sProp 𝕄 :=
  wp frame (wpE (defs₀ (F := F)) 𝒱₀ c none) Set.univ s fun _ => Q

theorem run_nil (c : Dev nD) (Q : sProp 𝕄) : Q ⊢ run (F := F) c [] Q := by
  unfold run; rw [Pipeline.chain_nil, wp_pure]; iintro H; imodintro; iexact H

theorem run_cons (c : Dev nD) (s : PG (F := F)) (l : List (PG (F := F))) (A B Q : sProp 𝕄) (h : A ⊢ run1 c s B) :
    A ⊢ iprop((B -∗ run c l Q) -∗ run c (s :: l) Q) := by
  unfold run; unfold run1 at h
  rw [Pipeline.chain_cons, wp_bind]
  iintro HA Hk
  ihave H := h $$ HA
  iapply (wp_wand frame _ _) $$ H
  iintro %a HB
  iapply Hk; iexact HB

theorem run_wand (c : Dev nD) (l : List (PG (F := F))) (Q Q' : sProp 𝕄) : run c l Q ⊢ iprop((Q -∗ Q') -∗ run c l Q') := by
  unfold run
  iintro H Hk
  iapply (wp_wand frame _ _) $$ H
  iintro %a HB
  iapply Hk; iexact HB

theorem run_fupd (c : Dev nD) (l : List (PG (F := F))) (Q : sProp 𝕄) : iprop(|={Set.univ}=> run c l Q) ⊢ run c l Q := by
  unfold run; exact fupd_wp frame _ _ _ _
theorem run1_fupd (c : Dev nD) (s : PG (F := F)) (Q : sProp 𝕄) : iprop(|={Set.univ}=> run1 c s Q) ⊢ run1 c s Q := by
  unfold run1; exact fupd_wp frame _ _ _ _
theorem run_post (c : Dev nD) (l : List (PG (F := F))) (Q : sProp 𝕄) : run c l iprop(|={Set.univ}=> Q) ⊢ run c l Q := by
  unfold run; exact wp_fupd frame _ _ _ _

theorem run_append (c : Dev nD) (l l' : List (PG (F := F))) (Q : sProp 𝕄) : run c l (run c l' Q) ⊢ run c (l ++ l') Q := by
  induction l with
  | nil =>
    unfold run; rw [Pipeline.chain_nil, wp_pure]; exact fupd_wp frame _ _ _ _
  | cons s l ih =>
    unfold run at ih ⊢
    rw [List.cons_append, Pipeline.chain_cons, Pipeline.chain_cons, wp_bind, wp_bind]
    exact wp_mono frame _ _ fun _ => ih

/-! ## What every device knows -/

variable (P : Dev nD → Vec F S4096x8192 .bf16) (κ : GSem nD τ sig → ℕ) (ιs : Key → ℕ)

theorem mem_kinds : ∀ k : Kind, k ∈ kinds
  | .bar => by decide
  | .snd d p j => by revert d p j; decide
  | .rcv d p j => by revert d p j; decide
  | .cpy d p j => by revert d p j; decide
  | .sto d q => by revert d q; decide
  | .crd d => by revert d; decide

/-- What stands in a receive sub-block. -/
abbrev slotP (x : Key) : sProp 𝕄 := anyP x.1 (sub (recvM x.2.1) x.2.2.1 x.2.2.2)

/-- The level of every index. -/
@[irreducible] def Lev : sProp 𝕄 := levAts L lv
instance Lev_pers : BI.Persistent (Lev (F := F)) := by unfold Lev; infer_instance
theorem Lev_wait (c : Dev nD) (sm : SemLoc sig) (b : ℕ) (hb : b < 64) (O : CellTallies nD τ sig ℕ) (h : Above b O) :
    (Lev (F := F)) ⊢ (MayWait (c : Thread nD τ) sm b O : sProp 𝕄) := by
  unfold Lev; exact mayWait c sm b hb O h

def Cx : sProp 𝕄 :=
  iprop(Lev (F := F) ∗ (bigSep (Finset.univ ×ˢ kinds.toFinset : Finset (Dev nD × Kind)) fun x => cellInv (ER (F := F)) (Rd P) (κ (cell x.1 x.2)) (cell x.1 x.2))
    ∗ bigSep (Finset.univ : Finset Key) fun x => slotInv (ES (F := F)) (ιs x) x (slotP (F := F) x))

instance Cx_pers : BI.Persistent (Cx P κ ιs) := by unfold Cx; infer_instance

theorem Cx_wait (c : Dev nD) (sm : SemLoc sig) (b : ℕ) (hb : b < 64) (O : CellTallies nD τ sig ℕ) (h : Above b O) :
    Cx P κ ιs ⊢ (MayWait (c : Thread nD τ) sm b O : sProp 𝕄) := by
  unfold Cx
  iintro ⟨H, -⟩
  iapply (Lev_wait c sm b hb O h); iexact H
theorem Cx_cell (c : Dev nD) (k : Kind) : Cx P κ ιs ⊢ (cellInv (ER (F := F)) (Rd P) (κ (cell c k)) (cell c k) : sProp 𝕄) := by
  unfold Cx
  have h : (bigSep (Finset.univ ×ˢ kinds.toFinset : Finset (Dev nD × Kind)) fun x => cellInv (ER (F := F)) (Rd P) (κ (cell x.1 x.2)) (cell x.1 x.2) : sProp 𝕄)
      ⊢ cellInv (ER (F := F)) (Rd P) (κ (cell c k)) (cell c k) :=
    bigSep_elim (i := (c, k)) (Finset.mem_product.mpr ⟨Finset.mem_univ c, List.mem_toFinset.mpr (mem_kinds k)⟩)
  iintro ⟨-, H, -⟩; iapply h; iexact H
theorem Cx_slot (x : Key) : Cx P κ ιs ⊢ (slotInv (ES (F := F)) (ιs x) x (slotP (F := F) x) : sProp 𝕄) := by
  unfold Cx
  have h : (bigSep (Finset.univ : Finset Key) fun x => slotInv (ES (F := F)) (ιs x) x (slotP (F := F) x) : sProp 𝕄)
      ⊢ slotInv (ES (F := F)) (ιs x) x (slotP (F := F) x) := bigSep_elim (Finset.mem_univ x)
  iintro ⟨-, -, H⟩; iapply h; iexact H

/-- The core owes `O`. -/
def Ow (c : Dev nD) (O : CellTallies nD τ sig ℕ) : sProp 𝕄 := iprop(∃ W, owes (c : Thread nD τ) O W)
/-- The core stands before round `r` of its semaphore `k`. -/
def pos (c : Dev nD) (k : Kind) (r : ℕ) : sProp 𝕄 :=
  iprop(atPos (ER (F := F)) (cell c k) r ∅ 0 ∗ reached (ER (F := F)) (cell c k) r)
abbrev duty (c : Dev nD) (k : Kind) (r i : ℕ) : sProp 𝕄 := dutyTok (ER (F := F)) (cell c k) r i
abbrev crT (c : Dev nD) (k : Kind) (b n : ℕ) : sProp 𝕄 := cred (tallyAt (cell c k) b n)

theorem run1_mono (c : Dev nD) (s : PG (F := F)) (B B' : sProp 𝕄) (h : B ⊢ B') : run1 c s B ⊢ run1 c s B' := by
  unfold run1; exact wp_mono frame _ _ fun _ => h

/-! ## Waits and copies of one-duty rounds -/

section One

variable {P κ ιs}

theorem wait_dma (c : Dev nD) (k : Kind) (r b n : ℕ) (O : CellTallies nD τ sig ℕ) (hd : dutiesK k r = {0}) (hn : amountK k r = n)
    (hb : b < 64) (hO : Above b O) (sm : DmaSem sig) (hsm : semOf k = .dma sm)
    {sp sp' : Space} {s : Shape} {e : EltTy} {src : Memref sig .tc sp s e} {dst : Memref sig .tc sp' s e}
    {hsrc : src.view.WordExact} {hdst : dst.view.WordExact} (hN : dst.view.dmaCredit = n) :
    iprop(Cx P κ ιs ∗ crT c k b n ∗ Ow c O ∗ pos c k r)
      ⊢ run1 (F := F) c (Prog.lift (.waitDma2 sm src dst hsrc hdst)) iprop(Ow c O ∗ pos c k (r + 1) ∗ payK P c k r 0) := by
  unfold run1 Ow pos crT
  iintro ⟨#HC, Hc, ⟨%W, HO⟩, Hat, #Hr⟩
  ihave #HI := (Cx_cell P κ ιs c k) $$ HC
  have he := expect_one P c k r hd
  have hrest := rest_one P c k r hd
  unfold cell at he hrest ⊢
  rw [hsm] at he hrest ⊢
  rw [hn] at he
  subst hN
  iapply (Rounds.wp_wait_rest_token 𝒱₀ (ER (F := F)) (Rd P) (c : Thread nD τ) none (κ := κ ((c : Thread nD τ), SemLoc.dma sm))
      (wpE_waitDma2_eq (src := src) (dst := dst) 𝒱₀ (c : Thread nD τ) none Set.univ) (Set.mem_univ _) b (O := O) (W := W) (R := r) (m := 0) (T := ∅)
      ((Nat.zero_add _).trans he.symm)) $$ [Hc HO Hat]
  · isplitr; · iexact HI
    isplitl [Hc]; · iexact Hc
    isplitl [HO]; · iexact HO
    isplitr; · iapply (Cx_wait P κ ιs c (.dma sm) b hb O hO); iexact HC
    iexact Hat
  iintro ⟨HO, Hat, #Hr', Hpay⟩
  rw [wp_ret]
  imodintro
  isplitl [HO]; · iexists _; iexact HO
  isplitl [Hat]
  · isplitl [Hat]; · iexact Hat
    iexact Hr'
  iapply (Entails.of_eq hrest); iexact Hpay

theorem start_copy (c : Dev nD) (k : Kind) (r n : ℕ) (hd : dutiesK k r = {0}) (hn : amountK k r = n) (sm : DmaSem sig) (hsm : semOf k = .dma sm)
    {sp sp' : Space} {s : Shape} {e : EltTy} {src : Memref sig .tc sp s e} {dst : Memref sig .tc sp' s e}
    {hsrc : src.view.WordExact} {hdst : dst.view.WordExact} {hsem : DmaTarget.Typed (nD := nD) (τ := τ) (p := .tc) sp (.dma sm) (.here dst)}
    (hN : dst.view.dmaCredit = n) (fs : Buf (Elt F) (src.view.loc (c : Thread nD τ)))
    (hpay : iprop(pts c dst fullShare (src.view.read (Elt F) fs) ∗ (src.view.loc (c : Thread nD τ) ↦[src.view.set]{fullShare} fs)) ⊢ payK P c k r 0) :
    iprop(Cx P κ ιs ∗ (src.view.loc (c : Thread nD τ) ↦[src.view.set]{fullShare} fs) ∗ anyP c dst ∗ duty c k r 0 ∗ reached (ER (F := F)) (cell c k) r)
      ⊢ run1 (F := F) c (Prog.lift (.enqueueDma src (.here dst) (.dma sm) hsrc hdst hsem)) (crT c k 0 n) := by
  unfold run1 crT duty anyP
  iintro ⟨#HC, Hs, ⟨%fd, Hd⟩, Ht, #Hr⟩
  ihave #HI := (Cx_cell P κ ιs c k) $$ HC
  have hdu := duties_eq P c k r
  have ham := amount_eq P c k r 0
  have hpa := payload_eq P c k r 0
  unfold cell at hdu ham hpa ⊢
  rw [hsm] at hdu ham hpa ⊢
  iapply (Rounds.wp_copy_pointsTo 𝒱₀ (ER (F := F)) (Rd P) (c : Thread nD τ) none (src := src) (dst := dst) (sem := .dma sm) (q := fullShare)
      (fs := fs) (fd := fd) (r := r) (d := 0) (κ := κ ((c : Thread nD τ), SemLoc.dma sm))
      (by rw [hdu, hd]; exact Finset.mem_singleton_self _) 0 n hN (ham.trans hn)
      (by rw [hpa, write_pts]; exact hpay)) $$ [Hs Hd Ht]
  · isplitr; · iexact HI
    isplitl [Hs]; · iexact Hs
    isplitl [Hd]; · iexact Hd
    isplitl [Ht]; · iexact Ht
    iexact Hr
  iintro Hc
  rw [wp_ret]
  imodintro
  iexact Hc

end One

/-! ## The statements one by one -/

theorem two_par (t : ℕ) : 2 * (t / 2) + (par t).val = t := by show 2 * (t / 2) + t % 2 = t; omega

theorem duties_rcv (d : Fin 2) (j : Fin 4) (t : ℕ) (h : t < 30) : dutiesK (.rcv d (par t) j) (t / 2) = {0} := by
  show (if 2 * (t / 2) + (par t).val < 30 then _ else _) = _
  rw [two_par, if_pos h]
theorem duties_snd (d : Fin 2) (j : Fin 4) (t : ℕ) (h : t < 30) : dutiesK (.snd d (par t) j) (t / 2) = {0} := by
  show (if 2 * (t / 2) + (par t).val < 30 then _ else _) = _
  rw [two_par, if_pos h]
theorem duties_sto (d q : Fin 2) (r : ℕ) (h : r < 8) : dutiesK (.sto d q) r = {0} := if_pos h

/-- The round of load `t` of sub-block `j`. -/
def ldR (t : ℕ) (j : Fin 4) : ℕ := t / 2 + (if first (par t) j then 1 else 0)

theorem duties_cpy (d : Fin 2) (j : Fin 4) (t : ℕ) (h : t < 15) : dutiesK (.cpy d (par t) j) (ldR t j) = {0} := by
  have := two_par t
  unfold ldR
  show (if 2 * (t / 2 + (if first (par t) j then 1 else 0)) + (par t).val < (if first (par t) j then 17 else 15) then _ else _) = _
  by_cases hf : first (par t) j
  · rw [if_pos hf, if_pos hf, if_pos (by omega)]
  · rw [if_neg hf, if_neg hf, if_pos (by omega)]
theorem amount_cpy (d : Fin 2) (j : Fin 4) (t : ℕ) : amountK (.cpy d (par t) j) (ldR t j) = N32 := by
  unfold ldR
  show (if first (par t) j ∧ (t / 2 + (if first (par t) j then 1 else 0)) = 0 then _ else _) = _
  refine if_neg fun h => ?_
  rw [if_pos h.1] at h
  omega

section Each

variable {P κ ιs}

theorem pay_cpy (c : Dev nD) (d : Fin 2) (j : Fin 4) (t : ℕ) (h : t < 15) :
    payK P c (.cpy d (par t) j) (ldR t j) 0 = cpyPay P d c (t15 t) (par t) j := by
  unfold ldR
  show (if first (par t) j then (if t / 2 + (if first (par t) j then 1 else 0) = 0 then _ else
      cpyPay P d c (t15 (2 * (t / 2 + (if first (par t) j then 1 else 0) - 1) + (par t).val)) (par t) j)
    else cpyPay P d c (t15 (2 * (t / 2 + (if first (par t) j then 1 else 0)) + (par t).val)) (par t) j) = _
  by_cases hf : first (par t) j
  · rw [if_pos hf, if_pos hf, if_neg (by omega), Nat.add_sub_cancel, two_par]
  · rw [if_neg hf, if_neg hf, Nat.add_zero, two_par]

theorem tr_recvWait (c : Dev nD) (d : Fin 2) (j : Fin 4) (t : ℕ) (ht : t < 30) (O : CellTallies nD τ sig ℕ) (hO : Above (t + 2) O) :
    iprop(Cx P κ ιs ∗ crT c (.rcv d (par t) j) (t + 2) N32 ∗ Ow c O ∗ pos c (.rcv d (par t) j) (t / 2))
      ⊢ run1 (F := F) c (recvWait F d (par t) j)
        iprop(Ow c O ∗ pos c (.rcv d (par t) j) (t / 2 + 1) ∗ pts c (sub (recvM d) (par t) j) fullShare (X P d j t (ackN d c))) := by
  have hp : payK P c (.rcv d (par t) j) (t / 2) 0 = pts c (sub (recvM d) (par t) j) fullShare (X P d j t (ackN d c)) := by
    show pts c _ fullShare (X P d j (2 * (t / 2) + (par t).val) _) = _; rw [two_par]
  rw [← hp]
  exact wait_dma c (.rcv d (par t) j) (t / 2) (t + 2) N32 O (duties_rcv d j t ht) rfl (by omega) hO _ rfl (amt_recv d (par t) j)

theorem tr_sendWait (c : Dev nD) (d : Fin 2) (j : Fin 4) (t : ℕ) (ht : t < 30) (O : CellTallies nD τ sig ℕ) (hO : Above 0 O) :
    iprop(Cx P κ ιs ∗ crT c (.snd d (par t) j) 0 N32 ∗ Ow c O ∗ pos c (.snd d (par t) j) (t / 2))
      ⊢ run1 (F := F) c (sendWait F d (par t) j)
        iprop(Ow c O ∗ pos c (.snd d (par t) j) (t / 2 + 1) ∗ pts c (sub (sendM d) (par t) j) hl (X P d j t c)) := by
  have hp : payK P c (.snd d (par t) j) (t / 2) 0 = pts c (sub (sendM d) (par t) j) hl (X P d j t c) := by
    show pts c _ hl (X P d j (2 * (t / 2) + (par t).val) _) = _; rw [two_par]
  rw [← hp]
  exact wait_dma c (.snd d (par t) j) (t / 2) 0 N32 O (duties_snd d j t ht) rfl (by omega) hO _ rfl (amt_send d (par t) j)

theorem tr_ldWait (c : Dev nD) (d : Fin 2) (j : Fin 4) (t : ℕ) (ht : t < 15) (O : CellTallies nD τ sig ℕ) (hO : Above 0 O) :
    iprop(Cx P κ ιs ∗ crT c (.cpy d (par t) j) 0 N32 ∗ Ow c O ∗ pos c (.cpy d (par t) j) (ldR t j))
      ⊢ run1 (F := F) c (ldWait F d c (t15 t) (par t) j)
        iprop(Ow c O ∗ pos c (.cpy d (par t) j) (ldR t j + 1) ∗ cpyPay P d c (t15 t) (par t) j) := by
  rw [← pay_cpy c d j t ht]
  exact wait_dma c (.cpy d (par t) j) (ldR t j) 0 N32 O (duties_cpy d j t ht) (amount_cpy d j t) (by omega) hO _ rfl (amt_loc d (par t) j)

theorem read_in (c : Dev nD) (d : Fin 2) (t : Fin 15) (j : Fin 4) :
    (inM d c t j).view.read (Elt F) (P c : Buf (Elt F) ((inM d c t j).view.loc (c : Thread nD τ))) = chunkRow P d c (t.val + 1) j := by
  funext x
  show P c ((inR d c t j).emb x) = P c _
  refine congrArg (P c) (funext fun a => Fin.ext ?_)
  have h := congrFun (inOff_eq c d t j) a
  match a with
  | 0 => show inOff d c t j 0 + 1 * (x 0).val = _; rw [h, Nat.one_mul]; rfl
  | 1 => show inOff d c t j 1 + 1 * (x 1).val = _; rw [h, Nat.one_mul]; exact Nat.zero_add _

theorem tr_ldStart (c : Dev nD) (d : Fin 2) (j : Fin 4) (t : ℕ) (ht : t < 15) :
    iprop(Cx P κ ιs ∗ win P d c (t15 t) j ∗ anyP c (sub (locM d) (par t) j) ∗ duty c (.cpy d (par t) j) (ldR t j) 0
        ∗ reached (ER (F := F)) (cell c (.cpy d (par t) j)) (ldR t j))
      ⊢ run1 (F := F) c (ldStart F d c (t15 t) (par t) j) (crT c (.cpy d (par t) j) 0 N32) := by
  have hpay : iprop(pts c (sub (locM d) (par t) j) fullShare ((inM d c (t15 t) j).view.read (Elt F) (P c : Buf (Elt F) ((inM d c (t15 t) j).view.loc (c : Thread nD τ)))) ∗ win P d c (t15 t) j)
      ⊢ payK P c (.cpy d (par t) j) (ldR t j) 0 := by
    rw [pay_cpy c d j t ht, read_in]; exact .rfl
  exact start_copy (src := inM d c (t15 t) j) (dst := sub (locM d) (par t) j) c (.cpy d (par t) j) (ldR t j) N32 (duties_cpy d j t ht) (amount_cpy d j t) (cell4 (copyA d) (par t) j) rfl (amt_loc d (par t) j)
    (P c : Buf (Elt F) ((inM d c (t15 t) j).view.loc (c : Thread nD τ))) hpay

theorem read_me (c : Dev nD) (d : Fin 2) :
    (meM d c).view.read (Elt F) (P c : Buf (Elt F) ((meM d c).view.loc (c : Thread nD τ))) = glue fun j => chunkRow P d c 0 j := by
  funext x
  show P c ((meR d c).emb x) = P c _
  refine congrArg (P c) (funext fun a => Fin.ext ?_)
  have h := congrFun (meOff_eq c d) a
  match a with
  | 0 =>
    show meOff d c 0 + 1 * (x 0).val = 2048 * d.val + 128 * (cidx d c 0).val + 32 * ((x 0).val / 32) + (x 0).val % 32
    rw [h, Nat.one_mul]
    show 2048 * d.val + 128 * (cidx d c 0).val + (x 0).val = _
    omega
  | 1 => show meOff d c 1 + 1 * (x 1).val = _; rw [h, Nat.one_mul]; exact Nat.zero_add _

theorem tr_meStart (c : Dev nD) (d : Fin 2) :
    iprop(Cx P κ ιs ∗ winMe P d c ∗ anyP c (slot (sendM d) 0) ∗ duty c (.cpy d 0 0) 0 0 ∗ reached (ER (F := F)) (cell c (.cpy d 0 0)) 0)
      ⊢ run1 (F := F) c (meStart F d c) (crT c (.cpy d 0 0) 0 N128) := by
  have hpay : iprop(pts c (slot (sendM d) 0) fullShare ((meM d c).view.read (Elt F) (P c : Buf (Elt F) ((meM d c).view.loc (c : Thread nD τ)))) ∗ winMe P d c)
      ⊢ payK P c (.cpy d 0 0) 0 0 := by
    rw [read_me]; exact .rfl
  exact start_copy (src := meM d c) (dst := slot (sendM d) 0) c (.cpy d 0 0) 0 N128 (by rfl) (by rfl) (cell4 (copyA d) 0 0) rfl (amt_slot d 0)
    (P c : Buf (Elt F) ((meM d c).view.loc (c : Thread nD τ))) hpay
theorem tr_meWait (c : Dev nD) (d : Fin 2) (O : CellTallies nD τ sig ℕ) (hO : Above 0 O) :
    iprop(Cx P κ ιs ∗ crT c (.cpy d 0 0) 0 N128 ∗ Ow c O ∗ pos c (.cpy d 0 0) 0)
      ⊢ run1 (F := F) c (meWait F d c) iprop(Ow c O ∗ pos c (.cpy d 0 0) 1 ∗ mePay P d c) :=
  wait_dma c (.cpy d 0 0) 0 0 N128 O (by rfl) (by rfl) (by omega) hO _ rfl (amt_slot d 0)

theorem par_succ_val (s : ℕ) : 2 * (s / 2) + (1 - (par (s + 1)).val) = s := by
  show 2 * (s / 2) + (1 - (s + 1) % 2) = s; omega

theorem pay_sto (c : Dev nD) (d : Fin 2) (s : ℕ) :
    payK P c (.sto d (par (s + 1))) (s / 2) 0 = stoPay P d c (s16 s) (par (s + 1)) := by
  show stoPay P d c (s16 (2 * (s / 2) + (1 - (par (s + 1)).val))) _ = _
  rw [par_succ_val]

theorem tr_stStart (c : Dev nD) (d : Fin 2) (s : ℕ) (hs : s < 16) :
    iprop(Cx P κ ιs ∗ pts c (slot (fstM d) (par (s + 1))) fullShare (stored P d c s) ∗ anyP c (outW d c (s16 s))
        ∗ duty c (.sto d (par (s + 1))) (s / 2) 0 ∗ reached (ER (F := F)) (cell c (.sto d (par (s + 1)))) (s / 2))
      ⊢ run1 (F := F) c (stStart F d c (s16 s) (par (s + 1))) (crT c (.sto d (par (s + 1))) 0 NF) := by
  have hpay : iprop(pts c (outW d c (s16 s)) fullShare ((slot (fstM d) (par (s + 1))).view.read (Elt F) ((slot (fstM d) (par (s + 1))).view.rep (Val := Elt F) (stored P d c s)))
        ∗ pts c (slot (fstM d) (par (s + 1))) fullShare (stored P d c s))
      ⊢ payK P c (.sto d (par (s + 1))) (s / 2) 0 := by
    rw [pay_sto, read_pts]
    unfold stoPay
    rw [show (s16 s).val = s from Nat.mod_eq_of_lt hs]
    exact sep_mono .rfl (anyP_intro c _ (stored P d c s))
  exact start_copy (src := slot (fstM d) (par (s + 1))) (dst := outW d c (s16 s)) c (.sto d (par (s + 1))) (s / 2) NF (duties_sto _ _ _ (by omega)) rfl (cell2 (storeA d) (par (s + 1))) rfl (amt_out d c (s16 s))
    ((slot (fstM d) (par (s + 1))).view.rep (Val := Elt F) (stored P d c s)) hpay
theorem tr_stWait (c : Dev nD) (d : Fin 2) (s : ℕ) (hs : s < 16) (O : CellTallies nD τ sig ℕ) (hO : Above 0 O) :
    iprop(Cx P κ ιs ∗ crT c (.sto d (par (s + 1))) 0 NF ∗ Ow c O ∗ pos c (.sto d (par (s + 1))) (s / 2))
      ⊢ run1 (F := F) c (stWait F d c (s16 s) (par (s + 1)))
        iprop(Ow c O ∗ pos c (.sto d (par (s + 1))) (s / 2 + 1) ∗ stoPay P d c (s16 s) (par (s + 1))) := by
  rw [← pay_sto c d s]
  exact wait_dma c (.sto d (par (s + 1))) (s / 2) 0 NF O (duties_sto _ _ _ (by omega)) rfl (by omega) hO _ rfl (amt_out d c (s16 s))

/-- Transfer `t`: half of what it sends stays behind. -/
theorem tr_rdma (c : Dev nD) (d : Fin 2) (j : Fin 4) (t : ℕ) (ht : t < 30) (O : CellTallies nD τ sig ℕ) :
    iprop(Cx P κ ιs ∗ pts c (sub (sendM d) (par t) j) fullShare (X P d j t c)
        ∗ released (ES (F := F)) (peerN d c, d, par t, j) (t / 2 + 1) ∗ writeTok (ES (F := F)) (peerN d c, d, par t, j) (t / 2 + 1)
        ∗ reached (ER (F := F)) (cell (peerN d c) (.rcv d (par t) j)) (t / 2)
        ∗ Ow c (O + tallyAt (cell (peerN d c) (.rcv d (par t) j)) (t + 2) N32)
        ∗ duty c (.snd d (par t) j) (t / 2) 0 ∗ reached (ER (F := F)) (cell c (.snd d (par t) j)) (t / 2)
        ∗ duty (peerN d c) (.rcv d (par t) j) (t / 2) 0)
      ⊢ run1 (F := F) c (rdma F d c (par t) j)
        iprop(crT c (.snd d (par t) j) 0 N32 ∗ Ow c O ∗ pts c (sub (sendM d) (par t) j) hr (X P d j t c)) := by
  rw [show Ow (F := F) c (O + tallyAt (cell (peerN d c) (.rcv d (par t) j)) (t + 2) N32) = iprop(∃ W, owes (c : Thread nD τ) (O + tallyAt (cell (peerN d c) (.rcv d (par t) j)) (t + 2) N32) W) from rfl]
  iintro ⟨#HC, Hs, #Hrel, Hw, #Hrr, ⟨%W, HO⟩, Hts, #Hrs, Htr⟩
  ihave #HI1 := (Cx_cell P κ ιs c (.snd d (par t) j)) $$ HC
  ihave #HI2 := (Cx_cell P κ ιs (peerN d c) (.rcv d (par t) j)) $$ HC
  ihave #HSl := (Cx_slot P κ ιs (peerN d c, d, par t, j)) $$ HC
  iapply (run1_fupd c _ _)
  have hst := slot_take (ES (F := F)) (ι := ιs (peerN d c, d, par t, j)) (k := (peerN d c, d, par t, j)) (Es := Set.univ)
    (S := anyP (peerN d c) (sub (recvM d) (par t) j)) (Set.mem_univ _) (t / 2 + 1)
  rw [show (anyP (F := F) (peerN d c) (sub (recvM d) (par t) j) : sProp 𝕄) = iprop(∃ f : Buf (Elt F) ((sub (recvM d) (par t) j).view.loc (peerN d c : Thread nD τ)),
    (sub (recvM d) (par t) j).view.loc (peerN d c : Thread nD τ) ↦[(sub (recvM d) (par t) j).view.set]{fullShare} f) from rfl] at hst
  imod hst $$ [Hw] with ⟨%fd, Hd⟩
  · isplitr; · iexact HSl
    isplitr; · iexact Hrel
    iexact Hw
  imodintro
  ihave Hs := (pts_split c _ _) $$ Hs
  icases Hs with ⟨Hl, Hr⟩
  have hp1 : payK P c (.snd d (par t) j) (t / 2) 0 = pts c (sub (sendM d) (par t) j) hl (X P d j t c) := by
    show pts c _ hl (X P d j (2 * (t / 2) + (par t).val) _) = _; rw [two_par]
  have hp2 : payK P (peerN d c) (.rcv d (par t) j) (t / 2) 0 = pts (peerN d c) (sub (recvM d) (par t) j) fullShare (X P d j t c) := by
    show pts (peerN d c) _ fullShare (X P d j (2 * (t / 2) + (par t).val) (ackN d (peerN d c))) = _; rw [two_par, ackN_peerN]
  have hpay1 : ((sub (sendM d) (par t) j).view.loc (c : Thread nD τ) ↦[(sub (sendM d) (par t) j).view.set]{hl} (sub (sendM d) (par t) j).view.rep (Val := Elt F) (X P d j t c) : sProp 𝕄)
      ⊢ (Rd (F := F) P).payload (cell c (.snd d (par t) j)) (t / 2) 0 := by
    rw [payload_eq, hp1]; exact .rfl
  have hpay2 : ((sub (recvM d) (par t) j).view.loc (peerN d c : Thread nD τ) ↦[(sub (recvM d) (par t) j).view.set]{fullShare}
        (sub (recvM d) (par t) j).view.write (Elt F) fd ((sub (sendM d) (par t) j).view.read (Elt F) ((sub (sendM d) (par t) j).view.rep (Val := Elt F) (X P d j t c))) Finset.univ : sProp 𝕄)
      ⊢ (Rd (F := F) P).payload (cell (peerN d c) (.rcv d (par t) j)) (t / 2) 0 := by
    rw [payload_eq, hp2, write_pts, read_pts]
  unfold run1 rdma pts
  iapply (Rounds.wp_send_pointsTo 𝒱₀ (ER (F := F)) (Rd P) (c : Thread nD τ) none (c' := (peerN d c : Thread nD τ)) (src := sub (sendM d) (par t) j) (dst := sub (recvM d) (par t) j)
      (sS := .dma (cell4 (sendA d) (par t) j)) (sem := .dma (cell4 (recvA d) (par t) j)) (q := hl) (fs := (sub (sendM d) (par t) j).view.rep (Val := Elt F) (X P d j t c))
      (κ₁ := κ (cell c (.snd d (par t) j))) (κ₂ := κ (cell (peerN d c) (.rcv d (par t) j)))
      (r₁ := t / 2) (r₂ := t / 2) (d₁ := 0) (d₂ := 0) (fd := fd)
      ((duties_eq P c (.snd d (par t) j) (t / 2)).trans (duties_snd d j t ht) ▸ Finset.mem_singleton_self _)
      ((duties_eq P (peerN d c) (.rcv d (par t) j) (t / 2)).trans (duties_rcv d j t ht) ▸ Finset.mem_singleton_self _)
      (t + 2) 0 N32 (amt_recv d (par t) j) (amount_eq P c (.snd d (par t) j) (t / 2) 0) (amount_eq P (peerN d c) (.rcv d (par t) j) (t / 2) 0)
      O rfl (W := W) hpay1 hpay2) $$ [Hl Hd HO Hts Htr]
  · isplitr; · iexact HI1
    isplitr; · iexact HI2
    isplitl [Hl]; · iexact Hl
    isplitl [Hd]; · iexact Hd
    isplitl [HO]; · iexact HO
    isplitl [Hts]; · iexact Hts
    isplitr; · iexact Hrs
    isplitl [Htr]; · iexact Htr
    iexact Hrr
  iintro ⟨Hc, HO⟩
  rw [wp_ret]
  imodintro
  isplitl [Hc]; · iexact Hc
  isplitl [HO]; · unfold Ow; iexists W; iexact HO
  iexact Hr

end Each

end Cert.KernelIdeal.Talk
-- ==== Proof.Prims2.lean ====
/-
The rules of the signals, the credit waits and the arithmetic.
-/
module

public import proofs.«01_k».proof.Proof.Prims

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

variable {P : Dev nD → Vec F S4096x8192 .bf16} {κ : GSem nD τ sig → ℕ} {ιs : Key → ℕ}

/-! ## Signals -/

theorem par_val : ∀ d : Fin 2, par d.val = d := by decide
theorem mem_bar : ∀ d : Fin 2, d.val ∈ dutiesK .bar 0 := by decide

/-- A signal of one unit paying duty `i` of round `0`. -/
theorem signal_one (c a : Dev nD) (k : Kind) (i b : ℕ) (sm : Sem sig) (hsm : semOf k = .reg sm) (hd : i ∈ dutiesK k 0) (hn : amountK k 0 = 1)
    (O : CellTallies nD τ sig ℕ) :
    iprop(Cx P κ ιs ∗ payK P a k 0 i ∗ Ow c (O + tallyAt (cell a k) b 1) ∗ duty a k 0 i ∗ reached (ER (F := F)) (cell a k) 0)
      ⊢ run1 (F := F) c (.op (.semSignal (Dev.tc a) sm ((1 : ℕ) : ℤ)) .ret) (Ow c O) := by
  rw [show Ow (F := F) c (O + tallyAt (cell a k) b 1) = iprop(∃ W, owes (c : Thread nD τ) (O + tallyAt (cell a k) b 1) W) from rfl]
  iintro ⟨#HC, Hp, ⟨%W, HO⟩, Ht, #Hr⟩
  ihave #HI := (Cx_cell P κ ιs a k) $$ HC
  have hdu := duties_eq P a k 0
  have ham := amount_eq P a k 0 i
  have hpa := payload_eq P a k 0 i
  unfold run1 duty
  unfold cell at hdu ham hpa ⊢
  rw [hsm] at hdu ham hpa ⊢
  iapply (Rounds.wp_signal 𝒱₀ (ER (F := F)) (Rd P) (c : Thread nD τ) none (dst := (a : Thread nD τ)) (sem := sm) (r := 0) (d := i) (k' := 1)
      (κ := κ ((a : Thread nD τ), SemLoc.reg sm)) (by rw [hdu]; exact hd) (ham.trans hn) b O rfl) $$ [HO Ht Hp]
  · isplitr; · iexact HI
    isplitl [HO]; · iexact HO
    isplitl [Ht]; · iexact Ht
    isplitl [Hp]
    · rw [hpa]; iexact Hp
    · iexact Hr
  iintro HO
  rw [wp_ret]
  imodintro
  unfold Ow
  iexists W; iexact HO

theorem tr_barSig (c : Dev nD) (d : Fin 2) (O : CellTallies nD τ sig ℕ) :
    iprop(Cx P κ ιs ∗ barPay c d ∗ Ow c (O + payB c d) ∗ duty (ackN d c) .bar 0 d.val ∗ reached (ER (F := F)) (cell (ackN d c) .bar) 0)
      ⊢ run1 (F := F) c (barSig F d c) (Ow c O) := by
  have hp : payK P (ackN d c) .bar 0 d.val = barPay c d := by
    show barPay (peerN (par d.val) (ackN d c)) (par d.val) = _; rw [par_val, peerN_ackN]
  rw [← hp]
  exact signal_one c (ackN d c) .bar d.val 1 _ rfl (mem_bar d) rfl O

theorem tr_credSig (c : Dev nD) (d : Fin 2) (i b : ℕ) (hi : i < 112) (O : CellTallies nD τ sig ℕ) :
    iprop(Cx P κ ιs ∗ credPay c d (i + 1) ∗ Ow c (O + tallyAt (cell (ackN d c) (.crd d)) b 1) ∗ duty (ackN d c) (.crd d) 0 i
        ∗ reached (ER (F := F)) (cell (ackN d c) (.crd d)) 0)
      ⊢ run1 (F := F) c (credSig F d c) (Ow c O) := by
  have hp : payK P (ackN d c) (.crd d) 0 i = credPay c d (i + 1) := by
    show credPay (peerN d (ackN d c)) d (i + 1) = _; rw [peerN_ackN]
  rw [← hp]
  exact signal_one c (ackN d c) (.crd d) i b _ rfl (Finset.mem_range.mpr hi) rfl O

/-! ## The barrier's wait and the credit's -/

theorem expect_bar (c : Dev nD) : (Rd (F := F) P).expect (cell c .bar) 0 = 2 := by rw [expect_eq]; rfl

theorem tr_barWait (c : Dev nD) (O : CellTallies nD τ sig ℕ) (hO : Above 1 O) :
    iprop(Cx P κ ιs ∗ crT c .bar 1 2 ∗ Ow c O ∗ pos c .bar 0)
      ⊢ run1 (F := F) c (barWait F) iprop(Ow c O ∗ pos c .bar 1 ∗ barPay (peerN 0 c) 0 ∗ barPay (peerN 1 c) 1) := by
  rw [show Ow (F := F) c O = iprop(∃ W, owes (c : Thread nD τ) O W) from rfl]
  unfold pos
  iintro ⟨#HC, Hc, ⟨%W, HO⟩, Hat, -⟩
  ihave #HI := (Cx_cell P κ ιs c .bar) $$ HC
  unfold run1 barWait crT semWaitWord
  have hrest : bigSep ((Rd (F := F) P).duties (cell c .bar) 0 \ ∅) (fun i => (Rd (F := F) P).payload (cell c .bar) 0 i)
      ⊢ iprop(barPay (peerN 0 c) 0 ∗ barPay (peerN 1 c) 1) := by
    rw [Finset.sdiff_empty, duties_eq, show dutiesK .bar 0 = {0, 1} from rfl, bigSep_insert (by decide), bigSep_singleton, payload_eq, payload_eq]
    exact .rfl
  iapply (Rounds.wp_wait_rest_token 𝒱₀ (ER (F := F)) (Rd P) (c : Thread nD τ) none (κ := κ (cell c .bar))
      (wpE_semWait_eq 𝒱₀ (c : Thread nD τ) none Set.univ) (Set.mem_univ _) 1 (O := O) (W := W) (R := 0) (m := 0) (T := ∅) (k' := 2)
      ((Nat.zero_add _).trans (expect_bar c).symm)) $$ [Hc HO Hat]
  · isplitr; · iexact HI
    isplitl [Hc]; · iexact Hc
    isplitl [HO]; · iexact HO
    isplitr; · iapply (Cx_wait P κ ιs c _ 1 (by omega) O hO); iexact HC
    iexact Hat
  iintro ⟨HO, Hat, #Hr', Hpay⟩
  rw [wp_ret]
  imodintro
  isplitl [HO]; · iexists _; iexact HO
  isplitl [Hat]
  · isplitl [Hat]; · iexact Hat
    iexact Hr'
  iapply hrest; iexact Hpay

/-- The core has taken `m` of the `112` credits of direction `d`. -/
def Cr (c : Dev nD) (d : Fin 2) (m : ℕ) : sProp 𝕄 :=
  if m < 112 then iprop(∃ S : Finset ℕ, atPos (ER (F := F)) (cell c (.crd d)) 0 S m ∗ bigSep S fun i => credPay (F := F) (peerN d c) d (i + 1))
  else atPos (ER (F := F)) (cell c (.crd d)) 1 ∅ 0

theorem expect_crd (c : Dev nD) (d : Fin 2) : (Rd (F := F) P).expect (cell c (.crd d)) 0 = 112 := by
  rw [expect_eq]
  show (Finset.range 112).card * 1 = 112
  rw [Finset.card_range]

theorem credPay_fact (a : Dev nD) (d : Fin 2) (i m : ℕ) (h : m ≤ i) : credPay (F := F) a d (i + 1) ⊢ credFact (F := F) a d m := by
  unfold credPay
  exact bigSep_elim (Φ := fun i' => credFact (F := F) a d i') (Finset.mem_range.mpr (by omega))

theorem credPay_mem (a : Dev nD) (d : Fin 2) (S : Finset ℕ) (i : ℕ) (h : i ∈ S) :
    (bigSep S fun i => credPay (F := F) a d (i + 1)) ⊢ credPay (F := F) a d (i + 1) :=
  bigSep_elim (Φ := fun i => credPay (F := F) a d (i + 1)) h

theorem credPay_succ (a : Dev nD) (d : Fin 2) (i : ℕ) : iprop(credPay (F := F) a d i ∗ credFact (F := F) a d i) ⊢ credPay (F := F) a d (i + 1) := by
  unfold credPay
  rw [show (bigSep (Finset.range (i + 1)) fun i' => credFact (F := F) a d i') = iprop(credFact (F := F) a d i ∗ bigSep (Finset.range i) fun i' => credFact (F := F) a d i') from by
    rw [Finset.range_add_one, bigSep_insert Finset.notMem_range_self]; rfl]
  iintro ⟨#H1, #H2⟩
  isplitr; · iexact H2
  iexact H1

theorem tr_credWait (c : Dev nD) (d : Fin 2) (m b : ℕ) (hm : m < 112) (hb : b < 64) (O : CellTallies nD τ sig ℕ) (hO : Above b O) :
    iprop(Cx P κ ιs ∗ crT c (.crd d) b 1 ∗ Ow c O ∗ Cr c d m)
      ⊢ run1 (F := F) c (credWait F d) iprop(Ow c O ∗ Cr c d (m + 1) ∗ credFact (peerN d c) d m) := by
  rw [show Ow (F := F) c O = iprop(∃ W, owes (c : Thread nD τ) O W) from rfl,
    show Cr (F := F) c d m = iprop(∃ S : Finset ℕ, atPos (ER (F := F)) (cell c (.crd d)) 0 S m ∗ bigSep S fun i => credPay (F := F) (peerN d c) d (i + 1)) from if_pos hm]
  iintro ⟨#HC, Hc, ⟨%W, HO⟩, ⟨%T, Hat, #HT⟩⟩
  ihave #HI := (Cx_cell P κ ιs c (.crd d)) $$ HC
  unfold run1 credWait crT semWaitWord
  have hdu := duties_eq P c (.crd d) 0
  rw [show dutiesK (.crd d) 0 = Finset.range 112 from rfl] at hdu
  have hpay (S : Finset ℕ) : bigSep S (fun i => (Rd (F := F) P).payload (cell c (.crd d)) 0 i) = bigSep S fun i => credPay (F := F) (peerN d c) d (i + 1) :=
    bigSep_congr fun i _ => payload_eq P c (.crd d) 0 i
  by_cases hl : m + 1 < 112
  · iapply (Rounds.wp_wait 𝒱₀ (ER (F := F)) (Rd P) (c : Thread nD τ) none (κ := κ (cell c (.crd d)))
        (wpE_semWait_eq 𝒱₀ (c : Thread nD τ) none Set.univ) (Set.mem_univ _) {(semOf (.crd d), b)} (cr := Finsupp.single b 1) (k' := 1) (O := O) (W := W) (R := 0) (m := m) (T := T)
        (by rw [Util.total_single]) (image_single_subset _ b 1)) $$ [Hc HO Hat]
    · isplitr; · iexact HI
      isplitl [Hc]; · iexact Hc
      isplitl [HO]; · iexact HO
      isplitr; · iapply (Cx_wait P κ ιs c _ b hb O hO); iexact HC
      iexact Hat
    iintro %S ⟨%hS, HO, Hat, Hpay⟩
    rw [show (Rd (F := F) P).expect ((c : Thread nD τ), SemLoc.reg (creditA d).sem) 0 = 112 from expect_crd c d, show (Rd (F := F) P).duties ((c : Thread nD τ), SemLoc.reg (creditA d).sem) 0 = Finset.range 112 from hdu] at hS
    obtain ⟨hTS, hSd, hcard⟩ := hS
    have hrest : bigSep (S \ T) (fun i => (Rd (F := F) P).payload ((c : Thread nD τ), SemLoc.reg (creditA d).sem) 0 i)
        ⊢ bigSep (S \ T) fun i => credPay (F := F) (peerN d c) d (i + 1) := Entails.of_eq (hpay _)
    ihave #Hpay := hrest $$ Hpay
    have hu : iprop((bigSep T fun i => credPay (F := F) (peerN d c) d (i + 1)) ∗ bigSep (S \ T) fun i => credPay (F := F) (peerN d c) d (i + 1))
        ⊢ bigSep S fun i => credPay (F := F) (peerN d c) d (i + 1) := by
      conv_rhs => rw [← Finset.union_sdiff_of_subset hTS]
      rw [bigSep_union Finset.disjoint_sdiff]
      exact .rfl
    obtain ⟨i, hi, hmi⟩ : ∃ i ∈ S, m ≤ i := by
      by_contra hn
      have hsub : S ⊆ Finset.range m := fun i hi => Finset.mem_range.mpr (by
        by_contra h; exact hn ⟨i, hi, by omega⟩)
      have h1 := Finset.card_le_card hsub
      have h2 := Finset.card_sdiff_add_card_eq_card hSd
      rw [Finset.card_range] at h1 h2
      omega
    ihave #Hall := hu $$ []
    · isplitr; · iexact HT
      iexact Hpay
    rw [wp_ret]
    imodintro
    isplitl [HO]; · iexists _; iexact HO
    isplitl [Hat]
    · rw [show Cr (F := F) c d (m + 1) = iprop(∃ S : Finset ℕ, atPos (ER (F := F)) (cell c (.crd d)) 0 S (m + 1) ∗ bigSep S fun i => credPay (F := F) (peerN d c) d (i + 1)) from if_pos hl]
      iexists S
      isplitl [Hat]; · iexact Hat
      iexact Hall
    · iapply (credPay_fact (peerN d c) d i m hmi)
      iapply (credPay_mem (peerN d c) d S i hi)
      iexact Hall
  · iapply (Rounds.wp_wait_rest_token 𝒱₀ (ER (F := F)) (Rd P) (c : Thread nD τ) none (κ := κ (cell c (.crd d)))
        (wpE_semWait_eq 𝒱₀ (c : Thread nD τ) none Set.univ) (Set.mem_univ _) b (O := O) (W := W) (R := 0) (m := m) (T := T) (k' := 1)
        ((show m + 1 = 112 by omega).trans (expect_crd c d).symm)) $$ [Hc HO Hat]
    · isplitr; · iexact HI
      isplitl [Hc]; · iexact Hc
      isplitl [HO]; · iexact HO
      isplitr; · iapply (Cx_wait P κ ιs c _ b hb O hO); iexact HC
      iexact Hat
    iintro ⟨HO, Hat, -, Hpay⟩
    have hrest : bigSep ((Rd (F := F) P).duties ((c : Thread nD τ), SemLoc.reg (creditA d).sem) 0 \ T) (fun i => (Rd (F := F) P).payload ((c : Thread nD τ), SemLoc.reg (creditA d).sem) 0 i)
        ⊢ bigSep (Finset.range 112 \ T) fun i => credPay (F := F) (peerN d c) d (i + 1) := by
      rw [show (Rd (F := F) P).duties ((c : Thread nD τ), SemLoc.reg (creditA d).sem) 0 = Finset.range 112 from hdu]; exact Entails.of_eq (hpay _)
    ihave #Hpay := hrest $$ Hpay
    rw [wp_ret]
    imodintro
    isplitl [HO]; · iexists _; iexact HO
    isplitl [Hat]
    · rw [show Cr (F := F) c d (m + 1) = atPos (ER (F := F)) (cell c (.crd d)) 1 ∅ 0 from if_neg hl]
      iexact Hat
    · by_cases hT : 111 ∈ T
      · iapply (credPay_fact (peerN d c) d 111 m (by omega))
        iapply (credPay_mem (peerN d c) d T 111 hT)
        iexact HT
      · iapply (credPay_fact (peerN d c) d 111 m (by omega))
        iapply (credPay_mem (peerN d c) d (Finset.range 112 \ T) 111 (Finset.mem_sdiff.mpr ⟨Finset.mem_range.mpr (by omega), hT⟩))
        iexact Hpay

/-! ## Arithmetic -/

theorem tr_addU (c : Dev nD) (d p q : Fin 2) (j : Fin 4) (x y : Vec F S32x8192 .bf16) :
    iprop(pts c (sub (recvM d) p j) fullShare x ∗ pts c (sub (locM d) p j) fullShare y ∗ anyP c (sub (sendM d) q j))
      ⊢ run1 (F := F) c (addU F d p q j)
        iprop(pts c (sub (recvM d) p j) fullShare x ∗ pts c (sub (locM d) p j) fullShare y
          ∗ pts c (sub (sendM d) q j) fullShare (addf (F := F) (φ := .bf16) x y)) := by
  unfold run1 addU rd wrSend
  iintro ⟨Hx, Hy, Hs⟩
  iapply (wp_ld c (recvM d) p j fullShare x) $$ Hx
  iintro Hx
  iapply (wp_ld c (locM d) p j fullShare y) $$ Hy
  iintro Hy
  iapply (wp_ld_any c (sendM d) q j) $$ Hs
  iintro %v Hs
  rw [drop_lift1, drop_lift1]
  iapply (wp_st c (sendM d) q j (addf (F := F) (φ := .bf16) x y)) $$ Hs
  iintro Hs
  rw [wp_ret]
  imodintro
  isplitl [Hx]; · iexact Hx
  isplitl [Hy]; · iexact Hy
  iexact Hs

theorem tr_movU (c : Dev nD) (d p q : Fin 2) (j : Fin 4) (x : Vec F S32x8192 .bf16) :
    iprop(pts c (sub (recvM d) p j) fullShare x ∗ anyP c (sub (sendM d) q j))
      ⊢ run1 (F := F) c (movU F d p q j)
        iprop(pts c (sub (recvM d) p j) fullShare x ∗ pts c (sub (sendM d) q j) fullShare x) := by
  unfold run1 movU movU' rd wrSend
  iintro ⟨Hx, Hs⟩
  iapply (wp_ld c (recvM d) p j fullShare x) $$ Hx
  iintro Hx
  iapply (wp_ld_any c (sendM d) q j) $$ Hs
  iintro %v Hs
  rw [drop_lift1]
  iapply (wp_st c (sendM d) q j x) $$ Hs
  iintro Hs
  rw [wp_ret]
  imodintro
  isplitl [Hx]; · iexact Hx
  iexact Hs

theorem tr_fstU (c : Dev nD) (d q : Fin 2) (j : Fin 4) (s : PosShare TreeShare) (x : Vec F S32x8192 .bf16) :
    iprop(pts c (sub (sendM d) q j) s x ∗ anyP c (sub (fstM d) q j))
      ⊢ run1 (F := F) c (fstU F d q j)
        iprop(pts c (sub (sendM d) q j) s x ∗ pts c (sub (fstM d) q j) fullShare (widen x)) := by
  unfold run1 fstU rd wrFst
  iintro ⟨Hx, Hs⟩
  iapply (wp_ld c (sendM d) q j s x) $$ Hx
  iintro Hx
  iapply (wp_ld_any c (fstM d) q j) $$ Hs
  iintro %v Hs
  rw [drop_lift1]
  iapply (wp_st c (fstM d) q j (widen x)) $$ Hs
  iintro Hs
  rw [wp_ret]
  imodintro
  isplitl [Hx]; · iexact Hx
  iexact Hs

/-! ## Giving a receive sub-block back -/

theorem anyP_false {s : Shape} {e : EltTy} (c : Dev nD) {sp : Space} (m : Memref sig .tc sp s e) (h : m.view.set.Nonempty) :
    iprop(anyP (F := F) c m ∗ anyP (F := F) c m) ⊢ (False : sProp 𝕄) := by
  unfold anyP
  exact slot_slot_false h

theorem sub_ne {e : EltTy} (m : Memref sig .tc .vmem S2x128x8192 e) (p : Fin 2) (j : Fin 4) : (sub m p j).view.set.Nonempty :=
  ⟨(sub m p j).view.emb (fun a => ⟨0, match a with | 0 => by decide | 1 => by decide⟩), Finset.mem_map.mpr ⟨_, Finset.mem_univ _, rfl⟩⟩

theorem give_back (c : Dev nD) (d p : Fin 2) (j : Fin 4) (n : ℕ) :
    iprop(Cx P κ ιs ∗ readerAt (ES (F := F)) (c, d, p, j) n ∗ anyP c (sub (recvM d) p j))
      ⊢ iprop(|={Set.univ}=> (readerAt (ES (F := F)) (c, d, p, j) (n + 1) ∗ released (ES (F := F)) (c, d, p, j) (n + 1)) : sProp 𝕄) := by
  iintro ⟨#HC, Hr, Hs⟩
  ihave #HI := (Cx_slot P κ ιs (c, d, p, j)) $$ HC
  have h := slot_release (ES (F := F)) (ι := ιs (c, d, p, j)) (k := (c, d, p, j)) (Es := Set.univ) (S := anyP c (sub (recvM d) p j))
    (Set.mem_univ _) (anyP_false c _ (sub_ne _ p j)) n
  iapply h
  isplitr; · iexact HI
  isplitl [Hr]; · iexact Hr
  iexact Hs

end Cert.KernelIdeal.Talk
-- ==== Proof.Unit.lean ====
/-
One unit of a step: a sub-block of one direction, from its arrival to its departure.
-/
module

public import proofs.«01_k».proof.Proof.Prims2

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

variable {P : Dev nD → Vec F S4096x8192 .bf16} {κ : GSem nD τ sig → ℕ} {ιs : Key → ℕ}

local notation "PROP" => sProp (MT nD τ sig ℕ (Elt F) ℕ UU ℕ)

/-! ## Lists of statements -/

theorem run_one (c : Dev nD) (s : PG (F := F)) (A B : PROP) (h : A ⊢ run1 c s B) : A ⊢ run c [s] B := by
  iintro HA
  iapply (run_cons c s [] A B B h) $$ HA
  iintro HB
  iapply (run_nil c B); iexact HB

theorem run_app (c : Dev nD) (l l' : List (PG (F := F))) (A B Q : PROP) (h : A ⊢ run c l B) :
    A ⊢ iprop((B -∗ run c l' Q) -∗ run c (l ++ l') Q) := by
  iintro HA Hk
  iapply (run_append c l l' Q)
  ihave H := h $$ HA
  iapply (run_wand c l B (run c l' Q)) $$ H
  iexact Hk

theorem par2 (t : ℕ) : par (t + 2) = par t := Fin.ext (by show (t + 2) % 2 = t % 2; omega)

/-! ## What a device knows after the barrier -/

variable (P κ ιs) in
def Kx (c : Dev nD) : PROP := iprop(Cx P κ ιs ∗ barPay (peerN 0 c) 0 ∗ barPay (peerN 1 c) 1)
instance Kx_pers (c : Dev nD) : BI.Persistent (Kx P κ ιs c) := by unfold Kx; infer_instance

theorem Kx_Cx (c : Dev nD) : Kx P κ ιs c ⊢ Cx P κ ιs := by unfold Kx; iintro ⟨H, -⟩; iexact H

theorem barPay_first (a : Dev nD) (d p : Fin 2) (j : Fin 4) :
    barPay (F := F) a d ⊢ iprop(released (ES (F := F)) (a, d, p, j) 1 ∗ reached (ER (F := F)) (cell a (.rcv d p j)) 0) := by
  unfold barPay
  have h : (bigSep (Finset.univ : Finset (Fin 2 × Fin 4)) fun x =>
      iprop(released (ES (F := F)) (a, d, x.1, x.2) 1 ∗ reached (ER (F := F)) (cell a (.rcv d x.1 x.2)) 0) : PROP)
      ⊢ iprop(released (ES (F := F)) (a, d, p, j) 1 ∗ reached (ER (F := F)) (cell a (.rcv d p j)) 0) :=
    bigSep_elim (i := (p, j)) (Finset.mem_univ _)
  iintro ⟨-, H⟩; iapply h; iexact H
theorem barPay_crd (a : Dev nD) (d : Fin 2) : barPay (F := F) a d ⊢ reached (ER (F := F)) (cell a (.crd (1 - d))) 0 := by
  unfold barPay
  iintro ⟨H, -⟩; iexact H

theorem Kx_bar (c : Dev nD) : ∀ d : Fin 2, Kx P κ ιs c ⊢ barPay (peerN d c) d
  | 0 => by unfold Kx; iintro ⟨-, H, -⟩; iexact H
  | 1 => by unfold Kx; iintro ⟨-, -, H⟩; iexact H
theorem Kx_crd (c : Dev nD) : ∀ d : Fin 2, Kx P κ ιs c ⊢ reached (ER (F := F)) (cell (ackN d c) (.crd d)) 0
  | 0 => (Kx_bar c 1).trans (barPay_crd (peerN 1 c) 1)
  | 1 => (Kx_bar c 0).trans (barPay_crd (peerN 0 c) 0)

/-! ## A sub-block's state -/

section State

variable (P) (c : Dev nD) (d : Fin 2) (j : Fin 4)

/-- The receive sub-block before transfer `k` arrives. -/
def RQ (k : ℕ) : PROP :=
  if k < 30 then iprop(pos c (.rcv d (par k) j) (k / 2) ∗ readerAt (ES (F := F)) (c, d, par k, j) (k / 2 + 1))
  else iprop(pos c (.rcv d (par k) j) (k / 2) ∗ readerAt (ES (F := F)) (c, d, par k, j) (k / 2) ∗ anyP c (sub (recvM d) (par k) j))

/-- Transfer `k` is on its way; half of what it sends is still at hand. -/
def SH (k : ℕ) : PROP :=
  iprop(pts c (sub (sendM d) (par k) j) hr (X P d j k c) ∗ crT c (.snd d (par k) j) 0 N32 ∗ pos c (.snd d (par k) j) (k / 2))
def SFree (k : ℕ) : PROP :=
  iprop(anyP c (sub (sendM d) (par (k + 1)) j) ∗ pos c (.snd d (par (k + 1)) j) ((k - 1) / 2))
/-- The send sub-block before unit `k` fills it. -/
def SQ (k : ℕ) : PROP := if k = 0 ∨ 31 ≤ k then SFree c d j k else SH P c d j (k - 1)

/-- Load `k` is on its way. -/
def CP (k : ℕ) : PROP := iprop(crT c (.cpy d (par k) j) 0 N32 ∗ pos c (.cpy d (par k) j) (ldR k j))
/-- Load `k` may start. -/
def CFree (k : ℕ) : PROP := iprop(anyP c (sub (locM d) (par k) j) ∗ pos c (.cpy d (par k) j) (ldR k j))

/-- Credits taken, and given, before sub-block `j` of step `t`. -/
def mC (t j : ℕ) : ℕ := if t = 0 then 0 else if t < 29 then 4 * (t - 1) + j else 112
def nC (t j : ℕ) : ℕ := if t < 28 then 4 * t + j else 112

def FuelD (t : ℕ) : PROP :=
  if t < 29 then iprop(duty c (.snd d (par (t + 1)) j) ((t + 1) / 2) 0 ∗ duty (peerN d c) (.rcv d (par (t + 1)) j) ((t + 1) / 2) 0
    ∗ writeTok (ES (F := F)) (peerN d c, d, par (t + 1), j) ((t + 1) / 2 + 1) ∗ (if 1 ≤ t then crT c (.crd d) (t + 2) 1 else iprop(emp)))
  else iprop(emp)
def FuelC (t : ℕ) : PROP := if t < 28 then duty (ackN d c) (.crd d) 0 (4 * t + j.val) else iprop(emp)
/-- What unit `t` uses up. -/
def Fuel (t : ℕ) : PROP := iprop(crT c (.rcv d (par t) j) (t + 2) N32 ∗ FuelD c d j t ∗ FuelC c d j t)

def CI (t : ℕ) : PROP := if t < 15 then CP c d j t else iprop(emp)
def CO (t : ℕ) : PROP := if t < 15 then iprop(CFree c d j (t + 2) ∗ win P d c (t15 t) j) else iprop(emp)
def EI (t : ℕ) : PROP := if 14 ≤ t then anyP c (sub (fstM d) (par (t + 1)) j) else iprop(emp)
def EO (t : ℕ) : PROP := if 14 ≤ t then pts c (sub (fstM d) (par (t + 1)) j) fullShare (widen (X P d j (t + 1) c)) else iprop(emp)
def qS (t : ℕ) : PosShare TreeShare := if t < 29 then hr else fullShare
def SR (t : ℕ) : PROP :=
  if t < 29 then iprop(crT c (.snd d (par (t + 1)) j) 0 N32 ∗ pos c (.snd d (par (t + 1)) j) ((t + 1) / 2))
  else pos c (.snd d (par (t + 1)) j) ((t + 1) / 2)

def UIn (t : ℕ) : PROP := iprop(RQ c d j t ∗ SQ P c d j t ∗ CI c d j t ∗ EI c d j t ∗ Fuel c d j t)
def UOut (t : ℕ) : PROP := iprop(RQ c d j (t + 2) ∗ SQ P c d j (t + 2) ∗ CO P c d j t ∗ EO P c d j t)

end State

theorem SQ_succ (c : Dev nD) (d : Fin 2) (j : Fin 4) (n : ℕ) (h : n < 30) : SQ P c d j (n + 1) = SH P c d j n := if_neg (by omega)

theorem SQ_out (c : Dev nD) (d : Fin 2) (j : Fin 4) (t : ℕ) (ht : t < 30) :
    iprop(pts c (sub (sendM d) (par (t + 1)) j) (qS t) (X P d j (t + 1) c) ∗ SR c d j t) ⊢ SQ P c d j (t + 2) := by
  by_cases h : t < 29
  · rw [SQ_succ c d j (t + 1) (by omega), show qS t = hr from if_pos h,
      show SR (F := F) c d j t = iprop(crT c (.snd d (par (t + 1)) j) 0 N32 ∗ pos c (.snd d (par (t + 1)) j) ((t + 1) / 2)) from if_pos h]
    unfold SH
    exact .rfl
  · obtain rfl : t = 29 := by omega
    rw [show SQ P c d j (29 + 2) = SFree c d j 31 from if_pos (Or.inr (by omega)), show qS 29 = fullShare from if_neg h,
      show SR (F := F) c d j 29 = pos c (.snd d (par (29 + 1)) j) ((29 + 1) / 2) from if_neg h]
    unfold SFree
    exact sep_mono (anyP_intro c (sub (sendM d) (par (29 + 1)) j) (X P d j (29 + 1) c)) .rfl

/-! ## The pieces of a unit -/

section Pieces

variable (c : Dev nD) (d : Fin 2) (j : Fin 4) (t : ℕ)

theorem segB (ht : t < 30) (O : CellTallies nD τ sig ℕ) (hO : Above 0 O) :
    iprop(Cx P κ ιs ∗ SQ P c d j t ∗ Ow c O)
      ⊢ run c (if 1 ≤ t then [sendWait F d (par (t + 1)) j] else [])
        iprop(Ow c O ∗ anyP c (sub (sendM d) (par (t + 1)) j) ∗ pos c (.snd d (par (t + 1)) j) ((t + 1) / 2)) := by
  cases t with
  | zero =>
    rw [if_neg (by omega), show SQ P c d j 0 = SFree c d j 0 from if_pos (Or.inl rfl)]
    unfold SFree
    iintro ⟨-, ⟨H1, H2⟩, H3⟩
    iapply (run_nil c _)
    isplitl [H3]; · iexact H3
    isplitl [H1]; · iexact H1
    iexact H2
  | succ n =>
    rw [if_pos (by omega), SQ_succ c d j n (by omega), par2, show (n + 1 + 1) / 2 = n / 2 + 1 by omega]
    unfold SH
    iintro ⟨#HC, ⟨H1, H2, H3⟩, H4⟩
    iapply (run_cons c _ _ _ _ _ (tr_sendWait (P := P) (κ := κ) (ιs := ιs) c d j n (by omega) O hO)) $$ [H2 H3 H4]
    · isplitr; · iexact HC
      isplitl [H2]; · iexact H2
      isplitl [H4]; · iexact H4
      iexact H3
    iintro ⟨H4, H3, H2⟩
    iapply (run_nil c _)
    isplitl [H4]; · iexact H4
    isplitr [H3]
    · iapply (anyP_intro c (sub (sendM d) (par n) j) (X P d j n c))
      iapply (pts_join c (sub (sendM d) (par n) j) (X P d j n c))
      isplitl [H2]; · iexact H2
      iexact H1
    · iexact H3

theorem ldR2 : ldR (t + 2) j = ldR t j + 1 := by
  unfold ldR; rw [par2]; omega

theorem segC (ht : t < 30) (O : CellTallies nD τ sig ℕ) (hO : Above 0 O) :
    iprop(Cx P κ ιs ∗ Ow c O ∗ pts c (sub (recvM d) (par t) j) fullShare (X P d j t (ackN d c)) ∗ anyP c (sub (sendM d) (par (t + 1)) j) ∗ CI c d j t)
      ⊢ run c (if t < 15 then [ldWait F d c (t15 t) (par t) j, addU F d (par t) (par (t + 1)) j] else [movU F d (par t) (par (t + 1)) j])
        iprop(Ow c O ∗ pts c (sub (recvM d) (par t) j) fullShare (X P d j t (ackN d c))
          ∗ pts c (sub (sendM d) (par (t + 1)) j) fullShare (X P d j (t + 1) c) ∗ CO P c d j t) := by
  by_cases h : t < 15
  · rw [if_pos h, show CI (F := F) c d j t = CP c d j t from if_pos h,
      show CO P c d j t = iprop(CFree c d j (t + 2) ∗ win P d c (t15 t) j) from if_pos h, X_add P d j t c h]
    unfold CP CFree
    rw [par2, ldR2]
    iintro ⟨#HC, HO, Hx, Hs, Hc, Hp⟩
    iapply (run_cons c _ _ _ _ _ (tr_ldWait (P := P) (κ := κ) (ιs := ιs) c d j t h O hO)) $$ [HO Hc Hp]
    · isplitr; · iexact HC
      isplitl [Hc]; · iexact Hc
      isplitl [HO]; · iexact HO
      iexact Hp
    unfold cpyPay
    rw [show (t15 t).val = t from Nat.mod_eq_of_lt h]
    iintro ⟨HO, Hp, Hl, Hw⟩
    iapply (run_cons c _ _ _ _ _ (tr_addU c d (par t) (par (t + 1)) j (X P d j t (ackN d c)) (chunkRow P d c (t + 1) j))) $$ [Hx Hl Hs]
    · isplitl [Hx]; · iexact Hx
      isplitl [Hl]; · iexact Hl
      iexact Hs
    iintro ⟨Hx, Hl, Hs⟩
    iapply (run_nil c _)
    isplitl [HO]; · iexact HO
    isplitl [Hx]; · iexact Hx
    isplitl [Hs]; · iexact Hs
    isplitr [Hw]
    · isplitl [Hl]
      · iapply (anyP_intro c (sub (locM d) (par t) j) (chunkRow P d c (t + 1) j)); iexact Hl
      · iexact Hp
    · iexact Hw
  · rw [if_neg h, show CI (F := F) c d j t = iprop(emp) from if_neg h, show CO P c d j t = iprop(emp) from if_neg h, X_mov P d j t c h]
    iintro ⟨#HC, HO, Hx, Hs, He⟩
    iapply (run_cons c _ _ _ _ _ (tr_movU c d (par t) (par (t + 1)) j (X P d j t (ackN d c)))) $$ [Hx Hs]
    · isplitl [Hx]; · iexact Hx
      iexact Hs
    iintro ⟨Hx, Hs⟩
    iapply (run_nil c _)
    isplitl [HO]; · iexact HO
    isplitl [Hx]; · iexact Hx
    isplitl [Hs]; · iexact Hs
    iexact He

theorem credFact_at (a : Dev nD) (m : ℕ) (hm : m = 4 * t + j.val) : credFact (F := F) a d m
    = iprop(released (ES (F := F)) (a, d, par t, j) (t / 2 + 2) ∗ reached (ER (F := F)) (cell a (.rcv d (par t) j)) (t / 2 + 1)) := by
  subst hm
  have hj : (⟨(4 * t + j.val) % 4, Nat.mod_lt _ (by decide)⟩ : Fin 4) = j := Fin.ext (by show (4 * t + j.val) % 4 = j.val; omega)
  unfold credFact
  rw [hj, show (4 * t + j.val) / 4 = t by omega]

/-- The credit, where one is waited for, tells that the peer's slot stands ready. -/
theorem segD1 (ht : t < 29) (O : CellTallies nD τ sig ℕ) (hO : Above (t + 2) O) :
    iprop(Kx P κ ιs c ∗ Ow c O ∗ Cr c d (mC t j) ∗ (if 1 ≤ t then crT c (.crd d) (t + 2) 1 else iprop(emp)))
      ⊢ run c (if 1 ≤ t then [credWait F d] else [])
        iprop(Ow c O ∗ Cr c d (mC t (j + 1)) ∗ released (ES (F := F)) (peerN d c, d, par (t + 1), j) ((t + 1) / 2 + 1)
          ∗ reached (ER (F := F)) (cell (peerN d c) (.rcv d (par (t + 1)) j)) ((t + 1) / 2)) := by
  cases t with
  | zero =>
    rw [if_neg (by omega), show mC 0 j = 0 from if_pos rfl, show mC 0 (j + 1) = 0 from if_pos rfl]
    iintro ⟨#HK, HO, Hc, -⟩
    ihave #Hb := (Kx_bar c d) $$ HK
    ihave #Hf := (barPay_first (peerN d c) d 1 j) $$ Hb
    iapply (run_nil c _)
    isplitl [HO]; · iexact HO
    isplitl [Hc]; · iexact Hc
    iexact Hf
  | succ n =>
    have hm : mC (n + 1) j = 4 * n + j.val := by unfold mC; rw [if_neg (by omega), if_pos ht]; rfl
    have hm' : mC (n + 1) (j + 1) = 4 * n + j.val + 1 := by unfold mC; rw [if_neg (by omega), if_pos ht]; rfl
    rw [if_pos (by omega), if_pos (by omega), hm, hm']
    iintro ⟨#HK, HO, Hr, Hc⟩
    ihave #HC := (Kx_Cx c) $$ HK
    iapply (run_cons c _ _ _ _ _ (tr_credWait (P := P) (κ := κ) (ιs := ιs) c d (4 * n + j.val) (n + 1 + 2) (by omega) (by omega) O hO)) $$ [HO Hr Hc]
    · isplitr; · iexact HC
      isplitl [Hc]; · iexact Hc
      isplitl [HO]; · iexact HO
      iexact Hr
    rw [credFact_at d j n (peerN d c) (4 * n + j.val) rfl, par2, show (n + 1 + 1) / 2 = n / 2 + 1 by omega]
    iintro ⟨HO, Hr, #Hf⟩
    iapply (run_nil c _)
    isplitl [HO]; · iexact HO
    isplitl [Hr]; · iexact Hr
    iexact Hf

theorem segD (ht : t < 30) (O : CellTallies nD τ sig ℕ) (hO : Above (t + 2) (O + payT c t j d)) :
    iprop(Kx P κ ιs c ∗ Ow c (O + payT c t j d) ∗ Cr c d (mC t j) ∗ pts c (sub (sendM d) (par (t + 1)) j) fullShare (X P d j (t + 1) c)
        ∗ pos c (.snd d (par (t + 1)) j) ((t + 1) / 2) ∗ FuelD c d j t)
      ⊢ run c (if t < 29 then (if 1 ≤ t then [credWait F d] else []) ++ [rdma F d c (par (t + 1)) j] else [])
        iprop(Ow c O ∗ Cr c d (mC t (j + 1)) ∗ pts c (sub (sendM d) (par (t + 1)) j) (qS t) (X P d j (t + 1) c) ∗ SR c d j t) := by
  by_cases h : t < 29
  · rw [if_pos h, show qS t = hr from if_pos h,
      show SR (F := F) c d j t = iprop(crT c (.snd d (par (t + 1)) j) 0 N32 ∗ pos c (.snd d (par (t + 1)) j) ((t + 1) / 2)) from if_pos h,
      show FuelD (F := F) c d j t = iprop(duty c (.snd d (par (t + 1)) j) ((t + 1) / 2) 0 ∗ duty (peerN d c) (.rcv d (par (t + 1)) j) ((t + 1) / 2) 0
    ∗ writeTok (ES (F := F)) (peerN d c, d, par (t + 1), j) ((t + 1) / 2 + 1) ∗ (if 1 ≤ t then crT c (.crd d) (t + 2) 1 else iprop(emp))) from if_pos h]
    iintro ⟨#HK, HO, Hr, Hs, Hp, Hts, Htr, Hw, Hc⟩
    ihave #HC := (Kx_Cx c) $$ HK
    iapply (run_app c _ _ _ _ _ (segD1 (P := P) (κ := κ) (ιs := ιs) c d j t h (O + payT c t j d) hO)) $$ [HO Hr Hc]
    · isplitr; · iexact HK
      isplitl [HO]; · iexact HO
      isplitl [Hr]; · iexact Hr
      iexact Hc
    iintro ⟨HO, Hr, #Hrel, #Hrr⟩
    have htr := tr_rdma (P := P) (κ := κ) (ιs := ιs) c d j (t + 1) (by omega) O
    rw [show t + 1 + 2 = t + 3 from rfl] at htr
    rw [show payT c t j d = tallyAt (cell (peerN d c) (.rcv d (par (t + 1)) j)) (t + 3) N32 from if_pos h]
    unfold pos
    icases Hp with ⟨Hat, #Hre⟩
    iapply (run_cons c _ _ _ _ _ htr) $$ [HO Hs Hts Htr Hw]
    · isplitr; · iexact HC
      isplitl [Hs]; · iexact Hs
      isplitr; · iexact Hrel
      isplitl [Hw]; · iexact Hw
      isplitr; · iexact Hrr
      isplitl [HO]; · iexact HO
      isplitl [Hts]; · iexact Hts
      isplitr; · iexact Hre
      iexact Htr
    iintro ⟨Hc, HO, Hs⟩
    iapply (run_nil c _)
    isplitl [HO]; · iexact HO
    isplitl [Hr]; · iexact Hr
    isplitl [Hs]; · iexact Hs
    isplitl [Hc]; · iexact Hc
    isplitl [Hat]; · iexact Hat
    iexact Hre
  · rw [if_neg h, show qS t = fullShare from if_neg h, show SR (F := F) c d j t = pos c (.snd d (par (t + 1)) j) ((t + 1) / 2) from if_neg h,
      show payT c t j d = 0 from if_neg h, add_zero,
      show mC t j = 112 by unfold mC; rw [if_neg (by omega), if_neg h], show mC t (j + 1) = 112 by unfold mC; rw [if_neg (by omega), if_neg h]]
    iintro ⟨-, HO, Hr, Hs, Hp, -⟩
    iapply (run_nil c _)
    isplitl [HO]; · iexact HO
    isplitl [Hr]; · iexact Hr
    isplitl [Hs]; · iexact Hs
    iexact Hp

theorem segE (q : PosShare TreeShare) :
    iprop(pts c (sub (sendM d) (par (t + 1)) j) q (X P d j (t + 1) c) ∗ EI c d j t)
      ⊢ run c (if 14 ≤ t then [fstU F d (par (t + 1)) j] else [])
        iprop(pts c (sub (sendM d) (par (t + 1)) j) q (X P d j (t + 1) c) ∗ EO P c d j t) := by
  by_cases h : 14 ≤ t
  · rw [if_pos h, show EI (F := F) c d j t = anyP c (sub (fstM d) (par (t + 1)) j) from if_pos h,
      show EO P c d j t = pts c (sub (fstM d) (par (t + 1)) j) fullShare (widen (X P d j (t + 1) c)) from if_pos h]
    exact run_one c _ _ _ (tr_fstU c d (par (t + 1)) j q (X P d j (t + 1) c))
  · rw [if_neg h, show EI (F := F) c d j t = iprop(emp) from if_neg h, show EO P c d j t = iprop(emp) from if_neg h]
    exact run_nil c _

theorem segF (ht : t < 30) (O : CellTallies nD τ sig ℕ) (x : Vec F S32x8192 .bf16) :
    iprop(Kx P κ ιs c ∗ Ow c (O + payC c t d) ∗ credPay c d (nC t j) ∗ pts c (sub (recvM d) (par t) j) fullShare x
        ∗ readerAt (ES (F := F)) (c, d, par t, j) (t / 2 + 1) ∗ pos c (.rcv d (par t) j) (t / 2 + 1) ∗ FuelC c d j t)
      ⊢ run c (if t < 28 then [credSig F d c] else [])
        iprop(Ow c O ∗ credPay c d (nC t (j + 1)) ∗ RQ c d j (t + 2)) := by
  by_cases h : t < 28
  · rw [if_pos h, show FuelC (F := F) c d j t = duty (ackN d c) (.crd d) 0 (4 * t + j.val) from if_pos h,
      show payC c t d = tallyAt (cell (ackN d c) (.crd d)) (t + 3) 1 from if_pos h,
      show nC t j = 4 * t + j.val from if_pos h, show nC t (j + 1) = 4 * t + j.val + 1 from if_pos h,
      show RQ (F := F) c d j (t + 2) = iprop(pos c (.rcv d (par (t + 2)) j) ((t + 2) / 2) ∗ readerAt (ES (F := F)) (c, d, par (t + 2), j) ((t + 2) / 2 + 1)) from if_pos (by omega),
      par2, show (t + 2) / 2 = t / 2 + 1 by omega]
    iintro ⟨#HK, HO, #Hn, Hx, Hra, Hp, Ht⟩
    ihave #HC := (Kx_Cx c) $$ HK
    ihave #Hre := (Kx_crd c d) $$ HK
    iapply (run_fupd c _ _)
    imod (give_back (P := P) (κ := κ) (ιs := ιs) c d (par t) j (t / 2 + 1)) $$ [Hra Hx] with ⟨Hra, #Hrel⟩
    · isplitr; · iexact HC
      isplitl [Hra]; · iexact Hra
      iapply (anyP_intro c (sub (recvM d) (par t) j) x); iexact Hx
    imodintro
    unfold pos
    icases Hp with ⟨Hat, #Hr⟩
    ihave #Hn' := (credPay_succ (F := F) c d (4 * t + j.val)) $$ []
    · isplitr; · iexact Hn
      rw [credFact_at d j t c (4 * t + j.val) rfl]
      isplitr; · iexact Hrel
      iexact Hr
    iapply (run_cons c _ _ _ _ _ (tr_credSig (P := P) (κ := κ) (ιs := ιs) c d (4 * t + j.val) (t + 3) (by omega) O)) $$ [HO Ht]
    · isplitr; · iexact HC
      isplitr; · iexact Hn'
      isplitl [HO]; · iexact HO
      isplitl [Ht]; · iexact Ht
      iexact Hre
    iintro HO
    iapply (run_nil c _)
    isplitl [HO]; · iexact HO
    isplitr; · iexact Hn'
    isplitl [Hat]
    · isplitl [Hat]; · iexact Hat
      iexact Hr
    · iexact Hra
  · rw [if_neg h, show payC c t d = 0 from if_neg h, add_zero, show nC t j = 112 from if_neg h, show nC t (j + 1) = 112 from if_neg h,
      show RQ (F := F) c d j (t + 2) = iprop(pos c (.rcv d (par (t + 2)) j) ((t + 2) / 2) ∗ readerAt (ES (F := F)) (c, d, par (t + 2), j) ((t + 2) / 2)
        ∗ anyP c (sub (recvM d) (par (t + 2)) j)) from if_neg (by omega), par2, show (t + 2) / 2 = t / 2 + 1 by omega]
    iintro ⟨-, HO, #Hn, Hx, Hra, Hp, -⟩
    iapply (run_nil c _)
    isplitl [HO]; · iexact HO
    isplitr; · iexact Hn
    isplitl [Hp]; · iexact Hp
    isplitl [Hra]; · iexact Hra
    iapply (anyP_intro c (sub (recvM d) (par t) j) x); iexact Hx

end Pieces

/-! ## The unit -/

theorem unit_tr (c : Dev nD) (t : ℕ) (ht : t < 30) (j : Fin 4) (d : Fin 2) :
    iprop(Kx P κ ιs c ∗ UIn P c d j t ∗ Ow c (Owe c (8 * t + 2 * j.val + d.val)) ∗ Cr c d (mC t j) ∗ credPay c d (nC t j))
      ⊢ run c (unit F c t j d)
        iprop(UOut P c d j t ∗ Ow c (Owe c (8 * t + 2 * j.val + d.val + 1)) ∗ Cr c d (mC t (j + 1)) ∗ credPay c d (nC t (j + 1))) := by
  have hO : Above (t + 2) (Owe c (8 * t + 2 * j.val + d.val)) := above_Owe c _ _ (by omega)
  have hO0 : Above 0 (Owe c (8 * t + 2 * j.val + d.val)) := above_Owe c _ _ (by omega)
  have hs : Owe c (8 * t + 2 * j.val + d.val) = (Owe c (8 * t + 2 * j.val + d.val + 1) + payC c t d) + payT c t j d := by
    have h := Owe_succ c (8 * t + 2 * j.val + d.val) (by omega)
    rw [show tOf (8 * t + 2 * j.val + d.val) = t by show (8 * t + 2 * j.val + d.val) / 8 = t; omega,
      show jOf (8 * t + 2 * j.val + d.val) = j from Fin.ext (by show (8 * t + 2 * j.val + d.val) % 8 / 2 = j.val; omega),
      show dOf (8 * t + 2 * j.val + d.val) = d from Fin.ext (by show (8 * t + 2 * j.val + d.val) % 2 = d.val; omega)] at h
    exact h
  unfold unit UIn UOut Fuel
  simp only [List.append_assoc]
  rw [show RQ (F := F) c d j t = iprop(pos c (.rcv d (par t) j) (t / 2) ∗ readerAt (ES (F := F)) (c, d, par t, j) (t / 2 + 1)) from if_pos ht]
  iintro ⟨#HK, ⟨⟨Hp, Hra⟩, Hsq, Hci, Hei, Hcr, Hfd, Hfc⟩, HO, Hr, #Hn⟩
  ihave #HC := (Kx_Cx c) $$ HK
  iapply (run_app c _ _ _ _ _ (run_one c _ _ _ (tr_recvWait (P := P) (κ := κ) (ιs := ιs) c d j t ht _ hO))) $$ [Hcr HO Hp]
  · isplitr; · iexact HC
    isplitl [Hcr]; · iexact Hcr
    isplitl [HO]; · iexact HO
    iexact Hp
  iintro ⟨HO, Hp, Hx⟩
  iapply (run_app c _ _ _ _ _ (segB (P := P) (κ := κ) (ιs := ιs) c d j t ht _ hO0)) $$ [HO Hsq]
  · isplitr; · iexact HC
    isplitl [Hsq]; · iexact Hsq
    iexact HO
  iintro ⟨HO, Hs, Hsp⟩
  iapply (run_app c _ _ _ _ _ (segC (P := P) (κ := κ) (ιs := ιs) c d j t ht _ hO0)) $$ [HO Hx Hs Hci]
  · isplitr; · iexact HC
    isplitl [HO]; · iexact HO
    isplitl [Hx]; · iexact Hx
    isplitl [Hs]; · iexact Hs
    iexact Hci
  iintro ⟨HO, Hx, Hs, Hco⟩
  rw [hs] at hO ⊢
  iapply (run_app c _ _ _ _ _ (segD (P := P) (κ := κ) (ιs := ιs) c d j t ht _ hO)) $$ [HO Hr Hs Hsp Hfd]
  · isplitr; · iexact HK
    isplitl [HO]; · iexact HO
    isplitl [Hr]; · iexact Hr
    isplitl [Hs]; · iexact Hs
    isplitl [Hsp]; · iexact Hsp
    iexact Hfd
  iintro ⟨HO, Hr, Hs, Hsr⟩
  iapply (run_app c _ _ _ _ _ (segE (P := P) c d j t (qS t))) $$ [Hs Hei]
  · isplitl [Hs]; · iexact Hs
    iexact Hei
  iintro ⟨Hs, Heo⟩
  ihave H := (segF (P := P) (κ := κ) (ιs := ιs) c d j t ht (Owe c (8 * t + 2 * j.val + d.val + 1)) (X P d j t (ackN d c))) $$ [HO Hx Hra Hp Hfc]
  · isplitr; · iexact HK
    isplitl [HO]; · iexact HO
    isplitr; · iexact Hn
    isplitl [Hx]; · iexact Hx
    isplitl [Hra]; · iexact Hra
    isplitl [Hp]; · iexact Hp
    iexact Hfc
  iapply (run_wand c _ _ _) $$ H
  iintro ⟨HO, #Hn', Hrq⟩
  isplitr [HO Hr]
  · isplitl [Hrq]; · iexact Hrq
    isplitl [Hs Hsr]
    · iapply (SQ_out (P := P) c d j t ht)
      isplitl [Hs]; · iexact Hs
      iexact Hsr
    isplitl [Hco]; · iexact Hco
    iexact Heo
  isplitl [HO]; · iexact HO
  isplitl [Hr]; · iexact Hr
  iexact Hn'

end Cert.KernelIdeal.Talk
-- ==== Proof.Slots.lean ====
/-
The two slots of a buffer and the four sub-blocks of a slot.
-/
module

public import proofs.«01_k».proof.Proof.Unit

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

local notation "PROP" => sProp (MT nD τ sig ℕ (Elt F) ℕ UU ℕ)

/-! ## Families of disjoint sets -/

section Sets

variable {ℓ : Loc nD τ sig} {T : Type} [DecidableEq T]

theorem any_split (S : Finset T) (K : T → Finset (Idx ℓ)) (h : ∀ t ∈ S, ∀ t' ∈ S, t ≠ t' → Disjoint (K t) (K t')) :
    iprop(∃ f : Buf (Elt F) ℓ, ℓ ↦[S.biUnion K]{fullShare} f) ⊢ (bigSep S fun t => iprop(∃ f : Buf (Elt F) ℓ, ℓ ↦[K t]{fullShare} f) : PROP) := by
  iintro ⟨%f, H⟩
  have h1 (t : T) : (ℓ ↦[K t]{fullShare} f : PROP) ⊢ iprop(∃ f : Buf (Elt F) ℓ, ℓ ↦[K t]{fullShare} f) := by
    iintro H; iexists f; iexact H
  have h2 : (ℓ ↦[S.biUnion K]{fullShare} f : PROP) ⊢ bigSep S fun t => iprop(∃ f : Buf (Elt F) ℓ, ℓ ↦[K t]{fullShare} f) :=
    (Entails.of_eq (pointsTo_biUnion S K h)).trans (bigSep_mono fun t _ => h1 t)
  iapply h2; iexact H

theorem any_join [Nonempty (Buf (Elt F) ℓ)] (S : Finset T) (K : T → Finset (Idx ℓ)) (h : ∀ t ∈ S, ∀ t' ∈ S, t ≠ t' → Disjoint (K t) (K t')) :
    (bigSep S fun t => iprop(∃ f : Buf (Elt F) ℓ, ℓ ↦[K t]{fullShare} f) : PROP) ⊢ iprop(∃ f : Buf (Elt F) ℓ, ℓ ↦[S.biUnion K]{fullShare} f) := by
  iintro H
  ihave H := (bigSep_exists_pi (M := MT nD τ sig ℕ (Elt F) ℕ UU ℕ) (Y := fun _ => Buf (Elt F) ℓ) S (fun t f => (ℓ ↦[K t]{fullShare} f : PROP))) $$ H
  icases H with ⟨%fs, H⟩
  ihave H := (pointsTo_biUnion_join (q := fullShare) S K fs (Classical.choice inferInstance) h) $$ H
  icases H with ⟨%g, -, H⟩
  iexists g; iexact H

end Sets

/-! ## Sub-blocks -/

section Subs

variable {e : EltTy} (m : Memref sig .tc .vmem S2x128x8192 e) (p : Fin 2) (j : Fin 4)

theorem set_slot : (slot m p).view.set = (slotR p).set.map m.view.emb :=
  (View.set_reshape _ _).trans (View.set_slice _ _)
theorem set_sub : (sub m p j).view.set = (subR p j).set.map m.view.emb :=
  (View.set_reshape _ _).trans (View.set_slice _ _)

theorem mem_subR (y : S2x128x8192.Idx) : y ∈ (subR p j).set ↔ (y 0).val = p.val ∧ (y 1).val / 32 = j.val := by
  rw [Rect.mem_set_unit]
  constructor
  · intro h
    have h0 := h 0
    have h1 := h 1
    have e0 : p.val ≤ (y 0).val ∧ (y 0).val < p.val + 1 := h0
    have e1 : 32 * j.val ≤ (y 1).val ∧ (y 1).val < 32 * j.val + 32 := h1
    exact ⟨by omega, by omega⟩
  · rintro ⟨h0, h1⟩ a
    match a with
    | 0 => show p.val ≤ (y 0).val ∧ (y 0).val < p.val + 1; omega
    | 1 => show 32 * j.val ≤ (y 1).val ∧ (y 1).val < 32 * j.val + 32; omega
    | 2 => exact ⟨Nat.zero_le _, by rw [show (![p.val, 32 * j.val, 0] : Fin 3 → ℕ) 2 = 0 from rfl, Nat.zero_add]; exact (y 2).isLt⟩

theorem mem_slotR (y : S2x128x8192.Idx) : y ∈ (slotR p).set ↔ (y 0).val = p.val := by
  rw [Rect.mem_set_unit]
  constructor
  · intro h
    have e0 : p.val ≤ (y 0).val ∧ (y 0).val < p.val + 1 := h 0
    omega
  · intro h0 a
    match a with
    | 0 => show p.val ≤ (y 0).val ∧ (y 0).val < p.val + 1; omega
    | 1 => exact ⟨Nat.zero_le _, by rw [show (![p.val, 0, 0] : Fin 3 → ℕ) 1 = 0 from rfl, Nat.zero_add]; exact (y 1).isLt⟩
    | 2 => exact ⟨Nat.zero_le _, by rw [show (![p.val, 0, 0] : Fin 3 → ℕ) 2 = 0 from rfl, Nat.zero_add]; exact (y 2).isLt⟩

theorem slot_subs : (slot m p).view.set = (Finset.univ : Finset (Fin 4)).biUnion fun j => (sub m p j).view.set := by
  ext i
  rw [set_slot, Finset.mem_biUnion]
  constructor
  · intro h
    obtain ⟨y, hy, rfl⟩ := Finset.mem_map.mp h
    have h0 := (mem_slotR p y).mp hy
    have h1 : (y 1).val < 128 := (y 1).isLt
    refine ⟨⟨(y 1).val / 32, by omega⟩, Finset.mem_univ _, ?_⟩
    rw [set_sub]
    exact Finset.mem_map.mpr ⟨y, (mem_subR p _ y).mpr ⟨h0, rfl⟩, rfl⟩
  · rintro ⟨j, -, h⟩
    rw [set_sub] at h
    obtain ⟨y, hy, rfl⟩ := Finset.mem_map.mp h
    exact Finset.mem_map.mpr ⟨y, (mem_slotR p y).mpr ((mem_subR p j y).mp hy).1, rfl⟩

theorem whole_slots : m.view.set = (Finset.univ : Finset (Fin 2)).biUnion fun p => (slot m p).view.set := by
  ext i
  rw [Finset.mem_biUnion]
  constructor
  · intro h
    obtain ⟨y, hy, rfl⟩ := Finset.mem_map.mp h
    obtain ⟨p, hp⟩ : ∃ p : Fin 2, (y 0).val = p.val := ⟨y 0, rfl⟩
    refine ⟨p, Finset.mem_univ _, ?_⟩
    rw [set_slot]
    exact Finset.mem_map.mpr ⟨y, (mem_slotR p y).mpr hp, rfl⟩
  · rintro ⟨p, -, h⟩
    rw [set_slot] at h
    obtain ⟨y, hy, rfl⟩ := Finset.mem_map.mp h
    exact View.emb_mem_set _ _

theorem subs_disj {p' : Fin 2} {j' : Fin 4} (h : (p, j) ≠ (p', j')) : Disjoint (sub m p j).view.set (sub m p' j').view.set := by
  rw [set_sub, set_sub, Finset.disjoint_left]
  intro i hi hi'
  obtain ⟨y, hy, rfl⟩ := Finset.mem_map.mp hi
  obtain ⟨y', hy', he⟩ := Finset.mem_map.mp hi'
  obtain rfl := m.view.emb.injective he
  have h1 := (mem_subR p j _).mp hy
  have h2 := (mem_subR p' j' _).mp hy'
  exact h (Prod.ext (Fin.ext (h1.1.symm.trans h2.1)) (Fin.ext (h1.2.symm.trans h2.2)))
theorem slots_disj {p' : Fin 2} (h : p ≠ p') : Disjoint (slot m p).view.set (slot m p').view.set := by
  rw [set_slot, set_slot, Finset.disjoint_left]
  intro i hi hi'
  obtain ⟨y, hy, rfl⟩ := Finset.mem_map.mp hi
  obtain ⟨y', hy', he⟩ := Finset.mem_map.mp hi'
  obtain rfl := m.view.emb.injective he
  exact h (Fin.ext (((mem_slotR p _).mp hy).symm.trans ((mem_slotR p' _).mp hy')))

/-- Row `x` of sub-block `j` is row `32 j + x` of the slot. -/
def up (j : Fin 4) (x : S32x8192.Idx) : S128x8192.Idx := fun a => match a with
  | 0 => ⟨32 * j.val + (x 0).val, by have h : (x 0).val < 32 := (x 0).isLt; show _ < 128; omega⟩
  | 1 => x 1

theorem sub_emb (x : S32x8192.Idx) : (sub m p j).view.emb x = (slot m p).view.emb (up j x) := by
  show m.view.emb ((subR p j).emb (Shape.reshapeEquiv _ x)) = m.view.emb ((slotR p).emb (Shape.reshapeEquiv _ (up j x)))
  refine congrArg m.view.emb (funext fun a => Fin.ext ?_)
  rw [Shape.reshapeEquiv_cons_one (d := ![32, 8192]), Shape.reshapeEquiv_cons_one (d := ![128, 8192])]
  match a with
  | 0 => rfl
  | 1 =>
    show 32 * j.val + 1 * (x 0).val = 0 + 1 * (32 * j.val + (x 0).val)
    omega
  | 2 => rfl

theorem glue_up (Y : Fin 4 → Vec F S32x8192 e) (x : S32x8192.Idx) : glue Y (up j x) = Y j x := by
  have h : (x 0).val < 32 := (x 0).isLt
  unfold glue up
  have hj : (⟨(32 * j.val + (x 0).val) / 32, Nat.div_lt_of_lt_mul (by omega)⟩ : Fin 4) = j := Fin.ext (by show (32 * j.val + (x 0).val) / 32 = j.val; omega)
  show Y ⟨(32 * j.val + (x 0).val) / 32, _⟩ _ = _
  rw [hj]
  refine congrArg (Y j) (funext fun a => ?_)
  match a with
  | 0 => exact Fin.ext (by show (32 * j.val + (x 0).val) % 32 = (x 0).val; omega)
  | 1 => rfl

theorem pts_slot (c : Dev nD) (Y : Fin 4 → Vec F S32x8192 e) :
    (pts c (slot m p) fullShare (glue Y) : PROP) = bigSep Finset.univ fun j => pts c (sub m p j) fullShare (Y j) := by
  have h (j : Fin 4) : (sub m p j).view.read (Elt F) ((slot m p).view.rep (Val := Elt F) (glue Y)) = Y j := by
    have hr : ∀ x, (sub m p j).view.read (Elt F) ((slot m p).view.rep (Val := Elt F) (glue Y)) x
        = (slot m p).view.read (Elt F) ((slot m p).view.rep (Val := Elt F) (glue Y)) (up j x) := fun x => by
      unfold View.read
      rw [sub_emb]
    funext x
    rw [hr, read_pts, glue_up]
  have hj (j : Fin 4) := (congrArg (pts (F := F) c (sub m p j) fullShare) (h j)).symm.trans
    (pts_of (F := F) c (sub m p j) fullShare ((slot m p).view.rep (Val := Elt F) (glue Y))).symm
  rw [bigSep_congr fun j _ => hj j]
  unfold pts
  rw [slot_subs]
  exact pointsTo_biUnion (ℓ := (slot m p).view.loc (c : Thread nD τ)) Finset.univ (fun j => (sub m p j).view.set) fun j _ j' _ h => subs_disj m p j (fun h' => h (congrArg Prod.snd h'))

variable (c : Dev nD)

theorem buf_ne (ℓ : Loc nD τ sig) : Nonempty (Buf (Elt F) ℓ) := ⟨fun _ => Classical.choice inferInstance⟩

theorem anyP_slot : (anyP c (slot m p) : PROP) ⊢ bigSep Finset.univ fun j => anyP c (sub m p j) := by
  unfold anyP
  rw [slot_subs]
  exact any_split (ℓ := (slot m p).view.loc (c : Thread nD τ)) Finset.univ (fun j => (sub m p j).view.set) fun j _ j' _ h => subs_disj m p j (fun h' => h (congrArg Prod.snd h'))
theorem anyP_slot' : (bigSep Finset.univ fun j => anyP c (sub m p j) : PROP) ⊢ anyP c (slot m p) := by
  haveI := buf_ne (F := F) ((slot m p).view.loc (c : Thread nD τ))
  unfold anyP
  rw [slot_subs]
  exact any_join (ℓ := (slot m p).view.loc (c : Thread nD τ)) Finset.univ (fun j => (sub m p j).view.set) fun j _ j' _ h => subs_disj m p j (fun h' => h (congrArg Prod.snd h'))
theorem anyP_whole : (anyP c m : PROP) ⊢ bigSep Finset.univ fun p => anyP c (slot m p) := by
  unfold anyP
  rw [whole_slots]
  exact any_split (ℓ := m.view.loc (c : Thread nD τ)) Finset.univ (fun p => (slot m p).view.set) fun p _ p' _ h => slots_disj m p h
theorem anyP_whole' : (bigSep Finset.univ fun p => anyP c (slot m p) : PROP) ⊢ anyP c m := by
  haveI := buf_ne (F := F) (m.view.loc (c : Thread nD τ))
  unfold anyP
  rw [whole_slots]
  exact any_join (ℓ := m.view.loc (c : Thread nD τ)) Finset.univ (fun p => (slot m p).view.set) fun p _ p' _ h => slots_disj m p h

theorem anyP_subs : (anyP c m : PROP) ⊢ bigSep Finset.univ fun x : Fin 2 × Fin 4 => anyP c (sub m x.1 x.2) := by
  rw [bigSep_univ_prod]
  exact (anyP_whole m c).trans (bigSep_mono fun p _ => anyP_slot m p c)
theorem anyP_subs' : (bigSep Finset.univ fun x : Fin 2 × Fin 4 => anyP c (sub m x.1 x.2) : PROP) ⊢ anyP c m := by
  rw [bigSep_univ_prod]
  exact (bigSep_mono fun p _ => anyP_slot' m p c).trans (anyP_whole' m c)

end Subs

end Cert.KernelIdeal.Talk
-- ==== Proof.Step.lean ====
/-
One step: the loads it starts, the stores it waits for, its eight units, the stores it starts.
-/
module

public import proofs.«01_k».proof.Proof.Slots

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
variable {P : Dev nD → Vec F S4096x8192 .bf16} {κ : GSem nD τ sig → ℕ} {ιs : Key → ℕ}

local notation "PROP" => sProp (MT nD τ sig ℕ (Elt F) ℕ UU ℕ)

/-! ## Families -/

section Families

variable {α : Type} (s : Finset α) (A B C D E : α → sProp (MT nD τ sig ℕ (Elt F) ℕ UU ℕ))

theorem bs1 (h : ∀ x, A x ⊢ B x) : bigSep s A ⊢ bigSep s B := bigSep_mono fun x _ => h x
theorem bs21 (h : ∀ x, A x ⊢ iprop(B x ∗ C x)) : bigSep s A ⊢ iprop(bigSep s B ∗ bigSep s C) :=
  (bs1 s _ _ h).trans (Entails.of_eq (bigSep_sep s B C))
theorem bs2 (h : ∀ x, iprop(A x ∗ B x) ⊢ C x) : iprop(bigSep s A ∗ bigSep s B) ⊢ bigSep s C :=
  (Entails.of_eq (bigSep_sep s A B).symm).trans (bs1 s _ _ h)
theorem bs3 (h : ∀ x, iprop(A x ∗ B x ∗ C x) ⊢ D x) : iprop(bigSep s A ∗ bigSep s B ∗ bigSep s C) ⊢ bigSep s D :=
  (sep_mono .rfl (bs2 s B C (fun x => iprop(B x ∗ C x)) fun x => .rfl)).trans (bs2 s _ _ _ h)
theorem bs4 (h : ∀ x, iprop(A x ∗ B x ∗ C x ∗ D x) ⊢ E x) : iprop(bigSep s A ∗ bigSep s B ∗ bigSep s C ∗ bigSep s D) ⊢ bigSep s E :=
  (sep_mono .rfl (bs3 s B C D (fun x => iprop(B x ∗ C x ∗ D x)) fun x => .rfl)).trans (bs2 s _ _ _ h)

end Families

/-! ## Lists of pieces -/

/-- Pieces run one after the other: each uses up its own share and passes the state `T` on. -/
theorem run_flat {α : Type} [DecidableEq α] (c : Dev nD) (K : PROP) [BI.Persistent K] (f : α → List (PG (F := F))) (In Out : α → PROP) (T : ℕ → PROP) :
    ∀ (l : List α) (n : ℕ), l.Nodup → (∀ i (hi : i < l.length), iprop(K ∗ In l[i] ∗ T (n + i)) ⊢ run c (f l[i]) iprop(Out l[i] ∗ T (n + i + 1))) →
      iprop(K ∗ bigSep l.toFinset In ∗ T n) ⊢ run c (l.flatMap f) iprop(bigSep l.toFinset Out ∗ T (n + l.length)) := by
  intro l
  induction l with
  | nil =>
    intro n _ _
    rw [List.toFinset_nil, bigSep_empty, bigSep_empty, List.flatMap_nil]
    iintro ⟨-, He, HT⟩
    iapply (run_nil c _)
    isplitl [He]; · iexact He
    iexact HT
  | cons x l ih =>
    intro n hn h
    have hx : x ∉ l.toFinset := fun hx => (List.nodup_cons.mp hn).1 (List.mem_toFinset.mp hx)
    rw [List.toFinset_cons, bigSep_insert hx, bigSep_insert hx, List.flatMap_cons, List.length_cons, show n + (l.length + 1) = n + 1 + l.length by omega]
    have h0 : iprop(K ∗ In x ∗ T n) ⊢ run c (f x) iprop(Out x ∗ T (n + 1)) := h 0 (Nat.succ_pos _)
    have hr := ih (n + 1) (List.nodup_cons.mp hn).2 fun i hi => by
      have hh := h (i + 1) (Nat.succ_lt_succ hi)
      rw [show n + (i + 1) = n + 1 + i by omega] at hh
      exact hh
    refine (show iprop(K ∗ (In x ∗ bigSep l.toFinset In) ∗ T n) ⊢ run c (f x ++ l.flatMap f) iprop((Out x ∗ bigSep l.toFinset Out) ∗ T (n + 1 + l.length)) from ?_)
    iintro ⟨#HK, ⟨Hx, Hl⟩, HT⟩
    iapply (run_app c _ _ _ _ _ h0) $$ [Hx HT]
    · isplitr; · iexact HK
      isplitl [Hx]; · iexact Hx
      iexact HT
    iintro ⟨Hx, HT⟩
    ihave H := hr $$ [Hl HT]
    · isplitr; · iexact HK
      isplitl [Hl]; · iexact Hl
      iexact HT
    iapply (run_wand c _ _ _) $$ H
    iintro ⟨Hl, HT⟩
    isplitr [HT]
    · isplitl [Hx]; · iexact Hx
      iexact Hl
    · iexact HT

/-- The same where nothing is passed on but one unchanging state. -/
theorem run_each {α : Type} [DecidableEq α] (c : Dev nD) (K T : PROP) [BI.Persistent K] (f : α → List (PG (F := F))) (In Out : α → PROP)
    (l : List α) (hn : l.Nodup) (h : ∀ x, iprop(K ∗ In x ∗ T) ⊢ run c (f x) iprop(Out x ∗ T)) :
    iprop(K ∗ bigSep l.toFinset In ∗ T) ⊢ run c (l.flatMap f) iprop(bigSep l.toFinset Out ∗ T) :=
  run_flat c K f In Out (fun _ => T) l 0 hn fun i hi => h l[i]

/-- A sub-block of a direction. -/
abbrev LN : Type := Fin 2 × Fin 4

def unitL : List LN := [(0, 0), (1, 0), (0, 1), (1, 1), (0, 2), (1, 2), (0, 3), (1, 3)]
def dirL : List LN := [(0, 0), (0, 1), (0, 2), (0, 3), (1, 0), (1, 1), (1, 2), (1, 3)]

theorem unitL_univ : unitL.toFinset = Finset.univ := by decide
theorem dirL_univ : dirL.toFinset = Finset.univ := by decide
theorem dirs_univ : dirs.toFinset = Finset.univ := by decide
theorem unitL_nodup : unitL.Nodup := by decide
theorem dirL_nodup : dirL.Nodup := by decide
theorem dirs_nodup : dirs.Nodup := by decide
theorem unitL_len : unitL.length = 8 := rfl
theorem unitL_at : ∀ i (hi : i < unitL.length), (unitL[i]).2.val = i / 2 ∧ (unitL[i]).1.val = i % 2 := by decide

/-! ## The state between steps -/

section State

variable (P) (c : Dev nD)

/-- The load buffers between step `t - 1` and step `t`. -/
def CL (t : ℕ) (x : LN) : PROP :=
  if t < 15 then iprop(CP c x.1 x.2 t ∗ CFree c x.1 x.2 (t + 1)) else iprop(CFree c x.1 x.2 15 ∗ CFree c x.1 x.2 16)
/-- ... beside what unit `t` takes of them. -/
def CRem (t : ℕ) (x : LN) : PROP :=
  if t < 14 then CP c x.1 x.2 (t + 1) else if t < 15 then CFree c x.1 x.2 15 else iprop(CFree c x.1 x.2 15 ∗ CFree c x.1 x.2 16)
/-- What step `t` uses up to start the next load. -/
def LdF (t : ℕ) (x : LN) : PROP :=
  if t < 14 then iprop(win P x.1 c (t15 (t + 1)) x.2 ∗ duty c (.cpy x.1 (par (t + 1)) x.2) (ldR (t + 1) x.2) 0) else iprop(emp)
def WO (t : ℕ) (x : LN) : PROP := if t < 15 then win P x.1 c (t15 t) x.2 else iprop(emp)

/-- The widened slot of store `s` is free. -/
def FFree (s : ℕ) (d : Fin 2) : PROP := iprop(anyP c (slot (fstM d) (par (s + 1))) ∗ pos c (.sto d (par (s + 1))) (s / 2))
/-- Store `s` is on its way. -/
def SI (s : ℕ) (d : Fin 2) : PROP := iprop(crT c (.sto d (par (s + 1))) 0 NF ∗ pos c (.sto d (par (s + 1))) (s / 2))
def FQ (k : ℕ) (d : Fin 2) : PROP := if k < 16 then FFree c (k - 14) d else SI c (k - 16) d
/-- What step `t` uses up to start its store. -/
def StF (t : ℕ) (d : Fin 2) : PROP :=
  if 14 ≤ t then iprop(anyP c (outW d c (s16 (t - 14))) ∗ duty c (.sto d (par (t + 1))) ((t - 14) / 2) 0) else iprop(emp)
/-- A store done. -/
def SO (s : ℕ) (d : Fin 2) : PROP := pts c (outW d c (s16 s)) fullShare (stored P d c s)
def OD (t : ℕ) (d : Fin 2) : PROP := if 16 ≤ t then SO P c (t - 16) d else iprop(emp)
def FPos (t : ℕ) (d : Fin 2) : PROP := if 14 ≤ t then pos c (.sto d (par (t + 1))) ((t - 14) / 2) else FFree c 0 d

abbrev mx (t : ℕ) : ℕ := max t 14

def DQ (t j : ℕ) (d : Fin 2) : PROP := iprop(Cr c d (mC t j) ∗ credPay c d (nC t j))
def lane (t : ℕ) (x : LN) : PROP :=
  iprop(RQ c x.1 x.2 t ∗ RQ c x.1 x.2 (t + 1) ∗ SQ P c x.1 x.2 t ∗ SQ P c x.1 x.2 (t + 1) ∗ CL c t x)
def FD (t : ℕ) (d : Fin 2) : PROP := iprop(FQ c (mx t) d ∗ FQ c (mx t + 1) d)
/-- Before step `t`. -/
def ST (t : ℕ) : PROP :=
  iprop(Ow c (Owe c (8 * t)) ∗ (DQ c t 0 0 ∗ DQ c t 0 1) ∗ bigSep Finset.univ (lane P c t) ∗ bigSep Finset.univ (FD c t))
/-- What step `t` uses up, and what it leaves. -/
def SIn (t : ℕ) : PROP :=
  iprop((bigSep Finset.univ fun x : LN => Fuel c x.1 x.2 t) ∗ bigSep Finset.univ (LdF P c t) ∗ bigSep Finset.univ (StF c t))
def SOut (t : ℕ) : PROP := iprop(bigSep Finset.univ (WO P c t) ∗ bigSep Finset.univ (OD P c t))

end State

/-! ## The parts of a step -/

section Parts

variable (c : Dev nD) (t : ℕ)

theorem stepA (ht : t < 30) :
    iprop(Kx P κ ιs c ∗ bigSep Finset.univ fun x : LN => iprop(CL c t x ∗ LdF P c t x))
      ⊢ run c (if t < 14 then dirs.flatMap fun d => js.map fun j => ldStart F d c (t15 (t + 1)) (par (t + 1)) j else [])
        (bigSep Finset.univ fun x : LN => iprop(CI c x.1 x.2 t ∗ CRem c t x)) := by
  by_cases h : t < 14
  · have hx (x : LN) : iprop(Kx P κ ιs c ∗ (CL c t x ∗ LdF P c t x) ∗ emp)
        ⊢ run c [ldStart F x.1 c (t15 (t + 1)) (par (t + 1)) x.2] iprop((CI c x.1 x.2 t ∗ CRem c t x) ∗ emp) := by
      rw [show CL (F := F) c t x = iprop(CP c x.1 x.2 t ∗ CFree c x.1 x.2 (t + 1)) from if_pos (by omega),
        show LdF P c t x = iprop(win P x.1 c (t15 (t + 1)) x.2 ∗ duty c (.cpy x.1 (par (t + 1)) x.2) (ldR (t + 1) x.2) 0) from if_pos h,
        show CI (F := F) c x.1 x.2 t = CP c x.1 x.2 t from if_pos (by omega), show CRem (F := F) c t x = CP c x.1 x.2 (t + 1) from if_pos h,
        show CP (F := F) c x.1 x.2 (t + 1) = iprop(crT c (.cpy x.1 (par (t + 1)) x.2) 0 N32 ∗ pos c (.cpy x.1 (par (t + 1)) x.2) (ldR (t + 1) x.2)) from rfl]
      unfold CFree pos
      iintro ⟨#HK, ⟨⟨Hcp, Ha, Hat, #Hr⟩, Hw, Ht⟩, He⟩
      ihave #HC := (Kx_Cx c) $$ HK
      iapply (run_cons c _ _ _ _ _ (tr_ldStart (P := P) (κ := κ) (ιs := ιs) c x.1 x.2 (t + 1) (by omega))) $$ [Ha Hw Ht]
      · isplitr; · iexact HC
        isplitl [Hw]; · iexact Hw
        isplitl [Ha]; · iexact Ha
        isplitl [Ht]; · iexact Ht
        iexact Hr
      iintro Hc
      iapply (run_nil c _)
      isplitr [He]
      · isplitl [Hcp]; · iexact Hcp
        isplitl [Hc]; · iexact Hc
        isplitl [Hat]; · iexact Hat
        iexact Hr
      · iexact He
    have hh := run_each c (Kx P κ ιs c) iprop(emp) (fun x : LN => [ldStart F x.1 c (t15 (t + 1)) (par (t + 1)) x.2]) (fun x => iprop(CL c t x ∗ LdF P c t x))
      (fun x => iprop(CI c x.1 x.2 t ∗ CRem c t x)) dirL dirL_nodup hx
    rw [dirL_univ] at hh
    rw [if_pos h]
    iintro ⟨#HK, H⟩
    ihave H := hh $$ [H]
    · isplitr; · iexact HK
      isplitl [H]; · iexact H
      iempintro
    iapply (run_wand c _ _ _) $$ H
    iintro ⟨H, -⟩
    iexact H
  · rw [if_neg h]
    have hx (x : LN) : iprop(CL c t x ∗ LdF P c t x) ⊢ iprop(CI c x.1 x.2 t ∗ CRem c t x) := by
      rw [show LdF P c t x = iprop(emp) from if_neg h]
      by_cases h' : t < 15
      · obtain rfl : t = 14 := by omega
        rw [show CL (F := F) c 14 x = iprop(CP c x.1 x.2 14 ∗ CFree c x.1 x.2 (14 + 1)) from if_pos h',
          show CI (F := F) c x.1 x.2 14 = CP c x.1 x.2 14 from if_pos h', show CRem (F := F) c 14 x = CFree c x.1 x.2 15 from (if_neg h).trans (if_pos h')]
        iintro ⟨H, -⟩; iexact H
      · rw [show CL (F := F) c t x = iprop(CFree c x.1 x.2 15 ∗ CFree c x.1 x.2 16) from if_neg h',
          show CI (F := F) c x.1 x.2 t = iprop(emp) from if_neg h',
          show CRem (F := F) c t x = iprop(CFree c x.1 x.2 15 ∗ CFree c x.1 x.2 16) from (if_neg h).trans (if_neg h')]
        iintro ⟨H, He⟩
        isplitl [He]; · iexact He
        iexact H
    iintro ⟨-, H⟩
    iapply (run_nil c _)
    iapply (bs1 Finset.univ _ _ hx)
    iexact H

theorem sto_wait (s : ℕ) (hs : s < 16) (O : CellTallies nD τ sig ℕ) (hO : Above 0 O) (d : Fin 2) :
    iprop(Kx P κ ιs c ∗ SI c s d ∗ Ow c O) ⊢ run c [stWait F d c (s16 s) (par (s + 1))] iprop((FFree c (s + 2) d ∗ SO P c s d) ∗ Ow c O) := by
  unfold SI FFree SO
  rw [show s + 2 + 1 = s + 1 + 2 from rfl, par2, show (s + 2) / 2 = s / 2 + 1 by omega]
  iintro ⟨#HK, ⟨Hc, Hp⟩, HO⟩
  ihave #HC := (Kx_Cx c) $$ HK
  iapply (run_cons c _ _ _ _ _ (tr_stWait (P := P) (κ := κ) (ιs := ιs) c d s hs O hO)) $$ [Hc Hp HO]
  · isplitr; · iexact HC
    isplitl [Hc]; · iexact Hc
    isplitl [HO]; · iexact HO
    iexact Hp
  unfold stoPay
  rw [show (s16 s).val = s from Nat.mod_eq_of_lt hs]
  iintro ⟨HO, Hp, Ho, Hf⟩
  iapply (run_nil c _)
  isplitr [HO]
  · isplitl [Hf Hp]
    · isplitl [Hf]; · iexact Hf
      iexact Hp
    · iexact Ho
  · iexact HO

theorem stepB (ht : t < 30) (O : CellTallies nD τ sig ℕ) (hO : Above 0 O) :
    iprop(Kx P κ ιs c ∗ bigSep Finset.univ (fun d => FQ c (mx t) d) ∗ Ow c O)
      ⊢ run c (if 16 ≤ t then dirs.map fun d => stWait F d c (s16 (t - 16)) (par (t + 1)) else [])
        iprop(bigSep Finset.univ (fun d => iprop(FFree c (mx t - 14) d ∗ OD P c t d)) ∗ Ow c O) := by
  by_cases h : 16 ≤ t
  · have hm : mx t = t := max_eq_left (by omega)
    rw [if_pos h, hm]
    have hp : par (t - 16 + 1) = par (t + 1) := Fin.ext (by show (t - 16 + 1) % 2 = (t + 1) % 2; omega)
    have hx (d : Fin 2) : iprop(Kx P κ ιs c ∗ FQ c t d ∗ Ow c O)
        ⊢ run c [stWait F d c (s16 (t - 16)) (par (t + 1))] iprop((FFree c (t - 14) d ∗ OD P c t d) ∗ Ow c O) := by
      rw [show FQ (F := F) c t d = SI c (t - 16) d from if_neg (by omega), show OD P c t d = SO P c (t - 16) d from if_pos h, ← hp,
        show t - 14 = t - 16 + 2 by omega]
      exact sto_wait c (t - 16) (by omega) O hO d
    have hh := run_each c (Kx P κ ιs c) (Ow c O) (fun d : Fin 2 => [stWait F d c (s16 (t - 16)) (par (t + 1))]) (fun d => FQ c t d)
      (fun d => iprop(FFree c (t - 14) d ∗ OD P c t d)) dirs dirs_nodup hx
    rw [dirs_univ] at hh
    exact hh
  · rw [if_neg h]
    have hx (d : Fin 2) : FQ c (mx t) d ⊢ iprop(FFree c (mx t - 14) d ∗ OD P c t d) := by
      rw [show FQ (F := F) c (mx t) d = FFree c (mx t - 14) d from if_pos (by show max t 14 < 16; omega), show OD P c t d = iprop(emp) from if_neg h]
      iintro H
      isplitl [H]; · iexact H
      iempintro
    iintro ⟨-, H, HO⟩
    iapply (run_nil c _)
    isplitr [HO]
    · iapply (bs1 Finset.univ _ _ hx)
      iexact H
    · iexact HO

/-- The free slot, cut into sub-blocks for the units. -/
theorem cutF (d : Fin 2) : FFree c (mx t - 14) d ⊢ iprop((bigSep Finset.univ fun j : Fin 4 => EI (F := F) c d j t) ∗ FPos c t d) := by
  by_cases h : 14 ≤ t
  · rw [show mx t = t from max_eq_left h, show FPos (F := F) c t d = pos c (.sto d (par (t + 1))) ((t - 14) / 2) from if_pos h,
      bigSep_congr (Φ := fun j : Fin 4 => EI (F := F) c d j t) (Ψ := fun j => anyP c (sub (fstM d) (par (t + 1)) j)) fun j _ => if_pos h]
    unfold FFree
    rw [show par (t - 14 + 1) = par (t + 1) from Fin.ext (by show (t - 14 + 1) % 2 = (t + 1) % 2; omega)]
    exact sep_mono (anyP_slot _ _ c) .rfl
  · rw [show mx t = 14 from max_eq_right (by omega), show FPos (F := F) c t d = FFree c 0 d from if_neg h,
      bigSep_congr (Φ := fun j : Fin 4 => EI (F := F) c d j t) (Ψ := fun j => iprop(emp)) fun j _ => if_neg h,
      show (bigSep Finset.univ fun _ : Fin 4 => iprop(emp)) = (iprop(emp) : PROP) from bigSep_emp_const _]
    iintro H
    isplitr; · iempintro
    iexact H

theorem stepZ (ht : t < 30) (d : Fin 2) :
    iprop(Kx P κ ιs c ∗ ((bigSep Finset.univ fun j : Fin 4 => EO P c d j t) ∗ FPos c t d ∗ StF c t d) ∗ emp)
      ⊢ run c (if 14 ≤ t then [stStart F d c (s16 (t - 14)) (par (t + 1))] else []) iprop(FQ c (if 14 ≤ t then t + 2 else 14) d ∗ emp) := by
  by_cases h : 14 ≤ t
  · have hp : par (t - 14 + 1) = par (t + 1) := Fin.ext (by show (t - 14 + 1) % 2 = (t + 1) % 2; omega)
    rw [if_pos h, if_pos h, show FPos (F := F) c t d = pos c (.sto d (par (t + 1))) ((t - 14) / 2) from if_pos h,
      show StF (F := F) c t d = iprop(anyP c (outW d c (s16 (t - 14))) ∗ duty c (.sto d (par (t + 1))) ((t - 14) / 2) 0) from if_pos h,
      bigSep_congr (Φ := fun j : Fin 4 => EO P c d j t) (Ψ := fun j => pts c (sub (fstM d) (par (t + 1)) j) fullShare (widen (X P d j (t + 1) c))) fun j _ => if_pos h,
      show FQ (F := F) c (t + 2) d = SI c (t + 2 - 16) d from if_neg (by omega), show t + 2 - 16 = t - 14 by omega]
    unfold SI pos
    rw [← hp]
    have hst : stored P d c (t - 14) = glue fun j => widen (X P d j (t + 1) c) := by
      unfold stored; rw [show t - 14 + 15 = t + 1 by omega]
    have hj := Entails.of_eq (pts_slot (F := F) (fstM d) (par (t - 14 + 1)) c fun j => widen (X P d j (t + 1) c)).symm
    rw [← hst] at hj
    iintro ⟨#HK, ⟨Hf, ⟨Hat, #Hr⟩, Ho, Ht⟩, He⟩
    ihave #HC := (Kx_Cx c) $$ HK
    ihave Hf := hj $$ Hf
    iapply (run_cons c _ _ _ _ _ (tr_stStart (P := P) (κ := κ) (ιs := ιs) c d (t - 14) (by omega))) $$ [Hf Ho Ht]
    · isplitr; · iexact HC
      isplitl [Hf]; · iexact Hf
      isplitl [Ho]; · iexact Ho
      isplitl [Ht]; · iexact Ht
      iexact Hr
    iintro Hc
    iapply (run_nil c _)
    isplitr [He]
    · isplitl [Hc]; · iexact Hc
      isplitl [Hat]; · iexact Hat
      iexact Hr
    · iexact He
  · rw [if_neg h, if_neg h, show FPos (F := F) c t d = FFree c 0 d from if_neg h, show FQ (F := F) c 14 d = FFree c 0 d from if_pos (by omega)]
    iintro ⟨-, ⟨-, H, -⟩, He⟩
    iapply (run_nil c _)
    isplitl [H]; · iexact H
    iexact He

/-- What the units of step `t` pass on. -/
def TU (i : ℕ) : PROP := iprop(Ow c (Owe c (8 * t + i)) ∗ DQ c t ((i + 1) / 2) 0 ∗ DQ c t (i / 2) 1)

theorem unit_T (ht : t < 30) (x : LN) (i : ℕ) (hj : x.2.val = i / 2) (hd : x.1.val = i % 2) :
    iprop(Kx P κ ιs c ∗ UIn P c x.1 x.2 t ∗ TU c t i) ⊢ run c (unit F c t x.2 x.1) iprop(UOut P c x.1 x.2 t ∗ TU c t (i + 1)) := by
  obtain ⟨d, j⟩ := x
  have hj : j.val = i / 2 := hj
  have hd : d.val = i % 2 := hd
  match d with
  | 0 =>
    have hd : 0 = i % 2 := hd
    obtain rfl : i = 2 * j.val := by omega
    have h := unit_tr (P := P) (κ := κ) (ιs := ιs) c t ht j 0
    rw [show 8 * t + 2 * j.val + (0 : Fin 2).val = 8 * t + 2 * j.val from rfl] at h
    unfold TU DQ
    rw [show (2 * j.val + 1) / 2 = j.val by omega, show 2 * j.val / 2 = j.val by omega, show (2 * j.val + 1 + 1) / 2 = j.val + 1 by omega,
      show 8 * t + (2 * j.val + 1) = 8 * t + 2 * j.val + 1 from rfl]
    iintro ⟨#HK, Hu, HO, ⟨Hr, Hn⟩, H1⟩
    ihave H := h $$ [Hu HO Hr Hn]
    · isplitr; · iexact HK
      isplitl [Hu]; · iexact Hu
      isplitl [HO]; · iexact HO
      isplitl [Hr]; · iexact Hr
      iexact Hn
    iapply (run_wand c _ _ _) $$ H
    iintro ⟨Hu, HO, Hr, Hn⟩
    isplitl [Hu]; · iexact Hu
    isplitl [HO]; · iexact HO
    isplitr [H1]
    · isplitl [Hr]; · iexact Hr
      iexact Hn
    · iexact H1
  | 1 =>
    have hd : 1 = i % 2 := hd
    obtain rfl : i = 2 * j.val + 1 := by omega
    have h := unit_tr (P := P) (κ := κ) (ιs := ιs) c t ht j 1
    rw [show 8 * t + 2 * j.val + (1 : Fin 2).val = 8 * t + 2 * j.val + 1 from rfl] at h
    unfold TU DQ
    rw [show (2 * j.val + 1) / 2 = j.val by omega, show (2 * j.val + 1 + 1) / 2 = j.val + 1 by omega, show (2 * j.val + 1 + 1 + 1) / 2 = j.val + 1 by omega,
      show 8 * t + (2 * j.val + 1) = 8 * t + 2 * j.val + 1 from rfl, show 8 * t + (2 * j.val + 1 + 1) = 8 * t + 2 * j.val + 1 + 1 from rfl]
    iintro ⟨#HK, Hu, HO, H0, ⟨Hr, Hn⟩⟩
    ihave H := h $$ [Hu HO Hr Hn]
    · isplitr; · iexact HK
      isplitl [Hu]; · iexact Hu
      isplitl [HO]; · iexact HO
      isplitl [Hr]; · iexact Hr
      iexact Hn
    iapply (run_wand c _ _ _) $$ H
    iintro ⟨Hu, HO, Hr, Hn⟩
    isplitl [Hu]; · iexact Hu
    isplitl [HO]; · iexact HO
    isplitl [H0]; · iexact H0
    isplitl [Hr]; · iexact Hr
    iexact Hn

theorem stepU (ht : t < 30) :
    iprop(Kx P κ ιs c ∗ bigSep Finset.univ (fun x : LN => UIn P c x.1 x.2 t) ∗ TU c t 0)
      ⊢ run c (js.flatMap fun j => dirs.flatMap fun d => unit F c t j d) iprop(bigSep Finset.univ (fun x : LN => UOut P c x.1 x.2 t) ∗ TU c t 8) := by
  have hl : (js.flatMap fun j => dirs.flatMap fun d => unit F c t j d) = unitL.flatMap fun x => unit F c t x.2 x.1 := by
    simp only [js, dirs, unitL, List.flatMap_cons, List.flatMap_nil, List.append_assoc, List.append_nil]
  have h := run_flat c (Kx P κ ιs c) (fun x : LN => unit F c t x.2 x.1) (fun x => UIn P c x.1 x.2 t) (fun x => UOut P c x.1 x.2 t) (TU c t) unitL 0 unitL_nodup
    fun i hi => by
      rw [Nat.zero_add]
      exact unit_T c t ht _ i (unitL_at i hi).1 (unitL_at i hi).2
  rw [unitL_univ, unitL_len] at h
  rw [hl]
  exact h

theorem DQ_next (ht : t < 30) (d : Fin 2) : DQ (F := F) c t 4 d = DQ c (t + 1) 0 d := by
  have h1 : mC t 4 = mC (t + 1) 0 := by
    unfold mC
    by_cases h0 : t = 0
    · subst h0; rfl
    · rw [if_neg h0, if_neg (Nat.succ_ne_zero t)]
      split <;> split <;> omega
  have h2 : nC t 4 = nC (t + 1) 0 := by
    unfold nC
    split <;> split <;> omega
  unfold DQ; rw [h1, h2]

/-- The sub-blocks after the units are those before the next step. -/
theorem lane_next (x : LN) :
    iprop(UOut P c x.1 x.2 t ∗ (RQ c x.1 x.2 (t + 1) ∗ SQ P c x.1 x.2 (t + 1)) ∗ CRem c t x)
      ⊢ iprop(lane P c (t + 1) x ∗ WO P c t x ∗ EO P c x.1 x.2 t) := by
  have hcl : iprop(CO P c x.1 x.2 t ∗ CRem c t x) ⊢ iprop(CL c (t + 1) x ∗ WO P c t x) := by
    by_cases h : t < 14
    · rw [show CO P c x.1 x.2 t = iprop(CFree c x.1 x.2 (t + 2) ∗ win P x.1 c (t15 t) x.2) from if_pos (by omega), show CRem (F := F) c t x = CP c x.1 x.2 (t + 1) from if_pos h,
        show CL (F := F) c (t + 1) x = iprop(CP c x.1 x.2 (t + 1) ∗ CFree c x.1 x.2 (t + 1 + 1)) from if_pos (by omega), show WO P c t x = win P x.1 c (t15 t) x.2 from if_pos (by omega)]
      iintro ⟨⟨H1, H2⟩, H3⟩
      isplitr [H2]
      · isplitl [H3]; · iexact H3
        iexact H1
      · iexact H2
    · by_cases h' : t < 15
      · obtain rfl : t = 14 := by omega
        rw [show CO P c x.1 x.2 14 = iprop(CFree c x.1 x.2 16 ∗ win P x.1 c (t15 14) x.2) from if_pos h', show CRem (F := F) c 14 x = CFree c x.1 x.2 15 from (if_neg h).trans (if_pos h'),
          show CL (F := F) c (14 + 1) x = iprop(CFree c x.1 x.2 15 ∗ CFree c x.1 x.2 16) from if_neg (by omega), show WO P c 14 x = win P x.1 c (t15 14) x.2 from if_pos h']
        iintro ⟨⟨H1, H2⟩, H3⟩
        isplitr [H2]
        · isplitl [H3]; · iexact H3
          iexact H1
        · iexact H2
      · rw [show CO P c x.1 x.2 t = iprop(emp) from if_neg h', show CRem (F := F) c t x = iprop(CFree c x.1 x.2 15 ∗ CFree c x.1 x.2 16) from (if_neg h).trans (if_neg h'),
          show CL (F := F) c (t + 1) x = iprop(CFree c x.1 x.2 15 ∗ CFree c x.1 x.2 16) from if_neg (by omega), show WO P c t x = iprop(emp) from if_neg h']
        iintro ⟨He, H⟩
        isplitl [H]; · iexact H
        iexact He
  unfold UOut lane
  iintro ⟨⟨Hr2, Hs2, Hco, Heo⟩, ⟨Hr1, Hs1⟩, Hcr⟩
  ihave H := hcl $$ [Hco Hcr]
  · isplitl [Hco]; · iexact Hco
    iexact Hcr
  icases H with ⟨Hcl, Hwo⟩
  isplitr [Hwo Heo]
  · isplitl [Hr1]; · iexact Hr1
    isplitl [Hr2]; · iexact Hr2
    isplitl [Hs1]; · iexact Hs1
    isplitl [Hs2]; · iexact Hs2
    iexact Hcl
  · isplitl [Hwo]; · iexact Hwo
    iexact Heo

theorem FD_next (d : Fin 2) : iprop(FQ c (mx t + 1) d ∗ FQ c (if 14 ≤ t then t + 2 else 14) d) ⊢ FD (F := F) c (t + 1) d := by
  unfold FD
  by_cases h : 14 ≤ t
  · rw [if_pos h, show mx (t + 1) = t + 1 from max_eq_left (by omega), show mx t = t from max_eq_left h]
  · rw [if_neg h, show mx (t + 1) = 14 from max_eq_right (by omega), show mx t = 14 from max_eq_right (by omega)]; exact sep_comm.1

theorem stepZs (ht : t < 30) :
    iprop(Kx P κ ιs c ∗ bigSep Finset.univ (fun d => iprop((bigSep Finset.univ fun j : Fin 4 => EO P c d j t) ∗ FPos c t d ∗ StF c t d)) ∗ emp)
      ⊢ run c (if 14 ≤ t then dirs.map fun d => stStart F d c (s16 (t - 14)) (par (t + 1)) else [])
        iprop(bigSep Finset.univ (fun d => FQ c (if 14 ≤ t then t + 2 else 14) d) ∗ emp) := by
  have hl : (if 14 ≤ t then dirs.map fun d => stStart F d c (s16 (t - 14)) (par (t + 1)) else [])
      = dirs.flatMap fun d => if 14 ≤ t then [stStart F d c (s16 (t - 14)) (par (t + 1))] else [] := by
    split <;> rfl
  have h := run_each c (Kx P κ ιs c) iprop(emp) (fun d : Fin 2 => if 14 ≤ t then [stStart F d c (s16 (t - 14)) (par (t + 1))] else [])
    (fun d => iprop((bigSep Finset.univ fun j : Fin 4 => EO P c d j t) ∗ FPos c t d ∗ StF c t d)) (fun d => FQ c (if 14 ≤ t then t + 2 else 14) d) dirs dirs_nodup
    (fun d => stepZ c t ht d)
  rw [dirs_univ] at h
  rw [hl]
  exact h

end Parts

/-! ## The step -/

theorem step_tr (c : Dev nD) (t : ℕ) (ht : t < 30) :
    iprop(Kx P κ ιs c ∗ SIn P c t ∗ ST P c t) ⊢ run c (step F c t) iprop(SOut P c t ∗ ST P c (t + 1)) := by
  have hO : Above 0 (Owe c (8 * t)) := above_Owe c _ _ (by omega)
  have hlane (x : LN) : lane P c t x ⊢ iprop(((RQ c x.1 x.2 t ∗ SQ P c x.1 x.2 t) ∗ (RQ c x.1 x.2 (t + 1) ∗ SQ P c x.1 x.2 (t + 1))) ∗ CL c t x) := by
    unfold lane
    iintro ⟨H1, H2, H3, H4, H5⟩
    isplitr [H5]
    · isplitl [H1 H3]
      · isplitl [H1]; · iexact H1
        iexact H3
      · isplitl [H2]; · iexact H2
        iexact H4
    · iexact H5
  have huin (x : LN) : iprop((RQ c x.1 x.2 t ∗ SQ P c x.1 x.2 t) ∗ CI c x.1 x.2 t ∗ EI c x.1 x.2 t ∗ Fuel c x.1 x.2 t) ⊢ UIn P c x.1 x.2 t := by
    unfold UIn
    iintro ⟨⟨H1, H2⟩, H3, H4, H5⟩
    isplitl [H1]; · iexact H1
    isplitl [H2]; · iexact H2
    isplitl [H3]; · iexact H3
    isplitl [H4]; · iexact H4
    iexact H5
  have hei : (bigSep Finset.univ fun d : Fin 2 => bigSep Finset.univ fun j : Fin 4 => EI (F := F) c d j t) ⊢ bigSep Finset.univ fun x : LN => EI c x.1 x.2 t :=
    Entails.of_eq (bigSep_univ_prod (fun x : LN => EI (F := F) c x.1 x.2 t)).symm
  have heo : (bigSep Finset.univ fun x : LN => EO P c x.1 x.2 t) ⊢ bigSep Finset.univ fun d : Fin 2 => bigSep Finset.univ fun j : Fin 4 => EO P c d j t :=
    Entails.of_eq (bigSep_univ_prod (fun x : LN => EO P c x.1 x.2 t))
  unfold step SIn SOut ST
  simp only [List.append_assoc]
  iintro ⟨#HK, ⟨Hfu, Hld, Hsf⟩, HO, ⟨Hd0, Hd1⟩, Hl, Hf⟩
  ihave Hl := (bs21 Finset.univ _ _ _ hlane) $$ Hl
  icases Hl with ⟨Hl, Hcl⟩
  ihave Hl := (bs21 Finset.univ _ (fun x : LN => iprop(RQ c x.1 x.2 t ∗ SQ P c x.1 x.2 t)) (fun x => iprop(RQ c x.1 x.2 (t + 1) ∗ SQ P c x.1 x.2 (t + 1))) (fun x => .rfl)) $$ Hl
  icases Hl with ⟨Hl1, Hl2⟩
  iapply (run_app c _ _ _ _ _ (stepA (P := P) (κ := κ) (ιs := ιs) c t ht)) $$ [Hcl Hld]
  · isplitr; · iexact HK
    iapply (bs2 Finset.univ (CL c t) (LdF P c t) _ fun x => .rfl)
    isplitl [Hcl]; · iexact Hcl
    iexact Hld
  iintro Hc
  ihave Hc := (bs21 Finset.univ _ (fun x : LN => CI (F := F) c x.1 x.2 t) (CRem c t) (fun x => .rfl)) $$ Hc
  icases Hc with ⟨Hci, Hcr⟩
  ihave Hf := (bs21 Finset.univ (FD c t) (fun d => FQ (F := F) c (mx t) d) (fun d => FQ c (mx t + 1) d) (fun x => .rfl)) $$ Hf
  icases Hf with ⟨Hf1, Hf2⟩
  iapply (run_app c _ _ _ _ _ (stepB (P := P) (κ := κ) (ιs := ιs) c t ht (Owe c (8 * t)) hO)) $$ [Hf1 HO]
  · isplitr; · iexact HK
    isplitl [Hf1]; · iexact Hf1
    iexact HO
  iintro ⟨Hf, HO⟩
  ihave Hf := (bs21 Finset.univ _ (fun d => FFree (F := F) c (mx t - 14) d) (OD P c t) (fun x => .rfl)) $$ Hf
  icases Hf with ⟨Hf, Hod⟩
  ihave Hf := (bs21 Finset.univ _ (fun d : Fin 2 => bigSep Finset.univ fun j : Fin 4 => EI (F := F) c d j t) (FPos c t) (fun d => cutF c t d)) $$ Hf
  icases Hf with ⟨Hei, Hfp⟩
  ihave Hei := hei $$ Hei
  iapply (run_app c _ _ _ _ _ (stepU (P := P) (κ := κ) (ιs := ιs) c t ht)) $$ [Hl1 Hci Hei Hfu HO Hd0 Hd1]
  · isplitr; · iexact HK
    isplitr [HO Hd0 Hd1]
    · iapply (bs4 Finset.univ _ _ _ _ _ huin)
      isplitl [Hl1]; · iexact Hl1
      isplitl [Hci]; · iexact Hci
      isplitl [Hei]; · iexact Hei
      iexact Hfu
    · unfold TU
      isplitl [HO]; · iexact HO
      isplitl [Hd0]; · iexact Hd0
      iexact Hd1
  rw [show TU (F := F) c t 8 = iprop(Ow c (Owe c (8 * t + 8)) ∗ DQ c t 4 0 ∗ DQ c t 4 1) from rfl, DQ_next c t ht 0, DQ_next c t ht 1,
    show 8 * t + 8 = 8 * (t + 1) from rfl]
  iintro ⟨Hu, HO, Hd0, Hd1⟩
  ihave Hn := (bs3 Finset.univ _ _ _ _ (lane_next (P := P) c t)) $$ [Hu Hl2 Hcr]
  · isplitl [Hu]; · iexact Hu
    isplitl [Hl2]; · iexact Hl2
    iexact Hcr
  ihave Hn := (bs21 Finset.univ _ (lane P c (t + 1)) (fun x => iprop(WO P c t x ∗ EO P c x.1 x.2 t)) (fun x => .rfl)) $$ Hn
  icases Hn with ⟨Hl, Hn⟩
  ihave Hn := (bs21 Finset.univ _ (WO P c t) (fun x : LN => EO P c x.1 x.2 t) (fun x => .rfl)) $$ Hn
  icases Hn with ⟨Hwo, Heo⟩
  ihave Heo := heo $$ Heo
  ihave H := (stepZs (P := P) (κ := κ) (ιs := ιs) c t ht) $$ [Heo Hfp Hsf]
  · isplitr; · iexact HK
    isplitl [Heo Hfp Hsf]
    · iapply (bs3 Finset.univ _ _ _ _ fun x => .rfl)
      isplitl [Heo]; · iexact Heo
      isplitl [Hfp]; · iexact Hfp
      iexact Hsf
    · iempintro
  iapply (run_wand c _ _ _) $$ H
  iintro ⟨Hfq, -⟩
  isplitl [Hwo Hod]
  · isplitl [Hwo]; · iexact Hwo
    iexact Hod
  isplitl [HO]; · iexact HO
  isplitl [Hd0 Hd1]
  · isplitl [Hd0]; · iexact Hd0
    iexact Hd1
  isplitl [Hl]; · iexact Hl
  iapply (bs2 Finset.univ _ _ _ (FD_next c t))
  isplitl [Hf2]; · iexact Hf2
  iexact Hfq

end Cert.KernelIdeal.Talk
-- ==== Proof.Begin.lean ====
/-
The first statements of the body: the barrier, the first chunk, the first transfers.
-/
module

public import proofs.«01_k».proof.Proof.Step

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

variable {P : Dev nD → Vec F S4096x8192 .bf16} {κ : GSem nD τ sig → ℕ} {ιs : Key → ℕ}

local notation "PROP" => sProp (MT nD τ sig ℕ (Elt F) ℕ UU ℕ)

/-- A sub-block of one of the two slots of a direction. -/
abbrev K3 : Type := Fin 2 × Fin 2 × Fin 4

/-- Slot by slot. -/
theorem re3 (Φ : Fin 2 → Fin 2 → Fin 4 → PROP) :
    (bigSep Finset.univ fun x : K3 => Φ x.1 x.2.1 x.2.2) = bigSep Finset.univ fun x : LN => iprop(Φ x.1 0 x.2 ∗ Φ x.1 1 x.2) := by
  rw [bigSep_univ_prod, bigSep_univ_prod]
  refine bigSep_congr fun d _ => ?_
  rw [bigSep_univ_prod, bigSep_fin_two]
  exact (bigSep_sep Finset.univ (fun j => Φ d 0 j) (fun j => Φ d 1 j)).symm

theorem one3 (Φ : K3 → PROP) : (bigSep Finset.univ Φ) = bigSep Finset.univ fun d : Fin 2 => bigSep Finset.univ fun x : Fin 2 × Fin 4 => Φ (d, x) :=
  bigSep_univ_prod Φ

/-! ## Every receive sub-block handed over for the first time -/

theorem give_all (c : Dev nD) :
    iprop(Cx P κ ιs ∗ (bigSep Finset.univ fun x : K3 => readerAt (ES (F := F)) (c, x.1, x.2.1, x.2.2) 0)
        ∗ bigSep Finset.univ fun x : K3 => anyP c (sub (recvM x.1) x.2.1 x.2.2))
      ⊢ iprop(|={Set.univ}=> ((bigSep Finset.univ fun x : K3 => readerAt (ES (F := F)) (c, x.1, x.2.1, x.2.2) 1)
        ∗ bigSep Finset.univ fun x : K3 => released (ES (F := F)) (c, x.1, x.2.1, x.2.2) 1) : PROP) := by
  have hx (x : K3) (_ : x ∈ Finset.univ) : iprop(Cx P κ ιs ∗ (readerAt (ES (F := F)) (c, x.1, x.2.1, x.2.2) 0 ∗ anyP c (sub (recvM x.1) x.2.1 x.2.2)))
      ⊢ iprop(|={Set.univ}=> (readerAt (ES (F := F)) (c, x.1, x.2.1, x.2.2) 1 ∗ released (ES (F := F)) (c, x.1, x.2.1, x.2.2) 1) : PROP) :=
    give_back c x.1 x.2.1 x.2.2 0
  have h1 : iprop(Cx P κ ιs ∗ bigSep Finset.univ fun x : K3 => iprop(readerAt (ES (F := F)) (c, x.1, x.2.1, x.2.2) 0 ∗ anyP c (sub (recvM x.1) x.2.1 x.2.2)))
      ⊢ bigSep Finset.univ fun x : K3 => iprop(|={Set.univ}=> (readerAt (ES (F := F)) (c, x.1, x.2.1, x.2.2) 1 ∗ released (ES (F := F)) (c, x.1, x.2.1, x.2.2) 1) : PROP) :=
    bigSep_with_persistent hx
  have h2 := bigSep_fupd (Fr := frame) (E := Set.univ) (M := MT nD τ sig ℕ (Elt F) ℕ UU ℕ) (Finset.univ : Finset K3)
    fun x => iprop(readerAt (ES (F := F)) (c, x.1, x.2.1, x.2.2) 1 ∗ released (ES (F := F)) (c, x.1, x.2.1, x.2.2) 1)
  iintro ⟨#HC, H1, H2⟩
  ihave H := h1 $$ [H1 H2]
  · isplitr; · iexact HC
    iapply (bs2 Finset.univ _ _ _ fun x => .rfl)
    isplitl [H1]; · iexact H1
    iexact H2
  imod h2 $$ H with H
  imodintro
  iapply (bs21 Finset.univ _ _ _ fun x => .rfl); iexact H

theorem barPay_intro (c : Dev nD) (d : Fin 2) :
    iprop((bigSep Finset.univ fun x : K3 => released (ES (F := F)) (c, x.1, x.2.1, x.2.2) 1)
        ∗ (bigSep Finset.univ fun x : K3 => reached (ER (F := F)) (cell c (.rcv x.1 x.2.1 x.2.2)) 0)
        ∗ bigSep Finset.univ fun e : Fin 2 => reached (ER (F := F)) (cell c (.crd e)) 0)
      ⊢ (barPay c d : PROP) := by
  rw [one3, one3]
  have h1 : (bigSep Finset.univ fun e : Fin 2 => bigSep Finset.univ fun x : Fin 2 × Fin 4 => released (ES (F := F)) (c, e, x.1, x.2) 1)
      ⊢ (bigSep Finset.univ fun x : Fin 2 × Fin 4 => released (ES (F := F)) (c, d, x.1, x.2) 1 : PROP) := bigSep_elim (i := d) (Finset.mem_univ d)
  have h2 : (bigSep Finset.univ fun e : Fin 2 => bigSep Finset.univ fun x : Fin 2 × Fin 4 => reached (ER (F := F)) (cell c (.rcv e x.1 x.2)) 0)
      ⊢ (bigSep Finset.univ fun x : Fin 2 × Fin 4 => reached (ER (F := F)) (cell c (.rcv d x.1 x.2)) 0 : PROP) := bigSep_elim (i := d) (Finset.mem_univ d)
  have h3 : (bigSep Finset.univ fun e : Fin 2 => reached (ER (F := F)) (cell c (.crd e)) 0) ⊢ (reached (ER (F := F)) (cell c (.crd (1 - d))) 0 : PROP) :=
    bigSep_elim (i := 1 - d) (Finset.mem_univ (1 - d))
  unfold barPay
  iintro ⟨H1, H2, H3⟩
  isplitl [H3]; · iapply h3; iexact H3
  iapply (bs2 Finset.univ _ _ _ fun x => .rfl)
  isplitl [H1]; · iapply h1; iexact H1
  iapply h2; iexact H2

/-! ## The barrier -/

theorem pre_bar (c : Dev nD) :
    iprop(Cx P κ ιs ∗ (barPay c 0 ∗ barPay c 1) ∗ Ow c (OweB c) ∗ (crT c .bar 1 2 ∗ pos c .bar 0)
        ∗ (duty (ackN 0 c) .bar 0 0 ∗ duty (ackN 1 c) .bar 0 1) ∗ (reached (ER (F := F)) (cell (ackN 0 c) .bar) 0 ∗ reached (ER (F := F)) (cell (ackN 1 c) .bar) 0))
      ⊢ run (F := F) c [barSig F 0 c, barSig F 1 c, barWait F] iprop(Ow c (OweI c 0) ∗ pos c .bar 1 ∗ Kx P κ ιs c) := by
  unfold OweB Kx
  iintro ⟨#HC, ⟨#Hb0, #Hb1⟩, HO, ⟨Hc, Hat⟩, ⟨Ht0, Ht1⟩, #Hr0, #Hr1⟩
  iapply (run_cons c _ _ _ _ _ (tr_barSig (P := P) (κ := κ) (ιs := ιs) c 0 (OweI c 0 + payB c 1))) $$ [HO Ht0]
  · isplitr; · iexact HC
    isplitr; · iexact Hb0
    isplitl [HO]; · iexact HO
    isplitl [Ht0]; · iexact Ht0
    iexact Hr0
  iintro HO
  iapply (run_cons c _ _ _ _ _ (tr_barSig (P := P) (κ := κ) (ιs := ιs) c 1 (OweI c 0))) $$ [HO Ht1]
  · isplitr; · iexact HC
    isplitr; · iexact Hb1
    isplitl [HO]; · iexact HO
    isplitl [Ht1]; · iexact Ht1
    iexact Hr1
  iintro HO
  iapply (run_cons c _ _ _ _ _ (tr_barWait (P := P) (κ := κ) (ιs := ιs) c (OweI c 0) (above_OweI c 0 1 (by omega)))) $$ [HO Hc Hat]
  · isplitr; · iexact HC
    isplitl [Hc]; · iexact Hc
    isplitl [HO]; · iexact HO
    iexact Hat
  iintro ⟨HO, Hat, #H0, #H1⟩
  iapply (run_nil c _)
  isplitl [HO]; · iexact HO
  isplitl [Hat]; · iexact Hat
  isplitr; · iexact HC
  isplitr; · iexact H0
  iexact H1

/-! ## The first chunk -/

section First

variable (P) (c : Dev nD)

def MeI (d : Fin 2) : PROP := iprop(winMe P d c ∗ anyP c (slot (sendM d) 0) ∗ duty c (.cpy d 0 0) 0 0 ∗ pos c (.cpy d 0 0) 0)
def MeO (d : Fin 2) : PROP := iprop(pos c (.cpy d 0 0) 1 ∗ winMe P d c ∗ bigSep Finset.univ fun j : Fin 4 => pts c (sub (sendM d) 0 j) fullShare (X P d j 0 c))

theorem pre_me (d : Fin 2) :
    iprop(Kx P κ ιs c ∗ MeI P c d ∗ Ow c (OweI c 0)) ⊢ run c [meStart F d c, meWait F d c] iprop(MeO P c d ∗ Ow c (OweI c 0)) := by
  have hs : pts c (slot (sendM d) 0) fullShare (glue fun j => chunkRow P d c 0 j) ⊢ (bigSep Finset.univ fun j : Fin 4 => pts c (sub (sendM d) 0 j) fullShare (X P d j 0 c) : PROP) :=
    Entails.of_eq (pts_slot (sendM d) 0 c fun j => chunkRow P d c 0 j)
  unfold MeI MeO
  rw [show pos (F := F) c (.cpy d 0 0) 0 = iprop(atPos (ER (F := F)) (cell c (.cpy d 0 0)) 0 ∅ 0 ∗ reached (ER (F := F)) (cell c (.cpy d 0 0)) 0) from rfl]
  iintro ⟨#HK, ⟨Hw, Hs, Ht, Hat, #Hr⟩, HO⟩
  ihave #HC := (Kx_Cx c) $$ HK
  iapply (run_cons c _ _ _ _ _ (tr_meStart (P := P) (κ := κ) (ιs := ιs) c d)) $$ [Hw Hs Ht]
  · isplitr; · iexact HC
    isplitl [Hw]; · iexact Hw
    isplitl [Hs]; · iexact Hs
    isplitl [Ht]; · iexact Ht
    iexact Hr
  iintro Hc
  iapply (run_cons c _ _ _ _ _ (tr_meWait (P := P) (κ := κ) (ιs := ιs) c d (OweI c 0) (above_OweI c 0 0 (by omega)))) $$ [Hc HO Hat]
  · isplitr; · iexact HC
    isplitl [Hc]; · iexact Hc
    isplitl [HO]; · iexact HO
    unfold pos
    isplitl [Hat]; · iexact Hat
    iexact Hr
  unfold mePay
  iintro ⟨HO, Hp, Hs, Hw⟩
  iapply (run_nil c _)
  isplitr [HO]
  · isplitl [Hp]; · iexact Hp
    isplitl [Hw]; · iexact Hw
    iapply hs; iexact Hs
  · iexact HO

/-! ## The first transfers and loads -/

def RdI (d : Fin 2) (j : Fin 4) : PROP :=
  iprop(pts c (sub (sendM d) 0 j) fullShare (X P d j 0 c) ∗ pos c (.snd d 0 j) 0 ∗ (duty c (.snd d 0 j) 0 0 ∗ duty (peerN d c) (.rcv d 0 j) 0 0)
    ∗ writeTok (ES (F := F)) (peerN d c, d, 0, j) 1)
def LdI (d : Fin 2) (j : Fin 4) : PROP :=
  iprop(win P d c 0 j ∗ anyP c (sub (locM d) 0 j) ∗ duty c (.cpy d 0 j) (ldR 0 j) 0 ∗ pos c (.cpy d 0 j) (ldR 0 j))

theorem pre_rdma (d : Fin 2) (j : Fin 4) (O : CellTallies nD τ sig ℕ) :
    iprop(Kx P κ ιs c ∗ (RdI P c d j ∗ LdI P c d j) ∗ Ow c (O + tallyAt (cell (peerN d c) (.rcv d 0 j)) 2 N32))
      ⊢ run c [rdma F d c 0 j, ldStart F d c 0 0 j] iprop((SH P c d j 0 ∗ CP c d j 0) ∗ Ow c O) := by
  have h1 : iprop(Cx P κ ιs ∗ pts c (sub (sendM d) 0 j) fullShare (X P d j 0 c)
        ∗ released (ES (F := F)) (peerN d c, d, 0, j) 1 ∗ writeTok (ES (F := F)) (peerN d c, d, 0, j) 1
        ∗ reached (ER (F := F)) (cell (peerN d c) (.rcv d 0 j)) 0
        ∗ Ow c (O + tallyAt (cell (peerN d c) (.rcv d 0 j)) 2 N32)
        ∗ duty c (.snd d 0 j) 0 0 ∗ reached (ER (F := F)) (cell c (.snd d 0 j)) 0
        ∗ duty (peerN d c) (.rcv d 0 j) 0 0)
      ⊢ run1 (F := F) c (rdma F d c 0 j)
        iprop(crT c (.snd d 0 j) 0 N32 ∗ Ow c O ∗ pts c (sub (sendM d) 0 j) hr (X P d j 0 c)) := tr_rdma c d j 0 (by omega) O
  have h2 : iprop(Cx P κ ιs ∗ win P d c 0 j ∗ anyP c (sub (locM d) 0 j) ∗ duty c (.cpy d 0 j) (ldR 0 j) 0
        ∗ reached (ER (F := F)) (cell c (.cpy d 0 j)) (ldR 0 j))
      ⊢ run1 (F := F) c (ldStart F d c 0 0 j) (crT c (.cpy d 0 j) 0 N32) := tr_ldStart c d j 0 (by omega)
  have h3 : iprop(pts c (sub (sendM d) 0 j) hr (X P d j 0 c) ∗ crT c (.snd d 0 j) 0 N32 ∗ pos c (.snd d 0 j) 0) ⊢ SH P c d j 0 := .rfl
  have h4 : iprop(crT (F := F) c (.cpy d 0 j) 0 N32 ∗ pos c (.cpy d 0 j) (ldR 0 j)) ⊢ CP c d j 0 := .rfl
  unfold RdI LdI
  iintro ⟨#HK, ⟨⟨Hs, Hp, ⟨Ht, Ht'⟩, Hw⟩, Hwin, Hl, Htc, Hpc⟩, HO⟩
  ihave #HC := (Kx_Cx c) $$ HK
  ihave #Hb := (Kx_bar c d) $$ HK
  ihave #Hb := (barPay_first (peerN d c) d 0 j) $$ Hb
  icases Hb with ⟨#Hrel, #Hrr⟩
  unfold pos
  icases Hp with ⟨Hat, #Hr⟩
  icases Hpc with ⟨Hatc, #Hrc⟩
  iapply (run_cons c _ _ _ _ _ h1) $$ [Hs Hw HO Ht Ht']
  · isplitr; · iexact HC
    isplitl [Hs]; · iexact Hs
    isplitr; · iexact Hrel
    isplitl [Hw]; · iexact Hw
    isplitr; · iexact Hrr
    isplitl [HO]; · iexact HO
    isplitl [Ht]; · iexact Ht
    isplitr; · iexact Hr
    iexact Ht'
  iintro ⟨Hc, HO, Hs⟩
  iapply (run_cons c _ _ _ _ _ h2) $$ [Hwin Hl Htc]
  · isplitr; · iexact HC
    isplitl [Hwin]; · iexact Hwin
    isplitl [Hl]; · iexact Hl
    isplitl [Htc]; · iexact Htc
    iexact Hrc
  iintro Hcc
  iapply (run_nil c _)
  isplitr [HO]
  · isplitl [Hs Hc Hat]
    · iapply h3
      isplitl [Hs]; · iexact Hs
      isplitl [Hc]; · iexact Hc
      unfold pos
      isplitl [Hat]; · iexact Hat
      iexact Hr
    · iapply h4
      isplitl [Hcc]; · iexact Hcc
      unfold pos
      isplitl [Hatc]; · iexact Hatc
      iexact Hrc
  · iexact HO

theorem dirL_at : ∀ i (hi : i < dirL.length), (dirL[i]).1 = payI.dirI i ∧ (dirL[i]).2 = payI.subI i := by decide

theorem pre_rdmas :
    iprop(Kx P κ ιs c ∗ (bigSep Finset.univ fun x : LN => iprop(RdI P c x.1 x.2 ∗ LdI P c x.1 x.2)) ∗ Ow c (OweI c 0))
      ⊢ run c (dirs.flatMap fun d => js.flatMap fun j => [rdma F d c 0 j, ldStart F d c 0 0 j])
        iprop((bigSep Finset.univ fun x : LN => iprop(SH P c x.1 x.2 0 ∗ CP c x.1 x.2 0)) ∗ Ow c (Owe c 0)) := by
  have hl : (dirs.flatMap fun d => js.flatMap fun j => [rdma F d c 0 j, ldStart F d c 0 0 j])
      = dirL.flatMap fun x : LN => [rdma F x.1 c 0 x.2, ldStart F x.1 c 0 0 x.2] := rfl
  have h := run_flat c (Kx P κ ιs c) (fun x : LN => [rdma F x.1 c 0 x.2, ldStart F x.1 c 0 0 x.2]) (fun x => iprop(RdI P c x.1 x.2 ∗ LdI P c x.1 x.2))
    (fun x => iprop(SH P c x.1 x.2 0 ∗ CP c x.1 x.2 0)) (fun i => Ow c (OweI c i)) dirL 0 dirL_nodup
    fun i hi => by
      have hlen : dirL.length = 8 := rfl
      obtain ⟨h1, h2⟩ := dirL_at i hi
      have ht := pre_rdma (κ := κ) (ιs := ιs) P c (payI.dirI i) (payI.subI i) (OweI c (i + 1))
      rw [← show OweI c i = OweI c (i + 1) + tallyAt (cell (peerN (payI.dirI i) c) (.rcv (payI.dirI i) 0 (payI.subI i))) 2 N32 from OweI_succ c i (by omega)] at ht
      rw [Nat.zero_add, h1, h2]
      exact ht
  rw [dirL_univ, show dirL.length = 8 from rfl, Nat.zero_add, OweI_end] at h
  rw [hl]
  exact h

end First

end Cert.KernelIdeal.Talk
-- ==== Proof.Whole.lean ====
/-
The start of the body, and its loop.
-/
module

public import proofs.«01_k».proof.Proof.Begin

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
variable {P : Dev nD → Vec F S4096x8192 .bf16} {κ : GSem nD τ sig → ℕ} {ιs : Key → ℕ}

local notation "PROP" => sProp (MT nD τ sig ℕ (Elt F) ℕ UU ℕ)

/-- Direction by direction, the two slots apart. -/
theorem re2 (Φ : Fin 2 → Fin 2 → PROP) :
    (bigSep Finset.univ fun x : Fin 2 × Fin 2 => Φ x.1 x.2) = bigSep Finset.univ fun d : Fin 2 => iprop(Φ d 0 ∗ Φ d 1) := by
  rw [bigSep_univ_prod]
  exact bigSep_congr fun d _ => bigSep_fin_two _

theorem ln2 (Φ : Fin 2 → Fin 4 → PROP) :
    (bigSep Finset.univ fun x : LN => Φ x.1 x.2) = bigSep Finset.univ fun d : Fin 2 => bigSep Finset.univ fun j : Fin 4 => Φ d j :=
  bigSep_univ_prod _

section Start

variable (P) (c : Dev nD)

/-- What a device uses up to start: the tokens of its first copies and the rows they read. -/
def Tok0 (x : LN) : PROP :=
  iprop(win P x.1 c 0 x.2 ∗ duty c (.cpy x.1 0 x.2) (ldR 0 x.2) 0 ∗ (duty c (.snd x.1 0 x.2) 0 0 ∗ duty (peerN x.1 c) (.rcv x.1 0 x.2) 0 0)
    ∗ writeTok (ES (F := F)) (peerN x.1 c, x.1, 0, x.2) 1)
def TokM (d : Fin 2) : PROP := iprop(winMe P d c ∗ duty c (.cpy d 0 0) 0 0)

/-- The scratch buffers but the receive buffers, in slots. -/
def Bufs : PROP :=
  iprop((bigSep Finset.univ fun x : Fin 2 × Fin 2 => anyP c (slot (sendM x.1) x.2)) ∗ (bigSep Finset.univ fun x : K3 => anyP c (sub (locM x.1) x.2.1 x.2.2))
    ∗ bigSep Finset.univ fun x : Fin 2 × Fin 2 => anyP c (slot (fstM x.1) x.2))
/-- Every semaphore but the barrier's, at its start. -/
def Poss : PROP :=
  iprop((bigSep Finset.univ fun x : K3 => pos c (.snd x.1 x.2.1 x.2.2) 0) ∗ (bigSep Finset.univ fun x : K3 => pos c (.rcv x.1 x.2.1 x.2.2) 0)
    ∗ (bigSep Finset.univ fun x : K3 => pos c (.cpy x.1 x.2.1 x.2.2) 0) ∗ (bigSep Finset.univ fun x : Fin 2 × Fin 2 => pos c (.sto x.1 x.2) 0)
    ∗ bigSep Finset.univ fun d : Fin 2 => pos c (.crd d) 0)
def Recvs : PROP :=
  iprop((bigSep Finset.univ fun x : K3 => readerAt (ES (F := F)) (c, x.1, x.2.1, x.2.2) 0) ∗ bigSep Finset.univ fun x : K3 => anyP c (sub (recvM x.1) x.2.1 x.2.2))
def Bar0 : PROP :=
  iprop((crT c .bar 1 2 ∗ pos c .bar 0) ∗ (duty (ackN 0 c) .bar 0 0 ∗ duty (ackN 1 c) .bar 0 1)
    ∗ (reached (ER (F := F)) (cell (ackN 0 c) .bar) 0 ∗ reached (ER (F := F)) (cell (ackN 1 c) .bar) 0))
/-- What a device brings to the first statements. -/
def PreI : PROP :=
  iprop(Ow c (OweB c) ∗ Bar0 c ∗ Recvs c ∗ Poss c ∗ Bufs c ∗ (bigSep Finset.univ fun d : Fin 2 => TokM P c d) ∗ bigSep Finset.univ fun x : LN => Tok0 P c x)
/-- What it has after them. -/
def PreO : PROP := iprop(pos c .bar 1 ∗ (bigSep Finset.univ fun d : Fin 2 => winMe P d c) ∗ ST P c 0)

theorem ldR_zero (j : Fin 4) : ldR 0 j = if j = 0 then 1 else 0 := by revert j; decide
theorem ldR_one (j : Fin 4) : ldR 1 j = 0 := by revert j; decide

def Rest (d : Fin 2) : PROP := bigSep (Finset.univ.erase (0 : Fin 4)) fun j => pos c (.cpy d 0 j) 0
theorem cpy_out (d : Fin 2) : (bigSep Finset.univ fun j : Fin 4 => pos (F := F) c (.cpy d 0 j) 0) ⊢ iprop(pos c (.cpy d 0 0) 0 ∗ Rest c d) :=
  Entails.of_eq (bigSep_erase (Finset.mem_univ (0 : Fin 4)))
theorem cpy_in (d : Fin 2) : iprop(pos (F := F) c (.cpy d 0 0) 1 ∗ Rest c d) ⊢ bigSep Finset.univ fun j : Fin 4 => pos c (.cpy d 0 j) (ldR 0 j) := by
  have h : (bigSep Finset.univ fun j : Fin 4 => pos (F := F) c (.cpy d 0 j) (ldR 0 j))
      = iprop(pos c (.cpy d 0 0) (ldR 0 0) ∗ bigSep (Finset.univ.erase (0 : Fin 4)) fun j => pos c (.cpy d 0 j) (ldR 0 j)) := bigSep_erase (Finset.mem_univ (0 : Fin 4))
  have h2 : (bigSep (Finset.univ.erase (0 : Fin 4)) fun j => pos (F := F) c (.cpy d 0 j) (ldR 0 j)) = Rest c d :=
    bigSep_congr fun j hj => by rw [ldR_zero, if_neg (Finset.ne_of_mem_erase hj)]
  rw [h, h2]
  exact .rfl

/-- What a lane has, beside the first transfer and load, before step 0. -/
def L0 (x : LN) : PROP :=
  iprop((pos c (.rcv x.1 0 x.2) 0 ∗ pos c (.rcv x.1 1 x.2) 0) ∗ (readerAt (ES (F := F)) (c, x.1, 0, x.2) 1 ∗ readerAt (ES (F := F)) (c, x.1, 1, x.2) 1)
    ∗ (anyP c (sub (sendM x.1) 1 x.2) ∗ pos c (.snd x.1 1 x.2) 0) ∗ (anyP c (sub (locM x.1) 1 x.2) ∗ pos c (.cpy x.1 1 x.2) 0))

theorem lane_zero (x : LN) : iprop(L0 c x ∗ (SH P c x.1 x.2 0 ∗ CP c x.1 x.2 0)) ⊢ lane P c 0 x := by
  have h0 : RQ (F := F) c x.1 x.2 0 = iprop(pos c (.rcv x.1 0 x.2) 0 ∗ readerAt (ES (F := F)) (c, x.1, 0, x.2) 1) := rfl
  have h1 : RQ (F := F) c x.1 x.2 (0 + 1) = iprop(pos c (.rcv x.1 1 x.2) 0 ∗ readerAt (ES (F := F)) (c, x.1, 1, x.2) 1) := rfl
  have h2 : SQ P c x.1 x.2 0 = iprop(anyP c (sub (sendM x.1) 1 x.2) ∗ pos c (.snd x.1 1 x.2) 0) := rfl
  have h3 : CL (F := F) c 0 x = iprop(CP c x.1 x.2 0 ∗ anyP c (sub (locM x.1) 1 x.2) ∗ pos c (.cpy x.1 1 x.2) 0) := by
    show iprop(CP c x.1 x.2 0 ∗ anyP c (sub (locM x.1) 1 x.2) ∗ pos c (.cpy x.1 1 x.2) (ldR 1 x.2)) = _
    rw [ldR_one]
  unfold lane L0
  rw [h0, h1, h2, h3, SQ_succ (P := P) c x.1 x.2 0 (by omega)]
  iintro ⟨⟨⟨Ha, Hb⟩, ⟨Hc, Hd⟩, He, Hf⟩, Hg, Hh⟩
  isplitl [Ha Hc]
  · isplitl [Ha]; · iexact Ha
    iexact Hc
  isplitl [Hb Hd]
  · isplitl [Hb]; · iexact Hb
    iexact Hd
  isplitl [He]; · iexact He
  isplitl [Hg]; · iexact Hg
  isplitl [Hh]; · iexact Hh
  iexact Hf

theorem FD_zero (d : Fin 2) : iprop((anyP (F := F) c (slot (fstM d) 0) ∗ anyP c (slot (fstM d) 1)) ∗ (pos c (.sto d 0) 0 ∗ pos c (.sto d 1) 0)) ⊢ FD c 0 d := by
  have h : FD (F := F) c 0 d = iprop((anyP c (slot (fstM d) 1) ∗ pos c (.sto d 1) 0) ∗ (anyP c (slot (fstM d) 0) ∗ pos c (.sto d 0) 0)) := rfl
  rw [h]
  iintro ⟨⟨Ha, Hb⟩, Hc, Hd⟩
  isplitl [Hb Hd]
  · isplitl [Hb]; · iexact Hb
    iexact Hd
  isplitl [Ha]; · iexact Ha
  iexact Hc

theorem DQ_zero (d : Fin 2) : pos (F := F) c (.crd d) 0 ⊢ DQ c 0 0 d := by
  have h : DQ (F := F) c 0 0 d = iprop((∃ S : Finset ℕ, atPos (ER (F := F)) (cell c (.crd d)) 0 S 0 ∗ bigSep S fun i => credPay (F := F) (peerN d c) d (i + 1)) ∗ bigSep (Finset.range 0) fun i' => credFact (F := F) c d i') := rfl
  rw [h, Finset.range_zero, bigSep_empty]
  unfold pos
  iintro ⟨H, -⟩
  isplitl [H]
  · iexists (∅ : Finset ℕ)
    isplitl [H]; · iexact H
    iapply (show (iprop(emp) : PROP) ⊢ bigSep (∅ : Finset ℕ) fun i => credPay (F := F) (peerN d c) d (i + 1) from Entails.of_eq bigSep_empty.symm)
    iempintro
  iempintro

end Start

theorem pre_me_all (c : Dev nD) :
    iprop(Kx P κ ιs c ∗ (bigSep Finset.univ fun d : Fin 2 => MeI P c d) ∗ Ow c (OweI c 0))
      ⊢ run c (dirs.flatMap fun d => [meStart F d c, meWait F d c]) iprop((bigSep Finset.univ fun d : Fin 2 => MeO P c d) ∗ Ow c (OweI c 0)) := by
  have h := run_each c (Kx P κ ιs c) (Ow c (OweI c 0)) (fun d => [meStart F d c, meWait F d c]) (MeI P c) (MeO P c) dirs dirs_nodup fun d => pre_me P c d
  rw [dirs_univ] at h
  exact h

theorem pos_dup (c : Dev nD) (k : Kind) : pos (F := F) c k 0 ⊢ iprop(pos c k 0 ∗ reached (ER (F := F)) (cell c k) 0) := by
  unfold pos
  iintro ⟨H, #Hr⟩
  isplitl [H]
  · isplitl [H]; · iexact H
    iexact Hr
  iexact Hr

/-- The first statements. -/
theorem pre_tr (c : Dev nD) : iprop(Cx P κ ιs ∗ PreI P c) ⊢ run c (pre F c) iprop(Kx P κ ιs c ∗ PreO P c) := by
  -- families regrouped
  have e_snd : (bigSep Finset.univ fun x : K3 => pos (F := F) c (.snd x.1 x.2.1 x.2.2) 0) ⊢ (bigSep Finset.univ fun x : LN => iprop(pos c (.snd x.1 0 x.2) 0 ∗ pos c (.snd x.1 1 x.2) 0)) :=
    Entails.of_eq (re3 fun d p j => pos c (.snd d p j) 0)
  have e_rcv : (bigSep Finset.univ fun x : K3 => pos (F := F) c (.rcv x.1 x.2.1 x.2.2) 0) ⊢ (bigSep Finset.univ fun x : LN => iprop(pos c (.rcv x.1 0 x.2) 0 ∗ pos c (.rcv x.1 1 x.2) 0)) :=
    Entails.of_eq (re3 fun d p j => pos c (.rcv d p j) 0)
  have e_cpy : (bigSep Finset.univ fun x : K3 => pos (F := F) c (.cpy x.1 x.2.1 x.2.2) 0) ⊢ (bigSep Finset.univ fun x : LN => iprop(pos c (.cpy x.1 0 x.2) 0 ∗ pos c (.cpy x.1 1 x.2) 0)) :=
    Entails.of_eq (re3 fun d p j => pos c (.cpy d p j) 0)
  have e_loc : (bigSep Finset.univ fun x : K3 => anyP (F := F) c (sub (locM x.1) x.2.1 x.2.2)) ⊢ (bigSep Finset.univ fun x : LN => iprop(anyP c (sub (locM x.1) 0 x.2) ∗ anyP c (sub (locM x.1) 1 x.2))) :=
    Entails.of_eq (re3 fun d p j => anyP c (sub (locM d) p j))
  have e_rd : (bigSep Finset.univ fun x : K3 => readerAt (ES (F := F)) (c, x.1, x.2.1, x.2.2) 1) ⊢ (bigSep Finset.univ fun x : LN => iprop(readerAt (ES (F := F)) (c, x.1, 0, x.2) 1 ∗ readerAt (ES (F := F)) (c, x.1, 1, x.2) 1) : PROP) :=
    Entails.of_eq (re3 fun d p j => readerAt (ES (F := F)) (c, d, p, j) 1)
  have e_send : (bigSep Finset.univ fun x : Fin 2 × Fin 2 => anyP (F := F) c (slot (sendM x.1) x.2)) ⊢ (bigSep Finset.univ fun d : Fin 2 => iprop(anyP c (slot (sendM d) 0) ∗ anyP c (slot (sendM d) 1))) :=
    Entails.of_eq (re2 fun d q => anyP c (slot (sendM d) q))
  have e_fst : (bigSep Finset.univ fun x : Fin 2 × Fin 2 => anyP (F := F) c (slot (fstM x.1) x.2)) ⊢ (bigSep Finset.univ fun d : Fin 2 => iprop(anyP c (slot (fstM d) 0) ∗ anyP c (slot (fstM d) 1))) :=
    Entails.of_eq (re2 fun d q => anyP c (slot (fstM d) q))
  have e_sto : (bigSep Finset.univ fun x : Fin 2 × Fin 2 => pos (F := F) c (.sto x.1 x.2) 0) ⊢ (bigSep Finset.univ fun d : Fin 2 => iprop(pos c (.sto d 0) 0 ∗ pos c (.sto d 1) 0)) :=
    Entails.of_eq (re2 fun d q => pos c (.sto d q) 0)
  have e_send1 : (bigSep Finset.univ fun d : Fin 2 => anyP (F := F) c (slot (sendM d) 1)) ⊢ (bigSep Finset.univ fun x : LN => anyP c (sub (sendM x.1) 1 x.2)) := by
    rw [ln2 fun d j => anyP (F := F) c (sub (sendM d) 1 j)]
    exact bs1 Finset.univ _ _ fun d => anyP_slot (sendM d) 1 c
  have e_crd : (bigSep Finset.univ fun d : Fin 2 => pos (F := F) c (.crd d) 0) ⊢ iprop(DQ c 0 0 0 ∗ DQ c 0 0 1) :=
    (bs1 Finset.univ _ _ fun d => DQ_zero c d).trans (Entails.of_eq (bigSep_fin_two fun d => DQ (F := F) c 0 0 d))
  have e_cpy0 : (bigSep Finset.univ fun x : LN => pos (F := F) c (.cpy x.1 0 x.2) 0) ⊢ iprop((bigSep Finset.univ fun d : Fin 2 => pos c (.cpy d 0 0) 0) ∗ bigSep Finset.univ fun d : Fin 2 => Rest c d) := by
    rw [ln2 fun d j => pos (F := F) c (.cpy d 0 j) 0]
    exact bs21 Finset.univ _ _ _ fun d => cpy_out c d
  have e_cpy1 : iprop((bigSep Finset.univ fun d : Fin 2 => pos (F := F) c (.cpy d 0 0) 1) ∗ bigSep Finset.univ fun d : Fin 2 => Rest c d) ⊢ (bigSep Finset.univ fun x : LN => pos c (.cpy x.1 0 x.2) (ldR 0 x.2)) := by
    rw [ln2 fun d j => pos (F := F) c (.cpy d 0 j) (ldR 0 j)]
    exact bs2 Finset.univ _ _ _ fun d => cpy_in c d
  have e_X : (bigSep Finset.univ fun d : Fin 2 => bigSep Finset.univ fun j : Fin 4 => pts c (sub (sendM d) 0 j) fullShare (X P d j 0 c)) ⊢ (bigSep Finset.univ fun x : LN => pts c (sub (sendM x.1) 0 x.2) fullShare (X P x.1 x.2 0 c) : PROP) :=
    Entails.of_eq (ln2 fun d j => pts c (sub (sendM d) 0 j) fullShare (X P d j 0 c)).symm
  have e_meI : iprop((bigSep Finset.univ fun d : Fin 2 => TokM P c d) ∗ (bigSep Finset.univ fun d : Fin 2 => anyP c (slot (sendM d) 0)) ∗ bigSep Finset.univ fun d : Fin 2 => pos (F := F) c (.cpy d 0 0) 0)
      ⊢ (bigSep Finset.univ fun d : Fin 2 => MeI P c d) := bs3 Finset.univ _ _ _ _ fun d => by
    unfold TokM MeI
    iintro ⟨⟨H1, H2⟩, H3, H4⟩
    isplitl [H1]; · iexact H1
    isplitl [H3]; · iexact H3
    isplitl [H2]; · iexact H2
    iexact H4
  have e_meO : (bigSep Finset.univ fun d : Fin 2 => MeO P c d) ⊢ iprop((bigSep Finset.univ fun d : Fin 2 => pos (F := F) c (.cpy d 0 0) 1) ∗ (bigSep Finset.univ fun d : Fin 2 => winMe P d c)
      ∗ bigSep Finset.univ fun d : Fin 2 => bigSep Finset.univ fun j : Fin 4 => pts c (sub (sendM d) 0 j) fullShare (X P d j 0 c)) :=
    (bs21 Finset.univ _ _ (fun d => iprop(winMe P d c ∗ bigSep Finset.univ fun j : Fin 4 => pts c (sub (sendM d) 0 j) fullShare (X P d j 0 c))) fun d => .rfl).trans
      (sep_mono .rfl (bs21 Finset.univ _ _ _ fun d => .rfl))
  have e_rdI : iprop((bigSep Finset.univ fun x : LN => pts c (sub (sendM x.1) 0 x.2) fullShare (X P x.1 x.2 0 c)) ∗ (bigSep Finset.univ fun x : LN => iprop(pos c (.snd x.1 0 x.2) 0 ∗ anyP c (sub (locM x.1) 0 x.2)))
        ∗ (bigSep Finset.univ fun x : LN => pos c (.cpy x.1 0 x.2) (ldR 0 x.2)) ∗ bigSep Finset.univ fun x : LN => Tok0 P c x)
      ⊢ (bigSep Finset.univ fun x : LN => iprop(RdI P c x.1 x.2 ∗ LdI P c x.1 x.2)) := bs4 Finset.univ _ _ _ _ _ fun x => by
    unfold RdI LdI Tok0
    iintro ⟨H1, ⟨H2, H3⟩, H4, H5, H6, H7, H8⟩
    isplitl [H1 H2 H7 H8]
    · isplitl [H1]; · iexact H1
      isplitl [H2]; · iexact H2
      isplitl [H7]; · iexact H7
      iexact H8
    isplitl [H5]; · iexact H5
    isplitl [H3]; · iexact H3
    isplitl [H6]; · iexact H6
    iexact H4
  have s_snd := bs21 (F := F) (Finset.univ : Finset LN) (fun x => iprop(pos c (.snd x.1 0 x.2) 0 ∗ pos c (.snd x.1 1 x.2) 0)) (fun x => pos c (.snd x.1 0 x.2) 0) (fun x => pos c (.snd x.1 1 x.2) 0) fun x => .rfl
  have s_cpy := bs21 (F := F) (Finset.univ : Finset LN) (fun x => iprop(pos c (.cpy x.1 0 x.2) 0 ∗ pos c (.cpy x.1 1 x.2) 0)) (fun x => pos c (.cpy x.1 0 x.2) 0) (fun x => pos c (.cpy x.1 1 x.2) 0) fun x => .rfl
  have s_loc := bs21 (F := F) (Finset.univ : Finset LN) (fun x => iprop(anyP c (sub (locM x.1) 0 x.2) ∗ anyP c (sub (locM x.1) 1 x.2))) (fun x => anyP c (sub (locM x.1) 0 x.2)) (fun x => anyP c (sub (locM x.1) 1 x.2)) fun x => .rfl
  have s_send := bs21 (F := F) (Finset.univ : Finset (Fin 2)) (fun d => iprop(anyP c (slot (sendM d) 0) ∗ anyP c (slot (sendM d) 1))) (fun d => anyP c (slot (sendM d) 0)) (fun d => anyP c (slot (sendM d) 1)) fun x => .rfl
  have s_rcv := bs21 (F := F) (Finset.univ : Finset K3) (fun x => pos c (.rcv x.1 x.2.1 x.2.2) 0) (fun x => pos c (.rcv x.1 x.2.1 x.2.2) 0) (fun x => reached (ER (F := F)) (cell c (.rcv x.1 x.2.1 x.2.2)) 0) fun x => pos_dup c _
  have s_crd := bs21 (F := F) (Finset.univ : Finset (Fin 2)) (fun d => pos c (.crd d) 0) (fun d => pos c (.crd d) 0) (fun d => reached (ER (F := F)) (cell c (.crd d)) 0) fun x => pos_dup c _
  have c_L0a : iprop((bigSep Finset.univ fun x : LN => pos (F := F) c (.snd x.1 0 x.2) 0) ∗ bigSep Finset.univ fun x : LN => anyP c (sub (locM x.1) 0 x.2))
      ⊢ bigSep Finset.univ fun x : LN => iprop(pos c (.snd x.1 0 x.2) 0 ∗ anyP c (sub (locM x.1) 0 x.2)) := bs2 Finset.univ _ _ _ fun x => .rfl
  have c_a : iprop((bigSep Finset.univ fun x : LN => anyP (F := F) c (sub (sendM x.1) 1 x.2)) ∗ bigSep Finset.univ fun x : LN => pos c (.snd x.1 1 x.2) 0)
      ⊢ bigSep Finset.univ fun x : LN => iprop(anyP c (sub (sendM x.1) 1 x.2) ∗ pos c (.snd x.1 1 x.2) 0) := bs2 Finset.univ _ _ _ fun x => .rfl
  have c_b : iprop((bigSep Finset.univ fun x : LN => anyP (F := F) c (sub (locM x.1) 1 x.2)) ∗ bigSep Finset.univ fun x : LN => pos c (.cpy x.1 1 x.2) 0)
      ⊢ bigSep Finset.univ fun x : LN => iprop(anyP c (sub (locM x.1) 1 x.2) ∗ pos c (.cpy x.1 1 x.2) 0) := bs2 Finset.univ _ _ _ fun x => .rfl
  have c_L0 := bs4 (F := F) (Finset.univ : Finset LN) (fun x => iprop(pos c (.rcv x.1 0 x.2) 0 ∗ pos c (.rcv x.1 1 x.2) 0))
    (fun x => iprop(readerAt (ES (F := F)) (c, x.1, 0, x.2) 1 ∗ readerAt (ES (F := F)) (c, x.1, 1, x.2) 1))
    (fun x => iprop(anyP c (sub (sendM x.1) 1 x.2) ∗ pos c (.snd x.1 1 x.2) 0)) (fun x => iprop(anyP c (sub (locM x.1) 1 x.2) ∗ pos c (.cpy x.1 1 x.2) 0)) (L0 c) fun x => .rfl
  have c_lane := bs2 (F := F) (Finset.univ : Finset LN) (L0 c) (fun x => iprop(SH P c x.1 x.2 0 ∗ CP c x.1 x.2 0)) (lane P c 0) fun x => lane_zero P c x
  have c_FD := bs2 (F := F) (Finset.univ : Finset (Fin 2)) (fun d => iprop(anyP c (slot (fstM d) 0) ∗ anyP c (slot (fstM d) 1))) (fun d => iprop(pos c (.sto d 0) 0 ∗ pos c (.sto d 1) 0)) (FD c 0) fun d => FD_zero c d
  unfold PreI Bar0 Recvs Poss Bufs
  iintro ⟨#HC, HO, ⟨Hbc, Hbd, Hbr⟩, ⟨Hrd, Hrv⟩, ⟨Psnd, Prcv, Pcpy, Psto, Pcrd⟩, ⟨Bsend, Bloc, Bfst⟩, HM, HT⟩
  iapply (run_fupd c _ _)
  imod (give_all (P := P) (κ := κ) (ιs := ιs) c) $$ [Hrd Hrv] with ⟨Hrd, #Hrel⟩
  · isplitr; · iexact HC
    isplitl [Hrd]; · iexact Hrd
    iexact Hrv
  imodintro
  ihave H := s_rcv $$ Prcv; icases H with ⟨Prcv, #Rrcv⟩
  ihave H := s_crd $$ Pcrd; icases H with ⟨Pcrd, #Rcrd⟩
  ihave Psnd := e_snd $$ Psnd; ihave H := s_snd $$ Psnd; icases H with ⟨Psnd0, Psnd1⟩
  ihave Prcv := e_rcv $$ Prcv
  ihave Pcpy := e_cpy $$ Pcpy; ihave H := s_cpy $$ Pcpy; icases H with ⟨Pcpy0, Pcpy1⟩
  ihave Bloc := e_loc $$ Bloc; ihave H := s_loc $$ Bloc; icases H with ⟨Bloc0, Bloc1⟩
  ihave Hrd := e_rd $$ Hrd
  ihave Bsend := e_send $$ Bsend; ihave H := s_send $$ Bsend; icases H with ⟨Bsend0, Bsend1⟩
  ihave Bsend1 := e_send1 $$ Bsend1
  ihave Bfst := e_fst $$ Bfst
  ihave Psto := e_sto $$ Psto
  ihave Pcrd := e_crd $$ Pcrd
  ihave H := e_cpy0 $$ Pcpy0; icases H with ⟨Pme, Hrest⟩
  ihave HMe := e_meI $$ [HM Bsend0 Pme]
  · isplitl [HM]; · iexact HM
    isplitl [Bsend0]; · iexact Bsend0
    iexact Pme
  rw [show pre F c = [barSig F 0 c, barSig F 1 c, barWait F] ++ ((dirs.flatMap fun d => [meStart F d c, meWait F d c])
    ++ (dirs.flatMap fun d => js.flatMap fun j => [rdma F d c 0 j, ldStart F d c 0 0 j])) from by unfold pre; rw [List.append_assoc]]
  iapply (run_app c _ _ _ _ _ (pre_bar (P := P) (κ := κ) (ιs := ιs) c)) $$ [HO Hbc Hbd Hbr]
  · isplitr; · iexact HC
    isplitr
    · isplitr
      · iapply (barPay_intro c 0); isplitr; · iexact Hrel
        isplitr; · iexact Rrcv
        iexact Rcrd
      · iapply (barPay_intro c 1); isplitr; · iexact Hrel
        isplitr; · iexact Rrcv
        iexact Rcrd
    isplitl [HO]; · iexact HO
    isplitl [Hbc]; · iexact Hbc
    isplitl [Hbd]; · iexact Hbd
    iexact Hbr
  iintro ⟨HO, Pbar, #HK⟩
  iapply (run_app c _ _ _ _ _ (pre_me_all (P := P) (κ := κ) (ιs := ιs) c)) $$ [HO HMe]
  · isplitr; · iexact HK
    isplitl [HMe]; · iexact HMe
    iexact HO
  iintro ⟨HMo, HO⟩
  ihave H := e_meO $$ HMo; icases H with ⟨Pme, Hwm, HX⟩
  ihave HX := e_X $$ HX
  ihave Pcpy0 := e_cpy1 $$ [Pme Hrest]
  · isplitl [Pme]; · iexact Pme
    iexact Hrest
  ihave Hab := c_L0a $$ [Psnd0 Bloc0]
  · isplitl [Psnd0]; · iexact Psnd0
    iexact Bloc0
  ihave HRd := e_rdI $$ [HX Hab Pcpy0 HT]
  · isplitl [HX]; · iexact HX
    isplitl [Hab]; · iexact Hab
    isplitl [Pcpy0]; · iexact Pcpy0
    iexact HT
  ihave Hwd := (pre_rdmas (κ := κ) (ιs := ιs) P c) $$ [HRd HO]
  · isplitr; · iexact HK
    isplitl [HRd]; · iexact HRd
    iexact HO
  iapply (run_wand c _ _ _) $$ Hwd
  iintro ⟨Hs, HO⟩
  ihave Ha := c_a $$ [Bsend1 Psnd1]
  · isplitl [Bsend1]; · iexact Bsend1
    iexact Psnd1
  ihave Hb := c_b $$ [Bloc1 Pcpy1]
  · isplitl [Bloc1]; · iexact Bloc1
    iexact Pcpy1
  ihave HL := c_L0 $$ [Prcv Hrd Ha Hb]
  · isplitl [Prcv]; · iexact Prcv
    isplitl [Hrd]; · iexact Hrd
    isplitl [Ha]; · iexact Ha
    iexact Hb
  ihave HL := c_lane $$ [HL Hs]
  · isplitl [HL]; · iexact HL
    iexact Hs
  ihave HF := c_FD $$ [Bfst Psto]
  · isplitl [Bfst]; · iexact Bfst
    iexact Psto
  unfold PreO ST
  isplitr; · iexact HK
  isplitl [Pbar]; · iexact Pbar
  isplitl [Hwm]; · iexact Hwm
  isplitl [HO]; · iexact HO
  isplitl [Pcrd]; · iexact Pcrd
  isplitl [HL]; · iexact HL
  iexact HF

/-- The loop. -/
theorem loop_tr (c : Dev nD) : iprop(Kx P κ ιs c ∗ (bigSep (Finset.range 30) fun t => SIn P c t) ∗ ST P c 0)
    ⊢ run c ((List.range 30).flatMap (step F c)) iprop((bigSep (Finset.range 30) fun t => SOut P c t) ∗ ST P c 30) := by
  have h := run_flat c (Kx P κ ιs c) (step F c) (SIn P c) (SOut P c) (ST P c) (List.range 30) 0 List.nodup_range fun i hi => by
    rw [List.getElem_range, Nat.zero_add]
    exact step_tr c i (by rw [List.length_range] at hi; exact hi)
  rw [List.toFinset_range, List.length_range, Nat.zero_add] at h
  exact h

end Cert.KernelIdeal.Talk
-- ==== Proof.Finish.lean ====
/-
The last statements of the body, and the body whole.
-/
module

public import proofs.«01_k».proof.Proof.Whole

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
variable {P : Dev nD → Vec F S4096x8192 .bf16} {κ : GSem nD τ sig → ℕ} {ιs : Key → ℕ}

local notation "PROP" => sProp (MT nD τ sig ℕ (Elt F) ℕ UU ℕ)

/-! ## Semaphores put away -/

theorem close (c : Dev nD) (k : Kind) (r : ℕ) (h : ∀ r', r ≤ r' → dutiesK k r' = ∅) :
    iprop(Cx P κ ιs ∗ pos c k r) ⊢ (iprop(|={Set.univ}=> semVal (cell c k) 0) : PROP) := by
  have hc := Rounds.cell_close (ER (F := F)) (Rd P) (g := cell c k) (Set.mem_univ (κ (cell c k))) id (R := r) (fun r' hr => by rw [duties_eq]; exact h r' hr)
  unfold pos
  iintro ⟨#HC, Hat, -⟩
  ihave #Hc := (Cx_cell (P := P) (κ := κ) (ιs := ιs) c k) $$ HC
  iapply hc
  isplitr; · iexact Hc
  iexact Hat

theorem close_snd (c : Dev nD) (d p : Fin 2) (j : Fin 4) : iprop(Cx P κ ιs ∗ pos c (.snd d p j) 15) ⊢ (iprop(|={Set.univ}=> semVal (cell c (.snd d p j)) 0) : PROP) :=
  close c _ 15 fun r' hr => if_neg (by omega)
theorem close_rcv (c : Dev nD) (d p : Fin 2) (j : Fin 4) : iprop(Cx P κ ιs ∗ pos c (.rcv d p j) 15) ⊢ (iprop(|={Set.univ}=> semVal (cell c (.rcv d p j)) 0) : PROP) :=
  close c _ 15 fun r' hr => if_neg (by omega)
theorem close_cpy (c : Dev nD) (d p : Fin 2) (j : Fin 4) (t : ℕ) (ht : 15 ≤ t) (hp : par t = p) :
    iprop(Cx P κ ιs ∗ pos c (.cpy d p j) (ldR t j)) ⊢ (iprop(|={Set.univ}=> semVal (cell c (.cpy d p j)) 0) : PROP) := by
  refine close c _ _ fun r' hr => if_neg ?_
  rw [← hp]
  have h2 : 2 * (t / 2) + (par t).val = t := Nat.div_add_mod t 2
  unfold ldR at hr
  split at hr <;> rename_i hf
  · rw [if_pos hf]; omega
  · rw [if_neg hf]; omega
theorem close_sto (c : Dev nD) (d q : Fin 2) : iprop(Cx P κ ιs ∗ pos c (.sto d q) 8) ⊢ (iprop(|={Set.univ}=> semVal (cell c (.sto d q)) 0) : PROP) :=
  close c _ 8 fun r' hr => if_neg (by omega)
theorem close_bar (c : Dev nD) : iprop(Cx P κ ιs ∗ pos c .bar 1) ⊢ (iprop(|={Set.univ}=> semVal (cell c .bar) 0) : PROP) :=
  close c _ 1 fun r' hr => if_neg (by omega)
theorem close_crd (c : Dev nD) (d : Fin 2) : iprop(Cx P κ ιs ∗ Cr (F := F) c d 112) ⊢ (iprop(|={Set.univ}=> semVal (cell c (.crd d)) 0) : PROP) := by
  have hc := Rounds.cell_close (ER (F := F)) (Rd P) (g := cell c (.crd d)) (Set.mem_univ (κ (cell c (.crd d)))) id (R := 1)
    (fun r' hr => by rw [duties_eq]; exact if_neg (by omega))
  rw [show Cr (F := F) c d 112 = atPos (ER (F := F)) (cell c (.crd d)) 1 ∅ 0 from if_neg (by omega)]
  iintro ⟨#HC, Hat⟩
  ihave #Hc := (Cx_cell (P := P) (κ := κ) (ιs := ιs) c (.crd d)) $$ HC
  iapply hc
  isplitr; · iexact Hc
  iexact Hat

/-- A family under an update, with what stays around. -/
theorem upd {α : Type} [DecidableEq α] (s : Finset α) (R : PROP) [BI.Persistent R] (A B : α → PROP) (h : ∀ x, iprop(R ∗ A x) ⊢ iprop(|={Set.univ}=> B x)) :
    iprop(R ∗ bigSep s A) ⊢ (iprop(|={Set.univ}=> bigSep s B) : PROP) :=
  (bigSep_with_persistent fun x _ => h x).trans (bigSep_fupd (Fr := frame) (E := Set.univ) (M := MT nD τ sig ℕ (Elt F) ℕ UU ℕ) s B)

/-! ## The last statements -/

section Post

variable (P) (c : Dev nD)

/-- A lane at the end. -/
def LE (x : LN) : PROP :=
  iprop((pos c (.rcv x.1 0 x.2) 15 ∗ pos c (.rcv x.1 1 x.2) 15) ∗ (pos c (.snd x.1 0 x.2) 15 ∗ pos c (.snd x.1 1 x.2) 15)
    ∗ (pos c (.cpy x.1 0 x.2) (ldR 16 x.2) ∗ pos c (.cpy x.1 1 x.2) (ldR 15 x.2))
    ∗ (anyP c (sub (recvM x.1) 0 x.2) ∗ anyP c (sub (recvM x.1) 1 x.2)) ∗ (anyP c (sub (sendM x.1) 0 x.2) ∗ anyP c (sub (sendM x.1) 1 x.2))
    ∗ (anyP c (sub (locM x.1) 0 x.2) ∗ anyP c (sub (locM x.1) 1 x.2)))
/-- A lane after step 29. -/
theorem post_send (x : LN) :
    iprop(Kx P κ ιs c ∗ lane P c 30 x ∗ Ow c 0) ⊢ run c [sendWait F x.1 (par 29) x.2] iprop(LE c x ∗ Ow c 0) := by
  have h0 : RQ (F := F) c x.1 x.2 30 = iprop(pos c (.rcv x.1 0 x.2) 15 ∗ readerAt (ES (F := F)) (c, x.1, 0, x.2) 15 ∗ anyP c (sub (recvM x.1) 0 x.2)) := rfl
  have h1 : RQ (F := F) c x.1 x.2 (30 + 1) = iprop(pos c (.rcv x.1 1 x.2) 15 ∗ readerAt (ES (F := F)) (c, x.1, 1, x.2) 15 ∗ anyP c (sub (recvM x.1) 1 x.2)) := rfl
  have h2 : SQ P c x.1 x.2 30 = iprop(pts c (sub (sendM x.1) (par 29) x.2) hr (X P x.1 x.2 29 c) ∗ crT c (.snd x.1 (par 29) x.2) 0 N32 ∗ pos c (.snd x.1 (par 29) x.2) (29 / 2)) :=
    SQ_succ (P := P) c x.1 x.2 29 (by omega)
  have h3 : SQ P c x.1 x.2 (30 + 1) = iprop(anyP c (sub (sendM x.1) 0 x.2) ∗ pos c (.snd x.1 0 x.2) 15) := rfl
  have h4 : CL (F := F) c 30 x = iprop((anyP c (sub (locM x.1) 1 x.2) ∗ pos c (.cpy x.1 1 x.2) (ldR 15 x.2)) ∗ (anyP c (sub (locM x.1) 0 x.2) ∗ pos c (.cpy x.1 0 x.2) (ldR 16 x.2))) := rfl
  have hj := pts_join (F := F) c (sub (sendM x.1) (par 29) x.2) (X P x.1 x.2 29 c)
  have ha := anyP_intro (F := F) c (sub (sendM x.1) (par 29) x.2) (X P x.1 x.2 29 c)
  unfold lane LE
  rw [h0, h1, h2, h3, h4]
  iintro ⟨#HK, ⟨⟨Pr0, -, Br0⟩, ⟨Pr1, -, Br1⟩, ⟨Hs, Hc, Hp⟩, ⟨Bs0, Ps0⟩, ⟨Bl1, Pl1⟩, Bl0, Pl0⟩, HO⟩
  ihave #HC := (Kx_Cx c) $$ HK
  iapply (run_cons c _ _ _ _ _ (tr_sendWait (P := P) (κ := κ) (ιs := ιs) c x.1 x.2 29 (by omega) 0 (above_zero 0))) $$ [Hc HO Hp]
  · isplitr; · iexact HC
    isplitl [Hc]; · iexact Hc
    isplitl [HO]; · iexact HO
    iexact Hp
  iintro ⟨HO, Hp, Hl⟩
  ihave Hs := hj $$ [Hl Hs]
  · isplitl [Hl]; · iexact Hl
    iexact Hs
  ihave Hs := ha $$ Hs
  iapply (run_nil c _)
  isplitr [HO]
  · isplitl [Pr0 Pr1]
    · isplitl [Pr0]; · iexact Pr0
      iexact Pr1
    isplitl [Ps0 Hp]
    · isplitl [Ps0]; · iexact Ps0
      iexact Hp
    isplitl [Pl0 Pl1]
    · isplitl [Pl0]; · iexact Pl0
      iexact Pl1
    isplitl [Br0 Br1]
    · isplitl [Br0]; · iexact Br0
      iexact Br1
    isplitl [Bs0 Hs]
    · isplitl [Bs0]; · iexact Bs0
      iexact Hs
    isplitl [Bl0]; · iexact Bl0
    iexact Bl1
  · iexact HO

/-- The widened slots of a direction at the end, and its last stores. -/
def FE (d : Fin 2) : PROP :=
  iprop((pos c (.sto d 0) 8 ∗ pos c (.sto d 1) 8) ∗ (anyP c (slot (fstM d) 0) ∗ anyP c (slot (fstM d) 1)) ∗ (SO P c 14 d ∗ SO P c 15 d))

theorem FD_end (d : Fin 2) : FD (F := F) c 30 d = iprop(SI c 14 d ∗ SI c 15 d) := rfl

theorem post_st15 : iprop(Kx P κ ιs c ∗ (bigSep Finset.univ fun d : Fin 2 => SI c 15 d) ∗ Ow c 0) ⊢ run c (dirs.map fun d => stWait F d c 15 0)
    iprop((bigSep Finset.univ fun d : Fin 2 => iprop(FFree c 17 d ∗ SO P c 15 d)) ∗ Ow c 0) := by
  have h := run_each c (Kx P κ ιs c) (Ow c 0) (fun d => [stWait F d c 15 0]) (fun d => SI c 15 d) (fun d => iprop(FFree c 17 d ∗ SO P c 15 d)) dirs dirs_nodup
    fun d => sto_wait (P := P) (κ := κ) (ιs := ιs) c 15 (by omega) 0 (above_zero 0) d
  rw [dirs_univ] at h
  exact h
theorem post_st14 : iprop(Kx P κ ιs c ∗ (bigSep Finset.univ fun d : Fin 2 => SI c 14 d) ∗ Ow c 0) ⊢ run c (dirs.map fun d => stWait F d c 14 1)
    iprop((bigSep Finset.univ fun d : Fin 2 => iprop(FFree c 16 d ∗ SO P c 14 d)) ∗ Ow c 0) := by
  have h := run_each c (Kx P κ ιs c) (Ow c 0) (fun d => [stWait F d c 14 1]) (fun d => SI c 14 d) (fun d => iprop(FFree c 16 d ∗ SO P c 14 d)) dirs dirs_nodup
    fun d => sto_wait (P := P) (κ := κ) (ιs := ιs) c 14 (by omega) 0 (above_zero 0) d
  rw [dirs_univ] at h
  exact h
theorem FE_intro (d : Fin 2) : iprop((FFree c 17 d ∗ SO P c 15 d) ∗ (FFree c 16 d ∗ SO P c 14 d)) ⊢ FE P c d := by
  have h17 : FFree (F := F) c 17 d = iprop(anyP c (slot (fstM d) 0) ∗ pos c (.sto d 0) 8) := rfl
  have h16 : FFree (F := F) c 16 d = iprop(anyP c (slot (fstM d) 1) ∗ pos c (.sto d 1) 8) := rfl
  unfold FE
  rw [h17, h16]
  iintro ⟨⟨⟨B0, P0⟩, S15⟩, ⟨B1, P1⟩, S14⟩
  isplitl [P0 P1]
  · isplitl [P0]; · iexact P0
    iexact P1
  isplitl [B0 B1]
  · isplitl [B0]; · iexact B0
    iexact B1
  isplitl [S14]; · iexact S14
  iexact S15

/-- What is left after the last statements. -/
def PostO : PROP :=
  iprop(Ow c 0 ∗ (Cr c 0 112 ∗ Cr c 1 112) ∗ (bigSep Finset.univ fun x : LN => LE c x) ∗ bigSep Finset.univ fun d : Fin 2 => FE P c d)

theorem post_tr : iprop(Kx P κ ιs c ∗ ST P c 30) ⊢ run c (post F c) (PostO P c) := by
  have hsend : iprop(Kx P κ ιs c ∗ bigSep Finset.univ (lane P c 30) ∗ Ow c 0) ⊢ run c (dirs.flatMap fun d => js.map fun j => sendWait F d (par 29) j) iprop((bigSep Finset.univ fun x : LN => LE c x) ∗ Ow c 0) := by
    have h := run_each c (Kx P κ ιs c) (Ow c 0) (fun x : LN => [sendWait F x.1 (par 29) x.2]) (lane P c 30) (LE c) dirL dirL_nodup fun x => post_send P c x
    rw [dirL_univ] at h
    exact h
  have hFD : bigSep Finset.univ (FD (F := F) c 30) ⊢ iprop((bigSep Finset.univ fun d : Fin 2 => SI c 14 d) ∗ bigSep Finset.univ fun d : Fin 2 => SI c 15 d) :=
    bs21 Finset.univ _ _ _ fun d => .rfl
  have hFE : iprop((bigSep Finset.univ fun d : Fin 2 => iprop(FFree c 17 d ∗ SO P c 15 d)) ∗ bigSep Finset.univ fun d : Fin 2 => iprop(FFree c 16 d ∗ SO P c 14 d)) ⊢ bigSep Finset.univ fun d : Fin 2 => FE P c d :=
    bs2 Finset.univ _ _ _ fun d => FE_intro P c d
  have hO : Ow (F := F) c (Owe c (8 * 30)) = Ow c 0 := by rw [Owe_end]
  have hD (d : Fin 2) : DQ (F := F) c 30 0 d ⊢ Cr c d 112 := by unfold DQ; iintro ⟨H, -⟩; iexact H
  unfold ST PostO
  rw [hO, show post F c = (dirs.flatMap fun d => js.map fun j => sendWait F d (par 29) j) ++ ((dirs.map fun d => stWait F d c 15 0) ++ (dirs.map fun d => stWait F d c 14 1)) from by
    unfold post; rw [List.append_assoc]]
  iintro ⟨#HK, HO, ⟨HD0, HD1⟩, HL, HF⟩
  ihave H := hFD $$ HF; icases H with ⟨H14, H15⟩
  iapply (run_app c _ _ _ _ _ hsend) $$ [HL HO]
  · isplitr; · iexact HK
    isplitl [HL]; · iexact HL
    iexact HO
  iintro ⟨HL, HO⟩
  iapply (run_app c _ _ _ _ _ (post_st15 (κ := κ) (ιs := ιs) P c)) $$ [H15 HO]
  · isplitr; · iexact HK
    isplitl [H15]; · iexact H15
    iexact HO
  iintro ⟨H15, HO⟩
  ihave Hw := (post_st14 (κ := κ) (ιs := ιs) P c) $$ [H14 HO]
  · isplitr; · iexact HK
    isplitl [H14]; · iexact H14
    iexact HO
  iapply (run_wand c _ _ _) $$ Hw
  iintro ⟨H14, HO⟩
  isplitl [HO]; · iexact HO
  isplitl [HD0 HD1]
  · isplitl [HD0]; · iapply (hD 0); iexact HD0
    iapply (hD 1); iexact HD1
  isplitl [HL]; · iexact HL
  iapply hFE
  isplitl [H15]; · iexact H15
  iexact H14

/-! ## Everything put away -/

/-- Every semaphore but the barrier's, at zero. -/
def Sems0 : PROP :=
  iprop((bigSep Finset.univ fun x : K3 => semVal (cell c (.snd x.1 x.2.1 x.2.2)) 0) ∗ (bigSep Finset.univ fun x : K3 => semVal (cell c (.rcv x.1 x.2.1 x.2.2)) 0)
    ∗ (bigSep Finset.univ fun x : K3 => semVal (cell c (.cpy x.1 x.2.1 x.2.2)) 0) ∗ (bigSep Finset.univ fun x : Fin 2 × Fin 2 => semVal (cell c (.sto x.1 x.2)) 0)
    ∗ bigSep Finset.univ fun d : Fin 2 => semVal (cell c (.crd d)) 0)
/-- The scratch buffers, at contents not named. -/
def Scr : PROP :=
  iprop((bigSep Finset.univ fun x : K3 => anyP c (sub (recvM x.1) x.2.1 x.2.2)) ∗ (bigSep Finset.univ fun x : K3 => anyP c (sub (sendM x.1) x.2.1 x.2.2))
    ∗ (bigSep Finset.univ fun x : K3 => anyP c (sub (locM x.1) x.2.1 x.2.2)) ∗ bigSep Finset.univ fun x : Fin 2 × Fin 2 => anyP c (slot (fstM x.1) x.2))
def End : PROP := iprop(Ow c 0 ∗ semVal (cell c .bar) 0 ∗ Sems0 c ∗ Scr c ∗ bigSep Finset.univ fun d : Fin 2 => iprop(SO P c 14 d ∗ SO P c 15 d))

def LS (x : LN) : PROP :=
  iprop((semVal (cell c (.rcv x.1 0 x.2)) 0 ∗ semVal (cell c (.rcv x.1 1 x.2)) 0) ∗ (semVal (cell c (.snd x.1 0 x.2)) 0 ∗ semVal (cell c (.snd x.1 1 x.2)) 0)
    ∗ (semVal (cell c (.cpy x.1 0 x.2)) 0 ∗ semVal (cell c (.cpy x.1 1 x.2)) 0)
    ∗ (anyP c (sub (recvM x.1) 0 x.2) ∗ anyP c (sub (recvM x.1) 1 x.2)) ∗ (anyP c (sub (sendM x.1) 0 x.2) ∗ anyP c (sub (sendM x.1) 1 x.2))
    ∗ (anyP c (sub (locM x.1) 0 x.2) ∗ anyP c (sub (locM x.1) 1 x.2)))

theorem LE_close (x : LN) : iprop(Cx P κ ιs ∗ LE c x) ⊢ (iprop(|={Set.univ}=> LS c x) : PROP) := by
  have pr (Q R : PROP) (k k' : Kind) (r r' : ℕ) (h : iprop(Cx P κ ιs ∗ pos c k r) ⊢ (iprop(|={Set.univ}=> semVal (cell c k) 0) : PROP))
      (h' : iprop(Cx P κ ιs ∗ pos c k' r') ⊢ (iprop(|={Set.univ}=> semVal (cell c k') 0) : PROP)) :
      iprop(Cx P κ ιs ∗ (pos c k r ∗ pos c k' r')) ⊢ (iprop(|={Set.univ}=> (semVal (cell c k) 0 ∗ semVal (cell c k') 0)) : PROP) := by
    iintro ⟨#HC, H, H'⟩
    imod h $$ [H] with H
    · isplitr; · iexact HC
      iexact H
    imod h' $$ [H'] with H'
    · isplitr; · iexact HC
      iexact H'
    imodintro
    isplitl [H]; · iexact H
    iexact H'
  have h1 := pr iprop(emp) iprop(emp) _ _ _ _ (close_rcv c x.1 0 x.2) (close_rcv c x.1 1 x.2)
  have h2 := pr iprop(emp) iprop(emp) _ _ _ _ (close_snd c x.1 0 x.2) (close_snd c x.1 1 x.2)
  have h3 := pr iprop(emp) iprop(emp) _ _ _ _ (close_cpy c x.1 0 x.2 16 (by omega) rfl) (close_cpy c x.1 1 x.2 15 (by omega) rfl)
  unfold LE LS
  iintro ⟨#HC, H1, H2, H3, HB⟩
  imod h1 $$ [H1] with H1
  · isplitr; · iexact HC
    iexact H1
  imod h2 $$ [H2] with H2
  · isplitr; · iexact HC
    iexact H2
  imod h3 $$ [H3] with H3
  · isplitr; · iexact HC
    iexact H3
  imodintro
  isplitl [H1]; · iexact H1
  isplitl [H2]; · iexact H2
  isplitl [H3]; · iexact H3
  iexact HB

theorem FE_close (d : Fin 2) : iprop(Cx P κ ιs ∗ FE P c d) ⊢ (iprop(|={Set.univ}=> ((semVal (cell c (.sto d 0)) 0 ∗ semVal (cell c (.sto d 1)) 0)
    ∗ (anyP c (slot (fstM d) 0) ∗ anyP c (slot (fstM d) 1)) ∗ (SO P c 14 d ∗ SO P c 15 d))) : PROP) := by
  unfold FE
  iintro ⟨#HC, ⟨H0, H1⟩, HB⟩
  imod (close_sto (P := P) (κ := κ) (ιs := ιs) c d 0) $$ [H0] with H0
  · isplitr; · iexact HC
    iexact H0
  imod (close_sto (P := P) (κ := κ) (ιs := ιs) c d 1) $$ [H1] with H1
  · isplitr; · iexact HC
    iexact H1
  imodintro
  isplitl [H0 H1]
  · isplitl [H0]; · iexact H0
    iexact H1
  iexact HB

theorem end_tr : iprop(Cx P κ ιs ∗ pos c .bar 1 ∗ PostO P c) ⊢ (iprop(|={Set.univ}=> End P c) : PROP) := by
  have hL := upd (Finset.univ : Finset LN) (Cx P κ ιs) (LE c) (LS c) fun x => LE_close P c x
  have hF := upd (Finset.univ : Finset (Fin 2)) (Cx P κ ιs) (FE P c) _ fun d => FE_close P c d
  have sL : (bigSep Finset.univ fun x : LN => LS (F := F) c x) ⊢ iprop((bigSep Finset.univ fun x : K3 => semVal (cell c (.rcv x.1 x.2.1 x.2.2)) 0) ∗ (bigSep Finset.univ fun x : K3 => semVal (cell c (.snd x.1 x.2.1 x.2.2)) 0)
      ∗ (bigSep Finset.univ fun x : K3 => semVal (cell c (.cpy x.1 x.2.1 x.2.2)) 0) ∗ (bigSep Finset.univ fun x : K3 => anyP c (sub (recvM x.1) x.2.1 x.2.2)) ∗ (bigSep Finset.univ fun x : K3 => anyP c (sub (sendM x.1) x.2.1 x.2.2))
      ∗ (bigSep Finset.univ fun x : K3 => anyP c (sub (locM x.1) x.2.1 x.2.2))) := by
    rw [re3 fun d p j => semVal (cell c (.rcv d p j)) 0, re3 fun d p j => semVal (cell c (.snd d p j)) 0, re3 fun d p j => semVal (cell c (.cpy d p j)) 0,
      re3 fun d p j => anyP (F := F) c (sub (recvM d) p j), re3 fun d p j => anyP (F := F) c (sub (sendM d) p j), re3 fun d p j => anyP (F := F) c (sub (locM d) p j)]
    exact (bs21 Finset.univ _ _ _ fun x => .rfl).trans (sep_mono .rfl ((bs21 Finset.univ _ _ _ fun x => .rfl).trans (sep_mono .rfl ((bs21 Finset.univ _ _ _ fun x => .rfl).trans
      (sep_mono .rfl ((bs21 Finset.univ _ _ _ fun x => .rfl).trans (sep_mono .rfl (bs21 Finset.univ _ _ _ fun x => .rfl))))))))
  have sF : (bigSep Finset.univ fun d : Fin 2 => iprop((semVal (cell c (.sto d 0)) 0 ∗ semVal (cell c (.sto d 1)) 0)
      ∗ (anyP c (slot (fstM d) 0) ∗ anyP c (slot (fstM d) 1)) ∗ (SO P c 14 d ∗ SO P c 15 d))) ⊢ iprop((bigSep Finset.univ fun x : Fin 2 × Fin 2 => semVal (cell c (.sto x.1 x.2)) 0)
      ∗ (bigSep Finset.univ fun x : Fin 2 × Fin 2 => anyP c (slot (fstM x.1) x.2)) ∗ bigSep Finset.univ fun d : Fin 2 => iprop(SO P c 14 d ∗ SO P c 15 d)) := by
    rw [re2 fun d q => semVal (cell c (.sto d q)) 0, re2 fun d q => anyP (F := F) c (slot (fstM d) q)]
    exact (bs21 Finset.univ _ _ _ fun x => .rfl).trans (sep_mono .rfl (bs21 Finset.univ _ _ _ fun x => .rfl))
  have sC : iprop(semVal (cell c (.crd 0)) 0 ∗ semVal (cell c (.crd 1)) 0) ⊢ (bigSep Finset.univ fun d : Fin 2 => semVal (cell c (.crd d)) 0 : PROP) :=
    Entails.of_eq (bigSep_fin_two fun d => semVal (cell c (.crd d)) 0).symm
  unfold PostO End Sems0 Scr
  iintro ⟨#HC, Hb, HO, ⟨HD0, HD1⟩, HL, HF⟩
  imod (close_bar (P := P) (κ := κ) (ιs := ιs) c) $$ [Hb] with Hb
  · isplitr; · iexact HC
    iexact Hb
  imod (close_crd (P := P) (κ := κ) (ιs := ιs) c 0) $$ [HD0] with HD0
  · isplitr; · iexact HC
    iexact HD0
  imod (close_crd (P := P) (κ := κ) (ιs := ιs) c 1) $$ [HD1] with HD1
  · isplitr; · iexact HC
    iexact HD1
  imod hL $$ [HL] with HL
  · isplitr; · iexact HC
    iexact HL
  imod hF $$ [HF] with HF
  · isplitr; · iexact HC
    iexact HF
  ihave H := sL $$ HL; icases H with ⟨Hr, Hs, Hc, Br, Bs, Bl⟩
  ihave H := sF $$ HF; icases H with ⟨Hst, Bf, HSO⟩
  ihave HD := sC $$ [HD0 HD1]
  · isplitl [HD0]; · iexact HD0
    iexact HD1
  imodintro
  isplitl [HO]; · iexact HO
  isplitl [Hb]; · iexact Hb
  isplitl [Hs Hr Hc Hst HD]
  · isplitl [Hs]; · iexact Hs
    isplitl [Hr]; · iexact Hr
    isplitl [Hc]; · iexact Hc
    isplitl [Hst]; · iexact Hst
    iexact HD
  isplitl [Br Bs Bl Bf]
  · isplitl [Br]; · iexact Br
    isplitl [Bs]; · iexact Bs
    isplitl [Bl]; · iexact Bl
    iexact Bf
  iexact HSO

/-- The windows and stores in the end. -/
def Wins : PROP := iprop((bigSep Finset.univ fun d : Fin 2 => winMe P d c) ∗ bigSep (Finset.range 30) fun t => SOut P c t)

/-- The whole body. -/
theorem all_tr : iprop(Cx P κ ιs ∗ PreI P c ∗ bigSep (Finset.range 30) fun t => SIn P c t) ⊢ run c (all F c) iprop(End P c ∗ Wins P c) := by
  unfold all
  rw [List.append_assoc]
  iintro ⟨#HC, HP, HS⟩
  iapply (run_app c _ _ _ _ _ (pre_tr (P := P) (κ := κ) (ιs := ιs) c)) $$ [HP]
  · isplitr; · iexact HC
    iexact HP
  unfold PreO
  iintro ⟨#HK, Hbar, Hm, HST⟩
  iapply (run_app c _ _ _ _ _ (loop_tr (P := P) (κ := κ) (ιs := ιs) c)) $$ [HS HST]
  · isplitr; · iexact HK
    isplitl [HS]; · iexact HS
    iexact HST
  iintro ⟨HS, HST⟩
  iapply (run_post c _ _)
  ihave Hw := (post_tr (κ := κ) (ιs := ιs) P c) $$ [HST]
  · isplitr; · iexact HK
    iexact HST
  iapply (run_wand c _ _ _) $$ Hw
  iintro HPo
  imod (end_tr (κ := κ) (ιs := ιs) P c) $$ [Hbar HPo] with HE
  · isplitr; · iexact HC
    isplitl [Hbar]; · iexact Hbar
    iexact HPo
  imodintro
  isplitl [HE]; · iexact HE
  unfold Wins
  isplitl [Hm]; · iexact Hm
  iexact HS

end Post

end Cert.KernelIdeal.Talk
-- ==== Proof.Deal.lean ====
/-
What a device is dealt at launch, and what it has in the end.
-/
module

public import proofs.«01_k».proof.Proof.Finish

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
variable {P : Dev nD → Vec F S4096x8192 .bf16} {κ : GSem nD τ sig → ℕ} {ιs : Key → ℕ}

local notation "PROP" => sProp (MT nD τ sig ℕ (Elt F) ℕ UU ℕ)

/-! ## Families over ranges -/

theorem fam_shift (Φ : ℕ → PROP) (n : ℕ) : bigSep (Finset.range (n + 1)) Φ = iprop(Φ 0 ∗ bigSep (Finset.range n) fun t => Φ (t + 1)) := by
  rw [show Finset.range (n + 1) = insert 0 ((Finset.range n).map ⟨fun i => i + 1, fun a b h => Nat.succ.inj h⟩) from by
    ext i; simp only [Finset.mem_range, Finset.mem_insert, Finset.mem_map, Function.Embedding.coeFn_mk]
    constructor
    · intro h
      rcases Nat.eq_zero_or_pos i with h0 | h0
      · exact .inl h0
      · exact .inr ⟨i - 1, by omega, by show i - 1 + 1 = i; omega⟩
    · rintro (h | ⟨a, ha, h⟩)
      · omega
      · have h : a + 1 = i := h
        omega]
  rw [bigSep_insert (fun h => by obtain ⟨x, _, hx⟩ := Finset.mem_map.mp h; exact Nat.succ_ne_zero x hx), bigSep_map]
  rfl

/-- Absent from `n` on. -/
theorem fam_ext (Φ : ℕ → PROP) (n m : ℕ) (h : n ≤ m) : (bigSep (Finset.range m) fun t => if t < n then Φ t else iprop(emp)) = bigSep (Finset.range n) Φ := by
  have hf : (Finset.range m).filter (fun t => t < n) = Finset.range n := by
    ext i; simp only [Finset.mem_filter, Finset.mem_range]; omega
  have := bigSep_filter (Finset.range m) (fun t => t < n) Φ
  rw [hf] at this
  exact this.symm

/-- Absent before `k`. -/
theorem fam_from (Φ : ℕ → PROP) (k n : ℕ) : (bigSep (Finset.range (k + n)) fun t => if k ≤ t then Φ (t - k) else iprop(emp)) = bigSep (Finset.range n) Φ := by
  have hf : (Finset.range (k + n)).filter (fun t => k ≤ t) = (Finset.range n).map ⟨fun i => i + k, fun a b h => Nat.add_right_cancel h⟩ := by
    ext i; simp only [Finset.mem_filter, Finset.mem_range, Finset.mem_map, Function.Embedding.coeFn_mk]
    constructor
    · intro h; exact ⟨i - k, by omega, by show i - k + k = i; omega⟩
    · rintro ⟨a, ha, h⟩
      have h : a + k = i := h
      omega
  have := bigSep_filter (Finset.range (k + n)) (fun t => k ≤ t) (fun t => Φ (t - k))
  rw [hf, bigSep_map] at this
  refine (show _ = _ from this.symm).trans ?_
  exact bigSep_congr fun i _ => by show Φ (i + k - k) = Φ i; rw [Nat.add_sub_cancel]

theorem fam_fin (Φ : ℕ → PROP) (n : ℕ) : (bigSep Finset.univ fun t : Fin n => Φ t.val) = bigSep (Finset.range n) Φ := by
  have h : (Finset.univ : Finset (Fin n)).map Fin.valEmbedding = Finset.range n := by
    ext i; simp only [Finset.mem_map, Finset.mem_univ, true_and, Fin.valEmbedding_apply, Finset.mem_range]
    exact ⟨fun ⟨a, ha⟩ => ha ▸ a.isLt, fun h => ⟨⟨i, h⟩, rfl⟩⟩
  rw [← h, bigSep_map]
  rfl

/-- Pairs, the second first. -/
theorem fam_pair {α : Type} [Fintype α] (n : ℕ) (Ψ : α → ℕ → PROP) :
    (bigSep Finset.univ fun x : α × Fin n => Ψ x.1 x.2.val) = bigSep (Finset.range n) fun t => bigSep Finset.univ fun a => Ψ a t := by
  rw [bigSep_univ_prod, BI.bigSep_univ_comm fun a t => Ψ a (Fin.val t)]
  exact fam_fin (fun t => bigSep Finset.univ fun a => Ψ a t) n

/-! ## What a device is dealt -/

section Deal

variable (P) (c : Dev nD)

/-- The tokens of transfer `t`. -/
def DU (t : ℕ) (x : LN) : PROP :=
  iprop(duty c (.snd x.1 (par t) x.2) (t / 2) 0 ∗ duty (peerN x.1 c) (.rcv x.1 (par t) x.2) (t / 2) 0
    ∗ writeTok (ES (F := F)) (peerN x.1 c, x.1, par t, x.2) (t / 2 + 1))
def CRd (t : ℕ) (x : LN) : PROP := crT c (.crd x.1) (t + 3) 1
def TCd (t : ℕ) (x : LN) : PROP := duty (ackN x.1 c) (.crd x.1) 0 (4 * t + x.2.val)
def CRv (t : ℕ) (x : LN) : PROP := crT c (.rcv x.1 (par t) x.2) (t + 2) N32
def TLd (t : ℕ) (x : LN) : PROP := duty c (.cpy x.1 (par t) x.2) (ldR t x.2) 0
def WLd (t : ℕ) (x : LN) : PROP := win P x.1 c (t15 t) x.2
def TSt (s : ℕ) (d : Fin 2) : PROP := duty c (.sto d (par (s + 1))) (s / 2) 0
def OSt (s : ℕ) (d : Fin 2) : PROP := anyP c (outW d c (s16 s))

/-- Credits and tokens. -/
def FLt : PROP :=
  iprop(((bigSep (Finset.range 30) fun t => bigSep Finset.univ (CRv c t)) ∗ bigSep (Finset.range 28) fun t => bigSep Finset.univ (CRd c t))
    ∗ (bigSep (Finset.range 30) fun t => bigSep Finset.univ (DU c t)) ∗ (bigSep (Finset.range 28) fun t => bigSep Finset.univ (TCd c t))
    ∗ (bigSep (Finset.range 15) fun t => bigSep Finset.univ (TLd c t)) ∗ (bigSep Finset.univ fun d : Fin 2 => duty c (.cpy d 0 0) 0 0)
    ∗ bigSep (Finset.range 16) fun s => bigSep Finset.univ (TSt c s))
/-- The windows of the two arrays. -/
def FLm : PROP :=
  iprop((bigSep Finset.univ fun d : Fin 2 => winMe P d c) ∗ (bigSep (Finset.range 15) fun t => bigSep Finset.univ (WLd P c t))
    ∗ bigSep (Finset.range 16) fun s => bigSep Finset.univ (OSt c s))

theorem par_add_two (t : ℕ) : par (t + 2) = par t := Fin.ext (by show (t + 2) % 2 = t % 2; omega)

/-- A step's share. -/
theorem step_in (t : ℕ) :
    iprop((bigSep Finset.univ (CRv c t)) ∗ (if t < 29 then bigSep Finset.univ (DU c (t + 1)) else iprop(emp))
        ∗ (if t < 29 then (if 1 ≤ t then bigSep Finset.univ (CRd c (t - 1)) else iprop(emp)) else iprop(emp))
        ∗ (if t < 28 then bigSep Finset.univ (TCd c t) else iprop(emp))
        ∗ (if t < 14 then iprop(bigSep Finset.univ (WLd P c (t + 1)) ∗ bigSep Finset.univ (TLd c (t + 1))) else iprop(emp))
        ∗ (if 14 ≤ t then iprop(bigSep Finset.univ (OSt c (t - 14)) ∗ bigSep Finset.univ (TSt c (t - 14))) else iprop(emp)))
      ⊢ SIn P c t := by
  have hD : iprop((if t < 29 then bigSep Finset.univ (DU (F := F) c (t + 1)) else iprop(emp))
        ∗ (if t < 29 then (if 1 ≤ t then bigSep Finset.univ (CRd (F := F) c (t - 1)) else iprop(emp)) else iprop(emp)))
      ⊢ (bigSep Finset.univ fun x : LN => FuelD c x.1 x.2 t : PROP) := by
    by_cases h : t < 29
    · rw [if_pos h, if_pos h]
      by_cases h1 : 1 ≤ t
      · rw [if_pos h1]
        exact bs2 Finset.univ _ _ _ fun x => by
          unfold FuelD DU CRd
          rw [if_pos h, if_pos h1, show t - 1 + 3 = t + 2 by omega]
          iintro ⟨⟨H1, H2, H3⟩, H4⟩
          isplitl [H1]; · iexact H1
          isplitl [H2]; · iexact H2
          isplitl [H3]; · iexact H3
          iexact H4
      · rw [if_neg h1]
        refine (show iprop(bigSep Finset.univ (DU (F := F) c (t + 1)) ∗ emp) ⊢ bigSep Finset.univ (DU (F := F) c (t + 1)) from by iintro ⟨H, -⟩; iexact H).trans ?_
        exact bs1 Finset.univ _ _ fun x => by
          unfold FuelD DU
          rw [if_pos h, if_neg h1]
          iintro ⟨H1, H2, H3⟩
          isplitl [H1]; · iexact H1
          isplitl [H2]; · iexact H2
          isplitl [H3]; · iexact H3
          iempintro
    · rw [if_neg h, if_neg h, bigSep_congr (Φ := fun x : LN => FuelD c x.1 x.2 t) (Ψ := fun _ => iprop(emp)) fun x _ => if_neg h,
        show (bigSep Finset.univ fun _ : LN => iprop(emp)) = (iprop(emp) : PROP) from bigSep_emp_const _]
      iintro -
      iempintro
  have hC : (if t < 28 then bigSep Finset.univ (TCd (F := F) c t) else iprop(emp)) ⊢ (bigSep Finset.univ fun x : LN => FuelC c x.1 x.2 t : PROP) := by
    by_cases h : t < 28
    · rw [if_pos h]
      exact bs1 Finset.univ _ _ fun x => by unfold FuelC; rw [if_pos h]; exact .rfl
    · rw [if_neg h, bigSep_congr (Φ := fun x : LN => FuelC c x.1 x.2 t) (Ψ := fun _ => iprop(emp)) fun x _ => if_neg h,
        show (bigSep Finset.univ fun _ : LN => iprop(emp)) = (iprop(emp) : PROP) from bigSep_emp_const _]
      try exact .rfl
  have hL : (if t < 14 then iprop(bigSep Finset.univ (WLd P c (t + 1)) ∗ bigSep Finset.univ (TLd c (t + 1))) else iprop(emp)) ⊢ (bigSep Finset.univ (LdF P c t) : PROP) := by
    by_cases h : t < 14
    · rw [if_pos h]
      exact bs2 Finset.univ _ _ _ fun x => by unfold LdF; rw [if_pos h]; exact .rfl
    · rw [if_neg h, bigSep_congr (Φ := LdF P c t) (Ψ := fun _ => iprop(emp)) fun x _ => if_neg h,
        show (bigSep Finset.univ fun _ : LN => iprop(emp)) = (iprop(emp) : PROP) from bigSep_emp_const _]
      try exact .rfl
  have hS : (if 14 ≤ t then iprop(bigSep Finset.univ (OSt c (t - 14)) ∗ bigSep Finset.univ (TSt c (t - 14))) else iprop(emp)) ⊢ (bigSep Finset.univ (StF c t) : PROP) := by
    by_cases h : 14 ≤ t
    · rw [if_pos h]
      exact bs2 Finset.univ _ _ _ fun d => by
        unfold StF OSt TSt
        rw [if_pos h, show par (t - 14 + 1) = par (t + 1) from Fin.ext (by show (t - 14 + 1) % 2 = (t + 1) % 2; omega)]
        try exact .rfl
    · rw [if_neg h, bigSep_congr (Φ := StF c t) (Ψ := fun _ => iprop(emp)) fun x _ => if_neg h,
        show (bigSep Finset.univ fun _ : Fin 2 => iprop(emp)) = (iprop(emp) : PROP) from bigSep_emp_const _]
      try exact .rfl
  have hF : iprop((bigSep Finset.univ (CRv c t)) ∗ (bigSep Finset.univ fun x : LN => FuelD c x.1 x.2 t) ∗ bigSep Finset.univ fun x : LN => FuelC c x.1 x.2 t)
      ⊢ (bigSep Finset.univ fun x : LN => Fuel c x.1 x.2 t : PROP) := bs3 Finset.univ _ _ _ _ fun x => .rfl
  unfold SIn
  iintro ⟨H1, H2, H3, H4, H5, H6⟩
  isplitl [H1 H2 H3 H4]
  · iapply hF
    isplitl [H1]; · iexact H1
    isplitl [H2 H3]
    · iapply hD
      isplitl [H2]; · iexact H2
      iexact H3
    iapply hC; iexact H4
  isplitl [H5]; · iapply hL; iexact H5
  iapply hS; iexact H6

theorem bs6 {α : Type} (s : Finset α) (A B C D E G H : α → PROP) (h : ∀ x, iprop(A x ∗ B x ∗ C x ∗ D x ∗ E x ∗ G x) ⊢ H x) :
    iprop(bigSep s A ∗ bigSep s B ∗ bigSep s C ∗ bigSep s D ∗ bigSep s E ∗ bigSep s G) ⊢ bigSep s H :=
  (sep_mono .rfl (sep_mono .rfl (bs4 s C D E G (fun x => iprop(C x ∗ D x ∗ E x ∗ G x)) fun x => .rfl))).trans (bs3 s A B _ H h)

/-- All of it, dealt out. -/
theorem deal : iprop(FLt c ∗ FLm P c) ⊢ iprop(((bigSep Finset.univ fun d : Fin 2 => TokM P c d) ∗ bigSep Finset.univ fun x : LN => Tok0 P c x)
    ∗ bigSep (Finset.range 30) fun t => SIn P c t) := by
  have e1 : (bigSep (Finset.range 30) fun t => bigSep Finset.univ (DU (F := F) c t)) ⊢ iprop(bigSep Finset.univ (DU (F := F) c 0) ∗ bigSep (Finset.range 30) fun t => if t < 29 then bigSep Finset.univ (DU (F := F) c (t + 1)) else iprop(emp)) := by
    rw [fam_ext (fun t => bigSep Finset.univ (DU (F := F) c (t + 1))) 29 30 (by omega)]
    exact Entails.of_eq (fam_shift (fun t => bigSep Finset.univ (DU (F := F) c t)) 29)
  have e2 : (bigSep (Finset.range 28) fun t => bigSep Finset.univ (CRd (F := F) c t)) ⊢ (bigSep (Finset.range 30) fun t => if t < 29 then (if 1 ≤ t then bigSep Finset.univ (CRd (F := F) c (t - 1)) else iprop(emp)) else iprop(emp)) := by
    rw [fam_ext (fun t => if 1 ≤ t then bigSep Finset.univ (CRd (F := F) c (t - 1)) else iprop(emp)) 29 30 (by omega)]
    exact Entails.of_eq (fam_from (fun t => bigSep Finset.univ (CRd (F := F) c t)) 1 28).symm
  have e3 : (bigSep (Finset.range 28) fun t => bigSep Finset.univ (TCd (F := F) c t)) ⊢ bigSep (Finset.range 30) fun t => if t < 28 then bigSep Finset.univ (TCd (F := F) c t) else iprop(emp) :=
    Entails.of_eq (fam_ext (fun t => bigSep Finset.univ (TCd (F := F) c t)) 28 30 (by omega)).symm
  have e4 : (bigSep (Finset.range 15) fun t => bigSep Finset.univ (TLd (F := F) c t)) ⊢ iprop(bigSep Finset.univ (TLd (F := F) c 0) ∗ bigSep (Finset.range 14) fun t => bigSep Finset.univ (TLd (F := F) c (t + 1))) :=
    Entails.of_eq (fam_shift (fun t => bigSep Finset.univ (TLd (F := F) c t)) 14)
  have e5 : (bigSep (Finset.range 15) fun t => bigSep Finset.univ (WLd P c t)) ⊢ iprop(bigSep Finset.univ (WLd P c 0) ∗ bigSep (Finset.range 14) fun t => bigSep Finset.univ (WLd P c (t + 1))) :=
    Entails.of_eq (fam_shift (fun t => bigSep Finset.univ (WLd P c t)) 14)
  have e6 : iprop((bigSep (Finset.range 14) fun t => bigSep Finset.univ (WLd P c (t + 1))) ∗ bigSep (Finset.range 14) fun t => bigSep Finset.univ (TLd c (t + 1)))
      ⊢ bigSep (Finset.range 30) fun t => if t < 14 then iprop(bigSep Finset.univ (WLd P c (t + 1)) ∗ bigSep Finset.univ (TLd c (t + 1))) else iprop(emp) := by
    rw [fam_ext (fun t => iprop(bigSep Finset.univ (WLd P c (t + 1)) ∗ bigSep Finset.univ (TLd c (t + 1)))) 14 30 (by omega)]
    exact bs2 _ _ _ _ fun t => .rfl
  have e7 : iprop((bigSep (Finset.range 16) fun s => bigSep Finset.univ (OSt c s)) ∗ bigSep (Finset.range 16) fun s => bigSep Finset.univ (TSt c s))
      ⊢ bigSep (Finset.range 30) fun t => if 14 ≤ t then iprop(bigSep Finset.univ (OSt (F := F) c (t - 14)) ∗ bigSep Finset.univ (TSt c (t - 14))) else iprop(emp) := by
    have := fam_from (fun s => iprop(bigSep Finset.univ (OSt (F := F) c s) ∗ bigSep Finset.univ (TSt c s))) 14 16
    refine (bs2 _ _ _ (fun s => iprop(bigSep Finset.univ (OSt (F := F) c s) ∗ bigSep Finset.univ (TSt c s))) fun t => .rfl).trans (Entails.of_eq this.symm)
  have e8 : iprop((bigSep Finset.univ fun d : Fin 2 => winMe P d c) ∗ bigSep Finset.univ fun d : Fin 2 => duty c (.cpy d 0 0) 0 0) ⊢ (bigSep Finset.univ fun d : Fin 2 => TokM P c d : PROP) :=
    bs2 _ _ _ _ fun d => .rfl
  have e9 : iprop(bigSep Finset.univ (WLd P c 0) ∗ bigSep Finset.univ (TLd c 0) ∗ bigSep Finset.univ (DU c 0)) ⊢ (bigSep Finset.univ fun x : LN => Tok0 P c x : PROP) :=
    bs3 _ _ _ _ _ fun x => by
      have hw : WLd P c 0 x = win P x.1 c 0 x.2 := rfl
      have ht : TLd (F := F) c 0 x = duty c (.cpy x.1 0 x.2) (ldR 0 x.2) 0 := rfl
      have hd : DU (F := F) c 0 x = iprop(duty c (.snd x.1 0 x.2) 0 0 ∗ duty (peerN x.1 c) (.rcv x.1 0 x.2) 0 0 ∗ writeTok (ES (F := F)) (peerN x.1 c, x.1, 0, x.2) 1) := rfl
      rw [hw, ht, hd]
      unfold Tok0
      iintro ⟨H1, H2, H3, H4, H5⟩
      isplitl [H1]; · iexact H1
      isplitl [H2]; · iexact H2
      isplitl [H3 H4]
      · isplitl [H3]; · iexact H3
        iexact H4
      iexact H5
  have eS := bs6 (F := F) (Finset.range 30) _ _ _ _ _ _ (SIn P c) fun t => step_in P c t
  unfold FLt FLm
  iintro ⟨⟨⟨H1, H2⟩, H3, H4, H5, H6, H7⟩, M1, M2, M3⟩
  ihave H := e1 $$ H3; icases H with ⟨H30, H3⟩
  ihave H := e4 $$ H5; icases H with ⟨H50, H5⟩
  ihave H := e5 $$ M2; icases H with ⟨M20, M2⟩
  isplitl [M1 H6 M20 H50 H30]
  · isplitl [M1 H6]
    · iapply e8
      isplitl [M1]; · iexact M1
      iexact H6
    iapply e9
    isplitl [M20]; · iexact M20
    isplitl [H50]; · iexact H50
    iexact H30
  iapply eS
  isplitl [H1]; · iexact H1
  isplitl [H3]; · iexact H3
  isplitl [H2]; · iapply e2; iexact H2
  isplitl [H4]; · iapply e3; iexact H4
  isplitl [M2 H5]
  · iapply e6
    isplitl [M2]; · iexact M2
    iexact H5
  iapply e7
  isplitl [M3]; · iexact M3
  iexact H7

/-- The windows in the end. -/
def FLo : PROP :=
  iprop((bigSep Finset.univ fun d : Fin 2 => winMe P d c) ∗ (bigSep (Finset.range 15) fun t => bigSep Finset.univ (WLd P c t))
    ∗ bigSep (Finset.range 16) fun s => bigSep Finset.univ fun d : Fin 2 => SO P c s d)

theorem collect : iprop(Wins P c ∗ bigSep Finset.univ fun d : Fin 2 => iprop(SO P c 14 d ∗ SO P c 15 d)) ⊢ FLo P c := by
  have e1 : (bigSep (Finset.range 30) fun t => SOut P c t) ⊢ iprop((bigSep (Finset.range 30) fun t => bigSep Finset.univ (WO P c t)) ∗ bigSep (Finset.range 30) fun t => bigSep Finset.univ (OD P c t)) :=
    bs21 _ _ _ _ fun t => .rfl
  have e2 : (bigSep (Finset.range 30) fun t => bigSep Finset.univ (WO P c t)) ⊢ bigSep (Finset.range 15) fun t => bigSep Finset.univ (WLd P c t) := by
    rw [← fam_ext (fun t => bigSep Finset.univ (WLd P c t)) 15 30 (by omega)]
    refine bs1 _ _ _ fun t => ?_
    by_cases h : t < 15
    · rw [if_pos h]
      exact bs1 _ _ _ fun x => by unfold WO; rw [if_pos h]; exact .rfl
    · rw [if_neg h, bigSep_congr (Φ := WO P c t) (Ψ := fun _ => iprop(emp)) fun x _ => if_neg h,
        show (bigSep Finset.univ fun _ : LN => iprop(emp)) = (iprop(emp) : PROP) from bigSep_emp_const _]
      try exact .rfl
  have e3 : (bigSep (Finset.range 30) fun t => bigSep Finset.univ (OD P c t)) ⊢ bigSep (Finset.range 14) fun s => bigSep Finset.univ fun d : Fin 2 => SO P c s d := by
    rw [← fam_from (fun s => bigSep Finset.univ fun d : Fin 2 => SO P c s d) 16 14]
    refine bs1 _ _ _ fun t => ?_
    by_cases h : 16 ≤ t
    · rw [if_pos h]
      exact bs1 _ _ _ fun x => by unfold OD; rw [if_pos h]
    · rw [if_neg h, bigSep_congr (Φ := OD P c t) (Ψ := fun _ => iprop(emp)) fun x _ => if_neg h,
        show (bigSep Finset.univ fun _ : Fin 2 => iprop(emp)) = (iprop(emp) : PROP) from bigSep_emp_const _]
      try exact .rfl
  have e4 : iprop((bigSep (Finset.range 14) fun s => bigSep Finset.univ fun d : Fin 2 => SO P c s d) ∗ (bigSep Finset.univ fun d : Fin 2 => SO P c 14 d) ∗ bigSep Finset.univ fun d : Fin 2 => SO P c 15 d)
      ⊢ bigSep (Finset.range 16) fun s => bigSep Finset.univ fun d : Fin 2 => SO P c s d := by
    rw [show Finset.range 16 = insert 15 (insert 14 (Finset.range 14)) from by decide, bigSep_insert (by decide), bigSep_insert (by decide)]
    refine (show _ ⊢ iprop((bigSep Finset.univ fun d : Fin 2 => SO P c 15 d) ∗ (bigSep Finset.univ fun d : Fin 2 => SO P c 14 d) ∗ bigSep (Finset.range 14) fun s => bigSep Finset.univ fun d : Fin 2 => SO P c s d) from ?_)
    iintro ⟨H1, H2, H3⟩
    isplitl [H3]; · iexact H3
    isplitl [H2]; · iexact H2
    iexact H1
  have e5 : (bigSep Finset.univ fun d : Fin 2 => iprop(SO P c 14 d ∗ SO P c 15 d)) ⊢ iprop((bigSep Finset.univ fun d : Fin 2 => SO P c 14 d) ∗ bigSep Finset.univ fun d : Fin 2 => SO P c 15 d) :=
    bs21 _ _ _ _ fun t => .rfl
  unfold Wins FLo
  iintro ⟨⟨H1, H2⟩, H3⟩
  ihave H := e1 $$ H2; icases H with ⟨H2, H4⟩
  isplitl [H1]; · iexact H1
  isplitl [H2]; · iapply e2; iexact H2
  iapply e4
  isplitl [H4]; · iapply e3; iexact H4
  iapply e5; iexact H3

end Deal

end Cert.KernelIdeal.Talk
-- ==== Proof.Credits.lean ====
/-
What launch credits a device with.
-/
module

public import proofs.«01_k».proof.Proof.Deal

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
local notation "PROP" => sProp (MT nD τ sig ℕ (Elt F) ℕ UU ℕ)

/-! ## The launch credit of a device -/

section Credits

variable (c : Dev nD)

theorem cr_bar (e : Fin 2) : (Pipeline.launchCred (fun d => payB d e) c : PROP) ⊢ crT c .bar 1 1 :=
  Pipeline.launchCred_tallyAt (semOf .bar) (ackN e) (peerN e) (ackN_peerN e) (peerN_ackN e) 1 1 c

theorem cr_first (w : ℕ) : (Pipeline.launchCred (fun d => payI d w) c : PROP) ⊢ CRv c 0 (payI.dirI w, payI.subI w) :=
  Pipeline.launchCred_tallyAt (semOf (.rcv (payI.dirI w) 0 (payI.subI w))) (peerN (payI.dirI w)) (ackN (payI.dirI w)) (peerN_ackN _) (ackN_peerN _) 2 N32 c

theorem cr_xfer (t : ℕ) (j : Fin 4) (e : Fin 2) :
    (Pipeline.launchCred (fun d => payT d t j e) c : PROP) ⊢ if t < 29 then CRv c (t + 1) (e, j) else iprop(emp) := by
  unfold payT
  split
  · exact Pipeline.launchCred_tallyAt (semOf (.rcv e (par (t + 1)) j)) (peerN e) (ackN e) (peerN_ackN _) (ackN_peerN _) (t + 3) N32 c
  · exact Entails.of_eq (Pipeline.launchCred_zero c)

theorem cr_tell (t : ℕ) (e : Fin 2) (j : Fin 4) :
    (Pipeline.launchCred (fun d => payC d t e) c : PROP) ⊢ if t < 28 then CRd c t (e, j) else iprop(emp) := by
  unfold payC
  split
  · exact Pipeline.launchCred_tallyAt (semOf (.crd e)) (ackN e) (peerN e) (ackN_peerN _) (peerN_ackN _) (t + 3) 1 c
  · exact Entails.of_eq (Pipeline.launchCred_zero c)

/-- The first transfers, by lane. -/
theorem lanes_first : Finset.Ico 0 8 = (Finset.univ : Finset LN).map ⟨fun x => 4 * x.1.val + x.2.val, by decide⟩ := by decide

/-- The units, by lane and step. -/
def unitEmb : LN × Fin 30 ↪ ℕ := ⟨fun x => 8 * x.2.val + 2 * x.1.2.val + x.1.1.val, fun x y h => by
  obtain ⟨⟨⟨a, ha⟩, ⟨b, hb⟩⟩, ⟨t, ht⟩⟩ := x
  obtain ⟨⟨⟨a', ha'⟩, ⟨b', hb'⟩⟩, ⟨t', ht'⟩⟩ := y
  have h : 8 * t + 2 * b + a = 8 * t' + 2 * b' + a' := h
  obtain rfl : t = t' := by omega
  obtain rfl : b = b' := by omega
  obtain rfl : a = a' := by omega
  rfl⟩
theorem unitEmb_t (x : LN × Fin 30) : tOf (unitEmb x) = x.2.val := by
  have := x.1.1.isLt; have := x.1.2.isLt
  show (8 * x.2.val + 2 * x.1.2.val + x.1.1.val) / 8 = _; omega
theorem unitEmb_j (x : LN × Fin 30) : jOf (unitEmb x) = x.1.2 := Fin.ext (by
  have := x.1.1.isLt; have := x.1.2.isLt
  show (8 * x.2.val + 2 * x.1.2.val + x.1.1.val) % 8 / 2 = _; omega)
theorem unitEmb_d (x : LN × Fin 30) : dOf (unitEmb x) = x.1.1 := Fin.ext (by
  have := x.1.1.isLt; have := x.1.2.isLt
  show (8 * x.2.val + 2 * x.1.2.val + x.1.1.val) % 2 = _; omega)
theorem lanes_units : Finset.Ico 0 240 = (Finset.univ : Finset (LN × Fin 30)).map unitEmb := by
  ext v
  simp only [Finset.mem_Ico, Finset.mem_map, Finset.mem_univ, true_and]
  constructor
  · rintro ⟨-, h⟩
    exact ⟨((dOf v, jOf v), ⟨v / 8, by omega⟩), by show 8 * (v / 8) + 2 * (v % 8 / 2) + v % 2 = v; omega⟩
  · rintro ⟨x, rfl⟩
    have := x.1.1.isLt; have := x.1.2.isLt; have := x.2.isLt
    exact ⟨Nat.zero_le _, by show 8 * x.2.val + 2 * x.1.2.val + x.1.1.val < 240; omega⟩

theorem cr_I : (bigSep (Finset.Ico 0 8) fun w => Pipeline.launchCred (fun d => payI d w) c : PROP) ⊢ bigSep Finset.univ (CRv c 0) := by
  rw [lanes_first, bigSep_map]
  refine bigSep_mono fun x _ => (cr_first c _).trans (Entails.of_eq ?_)
  obtain ⟨a, b⟩ := x
  have e1 : payI.dirI (4 * a.val + b.val) = a := Fin.ext (by show (4 * a.val + b.val) / 4 % 2 = a.val; omega)
  have e2 : payI.subI (4 * a.val + b.val) = b := Fin.ext (by show (4 * a.val + b.val) % 4 = b.val; omega)
  exact congrArg (CRv (F := F) c 0) (Prod.ext e1 e2)

theorem fam_if (n m : ℕ) (h : n ≤ m) (Φ : ℕ → LN → PROP) :
    (bigSep (Finset.range m) fun t => bigSep Finset.univ fun x : LN => if t < n then Φ t x else iprop(emp))
      = bigSep (Finset.range n) fun t => bigSep Finset.univ (Φ t) := by
  rw [← fam_ext (fun t => bigSep Finset.univ (Φ t)) n m h]
  refine bigSep_congr fun t _ => ?_
  by_cases ht : t < n
  · rw [if_pos ht]; exact bigSep_congr fun x _ => if_pos ht
  · rw [if_neg ht, bigSep_congr (Ψ := fun _ => iprop(emp)) fun x _ => if_neg ht]
    exact (show (bigSep Finset.univ fun _ : LN => iprop(emp)) = (iprop(emp) : PROP) from bigSep_emp_const _)

theorem cr_U : (bigSep (Finset.Ico 0 240) fun v => Pipeline.launchCred (fun d => pay d v) c : PROP)
    ⊢ iprop((bigSep (Finset.range 29) fun t => bigSep Finset.univ (CRv c (t + 1))) ∗ bigSep (Finset.range 28) fun t => bigSep Finset.univ (CRd c t)) := by
  rw [lanes_units, bigSep_map]
  have h : (bigSep Finset.univ fun x : LN × Fin 30 => Pipeline.launchCred (fun d => pay d (unitEmb x)) c : PROP)
      ⊢ bigSep Finset.univ fun x : LN × Fin 30 =>
        iprop((if x.2.val < 29 then CRv c (x.2.val + 1) x.1 else iprop(emp)) ∗ if x.2.val < 28 then CRd c x.2.val x.1 else iprop(emp)) :=
    bigSep_mono fun x _ => by
      unfold pay
      rw [Pipeline.launchCred_add, unitEmb_t, unitEmb_j, unitEmb_d]
      exact BI.sep_mono (cr_xfer c _ _ _) (cr_tell c _ _ _)
  refine h.trans ?_
  rw [bigSep_sep',
    fam_pair 30 (fun (x : LN) t => (if t < 29 then CRv c (t + 1) x else iprop(emp) : PROP)),
    fam_pair 30 (fun (x : LN) t => (if t < 28 then CRd c t x else iprop(emp) : PROP)),
    fam_if 29 30 (by omega) (fun t => CRv c (t + 1)), fam_if 28 30 (by omega) (fun t => CRd c t)]

theorem creds : (Pipeline.launchCred OweB c : PROP)
    ⊢ iprop(crT c .bar 1 2 ∗ (bigSep (Finset.range 30) fun t => bigSep Finset.univ (CRv c t)) ∗ bigSep (Finset.range 28) fun t => bigSep Finset.univ (CRd c t)) := by
  have e : (Pipeline.launchCred OweB c : PROP)
      = iprop((((bigSep (Finset.Ico 0 8) fun w => Pipeline.launchCred (fun d => payI d w) c) ∗ bigSep (Finset.Ico 0 240) fun v => Pipeline.launchCred (fun d => pay d v) c)
          ∗ Pipeline.launchCred (fun d => payB d 1) c) ∗ Pipeline.launchCred (fun d => payB d 0) c) := by
    rw [show (OweB : Dev nD → CellTallies nD τ sig ℕ) = fun d => (((∑ v ∈ Finset.Ico 0 8, payI d v) + ∑ v ∈ Finset.Ico 0 240, pay d v) + payB d 1) + payB d 0 from rfl,
      Pipeline.launchCred_add, Pipeline.launchCred_add, Pipeline.launchCred_add, Pipeline.launchCred_sum, Pipeline.launchCred_sum]
  have hb : iprop(crT c .bar 1 1 ∗ crT c .bar 1 1) ⊢ (crT c .bar 1 2 : PROP) :=
    ((cred_add _ _).2).trans (Entails.of_eq (by rw [tallyAt_add]))
  rw [e, fam_shift (fun t => bigSep Finset.univ (CRv (F := F) c t)) 29]
  iintro ⟨⟨⟨HI, HU⟩, HB1⟩, HB0⟩
  ihave HI := (cr_I c) $$ HI
  ihave HU := (cr_U c) $$ HU
  icases HU with ⟨H1, H2⟩
  ihave HB1 := (cr_bar c 1) $$ HB1
  ihave HB0 := (cr_bar c 0) $$ HB0
  isplitl [HB0 HB1]
  · iapply hb
    isplitl [HB0] <;> iassumption
  isplitl [HI H1]
  · isplitl [HI] <;> iassumption
  iexact H2

end Credits

end Cert.KernelIdeal.Talk
-- ==== Proof.Tokens.lean ====
/-
The duties of all devices, and who is handed which.
-/
module

public import proofs.«01_k».proof.Proof.Credits

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
local notation "PROP" => sProp (MT nD τ sig ℕ (Elt F) ℕ UU ℕ)

/-! ## The duties, listed -/

/-- Barrier; send; receive; load; first chunk; store; credit. -/
abbrev TI : Type := Fin 2 ⊕ (LN × Fin 30) ⊕ (LN × Fin 30) ⊕ (LN × Fin 15) ⊕ Fin 2 ⊕ (Fin 2 × Fin 16) ⊕ (LN × Fin 28)

def tokOf : TI → Kind × ℕ × ℕ
  | .inl i => (.bar, 0, i.val)
  | .inr (.inl (x, t)) => (.snd x.1 (par t.val) x.2, t.val / 2, 0)
  | .inr (.inr (.inl (x, t))) => (.rcv x.1 (par t.val) x.2, t.val / 2, 0)
  | .inr (.inr (.inr (.inl (x, t)))) => (.cpy x.1 (par t.val) x.2, ldR t.val x.2, 0)
  | .inr (.inr (.inr (.inr (.inl d)))) => (.cpy d 0 0, 0, 0)
  | .inr (.inr (.inr (.inr (.inr (.inl (d, s)))))) => (.sto d (par (s.val + 1)), s.val / 2, 0)
  | .inr (.inr (.inr (.inr (.inr (.inr (x, t)))))) => (.crd x.1, 0, 4 * t.val + x.2.val)

/-- The index of a duty. -/
def untok : Kind × ℕ × ℕ → TI
  | (.bar, _, i) => .inl ⟨i % 2, Nat.mod_lt _ (by decide)⟩
  | (.snd d p j, r, _) => .inr (.inl ((d, j), ⟨(2 * r + p.val) % 30, Nat.mod_lt _ (by decide)⟩))
  | (.rcv d p j, r, _) => .inr (.inr (.inl ((d, j), ⟨(2 * r + p.val) % 30, Nat.mod_lt _ (by decide)⟩)))
  | (.cpy d p j, r, _) =>
      if first p j then (if r = 0 then .inr (.inr (.inr (.inr (.inl d)))) else .inr (.inr (.inr (.inl ((d, j), ⟨(2 * (r - 1) + p.val) % 15, Nat.mod_lt _ (by decide)⟩)))))
      else .inr (.inr (.inr (.inl ((d, j), ⟨(2 * r + p.val) % 15, Nat.mod_lt _ (by decide)⟩))))
  | (.sto d q, r, _) => .inr (.inr (.inr (.inr (.inr (.inl (d, ⟨(2 * r + (1 - q.val)) % 16, Nat.mod_lt _ (by decide)⟩))))))
  | (.crd d, _, i) => .inr (.inr (.inr (.inr (.inr (.inr ((d, ⟨i % 4, Nat.mod_lt _ (by decide)⟩), ⟨i / 4 % 28, Nat.mod_lt _ (by decide)⟩))))))

set_option synthInstance.maxSize 10000 in
instance TI_eq : DecidableEq TI := inferInstance

theorem untok_tokOf : ∀ x : TI, untok (tokOf x) = x := by
  rintro (i | x | x | x | d | x | x)
  · revert i; decide +kernel
  · revert x; decide +kernel
  · revert x; decide +kernel
  · revert x; decide +kernel
  · revert d; decide +kernel
  · revert x; decide +kernel
  · revert x; decide +kernel

def tokEmb : Dev nD × TI ↪ GSem nD τ sig × ℕ × ℕ :=
  ⟨fun x => (cell x.1 (tokOf x.2).1, (tokOf x.2).2.1, (tokOf x.2).2.2), fun x y h => by
    have h1 := cell_inj (congrArg (fun z : GSem nD τ sig × ℕ × ℕ => z.1) h)
    have h2 : tokOf x.2 = tokOf y.2 :=
      Prod.ext h1.2 (Prod.ext (congrArg (fun z : GSem nD τ sig × ℕ × ℕ => z.2.1) h) (congrArg (fun z : GSem nD τ sig × ℕ × ℕ => z.2.2) h))
    exact Prod.ext h1.1 ((untok_tokOf x.2).symm.trans ((congrArg untok h2).trans (untok_tokOf y.2)))⟩
def allToks : Finset (GSem nD τ sig × ℕ × ℕ) := Finset.univ.map tokEmb

/-! ## Handing them round -/

theorem around {α : Type} [Fintype α] (e : α → Dev nD ≃ Dev nD) (Φ : Dev nD → α → PROP) :
    (bigSep Finset.univ fun c => bigSep Finset.univ fun x => Φ c x) = bigSep Finset.univ fun c => bigSep Finset.univ fun x => Φ (e x c) x := by
  rw [BI.bigSep_univ_comm Φ, BI.bigSep_univ_comm fun c x => Φ (e x c) x]
  exact bigSep_congr fun x _ => BI.bigSep_univ_equiv (e x) _

def peerE (d : Fin 2) : Dev nD ≃ Dev nD := ⟨peerN d, ackN d, ackN_peerN d, peerN_ackN d⟩
def ackE (d : Fin 2) : Dev nD ≃ Dev nD := ⟨ackN d, peerN d, peerN_ackN d, ackN_peerN d⟩

/-- A device's own duties. -/
def Tks (c : Dev nD) : PROP :=
  iprop((bigSep Finset.univ fun i : Fin 2 => duty c .bar 0 i.val)
    ∗ (bigSep Finset.univ fun x : LN × Fin 30 => duty c (.snd x.1.1 (par x.2.val) x.1.2) (x.2.val / 2) 0)
    ∗ (bigSep Finset.univ fun x : LN × Fin 30 => duty c (.rcv x.1.1 (par x.2.val) x.1.2) (x.2.val / 2) 0)
    ∗ (bigSep Finset.univ fun x : LN × Fin 15 => TLd c x.2.val x.1)
    ∗ (bigSep Finset.univ fun d : Fin 2 => duty c (.cpy d 0 0) 0 0)
    ∗ (bigSep Finset.univ fun x : Fin 2 × Fin 16 => TSt c x.2.val x.1)
    ∗ bigSep Finset.univ fun x : LN × Fin 28 => duty c (.crd x.1.1) 0 (4 * x.2.val + x.1.2.val))
/-- The duties a device pays. -/
def Tkp (c : Dev nD) : PROP :=
  iprop((bigSep Finset.univ fun i : Fin 2 => duty (ackN i c) .bar 0 i.val)
    ∗ (bigSep Finset.univ fun x : LN × Fin 30 => duty c (.snd x.1.1 (par x.2.val) x.1.2) (x.2.val / 2) 0)
    ∗ (bigSep Finset.univ fun x : LN × Fin 30 => duty (peerN x.1.1 c) (.rcv x.1.1 (par x.2.val) x.1.2) (x.2.val / 2) 0)
    ∗ (bigSep Finset.univ fun x : LN × Fin 15 => TLd c x.2.val x.1)
    ∗ (bigSep Finset.univ fun d : Fin 2 => duty c (.cpy d 0 0) 0 0)
    ∗ (bigSep Finset.univ fun x : Fin 2 × Fin 16 => TSt c x.2.val x.1)
    ∗ bigSep Finset.univ fun x : LN × Fin 28 => TCd c x.2.val x.1)

theorem toks_own : bigSep allToks (fun x => (dutyTok (ER (F := F)) x.1 x.2.1 x.2.2 : PROP)) = bigSep Finset.univ fun c : Dev nD => Tks c := by
  unfold allToks
  rw [bigSep_map, BI.bigSep_univ_prod]
  refine bigSep_congr fun c _ => ?_
  rw [BI.bigSep_univ_sum, BI.bigSep_univ_sum, BI.bigSep_univ_sum, BI.bigSep_univ_sum, BI.bigSep_univ_sum, BI.bigSep_univ_sum]
  rfl

theorem toks_paid : (bigSep Finset.univ fun c : Dev nD => (Tks c : PROP)) = bigSep Finset.univ fun c : Dev nD => Tkp c := by
  unfold Tks Tkp
  simp only [bigSep_sep']
  rw [around (fun i : Fin 2 => ackE i) (fun c i => duty (F := F) c .bar 0 i.val),
    around (fun x : LN × Fin 30 => peerE x.1.1) (fun c x => duty (F := F) c (.rcv x.1.1 (par x.2.val) x.1.2) (x.2.val / 2) 0),
    around (fun x : LN × Fin 28 => ackE x.1.1) (fun c x => duty (F := F) c (.crd x.1.1) 0 (4 * x.2.val + x.1.2.val))]
  rfl

/-! ## The rights to write into a receive slot -/

def wrEmb : Dev nD × (LN × Fin 30) ↪ Key × ℕ :=
  ⟨fun x => ((x.1, x.2.1.1, par x.2.2.val, x.2.1.2), x.2.2.val / 2), fun x y h => by
    obtain ⟨c, ⟨d, j⟩, ⟨t, ht⟩⟩ := x
    obtain ⟨c', ⟨d', j'⟩, ⟨t', ht'⟩⟩ := y
    have h1 : c = c' := congrArg (fun z : Key × ℕ => z.1.1) h
    have h2 : d = d' := congrArg (fun z : Key × ℕ => z.1.2.1) h
    have h3 : t % 2 = t' % 2 := congrArg (fun z : Key × ℕ => z.1.2.2.1.val) h
    have h4 : j = j' := congrArg (fun z : Key × ℕ => z.1.2.2.2) h
    have h5 : t / 2 = t' / 2 := congrArg (fun z : Key × ℕ => z.2) h
    obtain rfl := h1; obtain rfl := h2; obtain rfl := h4
    obtain rfl : t = t' := by omega
    rfl⟩

theorem wr_range : (Finset.univ : Finset Key) ×ˢ Finset.range 15 = (Finset.univ : Finset (Dev nD × (LN × Fin 30))).map wrEmb := by
  ext ⟨⟨c, d, ⟨p, hp⟩, j⟩, n⟩
  simp only [Finset.mem_product, Finset.mem_univ, true_and, Finset.mem_range, Finset.mem_map]
  constructor
  · intro h
    refine ⟨(c, (d, j), ⟨2 * n + p, by omega⟩), ?_⟩
    show ((c, d, par (2 * n + p), j), (2 * n + p) / 2) = _
    rw [show par (2 * n + p) = ⟨p, hp⟩ from Fin.ext (by show (2 * n + p) % 2 = p; omega), show (2 * n + p) / 2 = n by omega]
  · rintro ⟨⟨c', x, t⟩, h⟩
    have h5 : t.val / 2 = n := congrArg (fun z : Key × ℕ => z.2) h
    have := t.isLt
    omega

def Wrp (c : Dev nD) : PROP :=
  bigSep Finset.univ fun x : LN × Fin 30 => writeTok (ES (F := F)) (peerN x.1.1 c, x.1.1, par x.2.val, x.1.2) (x.2.val / 2 + 1)

theorem wr_paid : bigSep ((Finset.univ : Finset Key) ×ˢ Finset.range 15) (fun x => (writeTok (ES (F := F)) x.1 (x.2 + 1) : PROP))
    = bigSep Finset.univ fun c : Dev nD => Wrp c := by
  rw [wr_range, bigSep_map, BI.bigSep_univ_prod]
  exact around (fun x : LN × Fin 30 => peerE x.1.1) (fun c x => writeTok (ES (F := F)) (c, x.1.1, par x.2.val, x.1.2) (x.2.val / 2 + 1))

/-- Tokens and credits, as the body takes them. -/
theorem tok_deal (c : Dev nD) : iprop(((bigSep (Finset.range 30) fun t => bigSep Finset.univ (CRv c t)) ∗ bigSep (Finset.range 28) fun t => bigSep Finset.univ (CRd c t))
      ∗ Tkp c ∗ Wrp c) ⊢ (iprop((bigSep Finset.univ fun i : Fin 2 => duty (ackN i c) .bar 0 i.val) ∗ FLt c) : PROP) := by
  have e : iprop((bigSep Finset.univ fun x : LN × Fin 30 => duty (F := F) c (.snd x.1.1 (par x.2.val) x.1.2) (x.2.val / 2) 0)
      ∗ (bigSep Finset.univ fun x : LN × Fin 30 => duty (F := F) (peerN x.1.1 c) (.rcv x.1.1 (par x.2.val) x.1.2) (x.2.val / 2) 0) ∗ Wrp c)
      = (bigSep (Finset.range 30) fun t => bigSep Finset.univ (DU c t) : PROP) := by
    unfold Wrp
    rw [← bigSep_sep', ← bigSep_sep']
    exact fam_pair 30 fun (x : LN) t => DU c t x
  unfold Tkp FLt
  rw [← e, fam_pair 15 (fun (x : LN) t => TLd (F := F) c t x), fam_pair 16 (fun (x : Fin 2) t => TSt (F := F) c t x), fam_pair 28 (fun (x : LN) t => TCd (F := F) c t x)]
  iintro ⟨HC, ⟨HB, H1, H2, H3, H4, H5, H6⟩, HW⟩
  isplitl [HB]; · iexact HB
  isplitl [HC]; · iexact HC
  isplitl [H1 H2 HW]
  · isplitl [H1]; · iexact H1
    isplitl [H2] <;> iassumption
  isplitl [H6]; · iexact H6
  isplitl [H3]; · iexact H3
  isplitl [H4]; · iexact H4
  iexact H5

/-! ## The cells -/

abbrev OK : Type := (K3 ⊕ K3 ⊕ K3) ⊕ (Fin 2 × Fin 2) ⊕ Fin 2
def kOf : OK → Kind
  | .inl (.inl x) => .snd x.1 x.2.1 x.2.2
  | .inl (.inr (.inl x)) => .rcv x.1 x.2.1 x.2.2
  | .inl (.inr (.inr x)) => .cpy x.1 x.2.1 x.2.2
  | .inr (.inl x) => .sto x.1 x.2
  | .inr (.inr d) => .crd d
set_option synthInstance.maxSize 10000 in
instance OK_eq : DecidableEq OK := inferInstance

theorem kOf_inj : ∀ a b : OK, kOf a = kOf b → a = b := by decide +kernel
theorem kOf_bar : ∀ a : OK, kOf a ≠ .bar := by decide +kernel
theorem kOf_onto : ∀ k ∈ kindsS, ∃ a : OK, kOf a = k := by decide +kernel
def osem (a : OK) : SemLoc sig := semOf (kOf a)

theorem own_assoc (A B C D E : PROP) : iprop((A ∗ B ∗ C) ∗ D ∗ E) = iprop(A ∗ B ∗ C ∗ D ∗ E) := by
  have h1 : iprop((A ∗ B ∗ C) ∗ D ∗ E) ⊢ iprop(A ∗ B ∗ C ∗ D ∗ E) := by
    iintro ⟨⟨H1, H2, H3⟩, H4, H5⟩
    isplitl [H1]; · iexact H1
    isplitl [H2]; · iexact H2
    isplitl [H3]; · iexact H3
    isplitl [H4]; · iexact H4
    iexact H5
  have h2 : iprop(A ∗ B ∗ C ∗ D ∗ E) ⊢ iprop((A ∗ B ∗ C) ∗ D ∗ E) := by
    iintro ⟨H1, H2, H3, H4, H5⟩
    isplitl [H1 H2 H3]
    · isplitl [H1]; · iexact H1
      isplitl [H2]; · iexact H2
      iexact H3
    isplitl [H4]; · iexact H4
    iexact H5
  exact BI.Entails.antisymm h1 h2

theorem own_eq (c : Dev nD) : (bigSep Finset.univ fun a : OK => semVal ((c : Thread nD τ), osem a) 0 : PROP) = Sems0 c := by
  rw [BI.bigSep_univ_sum, BI.bigSep_univ_sum, BI.bigSep_univ_sum, BI.bigSep_univ_sum]
  exact own_assoc _ _ _ _ _
def barEmb : Dev nD ↪ GSem nD τ sig := ⟨fun c => cell c .bar, fun _ _ h => (cell_inj h).1⟩
def dorEmb : Dev nD × OK ↪ GSem nD τ sig := ⟨fun x => cell x.1 (kOf x.2), fun _ _ h => Prod.ext (cell_inj h).1 (kOf_inj _ _ (cell_inj h).2)⟩
abbrev opn : Finset (GSem nD τ sig) := Finset.univ.map barEmb
abbrev dor : Finset (GSem nD τ sig) := Finset.univ.map dorEmb

theorem opn_dor : Disjoint opn dor := by
  rw [Finset.disjoint_left]
  rintro g h₁ h₂
  obtain ⟨c, -, rfl⟩ := Finset.mem_map.mp h₁
  obtain ⟨x, -, h⟩ := Finset.mem_map.mp h₂
  exact kOf_bar x.2 (cell_inj h).2

theorem mem_cells (c : Dev nD) (k : Kind) (hk : k ∈ kinds) : cell c k ∈ opn ∪ dor := by
  rcases List.mem_cons.mp hk with rfl | h
  · exact Finset.mem_union_left _ (Finset.mem_map_of_mem barEmb (Finset.mem_univ c))
  · obtain ⟨a, rfl⟩ := kOf_onto k h
    exact Finset.mem_union_right _ (Finset.mem_map_of_mem dorEmb (Finset.mem_univ (c, a)))

end Cert.KernelIdeal.Talk
-- ==== Proof.Mem.lean ====
/-
The rows of the two arrays and the scratch buffers, window by window.
-/
module

public import proofs.«01_k».proof.Proof.Tokens
public import proofs.«01_k».proof.Proof.Gen.KernelIdeal.Launch

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
variable {P : Dev nD → Vec F S4096x8192 .bf16}

local notation "PROP" => sProp (MT nD τ sig ℕ (Elt F) ℕ UU ℕ)

/-! ## The rows of the two arrays, window by window -/

theorem cidx_inj : ∀ (d : Fin 2) (c : Dev nD) (n m : Fin 16), cidx d c n.val = cidx d c m.val → n = m := by decide +kernel
theorem cidx_onto : ∀ (d : Fin 2) (c : Dev nD) (i : Fin 16), ∃ n : Fin 16, cidx d c n.val = i := by decide +kernel

/-- The store that writes chunk `i`. -/
def sOf (d : Fin 2) (c : Dev nD) (i : Fin 16) : Fin 16 := ⟨if d = 0 then (c.val + 17 - i.val) % 16 else (i.val + 17 - c.val) % 16, by
  split <;> exact Nat.mod_lt _ (by decide)⟩
theorem cidx_sOf : ∀ (d : Fin 2) (c : Dev nD) (i : Fin 16), cidx d c ((sOf d c i).val + 15) = i := by decide +kernel
theorem sOf_cidx : ∀ (d : Fin 2) (c : Dev nD) (s : Fin 16), sOf d c (cidx d c (s.val + 15)) = s := by decide +kernel

theorem mem_in (d : Fin 2) (c : Dev nD) (t : Fin 15) (j : Fin 4) (y : S4096x8192.Idx) :
    y ∈ (inR d c t j).set ↔ (y 0).val / 32 = 64 * d.val + 4 * (cidx d c (t.val + 1)).val + j.val := by
  rw [Rect.mem_set_unit]
  have e0 : inOff d c t j 0 = 2048 * d.val + 128 * (cidx d c (t.val + 1)).val + 32 * j.val := congrFun (inOff_eq c d t j) 0
  have e1 : inOff d c t j 1 = 0 := congrFun (inOff_eq c d t j) 1
  constructor
  · intro h
    have h0 : inOff d c t j 0 ≤ (y 0).val ∧ (y 0).val < inOff d c t j 0 + 32 := h 0
    omega
  · intro h a
    match a with
    | 0 => show inOff d c t j 0 ≤ (y 0).val ∧ (y 0).val < inOff d c t j 0 + 32; omega
    | 1 => exact ⟨by omega, by rw [e1, Nat.zero_add]; exact (y 1).isLt⟩
theorem mem_me (d : Fin 2) (c : Dev nD) (y : S4096x8192.Idx) :
    y ∈ (meR d c).set ↔ (y 0).val / 128 = 16 * d.val + (cidx d c 0).val := by
  rw [Rect.mem_set_unit]
  have e0 : meOff d c 0 = 2048 * d.val + 128 * (cidx d c 0).val := congrFun (meOff_eq c d) 0
  have e1 : meOff d c 1 = 0 := congrFun (meOff_eq c d) 1
  constructor
  · intro h
    have h0 : meOff d c 0 ≤ (y 0).val ∧ (y 0).val < meOff d c 0 + 128 := h 0
    omega
  · intro h a
    match a with
    | 0 => show meOff d c 0 ≤ (y 0).val ∧ (y 0).val < meOff d c 0 + 128; omega
    | 1 => exact ⟨by omega, by rw [e1, Nat.zero_add]; exact (y 1).isLt⟩
theorem mem_out (d : Fin 2) (c : Dev nD) (s : Fin 16) (y : S4096x8192.Idx) :
    y ∈ (outR d c s).set ↔ (y 0).val / 128 = 16 * d.val + (cidx d c (s.val + 15)).val := by
  rw [Rect.mem_set_unit]
  have e0 : outOff d c s 0 = 2048 * d.val + 128 * (cidx d c (s.val + 15)).val := congrFun (outOff_eq c d s) 0
  have e1 : outOff d c s 1 = 0 := congrFun (outOff_eq c d s) 1
  constructor
  · intro h
    have h0 : outOff d c s 0 ≤ (y 0).val ∧ (y 0).val < outOff d c s 0 + 128 := h 0
    omega
  · intro h a
    match a with
    | 0 => show outOff d c s 0 ≤ (y 0).val ∧ (y 0).val < outOff d c s 0 + 128; omega
    | 1 => exact ⟨by omega, by rw [e1, Nat.zero_add]; exact (y 1).isLt⟩

/-- The windows into the array that is read. -/
abbrev WI : Type := Fin 2 ⊕ (LN × Fin 15)
def wset (c : Dev nD) : WI → Finset S4096x8192.Idx
  | .inl d => (meR d c).set
  | .inr x => (inR x.1.1 c x.2 x.1.2).set
/-- The window that holds a row. -/
theorem wset_cover (c : Dev nD) (y : S4096x8192.Idx) : ∃ w, y ∈ wset c w := by
  have hy : (y 0).val < 4096 := (y 0).isLt
  obtain ⟨n, hn⟩ := cidx_onto ⟨(y 0).val / 2048, by omega⟩ c ⟨(y 0).val / 128 % 16, by omega⟩
  have hv := congrArg Fin.val hn
  have hv : (cidx ⟨(y 0).val / 2048, by omega⟩ c n.val).val = (y 0).val / 128 % 16 := hv
  rcases Nat.eq_zero_or_pos n.val with h0 | h0
  · rw [h0] at hv
    refine ⟨.inl ⟨(y 0).val / 2048, by omega⟩, (mem_me _ _ y).mpr ?_⟩
    rw [hv]
    show (y 0).val / 128 = 16 * ((y 0).val / 2048) + _
    omega
  · refine ⟨.inr ((⟨(y 0).val / 2048, by omega⟩, ⟨(y 0).val / 32 % 4, by omega⟩), ⟨n.val - 1, by omega⟩), (mem_in _ _ _ _ y).mpr ?_⟩
    show (y 0).val / 32 = 64 * ((y 0).val / 2048) + 4 * (cidx ⟨(y 0).val / 2048, _⟩ c (n.val - 1 + 1)).val + (y 0).val / 32 % 4
    rw [show n.val - 1 + 1 = n.val by omega, hv]
    omega
theorem wset_disj (c : Dev nD) (w w' : WI) (h : w ≠ w') : Disjoint (wset c w) (wset c w') := by
  rw [Finset.disjoint_left]
  intro y h1 h2
  apply h
  match w, w' with
  | .inl d, .inl d' =>
    have h1 := (mem_me d c y).mp h1
    have h2 := (mem_me d' c y).mp h2
    have := (cidx d c 0).isLt; have := (cidx d' c 0).isLt
    exact congrArg Sum.inl (Fin.ext (by omega))
  | .inl d, .inr x =>
    have h1 := (mem_me d c y).mp h1
    have h2 := (mem_in x.1.1 c x.2 x.1.2 y).mp h2
    have := (cidx d c 0).isLt; have := (cidx x.1.1 c (x.2.val + 1)).isLt; have := x.1.2.isLt
    obtain rfl : d = x.1.1 := Fin.ext (by omega)
    have h3 : cidx x.1.1 c (0 : Fin 16).val = cidx x.1.1 c (⟨x.2.val + 1, by omega⟩ : Fin 16).val := Fin.ext (by
      show (cidx x.1.1 c 0).val = (cidx x.1.1 c (x.2.val + 1)).val; omega)
    have h4 := congrArg Fin.val (cidx_inj _ _ _ _ h3)
    exact absurd h4 (by show ¬ (0 = x.2.val + 1); omega)
  | .inr x, .inl d =>
    have h3 := (mem_me d c y).mp h2
    have h4 := (mem_in x.1.1 c x.2 x.1.2 y).mp h1
    clear h1 h2
    have := (cidx d c 0).isLt; have := (cidx x.1.1 c (x.2.val + 1)).isLt; have := x.1.2.isLt
    obtain rfl : d = x.1.1 := Fin.ext (by omega)
    have h3 : cidx x.1.1 c (0 : Fin 16).val = cidx x.1.1 c (⟨x.2.val + 1, by omega⟩ : Fin 16).val := Fin.ext (by
      show (cidx x.1.1 c 0).val = (cidx x.1.1 c (x.2.val + 1)).val; omega)
    have h4 := congrArg Fin.val (cidx_inj _ _ _ _ h3)
    exact absurd h4 (by show ¬ (0 = x.2.val + 1); omega)
  | .inr ((d, j), t), .inr ((d', j'), t') =>
    have h1 := (mem_in d c t j y).mp h1
    have h2 := (mem_in d' c t' j' y).mp h2
    have := (cidx d c (t.val + 1)).isLt; have := (cidx d' c (t'.val + 1)).isLt; have := j.isLt; have := j'.isLt
    obtain rfl : d = d' := Fin.ext (by omega)
    obtain rfl : j = j' := Fin.ext (by omega)
    have h3 : cidx d c (⟨t.val + 1, by omega⟩ : Fin 16).val = cidx d c (⟨t'.val + 1, by omega⟩ : Fin 16).val := Fin.ext (by
      show (cidx d c (t.val + 1)).val = (cidx d c (t'.val + 1)).val; omega)
    have h4 := congrArg Fin.val (cidx_inj _ _ _ _ h3)
    have h4 : t.val + 1 = t'.val + 1 := h4
    obtain rfl : t = t' := Fin.ext (by omega)
    rfl

def oset (c : Dev nD) (x : Fin 2 × Fin 16) : Finset S4096x8192.Idx := (outR x.1 c x.2).set
theorem oset_cover (c : Dev nD) (y : S4096x8192.Idx) : ∃ x, y ∈ oset c x := by
  have hy : (y 0).val < 4096 := (y 0).isLt
  refine ⟨(⟨(y 0).val / 2048, by omega⟩, sOf ⟨(y 0).val / 2048, by omega⟩ c ⟨(y 0).val / 128 % 16, by omega⟩), (mem_out _ _ _ y).mpr ?_⟩
  rw [cidx_sOf]
  show (y 0).val / 128 = 16 * ((y 0).val / 2048) + (y 0).val / 128 % 16
  omega
theorem oset_disj (c : Dev nD) (x x' : Fin 2 × Fin 16) (h : x ≠ x') : Disjoint (oset c x) (oset c x') := by
  rw [Finset.disjoint_left]
  intro y h1 h2
  apply h
  obtain ⟨d, s⟩ := x
  obtain ⟨d', s'⟩ := x'
  have h1 := (mem_out d c s y).mp h1
  have h2 := (mem_out d' c s' y).mp h2
  have := (cidx d c (s.val + 15)).isLt; have := (cidx d' c (s'.val + 15)).isLt
  obtain rfl : d = d' := Fin.ext (by omega)
  have h3 : cidx d c (s.val + 15) = cidx d c (s'.val + 15) := Fin.ext (by omega)
  have h4 := (sOf_cidx d c s).symm.trans ((congrArg (sOf d c) h3).trans (sOf_cidx d c s'))
  rw [h4]

theorem univ_w (c : Dev nD) : (Finset.univ : Finset S4096x8192.Idx) = Finset.univ.biUnion (wset c) := by
  ext y
  simp only [Finset.mem_univ, Finset.mem_biUnion, true_and, true_iff]
  exact wset_cover c y
theorem univ_o (c : Dev nD) : (Finset.univ : Finset S4096x8192.Idx) = Finset.univ.biUnion (oset c) := by
  ext y
  simp only [Finset.mem_univ, Finset.mem_biUnion, true_and, true_iff]
  exact oset_cover c y

abbrev inL (c : Dev nD) : Loc nD τ sig := (c : Thread nD τ).loc main_v7
abbrev outL (c : Dev nD) : Loc nD τ sig := (c : Thread nD τ).loc main_v8

section Arrays

variable (P) (c : Dev nD)

theorem v7_split : (inL c ↦{fullShare} (P c : Buf (Elt F) (inL c)) : PROP)
    = iprop((bigSep Finset.univ fun d : Fin 2 => winMe P d c) ∗ bigSep (Finset.range 15) fun t => bigSep Finset.univ (WLd P c t)) := by
  have h : (inL c ↦[Finset.univ.biUnion (wset c)]{fullShare} (P c : Buf (Elt F) (inL c)) : PROP)
      = bigSep Finset.univ fun w => inL c ↦[wset c w]{fullShare} (P c : Buf (Elt F) (inL c)) :=
    pointsTo_biUnion (ℓ := inL c) Finset.univ (wset c) fun w _ w' _ hw => wset_disj c w w' hw
  have h2 : (bigSep Finset.univ fun x : LN × Fin 15 => (inL c ↦[wset c (.inr x)]{fullShare} (P c : Buf (Elt F) (inL c)) : PROP))
      = bigSep (Finset.range 15) fun t => bigSep Finset.univ (WLd P c t) := by
    rw [← fam_pair 15 fun (x : LN) t => WLd P c t x]
    refine bigSep_congr fun x _ => ?_
    unfold WLd win
    rw [show t15 x.2.val = x.2 from Fin.ext (Nat.mod_eq_of_lt x.2.isLt), View.set_slice_whole]
    rfl
  have h1 : (bigSep Finset.univ fun d : Fin 2 => (inL c ↦[wset c (.inl d)]{fullShare} (P c : Buf (Elt F) (inL c)) : PROP))
      = bigSep Finset.univ fun d : Fin 2 => winMe P d c := by
    refine bigSep_congr fun d _ => ?_
    unfold winMe
    rw [View.set_slice_whole]
    rfl
  rw [← h1, ← h2]
  exact (congrArg (fun S => (inL c ↦[S]{fullShare} (P c : Buf (Elt F) (inL c)) : PROP)) (univ_w c)).trans (h.trans (BI.bigSep_univ_sum _))

/-- The result, whole. -/
def OUT : Vec F S4096x8192 .f32 := fun y =>
  have hy : (y 0).val < 4096 := (y 0).isLt
  stored P ⟨(y 0).val / 2048, by omega⟩ c (sOf ⟨(y 0).val / 2048, by omega⟩ c ⟨(y 0).val / 128 % 16, by omega⟩).val fun a => match a with
    | 0 => ⟨(y 0).val % 128, Nat.mod_lt _ (by decide)⟩
    | 1 => y 1

theorem OUT_read (d : Fin 2) (s : Fin 16) : (outW d c s).view.read (Elt F) (OUT P c : Buf (Elt F) (outL c)) = stored P d c s.val := by
  funext x
  have hx : (x 0).val < 128 := (x 0).isLt
  have e0 : outOff d c s 0 = 2048 * d.val + 128 * (cidx d c (s.val + 15)).val := congrFun (outOff_eq c d s) 0
  have e1 : outOff d c s 1 = 0 := congrFun (outOff_eq c d s) 1
  have hc := (cidx d c (s.val + 15)).isLt
  have hd := d.isLt
  have r0 : ((outW d c s).view.emb x 0).val = 2048 * d.val + 128 * (cidx d c (s.val + 15)).val + (x 0).val := by
    show outOff d c s 0 + 1 * (x 0).val = _
    omega
  have r1 : ((outW d c s).view.emb x 1) = x 1 := Fin.ext (by
    show outOff d c s 1 + 1 * (x 1).val = _
    omega)
  show OUT P c ((outW d c s).view.emb x) = _
  generalize (outW d c s).view.emb x = y at r0 r1
  unfold OUT
  have hy : (y 0).val < 4096 := (y 0).isLt
  have f1 : (⟨(y 0).val / 2048, by omega⟩ : Fin 2) = d := Fin.ext (by show (y 0).val / 2048 = d.val; omega)
  have f2 : (⟨(y 0).val / 128 % 16, by omega⟩ : Fin 16) = cidx d c (s.val + 15) := Fin.ext (by show (y 0).val / 128 % 16 = _; omega)
  show stored P ⟨(y 0).val / 2048, by omega⟩ c (sOf ⟨(y 0).val / 2048, by omega⟩ c ⟨(y 0).val / 128 % 16, by omega⟩).val _ = _
  rw [f1, f2, sOf_cidx]
  refine congrArg (stored P d c s.val) (funext fun a => ?_)
  match a with
  | 0 => exact Fin.ext (by show (y 0).val % 128 = (x 0).val; omega)
  | 1 => exact r1

theorem v8_join : (bigSep (Finset.range 16) fun s => bigSep Finset.univ fun d : Fin 2 => SO P c s d) ⊢ (outL c ↦{fullShare} (OUT P c : Buf (Elt F) (outL c)) : PROP) := by
  have h : (outL c ↦[Finset.univ.biUnion (oset c)]{fullShare} (OUT P c : Buf (Elt F) (outL c)) : PROP)
      = bigSep Finset.univ fun x => outL c ↦[oset c x]{fullShare} (OUT P c : Buf (Elt F) (outL c)) :=
    pointsTo_biUnion (ℓ := outL c) Finset.univ (oset c) fun w _ w' _ hw => oset_disj c w w' hw
  have h2 : (bigSep Finset.univ fun x : Fin 2 × Fin 16 => (outL c ↦[oset c x]{fullShare} (OUT P c : Buf (Elt F) (outL c)) : PROP))
      = bigSep (Finset.range 16) fun s => bigSep Finset.univ fun d : Fin 2 => SO P c s d := by
    rw [← fam_pair 16 fun (d : Fin 2) s => SO P c s d]
    refine bigSep_congr fun x _ => ?_
    have hs : s16 x.2.val = x.2 := Fin.ext (Nat.mod_eq_of_lt x.2.isLt)
    unfold SO
    rw [hs]
    have := pts_of (F := F) c (outW x.1 c x.2) fullShare (OUT P c : Buf (Elt F) (outL c))
    rw [OUT_read, View.set_slice_whole] at this
    exact this
  rw [← h2, ← h, ← univ_o]

theorem v8_split : (iprop(∃ f : Buf (Elt F) (outL c), outL c ↦{fullShare} f) : PROP) ⊢ bigSep (Finset.range 16) fun s => bigSep Finset.univ (OSt c s) := by
  have h2 : (bigSep Finset.univ fun x : Fin 2 × Fin 16 => (iprop(∃ f : Buf (Elt F) (outL c), outL c ↦[oset c x]{fullShare} f) : PROP))
      = bigSep (Finset.range 16) fun s => bigSep Finset.univ (OSt c s) := by
    rw [← fam_pair 16 fun (d : Fin 2) s => OSt c s d]
    refine bigSep_congr fun x _ => ?_
    unfold OSt anyP
    rw [show s16 x.2.val = x.2 from Fin.ext (Nat.mod_eq_of_lt x.2.isLt), View.set_slice_whole]
    rfl
  have h : iprop(∃ f : Buf (Elt F) (outL c), outL c ↦[Finset.univ.biUnion (oset c)]{fullShare} f)
      ⊢ (bigSep Finset.univ fun x => iprop(∃ f : Buf (Elt F) (outL c), outL c ↦[oset c x]{fullShare} f) : PROP) :=
    any_split (ℓ := outL c) Finset.univ (oset c) fun w _ w' _ hw => oset_disj c w w' hw
  rw [← h2]
  rw [← univ_o] at h
  exact h

end Arrays

/-! ## The scratch buffers -/

section Scratch

variable (c : Dev nD)

theorem two {α : Type} [Fintype α] (Φ : Fin 2 × α → PROP) :
    bigSep Finset.univ Φ = iprop((bigSep Finset.univ fun a => Φ (0, a)) ∗ bigSep Finset.univ fun a => Φ (1, a)) :=
  (BI.bigSep_univ_prod Φ).trans (BI.bigSep_fin_two fun d => bigSep Finset.univ fun a => Φ (d, a))

/-- The eight, whole. -/
def Wh : PROP :=
  iprop(anyP c (sendM 0) ∗ anyP c (recvM 0) ∗ anyP c (locM 0) ∗ anyP c (fstM 0) ∗ anyP c (sendM 1) ∗ anyP c (recvM 1) ∗ anyP c (locM 1) ∗ anyP c (fstM 1))

theorem wh_split : Wh (F := F) c ⊢ iprop(Bufs c ∗ bigSep Finset.univ fun x : K3 => anyP c (sub (recvM x.1) x.2.1 x.2.2)) := by
  unfold Wh Bufs
  rw [two fun x : Fin 2 × Fin 2 => anyP (F := F) c (slot (sendM x.1) x.2), two fun x : K3 => anyP (F := F) c (sub (locM x.1) x.2.1 x.2.2),
    two fun x : Fin 2 × Fin 2 => anyP (F := F) c (slot (fstM x.1) x.2), two fun x : K3 => anyP (F := F) c (sub (recvM x.1) x.2.1 x.2.2)]
  iintro ⟨H1, H2, H3, H4, G1, G2, G3, G4⟩
  ihave H1 := (anyP_whole (F := F) (sendM 0) c) $$ H1
  ihave G1 := (anyP_whole (F := F) (sendM 1) c) $$ G1
  ihave H4 := (anyP_whole (F := F) (fstM 0) c) $$ H4
  ihave G4 := (anyP_whole (F := F) (fstM 1) c) $$ G4
  ihave H2 := (anyP_subs (F := F) (recvM 0) c) $$ H2
  ihave G2 := (anyP_subs (F := F) (recvM 1) c) $$ G2
  ihave H3 := (anyP_subs (F := F) (locM 0) c) $$ H3
  ihave G3 := (anyP_subs (F := F) (locM 1) c) $$ G3
  isplitr [H2 G2]
  · isplitl [H1 G1]
    · isplitl [H1] <;> iassumption
    isplitl [H3 G3]
    · isplitl [H3] <;> iassumption
    isplitl [H4] <;> iassumption
  isplitl [H2] <;> iassumption

theorem wh_join : Scr (F := F) c ⊢ Wh c := by
  unfold Wh Scr
  rw [two fun x : K3 => anyP (F := F) c (sub (sendM x.1) x.2.1 x.2.2), two fun x : K3 => anyP (F := F) c (sub (locM x.1) x.2.1 x.2.2),
    two fun x : Fin 2 × Fin 2 => anyP (F := F) c (slot (fstM x.1) x.2), two fun x : K3 => anyP (F := F) c (sub (recvM x.1) x.2.1 x.2.2)]
  iintro ⟨⟨H2, G2⟩, ⟨H1, G1⟩, ⟨H3, G3⟩, H4, G4⟩
  isplitl [H1]; · iapply (anyP_subs' (F := F) (sendM 0) c) $$ H1
  isplitl [H2]; · iapply (anyP_subs' (F := F) (recvM 0) c) $$ H2
  isplitl [H3]; · iapply (anyP_subs' (F := F) (locM 0) c) $$ H3
  isplitl [H4]; · iapply (anyP_whole' (F := F) (fstM 0) c) $$ H4
  isplitl [G1]; · iapply (anyP_subs' (F := F) (sendM 1) c) $$ G1
  isplitl [G2]; · iapply (anyP_subs' (F := F) (recvM 1) c) $$ G2
  isplitl [G3]; · iapply (anyP_subs' (F := F) (locM 1) c) $$ G3
  iapply (anyP_whole' (F := F) (fstM 1) c) $$ G4

theorem any_ref (r : Ref sig .tc) (h : (Memref.whole r : Memref sig .tc _ _ _).view.set = Finset.univ) :
    (anyP c (Memref.whole r : Memref sig .tc _ _ _) : PROP) = iprop(∃ f : Buf (Elt F) ((c : Thread nD τ).loc r), (c : Thread nD τ).loc r ↦{fullShare} f) := by
  unfold anyP
  rw [h]

theorem wh_eq : (Pipeline.scopedRest (Ix := ℕ) (Name := ℕ) (U := UU) (Lvl := ℕ) (Val := Elt F) (cfg0.spec) c : PROP) = Wh c := by
  rw [Gen.scopedRest0_eq c]
  unfold Wh
  rw [show sendM 0 = Memref.whole cc0_scratch0 from rfl, show recvM 0 = Memref.whole cc0_scratch1 from rfl, show locM 0 = Memref.whole cc0_scratch2 from rfl,
    show fstM 0 = Memref.whole cc0_scratch3 from rfl, show sendM 1 = Memref.whole cc0_scratch4 from rfl, show recvM 1 = Memref.whole cc0_scratch5 from rfl,
    show locM 1 = Memref.whole cc0_scratch6 from rfl, show fstM 1 = Memref.whole cc0_scratch7 from rfl,
    any_ref c cc0_scratch0 (View.set_whole _), any_ref c cc0_scratch1 (View.set_whole _), any_ref c cc0_scratch2 (View.set_whole _),
    any_ref c cc0_scratch3 (View.set_whole _), any_ref c cc0_scratch4 (View.set_whole _), any_ref c cc0_scratch5 (View.set_whole _),
    any_ref c cc0_scratch6 (View.set_whole _), any_ref c cc0_scratch7 (View.set_whole _)]

end Scratch

end Cert.KernelIdeal.Talk
-- ==== Proof.Body.lean ====
/-
The printed body is the list of its statements: each printed stretch against the stretch of the list it is.
-/
module

public import proofs.«01_k».proof.Proof.Units

@[expose] public section

noncomputable section

namespace Cert.KernelIdeal.Talk

open Idealize.ShloMosaic Idealize.SL.Sem
open Cert.KernelIdeal.Facts₀ Cert.KernelIdeal.Facts

variable {F : FTy → Type} [FloatOps F]

/-- The printed body: the device's number, then the statements in order. -/
theorem body_eq : cc0_body (F := F) (Memref.whole main_v7) (Memref.isWhole_whole _) (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17
    = (Prog.lift .deviceId >>= fun d0 => Pipeline.chain (all F d0) : PG (F := F)) := by chain_rfl

end Cert.KernelIdeal.Talk
-- ==== Proof.Region.lean ====
/-
The whole body from whole buffers, and what a device keeps until the call.
-/
module

public import proofs.«01_k».proof.Proof.Mem
public import proofs.«01_k».proof.Proof.Body

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

local notation "PROP" => sProp (MT nD τ sig ℕ (Elt F) ℕ UU ℕ)

section Core

variable {P : Dev nD → Vec F S4096x8192 .bf16} {κ : GSem nD τ sig → ℕ} {ιs : Key → ℕ}

/-- The whole body, from the two arrays and the scratch buffers whole. -/
theorem core (c : Dev nD) : iprop(Cx P κ ιs ∗ Ow c (OweB c) ∗ Bar0 c ∗ (bigSep Finset.univ fun x : K3 => readerAt (ES (F := F)) (c, x.1, x.2.1, x.2.2) 0) ∗ Poss c ∗ FLt c
      ∗ (inL c ↦{fullShare} (P c : Buf (Elt F) (inL c))) ∗ (∃ f : Buf (Elt F) (outL c), outL c ↦{fullShare} f) ∗ Wh c)
    ⊢ run c (all F c) iprop(Ow c 0 ∗ semVal (cell c .bar) 0 ∗ Sems0 c ∗ Wh c ∗ (inL c ↦{fullShare} (P c : Buf (Elt F) (inL c))) ∗ (outL c ↦{fullShare} (OUT P c : Buf (Elt F) (outL c)))) := by
  have hend : iprop(End P c ∗ Wins P c) ⊢ (iprop(Ow c 0 ∗ semVal (cell c .bar) 0 ∗ Sems0 c ∗ Wh c ∗ (inL c ↦{fullShare} (P c : Buf (Elt F) (inL c))) ∗ (outL c ↦{fullShare} (OUT P c : Buf (Elt F) (outL c)))) : PROP) := by
    unfold End
    iintro ⟨⟨HO, Hb, Hs, Hw, Hso⟩, HW⟩
    ihave Hc := (collect (P := P) c) $$ [HW Hso]
    · isplitl [HW]; · iexact HW
      iexact Hso
    rw [v7_split]
    unfold FLo
    icases Hc with ⟨Hme, Hld, Hout⟩
    isplitl [HO]; · iexact HO
    isplitl [Hb]; · iexact Hb
    isplitl [Hs]; · iexact Hs
    isplitl [Hw]; · iapply (wh_join c); iexact Hw
    isplitl [Hme Hld]
    · isplitl [Hme]; · iexact Hme
      iexact Hld
    iapply (v8_join (P := P) c); iexact Hout
  have hbeg : iprop(Ow c (OweB c) ∗ Bar0 c ∗ (bigSep Finset.univ fun x : K3 => readerAt (ES (F := F)) (c, x.1, x.2.1, x.2.2) 0) ∗ Poss c ∗ FLt c
      ∗ (inL c ↦{fullShare} (P c : Buf (Elt F) (inL c))) ∗ (∃ f : Buf (Elt F) (outL c), outL c ↦{fullShare} f) ∗ Wh c)
      ⊢ (iprop(PreI P c ∗ bigSep (Finset.range 30) fun t => SIn P c t) : PROP) := by
    rw [v7_split]
    iintro ⟨HO, HB, Hr, HP, HF, ⟨Hme, Hld⟩, Hout, Hw⟩
    ihave Ho := (v8_split c) $$ Hout
    ihave Hd := (deal (P := P) c) $$ [HF Hme Hld Ho]
    · isplitl [HF]; · iexact HF
      unfold FLm
      isplitl [Hme]; · iexact Hme
      isplitl [Hld]; · iexact Hld
      iexact Ho
    icases Hd with ⟨⟨HM, H0⟩, HS⟩
    ihave Hw' := (wh_split c) $$ Hw
    icases Hw' with ⟨Hbf, Hrv⟩
    isplitr [HS]
    · unfold PreI Recvs
      isplitl [HO]; · iexact HO
      isplitl [HB]; · iexact HB
      isplitl [Hr Hrv]
      · isplitl [Hr]; · iexact Hr
        iexact Hrv
      isplitl [HP]; · iexact HP
      isplitl [Hbf]; · iexact Hbf
      isplitl [HM]; · iexact HM
      iexact H0
    iexact HS
  iintro ⟨#HC, H⟩
  ihave H' := hbeg $$ H
  iapply (run_wand c (all F c) iprop(End P c ∗ Wins P c) _) $$ [H']
  · iapply (all_tr (P := P) (κ := κ) (ιs := ιs) c)
    isplitr; · iexact HC
    iexact H'
  iintro HE
  iapply hend; iexact HE

/-- The printed body runs as the list of its statements. -/
theorem body_run (c : Dev nD) (Q : PROP) : run c (all F c) Q ⊢ wp frame (wpE (defs₀ (F := F)) 𝒱₀ c none) Set.univ
    (defs₀ (F := F) .tc cfg0.body (cfg0.bodyArgs Gen.t0_0 (cfg0.slots Gen.t0_0))) fun _ => Q := by
  have h : (defs₀ (F := F) .tc cfg0.body (cfg0.bodyArgs Gen.t0_0 (cfg0.slots Gen.t0_0)) : PG (F := F))
    = (Prog.lift .deviceId >>= fun d0 => Pipeline.chain (all F d0)) := body_eq
  rw [h]
  generalize all F = f
  have h2 : ((Prog.lift .deviceId >>= fun d0 => Pipeline.chain (f d0)) : PG (F := F)) = .op .deviceId (fun d0 => Pipeline.chain (f d0)) := rfl
  rw [h2, wp_deviceId]
  exact .rfl

end Core

/-! ## The records, and what a device keeps until the call -/

section Keep

variable (P : Dev nD → Vec F S4096x8192 .bf16) (κ : GSem nD τ sig → ℕ) (ιs : Key → ℕ)

/-- Every cell's and every slot's record, and that every barrier cell is at its first round. -/
def Rec : PROP :=
  iprop((bigSep (opn ∪ dor) fun g => cellInv (ER (F := F)) (Rd P) (κ g) g) ∗ (bigSep (Finset.univ : Finset Key) fun x => slotInv (ES (F := F)) (ιs x) x (slotP (F := F) x))
    ∗ bigSep opn fun g => reached (ER (F := F)) g 0)

instance Rec_pers : BI.Persistent (Rec P κ ιs) := by unfold Rec; infer_instance

theorem Rec_Cx : iprop(Lev (F := F) ∗ Rec P κ ιs) ⊢ Cx P κ ιs := by
  unfold Rec Cx
  have h : (bigSep (opn ∪ dor) fun g => cellInv (ER (F := F)) (Rd P) (κ g) g : PROP)
      ⊢ bigSep (Finset.univ ×ˢ kinds.toFinset : Finset (Dev nD × Kind)) fun x => cellInv (ER (F := F)) (Rd P) (κ (cell x.1 x.2)) (cell x.1 x.2) := by
    have h1 : iprop((bigSep (opn ∪ dor) fun g => cellInv (ER (F := F)) (Rd P) (κ g) g) ∗ bigSep (Finset.univ ×ˢ kinds.toFinset : Finset (Dev nD × Kind)) fun _ => iprop(emp))
        ⊢ (bigSep (Finset.univ ×ˢ kinds.toFinset : Finset (Dev nD × Kind)) fun x => cellInv (ER (F := F)) (Rd P) (κ (cell x.1 x.2)) (cell x.1 x.2) : PROP) :=
      bigSep_with_persistent fun x _ => by
        have h2 : (bigSep (opn ∪ dor) fun g => cellInv (ER (F := F)) (Rd P) (κ g) g : PROP) ⊢ cellInv (ER (F := F)) (Rd P) (κ (cell x.1 x.2)) (cell x.1 x.2) :=
          bigSep_elim (i := cell x.1 x.2) (mem_cells x.1 x.2 (mem_kinds x.2))
        iintro ⟨H, -⟩; iapply h2; iexact H
    have h3 : (bigSep (Finset.univ ×ˢ kinds.toFinset : Finset (Dev nD × Kind)) fun _ => iprop(emp)) = (iprop(emp) : PROP) := bigSep_emp_const _
    rw [h3] at h1
    iintro H
    iapply h1
    isplitl; · iexact H
    iempintro
  iintro ⟨HL, H, HS, -⟩
  isplitl [HL]; · iexact HL
  isplitl [H]; · iapply h; iexact H
  iexact HS

theorem Rec_cell (c : Dev nD) (k : Kind) : Rec P κ ιs ⊢ (cellInv (ER (F := F)) (Rd P) (κ (cell c k)) (cell c k) : PROP) := by
  unfold Rec
  have h2 : (bigSep (opn ∪ dor) fun g => cellInv (ER (F := F)) (Rd P) (κ g) g : PROP) ⊢ cellInv (ER (F := F)) (Rd P) (κ (cell c k)) (cell c k) :=
    bigSep_elim (i := cell c k) (mem_cells c k (mem_kinds k))
  iintro ⟨H, -⟩; iapply h2; iexact H
theorem Rec_bar (c : Dev nD) : Rec P κ ιs ⊢ (reached (ER (F := F)) (cell c .bar) 0 : PROP) := by
  unfold Rec
  have h2 : (bigSep opn fun g => reached (ER (F := F)) g 0 : PROP) ⊢ reached (ER (F := F)) (cell c .bar) 0 :=
    bigSep_elim (i := cell c .bar) (Finset.mem_map_of_mem barEmb (Finset.mem_univ c))
  iintro ⟨-, -, H⟩; iapply h2; iexact H

variable (c : Dev nD)

/-- The tokens of one device, its scoped cells not yet open. -/
def Lin : PROP :=
  iprop(crT c .bar 1 2 ∗ atPos (ER (F := F)) (cell c .bar) 0 ∅ 0 ∗ (bigSep Finset.univ fun a : OK => openTok (ER (F := F)) (cell c (kOf a)))
    ∗ (bigSep Finset.univ fun x : K3 => readerAt (ES (F := F)) (c, x.1, x.2.1, x.2.2) 0) ∗ (bigSep Finset.univ fun i : Fin 2 => duty (ackN i c) .bar 0 i.val) ∗ FLt c)

def Tk : PROP := iprop(∃ κ, ∃ ιs, Rec P κ ιs ∗ Lin c)
def Xk : PROP :=
  iprop(∃ κ, ∃ ιs, Cx P κ ιs ∗ Bar0 c ∗ (bigSep Finset.univ fun x : K3 => readerAt (ES (F := F)) (c, x.1, x.2.1, x.2.2) 0) ∗ Poss c ∗ FLt c)
def Yk : PROP := semVal (cell c .bar) 0

theorem pos_eq : (bigSep Finset.univ fun a : OK => pos c (kOf a) 0 : PROP) = Poss c := by
  rw [BI.bigSep_univ_sum, BI.bigSep_univ_sum, BI.bigSep_univ_sum, BI.bigSep_univ_sum]
  exact own_assoc _ _ _ _ _

theorem open_all : iprop(Rec P κ ιs ∗ (bigSep Finset.univ fun a : OK => openTok (ER (F := F)) (cell c (kOf a))) ∗ Sems0 c)
    ⊢ (iprop(|={Set.univ}=> Poss c) : PROP) := by
  have h := upd (F := F) (Finset.univ : Finset OK) (Rec P κ ιs) (fun a => iprop(openTok (ER (F := F)) (cell c (kOf a)) ∗ semVal (cell c (kOf a)) 0))
    (fun a => pos c (kOf a) 0) fun a => by
      have hc := Rec_cell P κ ιs c (kOf a)
      have ho : iprop(cellInv (ER (F := F)) (Rd P) (κ (cell c (kOf a))) (cell c (kOf a)) ∗ openTok (ER (F := F)) (cell c (kOf a)) ∗ semVal (cell c (kOf a)) 0)
          ⊢ (iprop(|={Set.univ}=> pos c (kOf a) 0) : PROP) :=
        Rounds.cell_open (ER (F := F)) (Rd P) (g := cell c (kOf a)) (Set.mem_univ (κ (cell c (kOf a))))
      iintro ⟨HR, Ho, Hs⟩
      iapply ho
      isplitl [HR]; · iapply hc; iexact HR
      isplitl [Ho]; · iexact Ho
      iexact Hs
  rw [pos_eq] at h
  have e : (bigSep Finset.univ fun a : OK => (iprop(openTok (ER (F := F)) (cell c (kOf a)) ∗ semVal (cell c (kOf a)) 0) : PROP))
      = iprop((bigSep Finset.univ fun a : OK => openTok (ER (F := F)) (cell c (kOf a))) ∗ Sems0 c) := by
    rw [← own_eq]; exact bigSep_sep' _ _ _
  rw [e] at h
  exact h

theorem bar_open : iprop(Rec P κ ιs ∗ crT c .bar 1 2 ∗ atPos (ER (F := F)) (cell c .bar) 0 ∅ 0 ∗ bigSep Finset.univ fun i : Fin 2 => duty (ackN i c) .bar 0 i.val) ⊢ (Bar0 c : PROP) := by
  have hb := Rec_bar P κ ιs c
  have hb0 := Rec_bar P κ ιs (ackN 0 c)
  have hb1 := Rec_bar P κ ιs (ackN 1 c)
  have hd : (bigSep Finset.univ fun i : Fin 2 => duty (ackN i c) .bar 0 i.val) ⊢ (iprop(duty (ackN 0 c) .bar 0 0 ∗ duty (ackN 1 c) .bar 0 1) : PROP) :=
    Entails.of_eq (BI.bigSep_fin_two fun i : Fin 2 => duty (F := F) (ackN i c) .bar 0 i.val)
  unfold Bar0 pos
  iintro ⟨#HR, Hc, Ha, Hd⟩
  isplitl [Hc Ha]
  · isplitl [Hc]; · iexact Hc
    isplitl [Ha]; · iexact Ha
    iapply hb; iexact HR
  isplitl [Hd]; · iapply hd; iexact Hd
  isplitr
  · iapply hb0; iexact HR
  iapply hb1; iexact HR

theorem hopen : iprop(Tk P c ∗ Pipeline.ownSems0 osem c ∗ levAts L lv) ⊢ (iprop(|={Set.univ}=> Xk P c) : PROP) := by
  rw [show (Pipeline.ownSems0 osem c : PROP) = Sems0 c from own_eq c]
  have hl : (levAts L lv : PROP) ⊢ Lev := by unfold Lev; exact .rfl
  unfold Tk Xk Lin
  iintro ⟨⟨%κ, %ιs, #HR, Hc, Ha, Ho, Hr, Hd, HF⟩, Hs, HL⟩
  imod (open_all P κ ιs c) $$ [Ho Hs] with HP
  · isplitr; · iexact HR
    isplitl [Ho]; · iexact Ho
    iexact Hs
  imodintro
  iexists κ; iexists ιs
  isplitl [HL]
  · iapply (Rec_Cx P κ ιs)
    isplitl [HL]; · iapply hl; iexact HL
    iexact HR
  isplitl [Hc Ha Hd]
  · iapply (bar_open P κ ιs c)
    isplitr; · iexact HR
    isplitl [Hc]; · iexact Hc
    isplitl [Ha]; · iexact Ha
    iexact Hd
  isplitl [Hr]; · iexact Hr
  isplitl [HP]; · iexact HP
  iexact HF

end Keep

end Cert.KernelIdeal.Talk
-- ==== Proof.Run.lean ====
/-
The call as a region of the program, and the program's run.
-/
module

public import proofs.«01_k».proof.Proof.Region
public import proofs.«01_k».proof.Proof.Gen.KernelIdeal.Frame

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

local notation "PROP" => sProp (MT nD τ sig ℕ (Elt F) ℕ UU ℕ)

variable (m : (ℓ : Loc nD τ sig) → Buf (Elt F) ℓ) (ρ : Dev nD → PrngReg)

/-! ## The contents before the host operations, before the call, after it -/

abbrev V₀ (c : Dev nD) : Valuation τ sig (Elt F) := fun b => m ((c : Dev nD), b)
abbrev V₁ (c : Dev nD) : Valuation τ sig (Elt F) := StableHlo.after Gen.hostOps0 (V₀ m c)
/-- The partial product a device brings to the call. -/
def PP (c : Dev nD) : Vec F S4096x8192 .bf16 := V₁ m c main_v7
abbrev V₂ (c : Dev nD) : Valuation τ sig (Elt F) := Function.update (V₁ m c) (Proc.devRef .tc main_v8) (OUT (PP m) c)

theorem V₂_out (c : Dev nD) : V₂ m c main_v8 = OUT (PP m) c := Function.update_self ..
theorem V₂_other (c : Dev nD) (b : DevRef τ sig) (h : b ≠ Proc.devRef .tc main_v8) : V₂ m c b = V₁ m c b := Function.update_of_ne h ..

/-! ## The buffers a device holds between the parts of its program -/

/-- Every buffer of the program that no call opens. -/
def bufs : Finset (DevRef τ sig) := (StableHlo.tcRefs τ sig).filter fun b => ¬ b.isScoped
/-- The two the call's body reads and writes. -/
def bufsIO : Finset (DevRef τ sig) := {Proc.devRef .tc main_v7, Proc.devRef .tc main_v8}

theorem bufs_unscoped (c : Dev nD) (W : Valuation τ sig (Elt F)) : (unscopedBufs c (fun b => W b) : PROP) = StableHlo.held (c : Thread nD τ) bufs W := by
  unfold unscopedBufs StableHlo.held bufs StableHlo.tcRefs
  rw [Finset.filter_map, BI.bigSep_map]
  rfl

theorem io_eq (c : Dev nD) (W : Valuation τ sig (Elt F)) : (StableHlo.held (c : Thread nD τ) bufsIO W : PROP)
    = iprop((inL c ↦{fullShare} W main_v7) ∗ (outL c ↦{fullShare} W main_v8)) := by
  unfold StableHlo.held
  rw [bigSep_eq_bigSepL_of_eq [Proc.devRef .tc main_v7, Proc.devRef .tc main_v8] (by decide) (by decide)]
  rfl

/-- The five a claim speaks of, beside the others. -/
def bufsA : Finset (DevRef τ sig) := {Proc.devRef .tc main_arg0, Proc.devRef .tc main_arg1, Proc.devRef .tc main_arg2, Proc.devRef .tc main_arg3, Proc.devRef .tc main_v8}
theorem five_eq (c : Dev nD) (W : Valuation τ sig (Elt F)) : (StableHlo.held (c : Thread nD τ) bufsA W : PROP)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3) ∗ (outL c ↦{fullShare} W main_v8)) := by
  unfold StableHlo.held
  rw [bigSep_eq_bigSepL_of_eq [Proc.devRef .tc main_arg0, Proc.devRef .tc main_arg1, Proc.devRef .tc main_arg2, Proc.devRef .tc main_arg3, Proc.devRef .tc main_v8] (by decide) (by decide)]
  rfl

theorem sub_io : bufsIO ⊆ bufs := by decide
theorem sub_five : bufsA ⊆ bufs := by decide

theorem unscopedSems_eq (c : Dev nD) : (unscopedSems0 c : PROP) = semVal (cell c .bar) 0 := by
  unfold unscopedSems0
  rw [show (Finset.univ.filter fun sm : SemLoc sig => ¬ sm.isScoped .tc) = {semOf .bar} from by decide, BI.bigSep_singleton]
theorem unscoped_bar : ∀ sm : SemLoc sig, sm.isScoped .tc = false → sm = semOf .bar := by decide

/-! ## The call as one region -/

def dat (c : Dev nD) : Pipeline.Dat τ (Elt F) ℕ ℕ UU ℕ cfg0 c where
  A w := w.elim0
  after w := w.elim0
  Φ t := if t.val = 0 then iprop((Xk (PP m) c ∗ (inL c ↦{fullShare} (PP m c : Buf (Elt F) (inL c))) ∗ (∃ f : Buf (Elt F) (outL c), outL c ↦{fullShare} f)) ∗ Wh c ∗ ∃ r, prngReg c r)
    else iprop((Yk c ∗ (inL c ↦{fullShare} (PP m c : Buf (Elt F) (inL c))) ∗ (outL c ↦{fullShare} (OUT (PP m) c : Buf (Elt F) (outL c)))) ∗ Sems0 c ∗ Wh c ∗ ∃ r, prngReg c r)
  q w := w.elim0
  owed t := if t.val = 0 then OweB c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem no_win {M : Type} [URA M] (Φ : Fin 0 → sProp M) : bigSep Finset.univ Φ = (BI.emp : sProp M) :=
  bigSep_univ_eq_bigSepL [] (by decide) (by decide) Φ

theorem owed_zero (c : Dev nD) : (pdats (F := F) m 0 c).owed 0 = OweB c := by
  show (if ((0 : Fin (cfg0.N + 1)).val = 0) then OweB c else 0) = OweB c; exact if_pos rfl
theorem owed_first (c : Dev nD) : (dat (F := F) m c).owed (Gen.t0_0 : Fin cfg0.N).castSucc = OweB c := by
  show (if ((Gen.t0_0 : Fin cfg0.N).castSucc : Fin (cfg0.N + 1)).val = 0 then OweB c else 0) = OweB c; exact if_pos rfl
theorem owed_last (c : Dev nD) : (pdats (F := F) m 0 c).owed (Fin.last _) = 0 := by
  show (if (Fin.last cfg0.N).val = 0 then OweB c else 0) = 0
  rw [Fin.val_last, if_neg (by rw [show cfg0.N = 1 from Gen.N_0]; decide)]

theorem owes_in (c : Dev nD) (t : Fin (cfg0.N + 1)) (O : CellTallies nD τ sig ℕ) (h0 : (dat (F := F) m c).owed t = O) :
    (Ow (F := F) c O : PROP) ⊢ (dat (F := F) m c).owesAt (0 : ℕ) t := by
  rw [show Ow (F := F) c O = iprop(∃ W, owes (c : Thread nD τ) O W) from rfl]
  unfold Pipeline.Dat.owesAt Pipeline.owesWithin Pipeline.Dat.bound
  rw [h0, show (dat (F := F) m c).recorded t = Set.univ from rfl]
  iintro ⟨%W, HO⟩
  iexists W
  isplitr; · ipureintro; exact fun _ _ => Or.inl trivial
  iexact HO
theorem owes_out (c : Dev nD) (t : Fin (cfg0.N + 1)) (O : CellTallies nD τ sig ℕ) (h0 : (dat (F := F) m c).owed t = O) :
    (dat (F := F) m c).owesAt (0 : ℕ) t ⊢ (Ow (F := F) c O : PROP) := by
  rw [show Ow (F := F) c O = iprop(∃ W, owes (c : Thread nD τ) O W) from rfl]
  unfold Pipeline.Dat.owesAt Pipeline.owesWithin
  rw [h0]
  iintro ⟨%W, -, HO⟩
  iexists W; iexact HO

abbrev PhiIn (c : Dev nD) : PROP := iprop((Xk (PP m) c ∗ (inL c ↦{fullShare} (PP m c : Buf (Elt F) (inL c))) ∗ (∃ f : Buf (Elt F) (outL c), outL c ↦{fullShare} f)) ∗ Wh c ∗ ∃ r, prngReg c r)
abbrev PhiOut (c : Dev nD) : PROP := iprop((Yk c ∗ (inL c ↦{fullShare} (PP m c : Buf (Elt F) (inL c))) ∗ (outL c ↦{fullShare} (OUT (PP m) c : Buf (Elt F) (outL c)))) ∗ Sems0 c ∗ Wh c ∗ ∃ r, prngReg c r)

theorem body_core (c : Dev nD) (I O E : PROP) (hi : I ⊢ Ow (F := F) c (OweB c)) (ho : Ow (F := F) c 0 ⊢ O) :
    iprop(PhiIn m c ∗ I ∗ E) ⊢ (run c (all F c) iprop(PhiOut m c ∗ O ∗ E) : PROP) := by
  unfold PhiIn PhiOut Xk Yk
  iintro ⟨⟨⟨⟨%κ, %ιs, HC, HB, Hr, HP, HF⟩, Hin, Hout⟩, Hw, Hreg⟩, HO, HE⟩
  iapply (run_wand c (all F c) iprop(Ow c 0 ∗ semVal (cell c .bar) 0 ∗ Sems0 c ∗ Wh c ∗ (inL c ↦{fullShare} (PP m c : Buf (Elt F) (inL c))) ∗ (outL c ↦{fullShare} (OUT (PP m) c : Buf (Elt F) (outL c)))) _) $$ [HC HB Hr HP HF Hin Hout Hw HO]
  · iapply (core (P := PP m) (κ := κ) (ιs := ιs) c)
    isplitl [HC]; · iexact HC
    isplitl [HO]; · iapply hi; iexact HO
    isplitl [HB]; · iexact HB
    isplitl [Hr]; · iexact Hr
    isplitl [HP]; · iexact HP
    isplitl [HF]; · iexact HF
    isplitl [Hin]; · iexact Hin
    isplitl [Hout]; · iexact Hout
    iexact Hw
  iintro ⟨HO, Hb, Hs, Hw, Hin, Hout⟩
  isplitl [Hb Hin Hout Hs Hw Hreg]
  · isplitl [Hb Hin Hout]
    · isplitl [Hb]; · iexact Hb
      isplitl [Hin]; · iexact Hin
      iexact Hout
    isplitl [Hs]; · iexact Hs
    isplitl [Hw]; · iexact Hw
    iexact Hreg
  isplitl [HO]; · iapply ho; iexact HO
  iexact HE

/-- The body's triple, from one point's invariant to the next's. -/
theorem body_ok (c : Dev nD) : Pipeline.BodyObligation (dat (F := F) m c) defs₀ 𝒱₀ (0 : ℕ) Set.univ := fun t => by
  obtain rfl := Gen.fin_N0 t
  rw [no_win, no_win]
  refine BI.Entails.trans ?_ (body_run c _)
  exact body_core m c _ _ _ (owes_out m c _ (OweB c) (owed_first m c)) (owes_in m c (Gen.t0_0 : Fin cfg0.N).succ 0 (owed_last m c))

local notation "ℍ" => Pipeline.HostSeg (Name := ℕ) (U := UU) (pcfgs (F := F)) defs₀ 𝒱₀ L lv
local notation "ℝ𝕊" => Pipeline.RegionSeg (pcfgs (F := F)) adm (pdats m) (0 : ℕ) defs₀ 𝒱₀ L lv

/-- What rides beside the buffers up to the call. -/
def Rd0 (c : Dev nD) : PROP := iprop((Tk (PP m) c ∗ ∃ r, prngReg c r) ∗ Ow c (OweB c))

theorem ops_sub : ∀ op ∈ (Gen.hostOps0 : List (HloOp τ sig (Elt F))), op.bufs ⊆ bufs := by
  have h : List.Forall (fun op : HloOp τ sig (Elt F) => op.bufs ⊆ bufs) Gen.hostOps0 := by
    simp only [Gen.hostOps0, List.Forall]
    refine ⟨?_, ?_, ?_, ?_, ?_, ?_, ?_⟩
    · show ({Proc.devRef .tc main_arg2, Proc.devRef .tc main_v1} : Finset (DevRef τ sig)) ⊆ bufs; decide
    · show ({Proc.devRef .tc main_arg3, Proc.devRef .tc main_v2} : Finset (DevRef τ sig)) ⊆ bufs; decide
    · show ({Proc.devRef .tc main_v1, Proc.devRef .tc main_v2, Proc.devRef .tc main_v3} : Finset (DevRef τ sig)) ⊆ bufs; decide
    · show ({Proc.devRef .tc main_arg0, Proc.devRef .tc main_arg1, Proc.devRef .tc main_v4} : Finset (DevRef τ sig)) ⊆ bufs; decide
    · show ({Proc.devRef .tc main_v3, Proc.devRef .tc main_v5} : Finset (DevRef τ sig)) ⊆ bufs; decide
    · show ({Proc.devRef .tc main_v4, Proc.devRef .tc main_v5, Proc.devRef .tc main_v6} : Finset (DevRef τ sig)) ⊆ bufs; decide
    · show ({Proc.devRef .tc main_v6, Proc.devRef .tc main_v7} : Finset (DevRef τ sig)) ⊆ bufs; decide
  exact List.forall_iff_forall_mem.mp h

/-- The host operations. -/
def hseg : ℍ := Pipeline.HostSeg.ofOps _ _ _ _ _ bufs Gen.hostOps0 ops_sub (List.forall_iff_forall_mem.mp Gen.hostOps0_fresh) (V₀ m) (Rd0 m)

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos w := w.elim0
  arr_whole w := w.elim0
  stage_whole w := w.elim0

theorem own_facts : Pipeline.OwnSemFacts (pcfgs (F := F) 0).spec osem where
  isScoped := by
    have h : ∀ k ∈ kindsS, (semOf k).isScoped .tc = true := by decide
    exact fun a => h _ (by
      rcases List.mem_cons.mp (mem_kinds (kOf a)) with h | h
      · exact absurd h (kOf_bar a)
      · exact h)
  inj a b h := kOf_inj _ _ (semOf_inj h)
  disj _ w := w.elim0
theorem owe_cut (c : Dev nD) (g : GSem nD τ sig) (i : ℕ) (h : 0 < OweB c g i) : i ∈ L g ∧ (0 : ℕ) < lv g i := by
  have ha : Above 0 (OweB c) :=
    above_add (above_add (above_OweI c 0 0 (by decide)) (above_tally (ackN 1 c) .bar (by decide) (by decide))) (above_tally (ackN 0 c) .bar (by decide) (by decide))
  obtain ⟨h1, h2, h3⟩ := ha g i h
  refine ⟨?_, h1⟩
  unfold L; rw [if_pos h3]; exact Finset.mem_range.mpr h2
theorem cut_owed (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then OweB c else 0 := rfl
  rw [e] at h
  split at h
  · exact owe_cut c g i h
  · exact absurd h (Nat.lt_irrefl 0)

theorem reg_in (c : Dev nD) : iprop(Pipeline.scopedRest (Pipeline.pin (pcfgs (F := F)) adm 0).spec c ∗ (∃ r, prngReg c r) ∗ StableHlo.held (c.tc : Thread nD τ) bufsIO (V₁ m c) ∗ Xk (PP m) c)
    ⊢ (pdats m 0 c).Φ 0 := by
  rw [show (pdats m 0 c).Φ 0 = iprop((Xk (PP m) c ∗ (inL c ↦{fullShare} (PP m c : Buf (Elt F) (inL c))) ∗ (∃ f : Buf (Elt F) (outL c), outL c ↦{fullShare} f)) ∗ Wh c ∗ ∃ r, prngReg c r) from rfl,
    show (Pipeline.scopedRest (Pipeline.pin (pcfgs (F := F)) adm 0).spec c : PROP) = Wh c from wh_eq c, io_eq]
  iintro ⟨Hw, Hp, ⟨Hi, Ho⟩, HX⟩
  isplitl [Hi Ho HX]
  · isplitl [HX]; · iexact HX
    isplitl [Hi]; · iexact Hi
    iexists _; iexact Ho
  isplitl [Hw]; · iexact Hw
  iexact Hp

theorem reg_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufsIO (V₂ m c) ∗ Pipeline.ownSems0 osem c ∗ Yk c) := by
  rw [show (pdats m 0 c).Φ (Fin.last _) = iprop((Yk c ∗ (inL c ↦{fullShare} (PP m c : Buf (Elt F) (inL c))) ∗ (outL c ↦{fullShare} (OUT (PP m) c : Buf (Elt F) (outL c)))) ∗ Sems0 c ∗ Wh c ∗ ∃ r, prngReg c r) from rfl,
    show (Pipeline.scopedRest (Pipeline.pin (pcfgs (F := F)) adm 0).spec c : PROP) = Wh c from wh_eq c, show (Pipeline.ownSems0 osem c : PROP) = Sems0 c from own_eq c,
    io_eq, V₂_out, V₂_other m c main_v7 (by decide)]
  iintro ⟨⟨Hy, Hi, Ho⟩, Hs, Hw, Hp⟩
  isplitl [Hw]; · iexact Hw
  isplitl [Hp]; · iexact Hp
  isplitl [Hi Ho]
  · isplitl [Hi]; · iexact Hi
    iexact Ho
  isplitl [Hs]; · iexact Hs
  iexact Hy

theorem off_io (c : Dev nD) : ∀ b ∈ bufs \ bufsIO, V₂ m c b = V₁ m c b := fun b hb =>
  V₂_other m c b fun h => (Finset.mem_sdiff.mp hb).2 (by rw [h]; decide)

set_option backward.isDefEq.respectTransparency.types false in
/-- The call. -/
def rseg : ℝ𝕊 0 :=
  Pipeline.RegionSeg.ofTalk (pcfgs (F := F)) adm (pdats m) (0 : ℕ) defs₀ 𝒱₀ L lv 0 osem own_facts
    bufsIO bufs sub_io kit rfl (fun c => (body_ok m c).loose)
    (fun _ => 0) OweB (fun c => (owed_zero m c).trans (zero_add _).symm) (owed_last m) (fun _ => rfl) (fun _ w => w.elim0)
    (V₁ m) (V₂ m) (off_io m)
    (Tk (PP m)) Yk (Xk (PP m)) Yk (hopen (PP m)) (reg_in m) (reg_out m)
    (fun c => by iintro H; imodintro; iexact H)
    (fun _ => 0)
    ⟨fun _ w => w.elim0, fun _ w => w.elim0, fun c t g i h => cut_owed m c t g i h⟩
    (fun _ => iprop(emp))
    (fun _ w => w.elim0) (fun _ w => w.elim0)

theorem no_arr (c : Dev nD) (W : Valuation τ sig (Elt F)) :
    (StableHlo.held (c.tc : Thread nD τ) (Pipeline.arrRefs (τ := τ) (pcfgs (F := F) 0).spec) W : PROP) = BI.emp := by
  have h : Pipeline.arrRefs (τ := τ) (pcfgs (F := F) 0).spec = ∅ := by
    unfold Pipeline.arrRefs
    rw [Finset.map_eq_empty, Finset.image_eq_empty, Finset.univ_eq_empty]
  rw [h]
  unfold StableHlo.held
  exact BI.bigSep_empty

theorem rseg_pre (c : Dev nD) : iprop(StableHlo.held (c : Thread nD τ) bufs (V₁ m c) ∗ Rd0 m c) ⊢ (rseg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ Tk (PP m) c ∗ ∃ Wd, owes (c : Thread nD τ) (0 + OweB c) Wd)
  rw [no_arr, zero_add]
  unfold Rd0
  rw [show Ow (F := F) c (OweB c) = iprop(∃ W, owes (c : Thread nD τ) (OweB c) W) from rfl]
  iintro ⟨Hh, ⟨HT, Hp⟩, HO⟩
  isplitr; · iempintro
  isplitl [Hp]; · iexact Hp
  isplitl [Hh]
  · isplitl [Hh]; · iexact Hh
    iempintro
  isplitl [HT]; · iexact HT
  iexact HO

abbrev T₀ (c : Dev nD) : PROP := iprop(StableHlo.held (c : Thread nD τ) bufs (V₀ m c) ∗ Rd0 m c)
abbrev Tₙ (c : Dev nD) : PROP := iprop(StableHlo.held (c : Thread nD τ) bufs (V₂ m c) ∗ semVal (cell c .bar) 0)

theorem rseg_post (c : Dev nD) : (rseg m).post c
    ⊢ iprop(Tₙ m c ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ Yk c ∗ ∃ Wd, owes (c : Thread nD τ) (0 : CellTallies nD τ sig ℕ) Wd) ⊢ _
  rw [no_arr]
  unfold Yk Tₙ
  iintro ⟨-, -, ⟨Hh, -⟩, Hb, HO⟩
  isplitr [HO]
  · isplitl [Hh]; · iexact Hh
    iexact Hb
  iexact HO

/-- The program as its two parts. -/
def segs : List (Pipeline.Seg (pcfgs (F := F)) adm (pdats m) (0 : ℕ) defs₀ 𝒱₀ L lv) := [.host (hseg m), .region (rseg m)]

theorem main_eq (c : Dev nD) : main (F := F) c = Pipeline.Seg.run (segs m) :=
  Gen.main_segs adm (pdats m) (0 : ℕ) 𝒱₀ L lv (hseg m) (rseg m) rfl c

end Cert.KernelIdeal.Talk
-- ==== Proof.Top.lean ====
/-
The launch, and the program's run.
-/
module

public import proofs.«01_k».proof.Proof.Run

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ

local notation "PROP" => sProp (MT nD τ sig ℕ (Elt F) ℕ UU ℕ)

variable (m : (ℓ : Loc nD τ sig) → Buf (Elt F) ℓ) (ρ : Dev nD → PrngReg)

/-- Two families over the devices as one, and back. -/
theorem joined (A B : Dev nD → PROP) : iprop(bigSep Finset.univ A ∗ bigSep Finset.univ B) ⊢ bigSep Finset.univ fun c => iprop(A c ∗ B c) :=
  Entails.of_eq (bigSep_sep' _ A B).symm
theorem parted (A B : Dev nD → PROP) : (bigSep Finset.univ fun c => iprop(A c ∗ B c)) ⊢ iprop(bigSep Finset.univ A ∗ bigSep Finset.univ B) :=
  Entails.of_eq (bigSep_sep' _ A B)

/-! ## The launch -/

/-- The rounds' and the slots' first elements. -/
def t₀ : UT := (launchOf opn dor allToks, initSlots (Finset.univ : Finset Key) 15)
def u₀ : UU :=
  (initOf (Pipeline.cells (Pipeline.pin (pcfgs (F := F)) adm) Gen.cellOf_inj) (Pipeline.launchToks (Pipeline.pin (pcfgs (F := F)) adm) Gen.cellOf_inj), t₀)

/-- A resource kept on one device. -/
def atDev (c₀ : Dev nD) (X : PROP) (c : Dev nD) : PROP := if c = c₀ then X else iprop(emp)
theorem bigSep_atDev (c₀ : Dev nD) (X : PROP) : bigSep Finset.univ (atDev c₀ X) = X := by
  rw [bigSep_univ_at _ c₀, bigSep_congr (s := Finset.univ.erase c₀) (Ψ := fun _ => (BI.emp : PROP))
      fun c hc => by unfold atDev; rw [if_neg (Finset.ne_of_mem_erase hc)]; rfl, BI.bigSep_emp_const]
  unfold atDev; rw [if_pos rfl]
  exact BI.equiv_iff.mp sep_emp

abbrev Start : PROP := iprop(BI.own ((ER (F := F)) (launchOf opn dor allToks)) ∗ BI.own ((ES (F := F)) (initSlots (Finset.univ : Finset Key) 15)))
def GG : Dev nD → PROP := atDev 0 Start

theorem start_split : (BI.own ((embR : Emb UT (MT nD τ sig ℕ (Elt F) ℕ UU ℕ)) t₀) : PROP) ⊢ Start := by
  unfold Start ER ES t₀
  exact own_pair_emb _ _ _

theorem u_split : (ownU (u₀ (F := F)) : PROP)
    ⊢ iprop(BI.own (EP (F := F) (initOf (Pipeline.cells (Pipeline.pin (pcfgs (F := F)) adm) Gen.cellOf_inj) (Pipeline.launchToks (Pipeline.pin (pcfgs (F := F)) adm) Gen.cellOf_inj))) ∗ bigSep Finset.univ (GG (F := F))) := by
  unfold GG
  rw [bigSep_atDev]
  exact (ownU_pair _ _).trans (BI.sep_mono (BI.Entails.refl _) start_split)

/-- What a device has of its own besides the records: credits, positions, rights and tokens. -/
def Own (c : Dev nD) : PROP :=
  iprop(atPos (ER (F := F)) (cell c .bar) 0 ∅ 0 ∗ (bigSep Finset.univ fun a : OK => openTok (ER (F := F)) (cell c (kOf a)))
    ∗ (bigSep Finset.univ fun x : K3 => readerAt (ES (F := F)) (c, x.1, x.2.1, x.2.2) 0) ∗ Tkp c ∗ Wrp c)
/-- The rest of its launch share. -/
def Bundle (c : Dev nD) : PROP :=
  iprop(StableHlo.held (c : Thread nD τ) bufs (V₀ m c) ∗ Pipeline.launchCred OweB c ∗ owes (c : Thread nD τ) (OweB c) ∅ ∗ ∃ r, prngReg c r)

theorem lin_intro (c : Dev nD) : iprop(Pipeline.launchCred OweB c ∗ Own c) ⊢ (Lin c : PROP) := by
  have hc := creds (F := F) c
  have ht := tok_deal (F := F) c
  unfold Own Lin
  iintro ⟨Hcr, Ha, Ho, Hr, Hk, Hw⟩
  ihave Hc := hc $$ Hcr
  icases Hc with ⟨Hb, Hv, Hd⟩
  ihave Ht := ht $$ [Hv Hd Hk Hw]
  · isplitl [Hv Hd]
    · isplitl [Hv]; · iexact Hv
      iexact Hd
    isplitl [Hk]; · iexact Hk
    iexact Hw
  icases Ht with ⟨Hdu, HF⟩
  isplitl [Hb]; · iexact Hb
  isplitl [Ha]; · iexact Ha
  isplitl [Ho]; · iexact Ho
  isplitl [Hr]; · iexact Hr
  isplitl [Hdu]; · iexact Hdu
  iexact HF

theorem T₀_intro (κ : GSem nD τ sig → ℕ) (ιs : Key → ℕ) (c : Dev nD) : iprop(Rec (PP m) κ ιs ∗ (Own c ∗ Bundle m c)) ⊢ T₀ m c := by
  have hl := lin_intro (F := F) c
  unfold T₀ Rd0 Bundle Tk
  rw [show Ow (F := F) c (OweB c) = iprop(∃ W, owes (c : Thread nD τ) (OweB c) W) from rfl]
  iintro ⟨HR, Ho, Hh, Hcr, HO, Hp⟩
  isplitl [Hh]; · iexact Hh
  isplitr [HO]
  · isplitl [HR Ho Hcr]
    · iexists κ; iexists ιs
      isplitl [HR]; · iexact HR
      iapply hl
      isplitl [Hcr]; · iexact Hcr
      iexact Ho
    iexact Hp
  iexists ∅; iexact HO

abbrev Deal0 (c : Dev nD) : PROP :=
  iprop(unscopedBufs c (fun b => m ((c : Thread nD τ).loc b)) ∗ unscopedSems0 c
          ∗ owes (c : Thread nD τ) (OweB c) ∅ ∗ Pipeline.launchCred OweB c ∗ prngReg c (ρ c) ∗ GG c)

theorem deal_core (c : Dev nD) : Deal0 m ρ c ⊢ (iprop(Bundle m c ∗ (semVal (cell c .bar) 0 ∗ GG c)) : PROP) := by
  unfold Deal0
  rw [show unscopedBufs c (fun b => m ((c : Thread nD τ).loc b)) = StableHlo.held (c : Thread nD τ) bufs (V₀ m c) from bufs_unscoped c (V₀ m c), unscopedSems_eq]
  unfold Bundle
  iintro ⟨Hh, Hus, HO, Hcr, Hp, HG⟩
  isplitl [Hh HO Hcr Hp]
  · isplitl [Hh]; · iexact Hh
    isplitl [Hcr]; · iexact Hcr
    isplitl [HO]; · iexact HO
    iexists (ρ c); iexact Hp
  isplitl [Hus]; · iexact Hus
  iexact HG

/-- Everything the two libraries give at launch, device by device. -/
abbrev Funded : PROP :=
  iprop(∃ κ, ∃ ιs, Rec (PP m) κ ιs ∗ bigSep Finset.univ fun c : Dev nD => Own c)

theorem fund : iprop((bigSep opn fun g => (semVal g 0 : PROP)) ∗ Start) ⊢ (iprop(|={Set.univ}=> Funded m) : PROP) := by
  have hf := Rounds.fund_launch (ER (F := F)) (Rd (PP m)) (Es := Set.univ) opn_dor (fun g _ h => h) allToks
  have hs := slots_init (ES (F := F)) (Finset.univ : Finset Key) 15 (slotP (F := F)) (Es := Set.univ)
  have hat : bigSep opn (fun g => (atPos (ER (F := F)) g 0 ∅ 0 : PROP)) ⊢ bigSep Finset.univ fun c : Dev nD => atPos (ER (F := F)) (cell c .bar) 0 ∅ 0 :=
    Entails.of_eq (bigSep_map (s := Finset.univ) barEmb (Φ := fun g : GSem nD τ sig => (atPos (ER (F := F)) g 0 ∅ 0 : PROP)))
  have hop : bigSep dor (fun g => (openTok (ER (F := F)) g : PROP)) ⊢ bigSep Finset.univ fun c : Dev nD => bigSep Finset.univ fun a : OK => openTok (ER (F := F)) (cell c (kOf a)) :=
    Entails.of_eq (by rw [bigSep_map, BI.bigSep_univ_prod]; rfl)
  have hrd : bigSep (Finset.univ : Finset Key) (fun k => (readerAt (ES (F := F)) k 0 : PROP))
      ⊢ bigSep Finset.univ fun c : Dev nD => bigSep Finset.univ fun x : K3 => readerAt (ES (F := F)) (c, x.1, x.2.1, x.2.2) 0 :=
    Entails.of_eq (BI.bigSep_univ_prod _)
  have htk : bigSep allToks (fun x => (dutyTok (ER (F := F)) x.1 x.2.1 x.2.2 : PROP)) ⊢ bigSep Finset.univ fun c : Dev nD => Tkp c :=
    Entails.of_eq (toks_own.trans toks_paid)
  have hwr := Entails.of_eq (wr_paid (F := F))
  unfold Start Funded
  iintro ⟨Hv, Hr, Hs⟩
  imod hf $$ [Hv Hr] with ⟨%κ, -, Hinv, Hrch, Hat, Hop, Htk⟩
  · isplitl [Hv]; · iexact Hv
    iexact Hr
  imod hs $$ Hs with ⟨%ιs, -, Hsl, Hrd, Hwr⟩
  imodintro
  iexists κ; iexists ιs
  isplitl [Hinv Hrch Hsl]
  · unfold Rec
    isplitl [Hinv]; · iexact Hinv
    isplitl [Hsl]; · iexact Hsl
    iexact Hrch
  unfold Own
  iapply (joined _ _); isplitl [Hat]; · iapply hat; iexact Hat
  iapply (joined _ _); isplitl [Hop]; · iapply hop; iexact Hop
  iapply (joined _ _); isplitl [Hrd]; · iapply hrd; iexact Hrd
  iapply (joined _ _); isplitl [Htk]; · iapply htk; iexact Htk
  iapply hwr; iexact Hwr

theorem init : iprop((bigSep Finset.univ fun c : Dev nD => Deal0 m ρ c) ∗ levAts L lv) ⊢ (iprop(|={Set.univ}=> bigSep Finset.univ (T₀ m)) : PROP) := by
  have h1 : (bigSep Finset.univ fun c : Dev nD => Deal0 m ρ c) ⊢ (bigSep Finset.univ fun c : Dev nD => iprop(Bundle m c ∗ (semVal (cell c .bar) 0 ∗ GG c)) : PROP) :=
    bigSep_mono fun c _ => deal_core m ρ c
  have hv : bigSep Finset.univ (fun c : Dev nD => (semVal (cell c .bar) 0 : PROP)) ⊢ bigSep opn (fun g => (semVal g 0 : PROP)) :=
    Entails.of_eq (bigSep_map (s := Finset.univ) barEmb (Φ := fun g : GSem nD τ sig => (semVal g 0 : PROP))).symm
  have hg : bigSep Finset.univ (GG (F := F)) ⊢ Start := Entails.of_eq (bigSep_atDev 0 Start)
  have hf := fund m
  have hT (κ : GSem nD τ sig → ℕ) (ιs : Key → ℕ) : iprop(Rec (PP m) κ ιs ∗ bigSep Finset.univ fun c : Dev nD => iprop(Own c ∗ Bundle m c)) ⊢ bigSep Finset.univ (T₀ m) :=
    bigSep_with_persistent fun c _ => T₀_intro m κ ιs c
  iintro ⟨H, -⟩
  ihave H' := h1 $$ H
  ihave H2 := (parted _ _) $$ H'; icases H2 with ⟨HB, H3⟩
  ihave H4 := (parted _ _) $$ H3; icases H4 with ⟨Hv, HG⟩
  imod hf $$ [Hv HG] with ⟨%κ, %ιs, HR, HOwn⟩
  · isplitl [Hv]; · iapply hv; iexact Hv
    iapply hg; iexact HG
  imodintro
  iapply (hT κ ιs)
  isplitl [HR]; · iexact HR
  iapply (joined _ _)
  isplitl [HOwn]; · iexact HOwn
  iexact HB

/-! ## The run -/

theorem V₁_arg0 (c : Dev nD) : V₁ m c main_arg0 = m ((c : Thread nD τ).loc main_arg0) := Gen.V_main_arg0 m c
theorem V₁_arg1 (c : Dev nD) : V₁ m c main_arg1 = m ((c : Thread nD τ).loc main_arg1) := Gen.V_main_arg1 m c
theorem V₁_arg2 (c : Dev nD) : V₁ m c main_arg2 = m ((c : Thread nD τ).loc main_arg2) := Gen.V_main_arg2 m c
theorem V₁_arg3 (c : Dev nD) : V₁ m c main_arg3 = m ((c : Thread nD τ).loc main_arg3) := Gen.V_main_arg3 m c

/-- What a final state shows on one device. -/
def Shown (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v8) = OUT (PP m) c) ∧ s.sem (cell c .bar) = 0

theorem fin_read (c : Dev nD) (s' : Phys nD τ sig (Elt F)) : iprop(Tₙ m c ∗ Idealize.ShloMosaic.SI s') ⊢ (iprop(|={Set.univ}=> (⌜Shown m c s'.mem⌝ ∗ Idealize.ShloMosaic.SI s')) : PROP) := by
  have h5 : (StableHlo.held (c : Thread nD τ) bufs (V₂ m c) : PROP) ⊢ iprop(((c : Thread nD τ).loc main_arg0 ↦{fullShare} m ((c : Thread nD τ).loc main_arg0)) ∗ ((c : Thread nD τ).loc main_arg1 ↦{fullShare} m ((c : Thread nD τ).loc main_arg1))
      ∗ ((c : Thread nD τ).loc main_arg2 ↦{fullShare} m ((c : Thread nD τ).loc main_arg2)) ∗ ((c : Thread nD τ).loc main_arg3 ↦{fullShare} m ((c : Thread nD τ).loc main_arg3)) ∗ (outL c ↦{fullShare} (OUT (PP m) c : Buf (Elt F) (outL c)))) := by
    rw [StableHlo.held_sub_split (c : Thread nD τ) sub_five (V₂ m c), five_eq, V₂_out, V₂_other m c main_arg0 (by decide), V₂_other m c main_arg1 (by decide),
      V₂_other m c main_arg2 (by decide), V₂_other m c main_arg3 (by decide), V₁_arg0, V₁_arg1, V₁_arg2, V₁_arg3]
    iintro ⟨H, -⟩; iexact H
  unfold Tₙ
  iintro ⟨⟨Hh, Hb⟩, HSI⟩
  ihave H := h5 $$ Hh
  icases H with ⟨H0, H1, H2, H3, H4⟩
  icombine HSI H0 gives %h0
  icombine HSI H1 gives %h1
  icombine HSI H2 gives %h2
  icombine HSI H3 gives %h3
  icombine HSI H4 gives %h4
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3, Buf.eq_of_forall_mem_univ h4⟩, by simpa using hb⟩
  iexact HSI

set_option backward.isDefEq.respectTransparency.types false in
/-- From any memory with the counters at zero every execution ends, with the arguments as they were, the result at `OUT`
    and the counters at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3)
        ∧ r.2.mem ((c : Thread nD τ).loc main_v8) = OUT (PP m) c) ∧ r.2.sem = fun _ => 0) :=
  Pipeline.θ_run_regions_kit_sems (pcfgs (F := F)) adm (pdats m) (0 : ℕ) Gen.cellOf_inj (EP (F := F)) defs₀ 𝒱₀ L lv m ρ main (segs m)
    (fun c Q => by rw [main_eq m c])
    (by simp only [segs, Pipeline.Seg.pipes_host, Pipeline.Seg.pipes_region, Pipeline.Seg.pipes_nil]; decide)
    (O₀ := OweB) (hL := L_of_ne) (G := GG) (u₀ := u₀)
    (hu₀ := (u_split (F := F)).trans (by iintro H; imodintro; iexact H))
    (T₀ := T₀ m) (Tₙ := Tₙ m)
    (hch := ⟨fun c => .rfl, fun c => rseg_pre m c, fun c => rseg_post m c⟩)
    (hinit := init m ρ)
    (QY := Shown m)
    (hfin := fin_read m)
    (hQ := fun s h hs => ⟨fun c => (h c).1, sem_eq_zero hs fun c sm hsm => by
        obtain rfl := unscoped_bar sm hsm
        exact (h c).2⟩)

end Cert.KernelIdeal.Talk
-- ==== Proof.Prod.lean ====
/-
What the host hands to the kernel.
-/
module

public import proofs.«01_k».proof.Proof.Run
public import Idealize.ShloMosaic.PureOps.Ideal.Laws

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
variable {F : FTy → Type} [FloatOps F]

/-- What the host hands to the kernel. -/
theorem PP_eq (m : (ℓ : Loc nD τ sig) → Buf (Elt F) ℓ) (c : Dev nD) :
    PP m c = truncf .bf16 (mulf (Host.dotGeneral dot_S4096x256_S256x8192_S4096x8192_1_0_0_1_n_n none (m ((c.tc : Thread nD τ).loc main_arg0)) (m ((c.tc : Thread nD τ).loc main_arg1)))
      (broadcastInDim S4096x8192 ![] bcast_S_S4096x8192 (mulf (shapeCast S_ (m ((c.tc : Thread nD τ).loc main_arg2)) Gen.shapeCasts_S1_S_) (shapeCast S_ (m ((c.tc : Thread nD τ).loc main_arg3)) Gen.shapeCasts_S1_S_)))) bitsLt_bf16_f32 := by
  unfold PP V₁ V₀
  after_results
  rfl

end Cert.KernelIdeal.Talk
-- ==== Proof.Total.lean ====
/-
The result is a sum over the devices.
-/
module

public import proofs.«01_k».proof.Proof.Mem
public import Idealize.ShloMosaic.PureOps.Ideal.Laws

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Facts₀ Cert.KernelIdeal.Facts

variable {F : FTy → Type} [FloatOps F]

local notation "𝕄" => MT nD τ sig ℕ (Elt F) ℕ UU ℕ
/-! ## The ring, in numbers -/

theorem orbit_cidx : ∀ (d : Fin 2) (c : Dev nD) (k : Fin 16), cidx d ((ackN d)^[k.val] c) (15 - k.val) = cidx d c 15 := by decide +kernel
theorem orbit_last : ∀ (d : Fin 2) (c : Dev nD) (s : Fin 16), cidx d ((ackN d)^[s.val] c) 15 = cidx d c (s.val + 15) := by decide +kernel
theorem orbit_inj : ∀ (d : Fin 2) (c : Dev nD) (k l : Fin 16), (ackN d)^[k.val] c = (ackN d)^[l.val] c → k = l := by decide +kernel

/-- A sum along the ring is the sum over the devices. -/
theorem orbit_sum (d : Fin 2) (c : Dev nD) (f : Dev nD → EReal) : (∑ k ∈ Finset.range 16, f ((ackN d)^[k] c)) = ∑ e : Dev nD, f e := by
  rw [Finset.sum_range fun k => f ((ackN d)^[k] c)]
  have hi : Function.Injective fun k : Fin 16 => (ackN d)^[k.val] c := fun k l h => orbit_inj d c k l h
  have hb : Function.Bijective fun k : Fin 16 => (ackN d)^[k.val] c := (Fintype.bijective_iff_injective_and_card _).mpr ⟨hi, rfl⟩
  exact hb.sum_comp f

/-! ## What is sent, as a sum -/

variable (P : Dev nD → Vec Ideal S4096x8192 .bf16)

theorem X_sum (d : Fin 2) (j : Fin 4) (x : S32x8192.Idx) : ∀ (t : ℕ) (c : Dev nD), t ≤ 15 →
    (X P d j t c x : EReal) = ∑ k ∈ Finset.range (t + 1), (chunkRow P d ((ackN d)^[k] c) (t - k) j x : EReal)
  | 0, c, _ => by rw [Finset.sum_range_one]; rfl
  | t + 1, c, h => by
    rw [X_add P d j t c (by omega), Finset.sum_range_succ']
    show (X P d j t (ackN d c) x : EReal) + (chunkRow P d c (t + 1) j x : EReal) = _
    rw [X_sum d j x t (ackN d c) (by omega)]
    refine congrArg₂ (· + ·) (Finset.sum_congr rfl fun k _ => ?_) rfl
    rw [show t + 1 - (k + 1) = t - k by omega]
    rfl

theorem X_rest (d : Fin 2) (j : Fin 4) : ∀ (s : ℕ) (c : Dev nD), X P d j (s + 15) c = X P d j 15 ((ackN d)^[s] c)
  | 0, _ => by rw [Nat.zero_add]; rfl
  | s + 1, c => by
    rw [show s + 1 + 15 = (s + 15) + 1 by omega, X_mov P d j _ c (by omega), X_rest d j s]
    rfl

/-- The entry of the sub-block's row. -/
def rowIx (b : ℕ) (hb : b + 32 ≤ 4096) (x : S32x8192.Idx) : S4096x8192.Idx := fun a => match a with
  | 0 => ⟨b + (x 0).val, lt_of_lt_of_le (Nat.add_lt_add_left (x 0).isLt b) hb⟩
  | 1 => x 1

theorem chunkRow_at (d : Fin 2) (c : Dev nD) (n : ℕ) (j : Fin 4) (x : S32x8192.Idx) (i : Fin 16) (h : cidx d c n = i) :
    chunkRow P d c n j x = P c (rowIx (2048 * d.val + 128 * i.val + 32 * j.val) (row_le d i j) x) := by
  subst h
  rfl

/-- After the first fifteen steps a transfer carries the sum over all devices. -/
theorem X_total (d : Fin 2) (j : Fin 4) (x : S32x8192.Idx) (s : Fin 16) (c : Dev nD) :
    (X P d j (s.val + 15) c x : EReal) = ∑ e : Dev nD, (P e (rowIx (2048 * d.val + 128 * (cidx d c (s.val + 15)).val + 32 * j.val) (row_le d _ j) x) : EReal) := by
  rw [X_rest, X_sum P d j x 15 _ (by omega),
    ← orbit_sum d ((ackN d)^[s.val] c) fun e => (P e (rowIx (2048 * d.val + 128 * (cidx d c (s.val + 15)).val + 32 * j.val) (row_le d _ j) x) : EReal)]
  refine Finset.sum_congr rfl fun k hk => ?_
  have hk' : k < 16 := Finset.mem_range.mp hk
  exact chunkRow_at P d _ (15 - k) j x _ ((orbit_cidx d _ ⟨k, hk'⟩).trans (orbit_last d c s))

/-- Every entry of the result is the sum of the devices' entries. -/
theorem OUT_total (c : Dev nD) (y : S4096x8192.Idx) : (OUT P c y : EReal) = ∑ e : Dev nD, (P e y : EReal) := by
  have hy : (y 0).val < 4096 := (y 0).isLt
  obtain ⟨d, hd⟩ : ∃ d : Fin 2, d = ⟨(y 0).val / 2048, by omega⟩ := ⟨_, rfl⟩
  obtain ⟨i, hi⟩ : ∃ i : Fin 16, i = ⟨(y 0).val / 128 % 16, by omega⟩ := ⟨_, rfl⟩
  have hd' : d.val = (y 0).val / 2048 := congrArg Fin.val hd
  have hi' : i.val = (y 0).val / 128 % 16 := congrArg Fin.val hi
  unfold OUT
  dsimp only
  rw [← hd, ← hi]
  unfold stored glue
  dsimp only
  refine (X_total P d _ _ (sOf d c i) c).trans ?_
  refine Finset.sum_congr rfl fun e _ => congrArg (P e) (funext fun a => ?_)
  match a with
  | 0 =>
    refine Fin.ext ?_
    show 2048 * d.val + 128 * (cidx d c ((sOf d c i).val + 15)).val + 32 * ((y 0).val % 128 / 32) + (y 0).val % 128 % 32 = (y 0).val
    rw [cidx_sOf]
    omega
  | 1 => rfl

end Cert.KernelIdeal.Talk
-- ==== Proof.Value.lean ====
/-
The result of the kernel, over the extended reals, is the result of the reference.
-/
module

public import proofs.«01_k».proof.Proof.Prod
public import proofs.«01_k».proof.Proof.Total
public import proofs.«01_k».proof.Proof.Gen.ReferenceIdeal
public import Idealize.ShloMosaic.Lib.Pointwise
public import Idealize.ShloMosaic.Lib.Layout

@[expose] public section

noncomputable section

namespace Cert.KernelIdeal.Talk
open Idealize.ShloMosaic
open Cert.KernelIdeal.Facts₀ Cert.KernelIdeal.Facts

/-- One device's share of the product, at an entry. -/
theorem share_at (x : FVec Ideal S4096x256 .f32) (w : FVec Ideal S256x8192 .f32) (a b : FVec Ideal S1 .f32) (y : S4096x8192.Idx) :
    (truncf .bf16 (mulf (Host.dotGeneral dot_S4096x256_S256x8192_S4096x8192_1_0_0_1_n_n none x w)
      (broadcastInDim S4096x8192 ![] bcast_S_S4096x8192 (mulf (shapeCast S_ a Gen.shapeCasts_S1_S_) (shapeCast S_ b Gen.shapeCasts_S1_S_)))) bitsLt_bf16_f32 y : EReal)
      = (∑ k : Fin 256, (x (ix2 (y 0) k) : EReal) * w (ix2 k (y 1))) * ((a (ix1 0) : EReal) * b (ix1 0)) := by
  pointwise

/-- The reference's result, at an entry. -/
theorem whole_at (x : FVec Ideal Cert.ReferenceIdeal.S4096x4096 .f32) (w : FVec Ideal Cert.ReferenceIdeal.S4096x8192 .f32) (a b : FVec Ideal Cert.ReferenceIdeal.S1 .f32)
    (y : Cert.ReferenceIdeal.S4096x8192.Idx) :
    (mulf (Host.dotGeneral Cert.ReferenceIdeal.dot_S4096x4096_S4096x8192_S4096x8192_1_0_0_1_n_n none x w)
      (broadcastInDim Cert.ReferenceIdeal.S4096x8192 ![0, 1] Cert.ReferenceIdeal.Gen.bcast_S1x1_S4096x8192_0_1 (broadcastInDim Cert.ReferenceIdeal.S1x1 ![1] Cert.ReferenceIdeal.Gen.bcast_S1_S1x1_1 (mulf a b))) y : EReal)
      = (∑ k : Fin 4096, (x (ix2 (y 0) k) : EReal) * w (ix2 k (y 1))) * ((a (ix1 0) : EReal) * b (ix1 0)) := by
  pointwise

/-- A number that is neither infinity. -/
def IsReal (v : EReal) : Prop := ∃ r : ℝ, v = (r : EReal)

theorem real_of_mask {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) : IsReal (x i) := by
  have e : Ideal.cmp .olt (max (x i : EReal) (-(x i : EReal))) (Ideal.ofBits .f32 0x7F800000#32) = 1#1 := congrFun h i
  have t : Ideal.ofBits .f32 0x7F800000#32 = ⊤ := by simp [Ideal.ofBits, Ideal.ieee]
  rw [t] at e
  have l : max (x i : EReal) (-(x i : EReal)) < ⊤ := by
    by_contra hn
    simp [Ideal.cmp, hn] at e
  rw [max_lt_iff] at l
  refine ⟨(x i : EReal).toReal, (EReal.coe_toReal (ne_of_lt l.1) ?_).symm⟩
  intro hbot
  rw [hbot] at l
  simp at l

theorem real_mul {a b : EReal} : IsReal a → IsReal b → IsReal (a * b)
  | ⟨r, hr⟩, ⟨s, hs⟩ => ⟨r * s, by rw [hr, hs, EReal.coe_mul]⟩

theorem real_sum {ι : Type} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    obtain ⟨r, hr⟩ := h a (Finset.mem_insert_self a S)
    obtain ⟨s, hs⟩ := ih fun i hi => h i (Finset.mem_insert_of_mem hi)
    exact ⟨r + s, by rw [hr, hs, EReal.coe_add]⟩

/-- A common factor leaves a sum of real numbers. -/
theorem sum_factor {ι : Type} (S : Finset ι) (f : ι → EReal) (v : EReal) (hv : IsReal v) (h : ∀ i ∈ S, IsReal (f i)) :
    (∑ i ∈ S, f i * v) = (∑ i ∈ S, f i) * v := by
  classical
  induction S using Finset.induction_on with
  | empty => simp
  | insert a S ha ih =>
    rw [Finset.sum_insert ha, Finset.sum_insert ha, ih fun i hi => h i (Finset.mem_insert_of_mem hi)]
    obtain ⟨r, hr⟩ := h a (Finset.mem_insert_self a S)
    obtain ⟨s, hs⟩ := real_sum S f fun i hi => h i (Finset.mem_insert_of_mem hi)
    obtain ⟨t, ht⟩ := hv
    rw [hr, hs, ht, ← EReal.coe_mul, ← EReal.coe_mul, ← EReal.coe_add, ← EReal.coe_add, ← EReal.coe_mul, add_mul]

/-- A sum over `4096` positions, cut into sixteen stretches. -/
theorem sum_cut (f : Fin 4096 → EReal) : (∑ e : Fin 16, ∑ k : Fin 256, f ⟨e.val * 256 + k.val, by omega⟩) = ∑ K : Fin 4096, f K := by
  rw [← Fintype.sum_prod_type' fun (e : Fin 16) (k : Fin 256) => f ⟨e.val * 256 + k.val, by omega⟩]
  refine Fintype.sum_equiv (finProdFinEquiv (m := 16) (n := 256)) _ _ fun p => congrArg f (Fin.ext ?_)
  show p.1.val * 256 + p.2.val = p.2.val + 256 * p.1.val
  omega

/-- A device's block of the left factor. -/
def xOf (m : (ℓ : Loc nD τ sig) → Buf (Elt Ideal) ℓ) (c : Dev nD) : FVec Ideal S4096x256 .f32 := m ((c.tc : Thread nD τ).loc main_arg0)
/-- A device's block of the right factor. -/
def wOf (m : (ℓ : Loc nD τ sig) → Buf (Elt Ideal) ℓ) (c : Dev nD) : FVec Ideal S256x8192 .f32 := m ((c.tc : Thread nD τ).loc main_arg1)

/-- The kernel's result is the reference's: every device holds its block of the factors, all of them real numbers. -/
theorem value (m : (ℓ : Loc nD τ sig) → Buf (Elt Ideal) ℓ)
    (A : FVec Ideal Cert.ReferenceIdeal.S4096x4096 .f32) (B : FVec Ideal Cert.ReferenceIdeal.S4096x8192 .f32) (a b : FVec Ideal Cert.ReferenceIdeal.S1 .f32)
    (hA : ∀ c : Dev nD, m ((c.tc : Thread nD τ).loc main_arg0) = Layout.block ⟨2, ![4096, 256]⟩ ⟨2, ![4096, 4096]⟩ 1 16 c A)
    (hB : ∀ c : Dev nD, m ((c.tc : Thread nD τ).loc main_arg1) = Layout.block ⟨2, ![256, 8192]⟩ ⟨2, ![4096, 8192]⟩ 0 16 c B)
    (ha : ∀ c : Dev nD, m ((c.tc : Thread nD τ).loc main_arg2) = a)
    (hb : ∀ c : Dev nD, m ((c.tc : Thread nD τ).loc main_arg3) = b)
    (rA : ∀ (c : Dev nD) i, IsReal (xOf m c i))
    (rB : ∀ (c : Dev nD) i, IsReal (wOf m c i))
    (ra : ∀ i, IsReal (a i)) (rb : ∀ i, IsReal (b i)) (c : Dev nD) :
    OUT (PP m) c = mulf (Host.dotGeneral Cert.ReferenceIdeal.dot_S4096x4096_S4096x8192_S4096x8192_1_0_0_1_n_n none A B)
      (broadcastInDim Cert.ReferenceIdeal.S4096x8192 ![0, 1] Cert.ReferenceIdeal.Gen.bcast_S1x1_S4096x8192_0_1 (broadcastInDim Cert.ReferenceIdeal.S1x1 ![1] Cert.ReferenceIdeal.Gen.bcast_S1_S1x1_1 (mulf a b))) := by
  funext y
  refine (OUT_total (PP m) c y).trans (Eq.trans ?_ (whole_at A B a b y).symm)
  have hP : ∀ e : Dev nD, (PP m e y : EReal) = (∑ k : Fin 256, (xOf m e (ix2 (y 0) k) : EReal)
      * (wOf m e (ix2 k (y 1)) : EReal)) * ((a (ix1 0) : EReal) * b (ix1 0)) := fun e => by
    rw [PP_eq m e]
    refine (share_at _ _ _ _ y).trans ?_
    rw [ha e, hb e]
    rfl
  rw [Finset.sum_congr rfl fun e _ => hP e,
    sum_factor _ _ _ (real_mul (ra _) (rb _)) fun e _ => real_sum _ _ fun k _ => real_mul (rA e _) (rB e _),
    ← sum_cut]
  refine congrArg (· * ((a (ix1 0) : EReal) * b (ix1 0))) (Finset.sum_congr rfl fun e _ => Finset.sum_congr rfl fun k _ => ?_)
  unfold xOf wOf
  rw [hA e, hB e]
  refine congrArg₂ (· * ·) (congrArg A (funext fun i => ?_)) (congrArg B (funext fun i => ?_))
  · match i with
    | 0 => rfl
    | 1 => rfl
  · match i with
    | 0 => rfl
    | 1 => rfl

end Cert.KernelIdeal.Talk

end
-- ==== Proof.lean ====
/-
  The claims of this certificate, from the run of the kernel and the run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Top
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed runs, leaves its arguments, and ends with every counter at zero. -/
theorem frame_kernel : Cert.quiescent_Kernel := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Talk.run_main (F := Bits) m ρ)

/-- So does the kernel over the extended reals. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Talk.run_main (F := Ideal) m ρ)

/-- So does the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- What the precondition on the kernel's arguments needs. -/
theorem pre_kernel : Cert.Pre_finite_KernelIdeal.Facts where
  bcast_S_S4096x256 := by decide
  bcast_S_S256x8192 := by decide
  bcast_S_S1 := by decide

/-- What the precondition on the reference's arguments needs. -/
theorem pre_reference : Cert.Pre_finite_ReferenceIdeal.Facts where
  bcast_S_S4096x4096 := by decide
  bcast_S_S4096x8192 := by decide
  bcast_S_S1 := by decide

open Cert.KernelIdeal.Talk in
/-- On finite arguments the kernel's result is the reference's. -/
theorem same : Cert.algebraic_KernelIdeal_ReferenceIdeal_pre_finite_KernelIdeal (hPre_finite_KernelIdeal := pre_kernel) := by
  intro m g m' g' hp h
  have hv := value m _ _ _ _ (fun c => (h c).1) (fun c => (h c).2.1) (fun c => (h c).2.2.1) (fun c => (h c).2.2.2)
    (fun c i => real_of_mask _ pre_kernel.bcast_S_S4096x256 (hp c).1 i)
    (fun c i => real_of_mask _ pre_kernel.bcast_S_S256x8192 (hp c).2.1 i)
    (fun i => by
      rw [← (h 0).2.2.1]
      exact real_of_mask _ pre_kernel.bcast_S_S1 (hp 0).2.2.1 i)
    (fun i => by
      rw [← (h 0).2.2.2]
      exact real_of_mask _ pre_kernel.bcast_S_S1 (hp 0).2.2.2 i)
  refine ⟨_, (θ_run Cert.KernelIdeal.defs _ _).mono (fun _ h => fun c => ?_) (run_main (F := Ideal) m g),
    (θ_run Cert.ReferenceIdeal.defs _ _).mono (fun _ h => h 0) (Cert.ReferenceIdeal.Value.run (F := Ideal) m' g')⟩
  exact ⟨(h.1 c).2.2.2.2.trans (hv c), (h.1 c).1, (h.1 c).2.1, (h.1 c).2.2.1, (h.1 c).2.2.2.1⟩

theorem claim : Cert.Claim := ⟨Cert.Kernel.Gen.facts, Cert.KernelIdeal.Gen.facts, Cert.ReferenceIdeal.Gen.facts, pre_kernel, pre_reference,
  frame_kernel, frame_ideal, fun m ρ _ => frame_ideal m ρ trivial, frame_reference, fun m ρ _ => frame_reference m ρ trivial, trivial, same⟩

end Cert.Proof

end
